-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "k2" .f32 0xBDD2D3E8#32 (((-((2 * (Real.sqrt (2 * Real.pi⁻¹))) * (Real.log 2)⁻¹)) * (8943 / 200000) : ℝ) : EReal)
  ∧ IdealRules.named_const.Statement Cert.Kernel2Ideal.κ "k1" .f32 0xC0135761#32 ((-((2 * (Real.sqrt (2 * Real.pi⁻¹))) * (Real.log 2)⁻¹) : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v65) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  IdealRules.named_const.Statement Cert.Kernel3Ideal.κ "k2" .f32 0xBDD2D3E8#32 (((-((2 * (Real.sqrt (2 * Real.pi⁻¹))) * (Real.log 2)⁻¹)) * (8943 / 200000) : ℝ) : EReal)
  ∧ IdealRules.named_const.Statement Cert.Kernel3Ideal.κ "k1" .f32 0xC0135761#32 ((-((2 * (Real.sqrt (2 * Real.pi⁻¹))) * (Real.log 2)⁻¹) : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  IdealRules.named_const.Statement Cert.Kernel4Ideal.κ "scale" .f32 0x3E0293EE#32 (((Real.sqrt 128)⁻¹ * (Real.log 2)⁻¹ : ℝ) : EReal)

def algebraic_Kernel4Ideal_Reference4Ideal_on_projected [hKernel4Ideal : Cert.Kernel4Ideal.Facts] [hReference4Ideal : Cert.Reference4Ideal.Facts] [hOn_projected : Cert.On_projected.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v22_0)) (v1 : (c : Dev Cert.Kernel4Ideal.nD) → Buf (Elt Ideal) ((c.tc : Thread Cert.Kernel4Ideal.nD Cert.Kernel4Ideal.τ).loc Cert.Kernel4Ideal.main_v22_1)) (v2 : (c : Dev Cert.Kernel4Ideal.nD) → Buf (Elt Ideal) ((c.tc : Thread Cert.Kernel4Ideal.nD Cert.Kernel4Ideal.τ).loc Cert.Kernel4Ideal.main_v22_2)) (v3 : (c : Dev Cert.Kernel4Ideal.nD) → Buf (Elt Ideal) ((c.tc : Thread Cert.Kernel4Ideal.nD Cert.Kernel4Ideal.τ).loc Cert.Kernel4Ideal.main_v22_3)) (v4 : (c : Dev Cert.Kernel4Ideal.nD) → Buf (Elt Ideal) ((c.tc : Thread Cert.Kernel4Ideal.nD Cert.Kernel4Ideal.τ).loc Cert.Kernel4Ideal.main_v22_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          (∀ i : (⟨2, ![32768, 2048]⟩ : Shape).Idx, (Cert.On_projected.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).1 i = 1#1 → r.2.mem ((c.tc : Thread Cert.Kernel4Ideal.nD Cert.Kernel4Ideal.τ).loc Cert.Kernel4Ideal.main_v22_0) i = v0 c i)
          ∧ (∀ i : (⟨4, ![4, 8, 256, 8192]⟩ : Shape).Idx, (Cert.On_projected.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2.1 i = 1#1 → r.2.mem ((c.tc : Thread Cert.Kernel4Ideal.nD Cert.Kernel4Ideal.τ).loc Cert.Kernel4Ideal.main_v22_1) i = v1 c i)
          ∧ (∀ i : (⟨4, ![4, 8, 8192, 256]⟩ : Shape).Idx, (Cert.On_projected.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2.2.1 i = 1#1 → r.2.mem ((c.tc : Thread Cert.Kernel4Ideal.nD Cert.Kernel4Ideal.τ).loc Cert.Kernel4Ideal.main_v22_2) i = v2 c i)
          ∧ (∀ i : (⟨4, ![4, 8, 144, 8192]⟩ : Shape).Idx, (Cert.On_projected.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2.2.2.1 i = 1#1 → r.2.mem ((c.tc : Thread Cert.Kernel4Ideal.nD Cert.Kernel4Ideal.τ).loc Cert.Kernel4Ideal.main_v22_3) i = v3 c i)
          ∧ (∀ i : (⟨2, ![32768, 2048]⟩ : Shape).Idx, (Cert.On_projected.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2.2.2.2 i = 1#1 → r.2.mem ((c.tc : Thread Cert.Kernel4Ideal.nD Cert.Kernel4Ideal.τ).loc Cert.Kernel4Ideal.main_v22_4) i = v4 c i)
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          (∀ i : (⟨2, ![32768, 2048]⟩ : Shape).Idx, (Cert.On_projected.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).1 i = 1#1 → r.2.mem ((c.tc : Thread Cert.Reference4Ideal.nD Cert.Reference4Ideal.τ).loc Cert.Reference4Ideal.main_v77) i = v0 c i)
          ∧ (∀ i : (⟨4, ![4, 8, 256, 8192]⟩ : Shape).Idx, (Cert.On_projected.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2.1 i = 1#1 → r.2.mem ((c.tc : Thread Cert.Reference4Ideal.nD Cert.Reference4Ideal.τ).loc Cert.Reference4Ideal.main_v78) i = v1 c i)
          ∧ (∀ i : (⟨4, ![4, 8, 8192, 256]⟩ : Shape).Idx, (Cert.On_projected.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2.2.1 i = 1#1 → r.2.mem ((c.tc : Thread Cert.Reference4Ideal.nD Cert.Reference4Ideal.τ).loc Cert.Reference4Ideal.main_v80) i = v2 c i)
          ∧ (∀ i : (⟨4, ![4, 8, 144, 8192]⟩ : Shape).Idx, (Cert.On_projected.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2.2.2.1 i = 1#1 → r.2.mem ((c.tc : Thread Cert.Reference4Ideal.nD Cert.Reference4Ideal.τ).loc Cert.Reference4Ideal.main_v82) i = v3 c i)
          ∧ (∀ i : (⟨2, ![32768, 2048]⟩ : Shape).Idx, (Cert.On_projected.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2.2.2.2 i = 1#1 → r.2.mem ((c.tc : Thread Cert.Reference4Ideal.nD Cert.Reference4Ideal.τ).loc Cert.Reference4Ideal.main_v85) i = v4 c i)
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts) (hOn_projected : Cert.On_projected.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_on_projected (hKernel4Ideal := hKernel4Ideal) (hReference4Ideal := hReference4Ideal) (hOn_projected := hOn_projected)
-- ==== On_projected.lean ====
abbrev S4x8192x1024 : Shape := ⟨3, ![4, 8192, 1024]⟩
abbrev S1x1024 : Shape := ⟨2, ![1, 1024]⟩
abbrev S1x1024x7168 : Shape := ⟨3, ![1, 1024, 7168]⟩
abbrev S1x4x1024 : Shape := ⟨3, ![1, 4, 1024]⟩
abbrev S1x8x128x128 : Shape := ⟨4, ![1, 8, 128, 128]⟩
abbrev S1x8x128 : Shape := ⟨3, ![1, 8, 128]⟩
abbrev S1x128 : Shape := ⟨2, ![1, 128]⟩
abbrev S32768x2048 : Shape := ⟨2, ![32768, 2048]⟩
abbrev S_ : Shape := ⟨0, ![]⟩
abbrev S4x8x256x8192 : Shape := ⟨4, ![4, 8, 256, 8192]⟩
abbrev S4x8x8192x256 : Shape := ⟨4, ![4, 8, 8192, 256]⟩
abbrev S4x8x144x8192 : Shape := ⟨4, ![4, 8, 144, 8192]⟩

class Facts : Prop where
  bcast_S_S32768x2048 : S_.BroadcastsInDim S32768x2048 (![] : Fin 0 → Fin S32768x2048.rank)
  bcast_S_S4x8x256x8192 : S_.BroadcastsInDim S4x8x256x8192 (![] : Fin 0 → Fin S4x8x256x8192.rank)
  bcast_S_S4x8x8192x256 : S_.BroadcastsInDim S4x8x8192x256 (![] : Fin 0 → Fin S4x8x8192x256.rank)
  bcast_S_S4x8x144x8192 : S_.BroadcastsInDim S4x8x144x8192 (![] : Fin 0 → Fin S4x8x144x8192.rank)

variable [Facts]

def fn {F : FTy → Type} [FloatOps F] (main_arg0 : FVec F S4x8192x1024 .f32) (main_arg1 : FVec F S1x1024 .f32) (main_arg2 : FVec F S1x1024x7168 .f32) (main_arg3 : FVec F S1x4x1024 .f32) (main_arg4 : FVec F S1x1024 .f32) (main_arg5 : FVec F S1x8x128x128 .f32) (main_arg6 : FVec F S1x8x128 .f32) (main_arg7 : FVec F S1x8x128x128 .f32) (main_arg8 : FVec F S1x8x128 .f32) (main_arg9 : FVec F S1x1024 .f32) (main_arg10 : FVec F S1x128 .f32) (main_arg11 : FVec F S1x128 .f32) : IVec S32768x2048 1 × IVec S4x8x256x8192 1 × IVec S4x8x8192x256 1 × IVec S4x8x144x8192 1 × IVec S32768x2048 1 :=
  let main_v0 : IVec S32768x2048 32 := iotaInDim S32768x2048 32 1
  let main_c : IVec S_ 32 := constantI S_ 32 1024#32
  let main_v1 : IVec S32768x2048 32 := broadcastInDim S32768x2048 ![] bcast_S_S32768x2048 main_c
  let main_v2 : IVec S32768x2048 1 := cmpi .sge main_v0 main_v1
  let main_v3 : IVec S4x8x256x8192 32 := iotaInDim S4x8x256x8192 32 2
  let main_c_0 : IVec S_ 32 := constantI S_ 32 128#32
  let main_v4 : IVec S4x8x256x8192 32 := broadcastInDim S4x8x256x8192 ![] bcast_S_S4x8x256x8192 main_c_0
  let main_v5 : IVec S4x8x256x8192 1 := cmpi .slt main_v3 main_v4
  let main_c_1 : IVec S_ 1 := constantI S_ 1 1#1
  let main_v6 : IVec S4x8x8192x256 1 := broadcastInDim S4x8x8192x256 ![] bcast_S_S4x8x8192x256 main_c_1
  let main_c_2 : IVec S_ 1 := constantI S_ 1 1#1
  let main_v7 : IVec S4x8x144x8192 1 := broadcastInDim S4x8x144x8192 ![] bcast_S_S4x8x144x8192 main_c_2
  let main_c_3 : IVec S_ 1 := constantI S_ 1 1#1
  let main_v8 : IVec S32768x2048 1 := broadcastInDim S32768x2048 ![] bcast_S_S32768x2048 main_c_3
  (main_v2, main_v5, main_v6, main_v7, main_v8)
-- ==== Pre_finite_scores.lean ====
abbrev S4x8x8192x128 : Shape := ⟨4, ![4, 8, 8192, 128]⟩
abbrev S4x8x32x8192 : Shape := ⟨4, ![4, 8, 32, 8192]⟩
abbrev S_ : Shape := ⟨0, ![]⟩

class Facts : Prop where
  bcast_S_S4x8x8192x128 : S_.BroadcastsInDim S4x8x8192x128 (![] : Fin 0 → Fin S4x8x8192x128.rank)

variable [Facts]

def fn {F : FTy → Type} [FloatOps F] (main_arg0 : FVec F S4x8x8192x128 .f32) (main_arg1 : FVec F S4x8x8192x128 .f32) (main_arg2 : FVec F S4x8x8192x128 .f32) (main_arg3 : IVec S4x8x32x8192 32) : IVec S4x8x8192x128 1 :=
  let main_v0 : FVec F S4x8x8192x128 .f32 := Host.absf main_arg0
  let main_cst : FVec F S_ .f32 := constant S_ .f32 0x7F800000#32
  let main_v1 : FVec F S4x8x8192x128 .f32 := broadcastInDim S4x8x8192x128 ![] bcast_S_S4x8x8192x128 main_cst
  let main_v2 : IVec S4x8x8192x128 1 := cmpf .olt main_v0 main_v1
  let main_v3 : FVec F S4x8x8192x128 .f32 := Host.absf main_arg1
  let main_cst_0 : FVec F S_ .f32 := constant S_ .f32 0x7F800000#32
  let main_v4 : FVec F S4x8x8192x128 .f32 := broadcastInDim S4x8x8192x128 ![] bcast_S_S4x8x8192x128 main_cst_0
  let main_v5 : IVec S4x8x8192x128 1 := cmpf .olt main_v3 main_v4
  let main_v6 : IVec S4x8x8192x128 1 := andi main_v2 main_v5
  main_v6
-- ==== Kernel.lean ====
abbrev S4x8x8192x128 : Shape := ⟨4, ![4, 8, 8192, 128]⟩
abbrev S4x8x32x8192 : Shape := ⟨4, ![4, 8, 32, 8192]⟩
abbrev S_ : Shape := ⟨0, ![]⟩
abbrev S4x8x128x8192 : Shape := ⟨4, ![4, 8, 128, 8192]⟩
abbrev S8192 : Shape := ⟨1, ![8192]⟩
abbrev S1x1x1x8192 : Shape := ⟨4, ![1, 1, 1, 8192]⟩
abbrev S32 : Shape := ⟨1, ![32]⟩
abbrev S1x1x32x1 : Shape := ⟨4, ![1, 1, 32, 1]⟩
abbrev S1x1x32x8192 : Shape := ⟨4, ![1, 1, 32, 8192]⟩
abbrev S4x8x96x8192 : Shape := ⟨4, ![4, 8, 96, 8192]⟩
abbrev S4x8x256x8192 : Shape := ⟨4, ![4, 8, 256, 8192]⟩
abbrev S128 : Shape := ⟨1, ![128]⟩
abbrev S1x1x1x128 : Shape := ⟨4, ![1, 1, 1, 128]⟩
abbrev S1x1x8192x1 : Shape := ⟨4, ![1, 1, 8192, 1]⟩
abbrev S1x1x8192x128 : Shape := ⟨4, ![1, 1, 8192, 128]⟩
abbrev S4x8x8192x256 : Shape := ⟨4, ![4, 8, 8192, 256]⟩
abbrev S4x8x16x8192 : Shape := ⟨4, ![4, 8, 16, 8192]⟩
abbrev S4x8x144x8192 : Shape := ⟨4, ![4, 8, 144, 8192]⟩
abbrev S4x8192x1024 : Shape := ⟨3, ![4, 8192, 1024]⟩
abbrev S1x2x256x512 : Shape := ⟨4, ![1, 2, 256, 512]⟩
abbrev S1x2x8192x256 : Shape := ⟨4, ![1, 2, 8192, 256]⟩
abbrev S1x2x144x8192 : Shape := ⟨4, ![1, 2, 144, 8192]⟩
abbrev S1x512x256 : Shape := ⟨3, ![1, 512, 256]⟩
abbrev S2x512x512 : Shape := ⟨3, ![2, 512, 512]⟩
abbrev S2x1x512 : Shape := ⟨3, ![2, 1, 512]⟩
abbrev S2x144x512 : Shape := ⟨3, ![2, 144, 512]⟩
abbrev S1x1x512x256 : Shape := ⟨4, ![1, 1, 512, 256]⟩
abbrev S512x256 : Shape := ⟨2, ![512, 256]⟩
abbrev S1x1x256x512 : Shape := ⟨4, ![1, 1, 256, 512]⟩
abbrev S256x512 : Shape := ⟨2, ![256, 512]⟩
abbrev S512x512 : Shape := ⟨2, ![512, 512]⟩
abbrev S1x512x512 : Shape := ⟨3, ![1, 512, 512]⟩
abbrev S512 : Shape := ⟨1, ![512]⟩
abbrev S1x512 : Shape := ⟨2, ![1, 512]⟩
abbrev S1x1x512 : Shape := ⟨3, ![1, 1, 512]⟩
abbrev S1x144x512 : Shape := ⟨3, ![1, 144, 512]⟩
abbrev S144x512 : Shape := ⟨2, ![144, 512]⟩
abbrev S1x1x144x512 : Shape := ⟨4, ![1, 1, 144, 512]⟩
abbrev S128x512 : Shape := ⟨2, ![128, 512]⟩
abbrev S512x128 : Shape := ⟨2, ![512, 128]⟩
abbrev S1x512x128 : Shape := ⟨3, ![1, 512, 128]⟩

abbrev nBuf : Space → Nat
  | .hbm => 58
  | .vmem => 16
  | .smem => 0
  | _ => 0

abbrev bufTy : (tb : Table) → Fin (tcTables nBuf tb) → BufTy
  | .hbm, ⟨0, _⟩ => ⟨S4x8x8192x128, .f32⟩
  | .hbm, ⟨1, _⟩ => ⟨S4x8x8192x128, .f32⟩
  | .hbm, ⟨2, _⟩ => ⟨S4x8x8192x128, .f32⟩
  | .hbm, ⟨3, _⟩ => ⟨S4x8x32x8192, .i32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x8x8192x128, .f32⟩
  | .hbm, ⟨10, _⟩ => ⟨S4x8x8192x128, .f32⟩
  | .hbm, ⟨11, _⟩ => ⟨S4x8x128x8192, .f32⟩
  | .hbm, ⟨12, _⟩ => ⟨S8192, .i32⟩
  | .hbm, ⟨13, _⟩ => ⟨S_, .i32⟩
  | .hbm, ⟨14, _⟩ => ⟨S8192, .i32⟩
  | .hbm, ⟨15, _⟩ => ⟨S8192, .i32⟩
  | .hbm, ⟨16, _⟩ => ⟨S1x1x1x8192, .i32⟩
  | .hbm, ⟨17, _⟩ => ⟨S32, .i32⟩
  | .hbm, ⟨18, _⟩ => ⟨S1x1x32x1, .i32⟩
  | .hbm, ⟨19, _⟩ => ⟨S1x1x32x8192, .i32⟩
  | .hbm, ⟨20, _⟩ => ⟨S1x1x32x8192, .i32⟩
  | .hbm, ⟨21, _⟩ => ⟨S1x1x32x8192, .i1⟩
  | .hbm, ⟨22, _⟩ => ⟨S1x1x32x8192, .i32⟩
  | .hbm, ⟨23, _⟩ => ⟨S1x1x32x8192, .i32⟩
  | .hbm, ⟨24, _⟩ => ⟨S1x1x32x8192, .i1⟩
  | .hbm, ⟨25, _⟩ => ⟨S_, .i32⟩
  | .hbm, ⟨26, _⟩ => ⟨S4x8x32x8192, .i32⟩
  | .hbm, ⟨27, _⟩ => ⟨S4x8x32x8192, .i1⟩
  | .hbm, ⟨28, _⟩ => ⟨S4x8x32x8192, .i1⟩
  | .hbm, ⟨29, _⟩ => ⟨S4x8x32x8192, .i1⟩
  | .hbm, ⟨30, _⟩ => ⟨S4x8x32x8192, .i1⟩
  | .hbm, ⟨31, _⟩ => ⟨S4x8x32x8192, .i1⟩
  | .hbm, ⟨32, _⟩ => ⟨S_, .f32⟩
  | .hbm, ⟨33, _⟩ => ⟨S_, .f32⟩
  | .hbm, ⟨34, _⟩ => ⟨S4x8x32x8192, .f32⟩
  | .hbm, ⟨35, _⟩ => ⟨S4x8x32x8192, .f32⟩
  | .hbm, ⟨36, _⟩ => ⟨S4x8x32x8192, .f32⟩
  | .hbm, ⟨37, _⟩ => ⟨S_, .f32⟩
  | .hbm, ⟨38, _⟩ => ⟨S4x8x96x8192, .f32⟩
  | .hbm, ⟨39, _⟩ => ⟨S4x8x256x8192, .f32⟩
  | .hbm, ⟨40, _⟩ => ⟨S4x8x256x8192, .bf16⟩
  | .hbm, ⟨41, _⟩ => ⟨S128, .i32⟩
  | .hbm, ⟨42, _⟩ => ⟨S1x1x1x128, .i32⟩
  | .hbm, ⟨43, _⟩ => ⟨S1x1x8192x1, .i32⟩
  | .hbm, ⟨44, _⟩ => ⟨S1x1x8192x128, .i32⟩
  | .hbm, ⟨45, _⟩ => ⟨S1x1x8192x128, .i32⟩
  | .hbm, ⟨46, _⟩ => ⟨S1x1x8192x128, .i1⟩
  | .hbm, ⟨47, _⟩ => ⟨S1x1x8192x128, .i32⟩
  | .hbm, ⟨48, _⟩ => ⟨S1x1x8192x128, .f32⟩
  | .hbm, ⟨49, _⟩ => ⟨S4x8x8192x128, .f32⟩
  | .hbm, ⟨50, _⟩ => ⟨S4x8x8192x256, .f32⟩
  | .hbm, ⟨51, _⟩ => ⟨S4x8x8192x256, .bf16⟩
  | .hbm, ⟨52, _⟩ => ⟨S4x8x128x8192, .f32⟩
  | .hbm, ⟨53, _⟩ => ⟨S_, .f32⟩
  | .hbm, ⟨54, _⟩ => ⟨S4x8x16x8192, .f32⟩
  | .hbm, ⟨55, _⟩ => ⟨S4x8x144x8192, .f32⟩
  | .hbm, ⟨56, _⟩ => ⟨S4x8x144x8192, .bf16⟩
  | .hbm, ⟨57, _⟩ => ⟨S4x8192x1024, .bf16⟩
  | .local _ .vmem, ⟨0, _⟩ => ⟨S1x2x256x512, .bf16⟩
  | .local _ .vmem, ⟨1, _⟩ => ⟨S1x2x256x512, .bf16⟩
  | .local _ .vmem, ⟨2, _⟩ => ⟨S1x2x256x512, .bf16⟩
  | .local _ .vmem, ⟨3, _⟩ => ⟨S1x2x256x512, .bf16⟩
  | .local _ .vmem, ⟨4, _⟩ => ⟨S1x2x8192x256, .bf16⟩
  | .local _ .vmem, ⟨5, _⟩ => ⟨S1x2x8192x256, .bf16⟩
  | .local _ .vmem, ⟨6, _⟩ => ⟨S1x2x144x8192, .bf16⟩
  | .local _ .vmem, ⟨7, _⟩ => ⟨S1x2x144x8192, .bf16⟩
  | .local _ .vmem, ⟨8, _⟩ => ⟨S1x512x256, .bf16⟩
  | .local _ .vmem, ⟨9, _⟩ => ⟨S1x512x256, .bf16⟩
  | .local _ .vmem, ⟨10, _⟩ => ⟨S2x512x512, .f32⟩
  | .local _ .vmem, ⟨11, _⟩ => ⟨S2x512x512, .f32⟩
  | .local _ .vmem, ⟨12, _⟩ => ⟨S2x1x512, .f32⟩
  | .local _ .vmem, ⟨13, _⟩ => ⟨S2x1x512, .f32⟩
  | .local _ .vmem, ⟨14, _⟩ => ⟨S2x1x512, .f32⟩
  | .local _ .vmem, ⟨15, _⟩ => ⟨S2x144x512, .f32⟩
  | _, _ => ⟨S4x8x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 16], ![false, false, false]⟩

def k0_cond1 (i : grid0.Coords) : BitVec 1 :=
  let arg2 : BitVec 32 := BitVec.ofNat 32 (i 2).val
  let c0_i32 : BitVec 32 := 0#32
  let v8 : BitVec 1 := Scalar.cmpi .eq arg2 c0_i32
  let v9 : BitVec 32 := Scalar.extui v8
  let c0_i32_6 : BitVec 32 := 0#32
  let v10 : BitVec 1 := Scalar.cmpi .ne v9 c0_i32_6
  v10

def k0_mult1 : BitVec 32 :=
  let c0_i32_22 : BitVec 32 := 0#32
  c0_i32_22
def k0_mult2 : BitVec 32 :=
  let c0_i32_38 : BitVec 32 := 0#32
  c0_i32_38
@[reducible] def k0_t1_loop (i : grid0.Coords) : Scf.Loop 32 :=
  let c0_i32_9 : BitVec 32 := 0#32
  let arg2 : BitVec 32 := BitVec.ofNat 32 (i 2).val
  let c8_i32 : BitVec 32 := 8#32
  let v11 : BitVec 32 := Scalar.divsi arg2 c8_i32
  let v14 : BitVec 32 := Scalar.subi v11 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_10 : BitVec 32 := 1#32
  ⟨c0_i32_9, v18, c1_i32_10⟩
def k0_mult3 (i : grid0.Coords) (k0_t1 : Fin (k0_t1_loop i).trips) : BitVec 32 :=
  let c0_i32_23 : BitVec 32 := 0#32
  let c8_i32_22 : BitVec 32 := 8#32
  let c0_i32_9 : BitVec 32 := 0#32
  let c1_i32_10 : BitVec 32 := 1#32
  let arg14 : BitVec 32 := Scf.iv c0_i32_9 c1_i32_10 k0_t1
  let v43 : BitVec 32 := Scalar.muli c8_i32_22 arg14
  let v44 : BitVec 32 := Scalar.addi c0_i32_23 v43
  let c0_i32_24 : BitVec 32 := 0#32
  let v45 : BitVec 32 := Scalar.addi v44 c0_i32_24
  let c1_i32_25 : BitVec 32 := 1#32
  let v46 : BitVec 32 := Scalar.addi v45 c1_i32_25
  let c512_i32 : BitVec 32 := 512#32
  let v47 : BitVec 32 := Scalar.muli v46 c512_i32
  v47
def k0_off1 (i : grid0.Coords) (k0_t1 : Fin (k0_t1_loop i).trips) (c0_i32_24 : BitVec 32) : Fin 4 → Nat :=
  let c0_26 : Index := 0#32
  let c0_27 : Index := 0#32
  let c0_i32_23 : BitVec 32 := 0#32
  let c8_i32_22 : BitVec 32 := 8#32
  let c0_i32_9 : BitVec 32 := 0#32
  let c1_i32_10 : BitVec 32 := 1#32
  let arg14 : BitVec 32 := Scf.iv c0_i32_9 c1_i32_10 k0_t1
  let v43 : BitVec 32 := Scalar.muli c8_i32_22 arg14
  let v44 : BitVec 32 := Scalar.addi c0_i32_23 v43
  let v45 : BitVec 32 := Scalar.addi v44 c0_i32_24
  let c1_i32_25 : BitVec 32 := 1#32
  let v46 : BitVec 32 := Scalar.addi v45 c1_i32_25
  let c512_i32 : BitVec 32 := 512#32
  let v47 : BitVec 32 := Scalar.muli v46 c512_i32
  let v48 : BitVec 32 := v47
  let v49 : Index := Scalar.indexCast v48
  let c0_28 : Index := 0#32
  ![0, 0, v49.toNat, 0]
def k0_mult4 (i : grid0.Coords) (k0_t1 : Fin (k0_t1_loop i).trips) : BitVec 32 :=
  let c0_i32_23 : BitVec 32 := 0#32
  let c8_i32_22 : BitVec 32 := 8#32
  let c0_i32_9 : BitVec 32 := 0#32
  let c1_i32_10 : BitVec 32 := 1#32
  let arg14 : BitVec 32 := Scf.iv c0_i32_9 c1_i32_10 k0_t1
  let v43 : BitVec 32 := Scalar.muli c8_i32_22 arg14
  let v44 : BitVec 32 := Scalar.addi c0_i32_23 v43
  let c0_i32_24 : BitVec 32 := 0#32
  let v45 : BitVec 32 := Scalar.addi v44 c0_i32_24
  let c1_i32_41 : BitVec 32 := 1#32
  let v63 : BitVec 32 := Scalar.addi v45 c1_i32_41
  let c512_i32_42 : BitVec 32 := 512#32
  let v64 : BitVec 32 := Scalar.muli v63 c512_i32_42
  v64
def k0_off2 (i : grid0.Coords) (k0_t1 : Fin (k0_t1_loop i).trips) (c0_i32_24 : BitVec 32) : Fin 4 → Nat :=
  let c0_43 : Index := 0#32
  let c1 : Index := 1#32
  let c0_i32_23 : BitVec 32 := 0#32
  let c8_i32_22 : BitVec 32 := 8#32
  let c0_i32_9 : BitVec 32 := 0#32
  let c1_i32_10 : BitVec 32 := 1#32
  let arg14 : BitVec 32 := Scf.iv c0_i32_9 c1_i32_10 k0_t1
  let v43 : BitVec 32 := Scalar.muli c8_i32_22 arg14
  let v44 : BitVec 32 := Scalar.addi c0_i32_23 v43
  let v45 : BitVec 32 := Scalar.addi v44 c0_i32_24
  let c1_i32_41 : BitVec 32 := 1#32
  let v63 : BitVec 32 := Scalar.addi v45 c1_i32_41
  let c512_i32_42 : BitVec 32 := 512#32
  let v64 : BitVec 32 := Scalar.muli v63 c512_i32_42
  let v65 : BitVec 32 := v64
  let v66 : Index := Scalar.indexCast v65
  let c0_44 : Index := 0#32
  ![0, 1, v66.toNat, 0]
def k0_mult5 (i : grid0.Coords) (k0_t1 : Fin (k0_t1_loop i).trips) : BitVec 32 :=
  let c0_i32_23 : BitVec 32 := 0#32
  let c8_i32_22 : BitVec 32 := 8#32
  let c0_i32_9 : BitVec 32 := 0#32
  let c1_i32_10 : BitVec 32 := 1#32
  let arg14 : BitVec 32 := Scf.iv c0_i32_9 c1_i32_10 k0_t1
  let v43 : BitVec 32 := Scalar.muli c8_i32_22 arg14
  let v44 : BitVec 32 := Scalar.addi c0_i32_23 v43
  let c0_i32_24 : BitVec 32 := 0#32
  let v45 : BitVec 32 := Scalar.addi v44 c0_i32_24
  let c512_i32_57 : BitVec 32 := 512#32
  let v80 : BitVec 32 := Scalar.muli v45 c512_i32_57
  v80
def k0_off3 (i : grid0.Coords) (k0_t1 : Fin (k0_t1_loop i).trips) (c0_i32_24 : BitVec 32) : Fin 4 → Nat :=
  let c0_70 : Index := 0#32
  let c0_71 : Index := 0#32
  let c0_72 : Index := 0#32
  let c0_i32_23 : BitVec 32 := 0#32
  let c8_i32_22 : BitVec 32 := 8#32
  let c0_i32_9 : BitVec 32 := 0#32
  let c1_i32_10 : BitVec 32 := 1#32
  let arg14 : BitVec 32 := Scf.iv c0_i32_9 c1_i32_10 k0_t1
  let v43 : BitVec 32 := Scalar.muli c8_i32_22 arg14
  let v44 : BitVec 32 := Scalar.addi c0_i32_23 v43
  let v45 : BitVec 32 := Scalar.addi v44 c0_i32_24
  let c512_i32_57 : BitVec 32 := 512#32
  let v80 : BitVec 32 := Scalar.muli v45 c512_i32_57
  let v81 : BitVec 32 := v80
  let v99 : Index := Scalar.indexCast v81
  ![0, 0, 0, v99.toNat]
def k0_mult6 (i : grid0.Coords) (k0_t1 : Fin (k0_t1_loop i).trips) : BitVec 32 :=
  let c0_i32_23 : BitVec 32 := 0#32
  let c8_i32_22 : BitVec 32 := 8#32
  let c0_i32_9 : BitVec 32 := 0#32
  let c1_i32_10 : BitVec 32 := 1#32
  let arg14 : BitVec 32 := Scf.iv c0_i32_9 c1_i32_10 k0_t1
  let v43 : BitVec 32 := Scalar.muli c8_i32_22 arg14
  let v44 : BitVec 32 := Scalar.addi c0_i32_23 v43
  let c0_i32_24 : BitVec 32 := 0#32
  let v45 : BitVec 32 := Scalar.addi v44 c0_i32_24
  let c512_i32_80 : BitVec 32 := 512#32
  let v110 : BitVec 32 := Scalar.muli v45 c512_i32_80
  v110
def k0_off4 (i : grid0.Coords) (k0_t1 : Fin (k0_t1_loop i).trips) (c0_i32_24 : BitVec 32) : Fin 4 → Nat :=
  let c0_93 : Index := 0#32
  let c1_94 : Index := 1#32
  let c0_95 : Index := 0#32
  let c0_i32_23 : BitVec 32 := 0#32
  let c8_i32_22 : BitVec 32 := 8#32
  let c0_i32_9 : BitVec 32 := 0#32
  let c1_i32_10 : BitVec 32 := 1#32
  let arg14 : BitVec 32 := Scf.iv c0_i32_9 c1_i32_10 k0_t1
  let v43 : BitVec 32 := Scalar.muli c8_i32_22 arg14
  let v44 : BitVec 32 := Scalar.addi c0_i32_23 v43
  let v45 : BitVec 32 := Scalar.addi v44 c0_i32_24
  let c512_i32_80 : BitVec 32 := 512#32
  let v110 : BitVec 32 := Scalar.muli v45 c512_i32_80
  let v111 : BitVec 32 := v110
  let v129 : Index := Scalar.indexCast v111
  ![0, 1, 0, v129.toNat]
def k0_mult7 (i : grid0.Coords) (k0_t1 : Fin (k0_t1_loop i).trips) : BitVec 32 :=
  let c0_i32_104 : BitVec 32 := 0#32
  let c8_i32_103 : BitVec 32 := 8#32
  let c0_i32_9 : BitVec 32 := 0#32
  let c1_i32_10 : BitVec 32 := 1#32
  let arg14 : BitVec 32 := Scf.iv c0_i32_9 c1_i32_10 k0_t1
  let v140 : BitVec 32 := Scalar.muli c8_i32_103 arg14
  let v141 : BitVec 32 := Scalar.addi c0_i32_104 v140
  let c1_i32_105 : BitVec 32 := 1#32
  let v142 : BitVec 32 := Scalar.addi v141 c1_i32_105
  let c1_i32_106 : BitVec 32 := 1#32
  let v143 : BitVec 32 := Scalar.addi v142 c1_i32_106
  let c512_i32_107 : BitVec 32 := 512#32
  let v144 : BitVec 32 := Scalar.muli v143 c512_i32_107
  v144
def k0_mult8 (i : grid0.Coords) (k0_t1 : Fin (k0_t1_loop i).trips) : BitVec 32 :=
  let c0_i32_104 : BitVec 32 := 0#32
  let c8_i32_103 : BitVec 32 := 8#32
  let c0_i32_9 : BitVec 32 := 0#32
  let c1_i32_10 : BitVec 32 := 1#32
  let arg14 : BitVec 32 := Scf.iv c0_i32_9 c1_i32_10 k0_t1
  let v140 : BitVec 32 := Scalar.muli c8_i32_103 arg14
  let v141 : BitVec 32 := Scalar.addi c0_i32_104 v140
  let c1_i32_105 : BitVec 32 := 1#32
  let v142 : BitVec 32 := Scalar.addi v141 c1_i32_105
  let c1_i32_123 : BitVec 32 := 1#32
  let v160 : BitVec 32 := Scalar.addi v142 c1_i32_123
  let c512_i32_124 : BitVec 32 := 512#32
  let v161 : BitVec 32 := Scalar.muli v160 c512_i32_124
  v161
def k0_mult9 (i : grid0.Coords) (k0_t1 : Fin (k0_t1_loop i).trips) : BitVec 32 :=
  let c0_i32_104 : BitVec 32 := 0#32
  let c8_i32_103 : BitVec 32 := 8#32
  let c0_i32_9 : BitVec 32 := 0#32
  let c1_i32_10 : BitVec 32 := 1#32
  let arg14 : BitVec 32 := Scf.iv c0_i32_9 c1_i32_10 k0_t1
  let v140 : BitVec 32 := Scalar.muli c8_i32_103 arg14
  let v141 : BitVec 32 := Scalar.addi c0_i32_104 v140
  let c1_i32_105 : BitVec 32 := 1#32
  let v142 : BitVec 32 := Scalar.addi v141 c1_i32_105
  let c512_i32_140 : BitVec 32 := 512#32
  let v177 : BitVec 32 := Scalar.muli v142 c512_i32_140
  v177
def k0_mult10 (i : grid0.Coords) (k0_t1 : Fin (k0_t1_loop i).trips) : BitVec 32 :=
  let c0_i32_104 : BitVec 32 := 0#32
  let c8_i32_103 : BitVec 32 := 8#32
  let c0_i32_9 : BitVec 32 := 0#32
  let c1_i32_10 : BitVec 32 := 1#32
  let arg14 : BitVec 32 := Scf.iv c0_i32_9 c1_i32_10 k0_t1
  let v140 : BitVec 32 := Scalar.muli c8_i32_103 arg14
  let v141 : BitVec 32 := Scalar.addi c0_i32_104 v140
  let c1_i32_105 : BitVec 32 := 1#32
  let v142 : BitVec 32 := Scalar.addi v141 c1_i32_105
  let c512_i32_163 : BitVec 32 := 512#32
  let v207 : BitVec 32 := Scalar.muli v142 c512_i32_163
  v207
def k0_mult11 (i : grid0.Coords) (k0_t1 : Fin (k0_t1_loop i).trips) : BitVec 32 :=
  let c0_i32_187 : BitVec 32 := 0#32
  let c8_i32_186 : BitVec 32 := 8#32
  let c0_i32_9 : BitVec 32 := 0#32
  let c1_i32_10 : BitVec 32 := 1#32
  let arg14 : BitVec 32 := Scf.iv c0_i32_9 c1_i32_10 k0_t1
  let v237 : BitVec 32 := Scalar.muli c8_i32_186 arg14
  let v238 : BitVec 32 := Scalar.addi c0_i32_187 v237
  let c2_i32_188 : BitVec 32 := 2#32
  let v239 : BitVec 32 := Scalar.addi v238 c2_i32_188
  let c1_i32_189 : BitVec 32 := 1#32
  let v240 : BitVec 32 := Scalar.addi v239 c1_i32_189
  let c512_i32_190 : BitVec 32 := 512#32
  let v241 : BitVec 32 := Scalar.muli v240 c512_i32_190
  v241
def k0_mult12 (i : grid0.Coords) (k0_t1 : Fin (k0_t1_loop i).trips) : BitVec 32 :=
  let c0_i32_187 : BitVec 32 := 0#32
  let c8_i32_186 : BitVec 32 := 8#32
  let c0_i32_9 : BitVec 32 := 0#32
  let c1_i32_10 : BitVec 32 := 1#32
  let arg14 : BitVec 32 := Scf.iv c0_i32_9 c1_i32_10 k0_t1
  let v237 : BitVec 32 := Scalar.muli c8_i32_186 arg14
  let v238 : BitVec 32 := Scalar.addi c0_i32_187 v237
  let c2_i32_188 : BitVec 32 := 2#32
  let v239 : BitVec 32 := Scalar.addi v238 c2_i32_188
  let c1_i32_206 : BitVec 32 := 1#32
  let v257 : BitVec 32 := Scalar.addi v239 c1_i32_206
  let c512_i32_207 : BitVec 32 := 512#32
  let v258 : BitVec 32 := Scalar.muli v257 c512_i32_207
  v258
def k0_mult13 (i : grid0.Coords) (k0_t1 : Fin (k0_t1_loop i).trips) : BitVec 32 :=
  let c0_i32_187 : BitVec 32 := 0#32
  let c8_i32_186 : BitVec 32 := 8#32
  let c0_i32_9 : BitVec 32 := 0#32
  let c1_i32_10 : BitVec 32 := 1#32
  let arg14 : BitVec 32 := Scf.iv c0_i32_9 c1_i32_10 k0_t1
  let v237 : BitVec 32 := Scalar.muli c8_i32_186 arg14
  let v238 : BitVec 32 := Scalar.addi c0_i32_187 v237
  let c2_i32_188 : BitVec 32 := 2#32
  let v239 : BitVec 32 := Scalar.addi v238 c2_i32_188
  let c512_i32_223 : BitVec 32 := 512#32
  let v274 : BitVec 32 := Scalar.muli v239 c512_i32_223
  v274
def k0_mult14 (i : grid0.Coords) (k0_t1 : Fin (k0_t1_loop i).trips) : BitVec 32 :=
  let c0_i32_187 : BitVec 32 := 0#32
  let c8_i32_186 : BitVec 32 := 8#32
  let c0_i32_9 : BitVec 32 := 0#32
  let c1_i32_10 : BitVec 32 := 1#32
  let arg14 : BitVec 32 := Scf.iv c0_i32_9 c1_i32_10 k0_t1
  let v237 : BitVec 32 := Scalar.muli c8_i32_186 arg14
  let v238 : BitVec 32 := Scalar.addi c0_i32_187 v237
  let c2_i32_188 : BitVec 32 := 2#32
  let v239 : BitVec 32 := Scalar.addi v238 c2_i32_188
  let c512_i32_246 : BitVec 32 := 512#32
  let v304 : BitVec 32 := Scalar.muli v239 c512_i32_246
  v304
def k0_mult15 (i : grid0.Coords) (k0_t1 : Fin (k0_t1_loop i).trips) : BitVec 32 :=
  let c0_i32_270 : BitVec 32 := 0#32
  let c8_i32_269 : BitVec 32 := 8#32
  let c0_i32_9 : BitVec 32 := 0#32
  let c1_i32_10 : BitVec 32 := 1#32
  let arg14 : BitVec 32 := Scf.iv c0_i32_9 c1_i32_10 k0_t1
  let v334 : BitVec 32 := Scalar.muli c8_i32_269 arg14
  let v335 : BitVec 32 := Scalar.addi c0_i32_270 v334
  let c3_i32_271 : BitVec 32 := 3#32
  let v336 : BitVec 32 := Scalar.addi v335 c3_i32_271
  let c1_i32_272 : BitVec 32 := 1#32
  let v337 : BitVec 32 := Scalar.addi v336 c1_i32_272
  let c512_i32_273 : BitVec 32 := 512#32
  let v338 : BitVec 32 := Scalar.muli v337 c512_i32_273
  v338
def k0_mult16 (i : grid0.Coords) (k0_t1 : Fin (k0_t1_loop i).trips) : BitVec 32 :=
  let c0_i32_270 : BitVec 32 := 0#32
  let c8_i32_269 : BitVec 32 := 8#32
  let c0_i32_9 : BitVec 32 := 0#32
  let c1_i32_10 : BitVec 32 := 1#32
  let arg14 : BitVec 32 := Scf.iv c0_i32_9 c1_i32_10 k0_t1
  let v334 : BitVec 32 := Scalar.muli c8_i32_269 arg14
  let v335 : BitVec 32 := Scalar.addi c0_i32_270 v334
  let c3_i32_271 : BitVec 32 := 3#32
  let v336 : BitVec 32 := Scalar.addi v335 c3_i32_271
  let c1_i32_289 : BitVec 32 := 1#32
  let v354 : BitVec 32 := Scalar.addi v336 c1_i32_289
  let c512_i32_290 : BitVec 32 := 512#32
  let v355 : BitVec 32 := Scalar.muli v354 c512_i32_290
  v355
def k0_mult17 (i : grid0.Coords) (k0_t1 : Fin (k0_t1_loop i).trips) : BitVec 32 :=
  let c0_i32_270 : BitVec 32 := 0#32
  let c8_i32_269 : BitVec 32 := 8#32
  let c0_i32_9 : BitVec 32 := 0#32
  let c1_i32_10 : BitVec 32 := 1#32
  let arg14 : BitVec 32 := Scf.iv c0_i32_9 c1_i32_10 k0_t1
  let v334 : BitVec 32 := Scalar.muli c8_i32_269 arg14
  let v335 : BitVec 32 := Scalar.addi c0_i32_270 v334
  let c3_i32_271 : BitVec 32 := 3#32
  let v336 : BitVec 32 := Scalar.addi v335 c3_i32_271
  let c512_i32_306 : BitVec 32 := 512#32
  let v371 : BitVec 32 := Scalar.muli v336 c512_i32_306
  v371
def k0_mult18 (i : grid0.Coords) (k0_t1 : Fin (k0_t1_loop i).trips) : BitVec 32 :=
  let c0_i32_270 : BitVec 32 := 0#32
  let c8_i32_269 : BitVec 32 := 8#32
  let c0_i32_9 : BitVec 32 := 0#32
  let c1_i32_10 : BitVec 32 := 1#32
  let arg14 : BitVec 32 := Scf.iv c0_i32_9 c1_i32_10 k0_t1
  let v334 : BitVec 32 := Scalar.muli c8_i32_269 arg14
  let v335 : BitVec 32 := Scalar.addi c0_i32_270 v334
  let c3_i32_271 : BitVec 32 := 3#32
  let v336 : BitVec 32 := Scalar.addi v335 c3_i32_271
  let c512_i32_329 : BitVec 32 := 512#32
  let v401 : BitVec 32 := Scalar.muli v336 c512_i32_329
  v401
def k0_mult19 (i : grid0.Coords) (k0_t1 : Fin (k0_t1_loop i).trips) : BitVec 32 :=
  let c0_i32_353 : BitVec 32 := 0#32
  let c8_i32_352 : BitVec 32 := 8#32
  let c0_i32_9 : BitVec 32 := 0#32
  let c1_i32_10 : BitVec 32 := 1#32
  let arg14 : BitVec 32 := Scf.iv c0_i32_9 c1_i32_10 k0_t1
  let v431 : BitVec 32 := Scalar.muli c8_i32_352 arg14
  let v432 : BitVec 32 := Scalar.addi c0_i32_353 v431
  let c4_i32_354 : BitVec 32 := 4#32
  let v433 : BitVec 32 := Scalar.addi v432 c4_i32_354
  let c1_i32_355 : BitVec 32 := 1#32
  let v434 : BitVec 32 := Scalar.addi v433 c1_i32_355
  let c512_i32_356 : BitVec 32 := 512#32
  let v435 : BitVec 32 := Scalar.muli v434 c512_i32_356
  v435
def k0_mult20 (i : grid0.Coords) (k0_t1 : Fin (k0_t1_loop i).trips) : BitVec 32 :=
  let c0_i32_353 : BitVec 32 := 0#32
  let c8_i32_352 : BitVec 32 := 8#32
  let c0_i32_9 : BitVec 32 := 0#32
  let c1_i32_10 : BitVec 32 := 1#32
  let arg14 : BitVec 32 := Scf.iv c0_i32_9 c1_i32_10 k0_t1
  let v431 : BitVec 32 := Scalar.muli c8_i32_352 arg14
  let v432 : BitVec 32 := Scalar.addi c0_i32_353 v431
  let c4_i32_354 : BitVec 32 := 4#32
  let v433 : BitVec 32 := Scalar.addi v432 c4_i32_354
  let c1_i32_372 : BitVec 32 := 1#32
  let v451 : BitVec 32 := Scalar.addi v433 c1_i32_372
  let c512_i32_373 : BitVec 32 := 512#32
  let v452 : BitVec 32 := Scalar.muli v451 c512_i32_373
  v452
def k0_mult21 (i : grid0.Coords) (k0_t1 : Fin (k0_t1_loop i).trips) : BitVec 32 :=
  let c0_i32_353 : BitVec 32 := 0#32
  let c8_i32_352 : BitVec 32 := 8#32
  let c0_i32_9 : BitVec 32 := 0#32
  let c1_i32_10 : BitVec 32 := 1#32
  let arg14 : BitVec 32 := Scf.iv c0_i32_9 c1_i32_10 k0_t1
  let v431 : BitVec 32 := Scalar.muli c8_i32_352 arg14
  let v432 : BitVec 32 := Scalar.addi c0_i32_353 v431
  let c4_i32_354 : BitVec 32 := 4#32
  let v433 : BitVec 32 := Scalar.addi v432 c4_i32_354
  let c512_i32_389 : BitVec 32 := 512#32
  let v468 : BitVec 32 := Scalar.muli v433 c512_i32_389
  v468
def k0_mult22 (i : grid0.Coords) (k0_t1 : Fin (k0_t1_loop i).trips) : BitVec 32 :=
  let c0_i32_353 : BitVec 32 := 0#32
  let c8_i32_352 : BitVec 32 := 8#32
  let c0_i32_9 : BitVec 32 := 0#32
  let c1_i32_10 : BitVec 32 := 1#32
  let arg14 : BitVec 32 := Scf.iv c0_i32_9 c1_i32_10 k0_t1
  let v431 : BitVec 32 := Scalar.muli c8_i32_352 arg14
  let v432 : BitVec 32 := Scalar.addi c0_i32_353 v431
  let c4_i32_354 : BitVec 32 := 4#32
  let v433 : BitVec 32 := Scalar.addi v432 c4_i32_354
  let c512_i32_412 : BitVec 32 := 512#32
  let v498 : BitVec 32 := Scalar.muli v433 c512_i32_412
  v498
def k0_mult23 (i : grid0.Coords) (k0_t1 : Fin (k0_t1_loop i).trips) : BitVec 32 :=
  let c0_i32_436 : BitVec 32 := 0#32
  let c8_i32_435 : BitVec 32 := 8#32
  let c0_i32_9 : BitVec 32 := 0#32
  let c1_i32_10 : BitVec 32 := 1#32
  let arg14 : BitVec 32 := Scf.iv c0_i32_9 c1_i32_10 k0_t1
  let v528 : BitVec 32 := Scalar.muli c8_i32_435 arg14
  let v529 : BitVec 32 := Scalar.addi c0_i32_436 v528
  let c5_i32_437 : BitVec 32 := 5#32
  let v530 : BitVec 32 := Scalar.addi v529 c5_i32_437
  let c1_i32_438 : BitVec 32 := 1#32
  let v531 : BitVec 32 := Scalar.addi v530 c1_i32_438
  let c512_i32_439 : BitVec 32 := 512#32
  let v532 : BitVec 32 := Scalar.muli v531 c512_i32_439
  v532
def k0_mult24 (i : grid0.Coords) (k0_t1 : Fin (k0_t1_loop i).trips) : BitVec 32 :=
  let c0_i32_436 : BitVec 32 := 0#32
  let c8_i32_435 : BitVec 32 := 8#32
  let c0_i32_9 : BitVec 32 := 0#32
  let c1_i32_10 : BitVec 32 := 1#32
  let arg14 : BitVec 32 := Scf.iv c0_i32_9 c1_i32_10 k0_t1
  let v528 : BitVec 32 := Scalar.muli c8_i32_435 arg14
  let v529 : BitVec 32 := Scalar.addi c0_i32_436 v528
  let c5_i32_437 : BitVec 32 := 5#32
  let v530 : BitVec 32 := Scalar.addi v529 c5_i32_437
  let c1_i32_455 : BitVec 32 := 1#32
  let v548 : BitVec 32 := Scalar.addi v530 c1_i32_455
  let c512_i32_456 : BitVec 32 := 512#32
  let v549 : BitVec 32 := Scalar.muli v548 c512_i32_456
  v549
def k0_mult25 (i : grid0.Coords) (k0_t1 : Fin (k0_t1_loop i).trips) : BitVec 32 :=
  let c0_i32_436 : BitVec 32 := 0#32
  let c8_i32_435 : BitVec 32 := 8#32
  let c0_i32_9 : BitVec 32 := 0#32
  let c1_i32_10 : BitVec 32 := 1#32
  let arg14 : BitVec 32 := Scf.iv c0_i32_9 c1_i32_10 k0_t1
  let v528 : BitVec 32 := Scalar.muli c8_i32_435 arg14
  let v529 : BitVec 32 := Scalar.addi c0_i32_436 v528
  let c5_i32_437 : BitVec 32 := 5#32
  let v530 : BitVec 32 := Scalar.addi v529 c5_i32_437
  let c512_i32_472 : BitVec 32 := 512#32
  let v565 : BitVec 32 := Scalar.muli v530 c512_i32_472
  v565
def k0_mult26 (i : grid0.Coords) (k0_t1 : Fin (k0_t1_loop i).trips) : BitVec 32 :=
  let c0_i32_436 : BitVec 32 := 0#32
  let c8_i32_435 : BitVec 32 := 8#32
  let c0_i32_9 : BitVec 32 := 0#32
  let c1_i32_10 : BitVec 32 := 1#32
  let arg14 : BitVec 32 := Scf.iv c0_i32_9 c1_i32_10 k0_t1
  let v528 : BitVec 32 := Scalar.muli c8_i32_435 arg14
  let v529 : BitVec 32 := Scalar.addi c0_i32_436 v528
  let c5_i32_437 : BitVec 32 := 5#32
  let v530 : BitVec 32 := Scalar.addi v529 c5_i32_437
  let c512_i32_495 : BitVec 32 := 512#32
  let v595 : BitVec 32 := Scalar.muli v530 c512_i32_495
  v595
def k0_mult27 (i : grid0.Coords) (k0_t1 : Fin (k0_t1_loop i).trips) : BitVec 32 :=
  let c0_i32_519 : BitVec 32 := 0#32
  let c8_i32_518 : BitVec 32 := 8#32
  let c0_i32_9 : BitVec 32 := 0#32
  let c1_i32_10 : BitVec 32 := 1#32
  let arg14 : BitVec 32 := Scf.iv c0_i32_9 c1_i32_10 k0_t1
  let v625 : BitVec 32 := Scalar.muli c8_i32_518 arg14
  let v626 : BitVec 32 := Scalar.addi c0_i32_519 v625
  let c6_i32_520 : BitVec 32 := 6#32
  let v627 : BitVec 32 := Scalar.addi v626 c6_i32_520
  let c1_i32_521 : BitVec 32 := 1#32
  let v628 : BitVec 32 := Scalar.addi v627 c1_i32_521
  let c512_i32_522 : BitVec 32 := 512#32
  let v629 : BitVec 32 := Scalar.muli v628 c512_i32_522
  v629
def k0_mult28 (i : grid0.Coords) (k0_t1 : Fin (k0_t1_loop i).trips) : BitVec 32 :=
  let c0_i32_519 : BitVec 32 := 0#32
  let c8_i32_518 : BitVec 32 := 8#32
  let c0_i32_9 : BitVec 32 := 0#32
  let c1_i32_10 : BitVec 32 := 1#32
  let arg14 : BitVec 32 := Scf.iv c0_i32_9 c1_i32_10 k0_t1
  let v625 : BitVec 32 := Scalar.muli c8_i32_518 arg14
  let v626 : BitVec 32 := Scalar.addi c0_i32_519 v625
  let c6_i32_520 : BitVec 32 := 6#32
  let v627 : BitVec 32 := Scalar.addi v626 c6_i32_520
  let c1_i32_538 : BitVec 32 := 1#32
  let v645 : BitVec 32 := Scalar.addi v627 c1_i32_538
  let c512_i32_539 : BitVec 32 := 512#32
  let v646 : BitVec 32 := Scalar.muli v645 c512_i32_539
  v646
def k0_mult29 (i : grid0.Coords) (k0_t1 : Fin (k0_t1_loop i).trips) : BitVec 32 :=
  let c0_i32_519 : BitVec 32 := 0#32
  let c8_i32_518 : BitVec 32 := 8#32
  let c0_i32_9 : BitVec 32 := 0#32
  let c1_i32_10 : BitVec 32 := 1#32
  let arg14 : BitVec 32 := Scf.iv c0_i32_9 c1_i32_10 k0_t1
  let v625 : BitVec 32 := Scalar.muli c8_i32_518 arg14
  let v626 : BitVec 32 := Scalar.addi c0_i32_519 v625
  let c6_i32_520 : BitVec 32 := 6#32
  let v627 : BitVec 32 := Scalar.addi v626 c6_i32_520
  let c512_i32_555 : BitVec 32 := 512#32
  let v662 : BitVec 32 := Scalar.muli v627 c512_i32_555
  v662
def k0_mult30 (i : grid0.Coords) (k0_t1 : Fin (k0_t1_loop i).trips) : BitVec 32 :=
  let c0_i32_519 : BitVec 32 := 0#32
  let c8_i32_518 : BitVec 32 := 8#32
  let c0_i32_9 : BitVec 32 := 0#32
  let c1_i32_10 : BitVec 32 := 1#32
  let arg14 : BitVec 32 := Scf.iv c0_i32_9 c1_i32_10 k0_t1
  let v625 : BitVec 32 := Scalar.muli c8_i32_518 arg14
  let v626 : BitVec 32 := Scalar.addi c0_i32_519 v625
  let c6_i32_520 : BitVec 32 := 6#32
  let v627 : BitVec 32 := Scalar.addi v626 c6_i32_520
  let c512_i32_578 : BitVec 32 := 512#32
  let v692 : BitVec 32 := Scalar.muli v627 c512_i32_578
  v692
def k0_mult31 (i : grid0.Coords) (k0_t1 : Fin (k0_t1_loop i).trips) : BitVec 32 :=
  let c0_i32_602 : BitVec 32 := 0#32
  let c8_i32_601 : BitVec 32 := 8#32
  let c0_i32_9 : BitVec 32 := 0#32
  let c1_i32_10 : BitVec 32 := 1#32
  let arg14 : BitVec 32 := Scf.iv c0_i32_9 c1_i32_10 k0_t1
  let v722 : BitVec 32 := Scalar.muli c8_i32_601 arg14
  let v723 : BitVec 32 := Scalar.addi c0_i32_602 v722
  let c7_i32_603 : BitVec 32 := 7#32
  let v724 : BitVec 32 := Scalar.addi v723 c7_i32_603
  let c1_i32_604 : BitVec 32 := 1#32
  let v725 : BitVec 32 := Scalar.addi v724 c1_i32_604
  let c512_i32_605 : BitVec 32 := 512#32
  let v726 : BitVec 32 := Scalar.muli v725 c512_i32_605
  v726
def k0_mult32 (i : grid0.Coords) (k0_t1 : Fin (k0_t1_loop i).trips) : BitVec 32 :=
  let c0_i32_602 : BitVec 32 := 0#32
  let c8_i32_601 : BitVec 32 := 8#32
  let c0_i32_9 : BitVec 32 := 0#32
  let c1_i32_10 : BitVec 32 := 1#32
  let arg14 : BitVec 32 := Scf.iv c0_i32_9 c1_i32_10 k0_t1
  let v722 : BitVec 32 := Scalar.muli c8_i32_601 arg14
  let v723 : BitVec 32 := Scalar.addi c0_i32_602 v722
  let c7_i32_603 : BitVec 32 := 7#32
  let v724 : BitVec 32 := Scalar.addi v723 c7_i32_603
  let c1_i32_621 : BitVec 32 := 1#32
  let v742 : BitVec 32 := Scalar.addi v724 c1_i32_621
  let c512_i32_622 : BitVec 32 := 512#32
  let v743 : BitVec 32 := Scalar.muli v742 c512_i32_622
  v743
def k0_mult33 (i : grid0.Coords) (k0_t1 : Fin (k0_t1_loop i).trips) : BitVec 32 :=
  let c0_i32_602 : BitVec 32 := 0#32
  let c8_i32_601 : BitVec 32 := 8#32
  let c0_i32_9 : BitVec 32 := 0#32
  let c1_i32_10 : BitVec 32 := 1#32
  let arg14 : BitVec 32 := Scf.iv c0_i32_9 c1_i32_10 k0_t1
  let v722 : BitVec 32 := Scalar.muli c8_i32_601 arg14
  let v723 : BitVec 32 := Scalar.addi c0_i32_602 v722
  let c7_i32_603 : BitVec 32 := 7#32
  let v724 : BitVec 32 := Scalar.addi v723 c7_i32_603
  let c512_i32_638 : BitVec 32 := 512#32
  let v759 : BitVec 32 := Scalar.muli v724 c512_i32_638
  v759
def k0_mult34 (i : grid0.Coords) (k0_t1 : Fin (k0_t1_loop i).trips) : BitVec 32 :=
  let c0_i32_602 : BitVec 32 := 0#32
  let c8_i32_601 : BitVec 32 := 8#32
  let c0_i32_9 : BitVec 32 := 0#32
  let c1_i32_10 : BitVec 32 := 1#32
  let arg14 : BitVec 32 := Scf.iv c0_i32_9 c1_i32_10 k0_t1
  let v722 : BitVec 32 := Scalar.muli c8_i32_601 arg14
  let v723 : BitVec 32 := Scalar.addi c0_i32_602 v722
  let c7_i32_603 : BitVec 32 := 7#32
  let v724 : BitVec 32 := Scalar.addi v723 c7_i32_603
  let c512_i32_661 : BitVec 32 := 512#32
  let v789 : BitVec 32 := Scalar.muli v724 c512_i32_661
  v789
@[reducible] def k0_t2_loop (i : grid0.Coords) : Scf.Loop 32 :=
  let c0_i32_9 : BitVec 32 := 0#32
  let arg2 : BitVec 32 := BitVec.ofNat 32 (i 2).val
  let c8_i32 : BitVec 32 := 8#32
  let v11 : BitVec 32 := Scalar.divsi arg2 c8_i32
  let v14 : BitVec 32 := Scalar.subi v11 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let v15 : BitVec 32 := Scalar.addi c0_i32_9 v14
  let c1_i32_11 : BitVec 32 := 1#32
  ⟨v18, v15, c1_i32_11⟩
def k0_mult35 (i : grid0.Coords) (k0_t2 : Fin (k0_t2_loop i).trips) : BitVec 32 :=
  let c0_i32_23 : BitVec 32 := 0#32
  let c8_i32_22 : BitVec 32 := 8#32
  let c0_i32_9 : BitVec 32 := 0#32
  let arg2 : BitVec 32 := BitVec.ofNat 32 (i 2).val
  let c8_i32 : BitVec 32 := 8#32
  let v11 : BitVec 32 := Scalar.divsi arg2 c8_i32
  let v14 : BitVec 32 := Scalar.subi v11 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg14 : BitVec 32 := Scf.iv v18 c1_i32_11 k0_t2
  let v43 : BitVec 32 := Scalar.muli c8_i32_22 arg14
  let v44 : BitVec 32 := Scalar.addi c0_i32_23 v43
  let c0_i32_24 : BitVec 32 := 0#32
  let v45 : BitVec 32 := Scalar.addi v44 c0_i32_24
  let c1_i32_25 : BitVec 32 := 1#32
  let v46 : BitVec 32 := Scalar.addi v45 c1_i32_25
  let c512_i32 : BitVec 32 := 512#32
  let v47 : BitVec 32 := Scalar.muli v46 c512_i32
  v47
def k0_off5 (i : grid0.Coords) (k0_t2 : Fin (k0_t2_loop i).trips) (c0_i32_24 : BitVec 32) : Fin 4 → Nat :=
  let c0_26 : Index := 0#32
  let c0_27 : Index := 0#32
  let c0_i32_23 : BitVec 32 := 0#32
  let c8_i32_22 : BitVec 32 := 8#32
  let c0_i32_9 : BitVec 32 := 0#32
  let arg2 : BitVec 32 := BitVec.ofNat 32 (i 2).val
  let c8_i32 : BitVec 32 := 8#32
  let v11 : BitVec 32 := Scalar.divsi arg2 c8_i32
  let v14 : BitVec 32 := Scalar.subi v11 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg14 : BitVec 32 := Scf.iv v18 c1_i32_11 k0_t2
  let v43 : BitVec 32 := Scalar.muli c8_i32_22 arg14
  let v44 : BitVec 32 := Scalar.addi c0_i32_23 v43
  let v45 : BitVec 32 := Scalar.addi v44 c0_i32_24
  let c1_i32_25 : BitVec 32 := 1#32
  let v46 : BitVec 32 := Scalar.addi v45 c1_i32_25
  let c512_i32 : BitVec 32 := 512#32
  let v47 : BitVec 32 := Scalar.muli v46 c512_i32
  let v48 : BitVec 32 := v47
  let v49 : Index := Scalar.indexCast v48
  let c0_28 : Index := 0#32
  ![0, 0, v49.toNat, 0]
def k0_mult36 (i : grid0.Coords) (k0_t2 : Fin (k0_t2_loop i).trips) : BitVec 32 :=
  let c0_i32_23 : BitVec 32 := 0#32
  let c8_i32_22 : BitVec 32 := 8#32
  let c0_i32_9 : BitVec 32 := 0#32
  let arg2 : BitVec 32 := BitVec.ofNat 32 (i 2).val
  let c8_i32 : BitVec 32 := 8#32
  let v11 : BitVec 32 := Scalar.divsi arg2 c8_i32
  let v14 : BitVec 32 := Scalar.subi v11 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg14 : BitVec 32 := Scf.iv v18 c1_i32_11 k0_t2
  let v43 : BitVec 32 := Scalar.muli c8_i32_22 arg14
  let v44 : BitVec 32 := Scalar.addi c0_i32_23 v43
  let c0_i32_24 : BitVec 32 := 0#32
  let v45 : BitVec 32 := Scalar.addi v44 c0_i32_24
  let c1_i32_41 : BitVec 32 := 1#32
  let v63 : BitVec 32 := Scalar.addi v45 c1_i32_41
  let c512_i32_42 : BitVec 32 := 512#32
  let v64 : BitVec 32 := Scalar.muli v63 c512_i32_42
  v64
def k0_off6 (i : grid0.Coords) (k0_t2 : Fin (k0_t2_loop i).trips) (c0_i32_24 : BitVec 32) : Fin 4 → Nat :=
  let c0_43 : Index := 0#32
  let c1 : Index := 1#32
  let c0_i32_23 : BitVec 32 := 0#32
  let c8_i32_22 : BitVec 32 := 8#32
  let c0_i32_9 : BitVec 32 := 0#32
  let arg2 : BitVec 32 := BitVec.ofNat 32 (i 2).val
  let c8_i32 : BitVec 32 := 8#32
  let v11 : BitVec 32 := Scalar.divsi arg2 c8_i32
  let v14 : BitVec 32 := Scalar.subi v11 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg14 : BitVec 32 := Scf.iv v18 c1_i32_11 k0_t2
  let v43 : BitVec 32 := Scalar.muli c8_i32_22 arg14
  let v44 : BitVec 32 := Scalar.addi c0_i32_23 v43
  let v45 : BitVec 32 := Scalar.addi v44 c0_i32_24
  let c1_i32_41 : BitVec 32 := 1#32
  let v63 : BitVec 32 := Scalar.addi v45 c1_i32_41
  let c512_i32_42 : BitVec 32 := 512#32
  let v64 : BitVec 32 := Scalar.muli v63 c512_i32_42
  let v65 : BitVec 32 := v64
  let v66 : Index := Scalar.indexCast v65
  let c0_44 : Index := 0#32
  ![0, 1, v66.toNat, 0]
def k0_mult37 (i : grid0.Coords) (k0_t2 : Fin (k0_t2_loop i).trips) : BitVec 32 :=
  let c0_i32_23 : BitVec 32 := 0#32
  let c8_i32_22 : BitVec 32 := 8#32
  let c0_i32_9 : BitVec 32 := 0#32
  let arg2 : BitVec 32 := BitVec.ofNat 32 (i 2).val
  let c8_i32 : BitVec 32 := 8#32
  let v11 : BitVec 32 := Scalar.divsi arg2 c8_i32
  let v14 : BitVec 32 := Scalar.subi v11 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg14 : BitVec 32 := Scf.iv v18 c1_i32_11 k0_t2
  let v43 : BitVec 32 := Scalar.muli c8_i32_22 arg14
  let v44 : BitVec 32 := Scalar.addi c0_i32_23 v43
  let c0_i32_24 : BitVec 32 := 0#32
  let v45 : BitVec 32 := Scalar.addi v44 c0_i32_24
  let c512_i32_57 : BitVec 32 := 512#32
  let v80 : BitVec 32 := Scalar.muli v45 c512_i32_57
  v80
def k0_off7 (i : grid0.Coords) (k0_t2 : Fin (k0_t2_loop i).trips) (c0_i32_24 : BitVec 32) : Fin 4 → Nat :=
  let c0_70 : Index := 0#32
  let c0_71 : Index := 0#32
  let c0_72 : Index := 0#32
  let c0_i32_23 : BitVec 32 := 0#32
  let c8_i32_22 : BitVec 32 := 8#32
  let c0_i32_9 : BitVec 32 := 0#32
  let arg2 : BitVec 32 := BitVec.ofNat 32 (i 2).val
  let c8_i32 : BitVec 32 := 8#32
  let v11 : BitVec 32 := Scalar.divsi arg2 c8_i32
  let v14 : BitVec 32 := Scalar.subi v11 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg14 : BitVec 32 := Scf.iv v18 c1_i32_11 k0_t2
  let v43 : BitVec 32 := Scalar.muli c8_i32_22 arg14
  let v44 : BitVec 32 := Scalar.addi c0_i32_23 v43
  let v45 : BitVec 32 := Scalar.addi v44 c0_i32_24
  let c512_i32_57 : BitVec 32 := 512#32
  let v80 : BitVec 32 := Scalar.muli v45 c512_i32_57
  let v81 : BitVec 32 := v80
  let v99 : Index := Scalar.indexCast v81
  ![0, 0, 0, v99.toNat]
def k0_mult38 (i : grid0.Coords) (k0_t2 : Fin (k0_t2_loop i).trips) : BitVec 32 :=
  let c0_i32_23 : BitVec 32 := 0#32
  let c8_i32_22 : BitVec 32 := 8#32
  let c0_i32_9 : BitVec 32 := 0#32
  let arg2 : BitVec 32 := BitVec.ofNat 32 (i 2).val
  let c8_i32 : BitVec 32 := 8#32
  let v11 : BitVec 32 := Scalar.divsi arg2 c8_i32
  let v14 : BitVec 32 := Scalar.subi v11 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg14 : BitVec 32 := Scf.iv v18 c1_i32_11 k0_t2
  let v43 : BitVec 32 := Scalar.muli c8_i32_22 arg14
  let v44 : BitVec 32 := Scalar.addi c0_i32_23 v43
  let c0_i32_24 : BitVec 32 := 0#32
  let v45 : BitVec 32 := Scalar.addi v44 c0_i32_24
  let c512_i32_80 : BitVec 32 := 512#32
  let v110 : BitVec 32 := Scalar.muli v45 c512_i32_80
  v110
def k0_off8 (i : grid0.Coords) (k0_t2 : Fin (k0_t2_loop i).trips) (c0_i32_24 : BitVec 32) : Fin 4 → Nat :=
  let c0_93 : Index := 0#32
  let c1_94 : Index := 1#32
  let c0_95 : Index := 0#32
  let c0_i32_23 : BitVec 32 := 0#32
  let c8_i32_22 : BitVec 32 := 8#32
  let c0_i32_9 : BitVec 32 := 0#32
  let arg2 : BitVec 32 := BitVec.ofNat 32 (i 2).val
  let c8_i32 : BitVec 32 := 8#32
  let v11 : BitVec 32 := Scalar.divsi arg2 c8_i32
  let v14 : BitVec 32 := Scalar.subi v11 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg14 : BitVec 32 := Scf.iv v18 c1_i32_11 k0_t2
  let v43 : BitVec 32 := Scalar.muli c8_i32_22 arg14
  let v44 : BitVec 32 := Scalar.addi c0_i32_23 v43
  let v45 : BitVec 32 := Scalar.addi v44 c0_i32_24
  let c512_i32_80 : BitVec 32 := 512#32
  let v110 : BitVec 32 := Scalar.muli v45 c512_i32_80
  let v111 : BitVec 32 := v110
  let v129 : Index := Scalar.indexCast v111
  ![0, 1, 0, v129.toNat]
def k0_mult39 (i : grid0.Coords) (k0_t2 : Fin (k0_t2_loop i).trips) : BitVec 32 :=
  let c0_i32_104 : BitVec 32 := 0#32
  let c8_i32_103 : BitVec 32 := 8#32
  let c0_i32_9 : BitVec 32 := 0#32
  let arg2 : BitVec 32 := BitVec.ofNat 32 (i 2).val
  let c8_i32 : BitVec 32 := 8#32
  let v11 : BitVec 32 := Scalar.divsi arg2 c8_i32
  let v14 : BitVec 32 := Scalar.subi v11 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg14 : BitVec 32 := Scf.iv v18 c1_i32_11 k0_t2
  let v140 : BitVec 32 := Scalar.muli c8_i32_103 arg14
  let v141 : BitVec 32 := Scalar.addi c0_i32_104 v140
  let c1_i32_105 : BitVec 32 := 1#32
  let v142 : BitVec 32 := Scalar.addi v141 c1_i32_105
  let c1_i32_106 : BitVec 32 := 1#32
  let v143 : BitVec 32 := Scalar.addi v142 c1_i32_106
  let c512_i32_107 : BitVec 32 := 512#32
  let v144 : BitVec 32 := Scalar.muli v143 c512_i32_107
  v144
def k0_mult40 (i : grid0.Coords) (k0_t2 : Fin (k0_t2_loop i).trips) : BitVec 32 :=
  let c0_i32_104 : BitVec 32 := 0#32
  let c8_i32_103 : BitVec 32 := 8#32
  let c0_i32_9 : BitVec 32 := 0#32
  let arg2 : BitVec 32 := BitVec.ofNat 32 (i 2).val
  let c8_i32 : BitVec 32 := 8#32
  let v11 : BitVec 32 := Scalar.divsi arg2 c8_i32
  let v14 : BitVec 32 := Scalar.subi v11 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg14 : BitVec 32 := Scf.iv v18 c1_i32_11 k0_t2
  let v140 : BitVec 32 := Scalar.muli c8_i32_103 arg14
  let v141 : BitVec 32 := Scalar.addi c0_i32_104 v140
  let c1_i32_105 : BitVec 32 := 1#32
  let v142 : BitVec 32 := Scalar.addi v141 c1_i32_105
  let c1_i32_123 : BitVec 32 := 1#32
  let v160 : BitVec 32 := Scalar.addi v142 c1_i32_123
  let c512_i32_124 : BitVec 32 := 512#32
  let v161 : BitVec 32 := Scalar.muli v160 c512_i32_124
  v161
def k0_mult41 (i : grid0.Coords) (k0_t2 : Fin (k0_t2_loop i).trips) : BitVec 32 :=
  let c0_i32_104 : BitVec 32 := 0#32
  let c8_i32_103 : BitVec 32 := 8#32
  let c0_i32_9 : BitVec 32 := 0#32
  let arg2 : BitVec 32 := BitVec.ofNat 32 (i 2).val
  let c8_i32 : BitVec 32 := 8#32
  let v11 : BitVec 32 := Scalar.divsi arg2 c8_i32
  let v14 : BitVec 32 := Scalar.subi v11 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg14 : BitVec 32 := Scf.iv v18 c1_i32_11 k0_t2
  let v140 : BitVec 32 := Scalar.muli c8_i32_103 arg14
  let v141 : BitVec 32 := Scalar.addi c0_i32_104 v140
  let c1_i32_105 : BitVec 32 := 1#32
  let v142 : BitVec 32 := Scalar.addi v141 c1_i32_105
  let c512_i32_140 : BitVec 32 := 512#32
  let v177 : BitVec 32 := Scalar.muli v142 c512_i32_140
  v177
def k0_mult42 (i : grid0.Coords) (k0_t2 : Fin (k0_t2_loop i).trips) : BitVec 32 :=
  let c0_i32_104 : BitVec 32 := 0#32
  let c8_i32_103 : BitVec 32 := 8#32
  let c0_i32_9 : BitVec 32 := 0#32
  let arg2 : BitVec 32 := BitVec.ofNat 32 (i 2).val
  let c8_i32 : BitVec 32 := 8#32
  let v11 : BitVec 32 := Scalar.divsi arg2 c8_i32
  let v14 : BitVec 32 := Scalar.subi v11 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg14 : BitVec 32 := Scf.iv v18 c1_i32_11 k0_t2
  let v140 : BitVec 32 := Scalar.muli c8_i32_103 arg14
  let v141 : BitVec 32 := Scalar.addi c0_i32_104 v140
  let c1_i32_105 : BitVec 32 := 1#32
  let v142 : BitVec 32 := Scalar.addi v141 c1_i32_105
  let c512_i32_163 : BitVec 32 := 512#32
  let v207 : BitVec 32 := Scalar.muli v142 c512_i32_163
  v207
def k0_mult43 (i : grid0.Coords) (k0_t2 : Fin (k0_t2_loop i).trips) : BitVec 32 :=
  let c0_i32_187 : BitVec 32 := 0#32
  let c8_i32_186 : BitVec 32 := 8#32
  let c0_i32_9 : BitVec 32 := 0#32
  let arg2 : BitVec 32 := BitVec.ofNat 32 (i 2).val
  let c8_i32 : BitVec 32 := 8#32
  let v11 : BitVec 32 := Scalar.divsi arg2 c8_i32
  let v14 : BitVec 32 := Scalar.subi v11 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg14 : BitVec 32 := Scf.iv v18 c1_i32_11 k0_t2
  let v237 : BitVec 32 := Scalar.muli c8_i32_186 arg14
  let v238 : BitVec 32 := Scalar.addi c0_i32_187 v237
  let c2_i32_188 : BitVec 32 := 2#32
  let v239 : BitVec 32 := Scalar.addi v238 c2_i32_188
  let c1_i32_189 : BitVec 32 := 1#32
  let v240 : BitVec 32 := Scalar.addi v239 c1_i32_189
  let c512_i32_190 : BitVec 32 := 512#32
  let v241 : BitVec 32 := Scalar.muli v240 c512_i32_190
  v241
def k0_mult44 (i : grid0.Coords) (k0_t2 : Fin (k0_t2_loop i).trips) : BitVec 32 :=
  let c0_i32_187 : BitVec 32 := 0#32
  let c8_i32_186 : BitVec 32 := 8#32
  let c0_i32_9 : BitVec 32 := 0#32
  let arg2 : BitVec 32 := BitVec.ofNat 32 (i 2).val
  let c8_i32 : BitVec 32 := 8#32
  let v11 : BitVec 32 := Scalar.divsi arg2 c8_i32
  let v14 : BitVec 32 := Scalar.subi v11 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg14 : BitVec 32 := Scf.iv v18 c1_i32_11 k0_t2
  let v237 : BitVec 32 := Scalar.muli c8_i32_186 arg14
  let v238 : BitVec 32 := Scalar.addi c0_i32_187 v237
  let c2_i32_188 : BitVec 32 := 2#32
  let v239 : BitVec 32 := Scalar.addi v238 c2_i32_188
  let c1_i32_206 : BitVec 32 := 1#32
  let v257 : BitVec 32 := Scalar.addi v239 c1_i32_206
  let c512_i32_207 : BitVec 32 := 512#32
  let v258 : BitVec 32 := Scalar.muli v257 c512_i32_207
  v258
def k0_mult45 (i : grid0.Coords) (k0_t2 : Fin (k0_t2_loop i).trips) : BitVec 32 :=
  let c0_i32_187 : BitVec 32 := 0#32
  let c8_i32_186 : BitVec 32 := 8#32
  let c0_i32_9 : BitVec 32 := 0#32
  let arg2 : BitVec 32 := BitVec.ofNat 32 (i 2).val
  let c8_i32 : BitVec 32 := 8#32
  let v11 : BitVec 32 := Scalar.divsi arg2 c8_i32
  let v14 : BitVec 32 := Scalar.subi v11 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg14 : BitVec 32 := Scf.iv v18 c1_i32_11 k0_t2
  let v237 : BitVec 32 := Scalar.muli c8_i32_186 arg14
  let v238 : BitVec 32 := Scalar.addi c0_i32_187 v237
  let c2_i32_188 : BitVec 32 := 2#32
  let v239 : BitVec 32 := Scalar.addi v238 c2_i32_188
  let c512_i32_223 : BitVec 32 := 512#32
  let v274 : BitVec 32 := Scalar.muli v239 c512_i32_223
  v274
def k0_mult46 (i : grid0.Coords) (k0_t2 : Fin (k0_t2_loop i).trips) : BitVec 32 :=
  let c0_i32_187 : BitVec 32 := 0#32
  let c8_i32_186 : BitVec 32 := 8#32
  let c0_i32_9 : BitVec 32 := 0#32
  let arg2 : BitVec 32 := BitVec.ofNat 32 (i 2).val
  let c8_i32 : BitVec 32 := 8#32
  let v11 : BitVec 32 := Scalar.divsi arg2 c8_i32
  let v14 : BitVec 32 := Scalar.subi v11 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg14 : BitVec 32 := Scf.iv v18 c1_i32_11 k0_t2
  let v237 : BitVec 32 := Scalar.muli c8_i32_186 arg14
  let v238 : BitVec 32 := Scalar.addi c0_i32_187 v237
  let c2_i32_188 : BitVec 32 := 2#32
  let v239 : BitVec 32 := Scalar.addi v238 c2_i32_188
  let c512_i32_246 : BitVec 32 := 512#32
  let v304 : BitVec 32 := Scalar.muli v239 c512_i32_246
  v304
def k0_mult47 (i : grid0.Coords) (k0_t2 : Fin (k0_t2_loop i).trips) : BitVec 32 :=
  let c0_i32_270 : BitVec 32 := 0#32
  let c8_i32_269 : BitVec 32 := 8#32
  let c0_i32_9 : BitVec 32 := 0#32
  let arg2 : BitVec 32 := BitVec.ofNat 32 (i 2).val
  let c8_i32 : BitVec 32 := 8#32
  let v11 : BitVec 32 := Scalar.divsi arg2 c8_i32
  let v14 : BitVec 32 := Scalar.subi v11 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg14 : BitVec 32 := Scf.iv v18 c1_i32_11 k0_t2
  let v334 : BitVec 32 := Scalar.muli c8_i32_269 arg14
  let v335 : BitVec 32 := Scalar.addi c0_i32_270 v334
  let c3_i32_271 : BitVec 32 := 3#32
  let v336 : BitVec 32 := Scalar.addi v335 c3_i32_271
  let c1_i32_272 : BitVec 32 := 1#32
  let v337 : BitVec 32 := Scalar.addi v336 c1_i32_272
  let c512_i32_273 : BitVec 32 := 512#32
  let v338 : BitVec 32 := Scalar.muli v337 c512_i32_273
  v338
def k0_mult48 (i : grid0.Coords) (k0_t2 : Fin (k0_t2_loop i).trips) : BitVec 32 :=
  let c0_i32_270 : BitVec 32 := 0#32
  let c8_i32_269 : BitVec 32 := 8#32
  let c0_i32_9 : BitVec 32 := 0#32
  let arg2 : BitVec 32 := BitVec.ofNat 32 (i 2).val
  let c8_i32 : BitVec 32 := 8#32
  let v11 : BitVec 32 := Scalar.divsi arg2 c8_i32
  let v14 : BitVec 32 := Scalar.subi v11 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg14 : BitVec 32 := Scf.iv v18 c1_i32_11 k0_t2
  let v334 : BitVec 32 := Scalar.muli c8_i32_269 arg14
  let v335 : BitVec 32 := Scalar.addi c0_i32_270 v334
  let c3_i32_271 : BitVec 32 := 3#32
  let v336 : BitVec 32 := Scalar.addi v335 c3_i32_271
  let c1_i32_289 : BitVec 32 := 1#32
  let v354 : BitVec 32 := Scalar.addi v336 c1_i32_289
  let c512_i32_290 : BitVec 32 := 512#32
  let v355 : BitVec 32 := Scalar.muli v354 c512_i32_290
  v355
def k0_mult49 (i : grid0.Coords) (k0_t2 : Fin (k0_t2_loop i).trips) : BitVec 32 :=
  let c0_i32_270 : BitVec 32 := 0#32
  let c8_i32_269 : BitVec 32 := 8#32
  let c0_i32_9 : BitVec 32 := 0#32
  let arg2 : BitVec 32 := BitVec.ofNat 32 (i 2).val
  let c8_i32 : BitVec 32 := 8#32
  let v11 : BitVec 32 := Scalar.divsi arg2 c8_i32
  let v14 : BitVec 32 := Scalar.subi v11 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg14 : BitVec 32 := Scf.iv v18 c1_i32_11 k0_t2
  let v334 : BitVec 32 := Scalar.muli c8_i32_269 arg14
  let v335 : BitVec 32 := Scalar.addi c0_i32_270 v334
  let c3_i32_271 : BitVec 32 := 3#32
  let v336 : BitVec 32 := Scalar.addi v335 c3_i32_271
  let c512_i32_306 : BitVec 32 := 512#32
  let v371 : BitVec 32 := Scalar.muli v336 c512_i32_306
  v371
def k0_mult50 (i : grid0.Coords) (k0_t2 : Fin (k0_t2_loop i).trips) : BitVec 32 :=
  let c0_i32_270 : BitVec 32 := 0#32
  let c8_i32_269 : BitVec 32 := 8#32
  let c0_i32_9 : BitVec 32 := 0#32
  let arg2 : BitVec 32 := BitVec.ofNat 32 (i 2).val
  let c8_i32 : BitVec 32 := 8#32
  let v11 : BitVec 32 := Scalar.divsi arg2 c8_i32
  let v14 : BitVec 32 := Scalar.subi v11 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg14 : BitVec 32 := Scf.iv v18 c1_i32_11 k0_t2
  let v334 : BitVec 32 := Scalar.muli c8_i32_269 arg14
  let v335 : BitVec 32 := Scalar.addi c0_i32_270 v334
  let c3_i32_271 : BitVec 32 := 3#32
  let v336 : BitVec 32 := Scalar.addi v335 c3_i32_271
  let c512_i32_329 : BitVec 32 := 512#32
  let v401 : BitVec 32 := Scalar.muli v336 c512_i32_329
  v401
def k0_mult51 (i : grid0.Coords) (k0_t2 : Fin (k0_t2_loop i).trips) : BitVec 32 :=
  let c0_i32_353 : BitVec 32 := 0#32
  let c8_i32_352 : BitVec 32 := 8#32
  let c0_i32_9 : BitVec 32 := 0#32
  let arg2 : BitVec 32 := BitVec.ofNat 32 (i 2).val
  let c8_i32 : BitVec 32 := 8#32
  let v11 : BitVec 32 := Scalar.divsi arg2 c8_i32
  let v14 : BitVec 32 := Scalar.subi v11 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg14 : BitVec 32 := Scf.iv v18 c1_i32_11 k0_t2
  let v431 : BitVec 32 := Scalar.muli c8_i32_352 arg14
  let v432 : BitVec 32 := Scalar.addi c0_i32_353 v431
  let c4_i32_354 : BitVec 32 := 4#32
  let v433 : BitVec 32 := Scalar.addi v432 c4_i32_354
  let c1_i32_355 : BitVec 32 := 1#32
  let v434 : BitVec 32 := Scalar.addi v433 c1_i32_355
  let c512_i32_356 : BitVec 32 := 512#32
  let v435 : BitVec 32 := Scalar.muli v434 c512_i32_356
  v435
def k0_mult52 (i : grid0.Coords) (k0_t2 : Fin (k0_t2_loop i).trips) : BitVec 32 :=
  let c0_i32_353 : BitVec 32 := 0#32
  let c8_i32_352 : BitVec 32 := 8#32
  let c0_i32_9 : BitVec 32 := 0#32
  let arg2 : BitVec 32 := BitVec.ofNat 32 (i 2).val
  let c8_i32 : BitVec 32 := 8#32
  let v11 : BitVec 32 := Scalar.divsi arg2 c8_i32
  let v14 : BitVec 32 := Scalar.subi v11 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg14 : BitVec 32 := Scf.iv v18 c1_i32_11 k0_t2
  let v431 : BitVec 32 := Scalar.muli c8_i32_352 arg14
  let v432 : BitVec 32 := Scalar.addi c0_i32_353 v431
  let c4_i32_354 : BitVec 32 := 4#32
  let v433 : BitVec 32 := Scalar.addi v432 c4_i32_354
  let c1_i32_372 : BitVec 32 := 1#32
  let v451 : BitVec 32 := Scalar.addi v433 c1_i32_372
  let c512_i32_373 : BitVec 32 := 512#32
  let v452 : BitVec 32 := Scalar.muli v451 c512_i32_373
  v452
def k0_mult53 (i : grid0.Coords) (k0_t2 : Fin (k0_t2_loop i).trips) : BitVec 32 :=
  let c0_i32_353 : BitVec 32 := 0#32
  let c8_i32_352 : BitVec 32 := 8#32
  let c0_i32_9 : BitVec 32 := 0#32
  let arg2 : BitVec 32 := BitVec.ofNat 32 (i 2).val
  let c8_i32 : BitVec 32 := 8#32
  let v11 : BitVec 32 := Scalar.divsi arg2 c8_i32
  let v14 : BitVec 32 := Scalar.subi v11 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg14 : BitVec 32 := Scf.iv v18 c1_i32_11 k0_t2
  let v431 : BitVec 32 := Scalar.muli c8_i32_352 arg14
  let v432 : BitVec 32 := Scalar.addi c0_i32_353 v431
  let c4_i32_354 : BitVec 32 := 4#32
  let v433 : BitVec 32 := Scalar.addi v432 c4_i32_354
  let c512_i32_389 : BitVec 32 := 512#32
  let v468 : BitVec 32 := Scalar.muli v433 c512_i32_389
  v468
def k0_mult54 (i : grid0.Coords) (k0_t2 : Fin (k0_t2_loop i).trips) : BitVec 32 :=
  let c0_i32_353 : BitVec 32 := 0#32
  let c8_i32_352 : BitVec 32 := 8#32
  let c0_i32_9 : BitVec 32 := 0#32
  let arg2 : BitVec 32 := BitVec.ofNat 32 (i 2).val
  let c8_i32 : BitVec 32 := 8#32
  let v11 : BitVec 32 := Scalar.divsi arg2 c8_i32
  let v14 : BitVec 32 := Scalar.subi v11 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg14 : BitVec 32 := Scf.iv v18 c1_i32_11 k0_t2
  let v431 : BitVec 32 := Scalar.muli c8_i32_352 arg14
  let v432 : BitVec 32 := Scalar.addi c0_i32_353 v431
  let c4_i32_354 : BitVec 32 := 4#32
  let v433 : BitVec 32 := Scalar.addi v432 c4_i32_354
  let c512_i32_412 : BitVec 32 := 512#32
  let v498 : BitVec 32 := Scalar.muli v433 c512_i32_412
  v498
def k0_mult55 (i : grid0.Coords) (k0_t2 : Fin (k0_t2_loop i).trips) : BitVec 32 :=
  let c0_i32_436 : BitVec 32 := 0#32
  let c8_i32_435 : BitVec 32 := 8#32
  let c0_i32_9 : BitVec 32 := 0#32
  let arg2 : BitVec 32 := BitVec.ofNat 32 (i 2).val
  let c8_i32 : BitVec 32 := 8#32
  let v11 : BitVec 32 := Scalar.divsi arg2 c8_i32
  let v14 : BitVec 32 := Scalar.subi v11 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg14 : BitVec 32 := Scf.iv v18 c1_i32_11 k0_t2
  let v528 : BitVec 32 := Scalar.muli c8_i32_435 arg14
  let v529 : BitVec 32 := Scalar.addi c0_i32_436 v528
  let c5_i32_437 : BitVec 32 := 5#32
  let v530 : BitVec 32 := Scalar.addi v529 c5_i32_437
  let c1_i32_438 : BitVec 32 := 1#32
  let v531 : BitVec 32 := Scalar.addi v530 c1_i32_438
  let c512_i32_439 : BitVec 32 := 512#32
  let v532 : BitVec 32 := Scalar.muli v531 c512_i32_439
  v532
def k0_mult56 (i : grid0.Coords) (k0_t2 : Fin (k0_t2_loop i).trips) : BitVec 32 :=
  let c0_i32_436 : BitVec 32 := 0#32
  let c8_i32_435 : BitVec 32 := 8#32
  let c0_i32_9 : BitVec 32 := 0#32
  let arg2 : BitVec 32 := BitVec.ofNat 32 (i 2).val
  let c8_i32 : BitVec 32 := 8#32
  let v11 : BitVec 32 := Scalar.divsi arg2 c8_i32
  let v14 : BitVec 32 := Scalar.subi v11 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg14 : BitVec 32 := Scf.iv v18 c1_i32_11 k0_t2
  let v528 : BitVec 32 := Scalar.muli c8_i32_435 arg14
  let v529 : BitVec 32 := Scalar.addi c0_i32_436 v528
  let c5_i32_437 : BitVec 32 := 5#32
  let v530 : BitVec 32 := Scalar.addi v529 c5_i32_437
  let c1_i32_455 : BitVec 32 := 1#32
  let v548 : BitVec 32 := Scalar.addi v530 c1_i32_455
  let c512_i32_456 : BitVec 32 := 512#32
  let v549 : BitVec 32 := Scalar.muli v548 c512_i32_456
  v549
def k0_mult57 (i : grid0.Coords) (k0_t2 : Fin (k0_t2_loop i).trips) : BitVec 32 :=
  let c0_i32_436 : BitVec 32 := 0#32
  let c8_i32_435 : BitVec 32 := 8#32
  let c0_i32_9 : BitVec 32 := 0#32
  let arg2 : BitVec 32 := BitVec.ofNat 32 (i 2).val
  let c8_i32 : BitVec 32 := 8#32
  let v11 : BitVec 32 := Scalar.divsi arg2 c8_i32
  let v14 : BitVec 32 := Scalar.subi v11 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg14 : BitVec 32 := Scf.iv v18 c1_i32_11 k0_t2
  let v528 : BitVec 32 := Scalar.muli c8_i32_435 arg14
  let v529 : BitVec 32 := Scalar.addi c0_i32_436 v528
  let c5_i32_437 : BitVec 32 := 5#32
  let v530 : BitVec 32 := Scalar.addi v529 c5_i32_437
  let c512_i32_472 : BitVec 32 := 512#32
  let v565 : BitVec 32 := Scalar.muli v530 c512_i32_472
  v565
def k0_mult58 (i : grid0.Coords) (k0_t2 : Fin (k0_t2_loop i).trips) : BitVec 32 :=
  let c0_i32_436 : BitVec 32 := 0#32
  let c8_i32_435 : BitVec 32 := 8#32
  let c0_i32_9 : BitVec 32 := 0#32
  let arg2 : BitVec 32 := BitVec.ofNat 32 (i 2).val
  let c8_i32 : BitVec 32 := 8#32
  let v11 : BitVec 32 := Scalar.divsi arg2 c8_i32
  let v14 : BitVec 32 := Scalar.subi v11 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg14 : BitVec 32 := Scf.iv v18 c1_i32_11 k0_t2
  let v528 : BitVec 32 := Scalar.muli c8_i32_435 arg14
  let v529 : BitVec 32 := Scalar.addi c0_i32_436 v528
  let c5_i32_437 : BitVec 32 := 5#32
  let v530 : BitVec 32 := Scalar.addi v529 c5_i32_437
  let c512_i32_495 : BitVec 32 := 512#32
  let v595 : BitVec 32 := Scalar.muli v530 c512_i32_495
  v595
def k0_mult59 (i : grid0.Coords) (k0_t2 : Fin (k0_t2_loop i).trips) : BitVec 32 :=
  let c0_i32_519 : BitVec 32 := 0#32
  let c8_i32_518 : BitVec 32 := 8#32
  let c0_i32_9 : BitVec 32 := 0#32
  let arg2 : BitVec 32 := BitVec.ofNat 32 (i 2).val
  let c8_i32 : BitVec 32 := 8#32
  let v11 : BitVec 32 := Scalar.divsi arg2 c8_i32
  let v14 : BitVec 32 := Scalar.subi v11 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg14 : BitVec 32 := Scf.iv v18 c1_i32_11 k0_t2
  let v625 : BitVec 32 := Scalar.muli c8_i32_518 arg14
  let v626 : BitVec 32 := Scalar.addi c0_i32_519 v625
  let c6_i32_520 : BitVec 32 := 6#32
  let v627 : BitVec 32 := Scalar.addi v626 c6_i32_520
  let c1_i32_521 : BitVec 32 := 1#32
  let v628 : BitVec 32 := Scalar.addi v627 c1_i32_521
  let c512_i32_522 : BitVec 32 := 512#32
  let v629 : BitVec 32 := Scalar.muli v628 c512_i32_522
  v629
def k0_mult60 (i : grid0.Coords) (k0_t2 : Fin (k0_t2_loop i).trips) : BitVec 32 :=
  let c0_i32_519 : BitVec 32 := 0#32
  let c8_i32_518 : BitVec 32 := 8#32
  let c0_i32_9 : BitVec 32 := 0#32
  let arg2 : BitVec 32 := BitVec.ofNat 32 (i 2).val
  let c8_i32 : BitVec 32 := 8#32
  let v11 : BitVec 32 := Scalar.divsi arg2 c8_i32
  let v14 : BitVec 32 := Scalar.subi v11 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg14 : BitVec 32 := Scf.iv v18 c1_i32_11 k0_t2
  let v625 : BitVec 32 := Scalar.muli c8_i32_518 arg14
  let v626 : BitVec 32 := Scalar.addi c0_i32_519 v625
  let c6_i32_520 : BitVec 32 := 6#32
  let v627 : BitVec 32 := Scalar.addi v626 c6_i32_520
  let c1_i32_538 : BitVec 32 := 1#32
  let v645 : BitVec 32 := Scalar.addi v627 c1_i32_538
  let c512_i32_539 : BitVec 32 := 512#32
  let v646 : BitVec 32 := Scalar.muli v645 c512_i32_539
  v646
def k0_mult61 (i : grid0.Coords) (k0_t2 : Fin (k0_t2_loop i).trips) : BitVec 32 :=
  let c0_i32_519 : BitVec 32 := 0#32
  let c8_i32_518 : BitVec 32 := 8#32
  let c0_i32_9 : BitVec 32 := 0#32
  let arg2 : BitVec 32 := BitVec.ofNat 32 (i 2).val
  let c8_i32 : BitVec 32 := 8#32
  let v11 : BitVec 32 := Scalar.divsi arg2 c8_i32
  let v14 : BitVec 32 := Scalar.subi v11 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg14 : BitVec 32 := Scf.iv v18 c1_i32_11 k0_t2
  let v625 : BitVec 32 := Scalar.muli c8_i32_518 arg14
  let v626 : BitVec 32 := Scalar.addi c0_i32_519 v625
  let c6_i32_520 : BitVec 32 := 6#32
  let v627 : BitVec 32 := Scalar.addi v626 c6_i32_520
  let c512_i32_555 : BitVec 32 := 512#32
  let v662 : BitVec 32 := Scalar.muli v627 c512_i32_555
  v662
def k0_mult62 (i : grid0.Coords) (k0_t2 : Fin (k0_t2_loop i).trips) : BitVec 32 :=
  let c0_i32_519 : BitVec 32 := 0#32
  let c8_i32_518 : BitVec 32 := 8#32
  let c0_i32_9 : BitVec 32 := 0#32
  let arg2 : BitVec 32 := BitVec.ofNat 32 (i 2).val
  let c8_i32 : BitVec 32 := 8#32
  let v11 : BitVec 32 := Scalar.divsi arg2 c8_i32
  let v14 : BitVec 32 := Scalar.subi v11 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg14 : BitVec 32 := Scf.iv v18 c1_i32_11 k0_t2
  let v625 : BitVec 32 := Scalar.muli c8_i32_518 arg14
  let v626 : BitVec 32 := Scalar.addi c0_i32_519 v625
  let c6_i32_520 : BitVec 32 := 6#32
  let v627 : BitVec 32 := Scalar.addi v626 c6_i32_520
  let c512_i32_578 : BitVec 32 := 512#32
  let v692 : BitVec 32 := Scalar.muli v627 c512_i32_578
  v692
def k0_mult63 (i : grid0.Coords) (k0_t2 : Fin (k0_t2_loop i).trips) : BitVec 32 :=
  let c0_i32_602 : BitVec 32 := 0#32
  let c8_i32_601 : BitVec 32 := 8#32
  let c0_i32_9 : BitVec 32 := 0#32
  let arg2 : BitVec 32 := BitVec.ofNat 32 (i 2).val
  let c8_i32 : BitVec 32 := 8#32
  let v11 : BitVec 32 := Scalar.divsi arg2 c8_i32
  let v14 : BitVec 32 := Scalar.subi v11 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg14 : BitVec 32 := Scf.iv v18 c1_i32_11 k0_t2
  let v722 : BitVec 32 := Scalar.muli c8_i32_601 arg14
  let v723 : BitVec 32 := Scalar.addi c0_i32_602 v722
  let c7_i32_603 : BitVec 32 := 7#32
  let v724 : BitVec 32 := Scalar.addi v723 c7_i32_603
  let c1_i32_604 : BitVec 32 := 1#32
  let v725 : BitVec 32 := Scalar.addi v724 c1_i32_604
  let c512_i32_605 : BitVec 32 := 512#32
  let v726 : BitVec 32 := Scalar.muli v725 c512_i32_605
  v726
def k0_mult64 (i : grid0.Coords) (k0_t2 : Fin (k0_t2_loop i).trips) : BitVec 32 :=
  let c0_i32_602 : BitVec 32 := 0#32
  let c8_i32_601 : BitVec 32 := 8#32
  let c0_i32_9 : BitVec 32 := 0#32
  let arg2 : BitVec 32 := BitVec.ofNat 32 (i 2).val
  let c8_i32 : BitVec 32 := 8#32
  let v11 : BitVec 32 := Scalar.divsi arg2 c8_i32
  let v14 : BitVec 32 := Scalar.subi v11 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg14 : BitVec 32 := Scf.iv v18 c1_i32_11 k0_t2
  let v722 : BitVec 32 := Scalar.muli c8_i32_601 arg14
  let v723 : BitVec 32 := Scalar.addi c0_i32_602 v722
  let c7_i32_603 : BitVec 32 := 7#32
  let v724 : BitVec 32 := Scalar.addi v723 c7_i32_603
  let c1_i32_621 : BitVec 32 := 1#32
  let v742 : BitVec 32 := Scalar.addi v724 c1_i32_621
  let c512_i32_622 : BitVec 32 := 512#32
  let v743 : BitVec 32 := Scalar.muli v742 c512_i32_622
  v743
def k0_mult65 (i : grid0.Coords) (k0_t2 : Fin (k0_t2_loop i).trips) : BitVec 32 :=
  let c0_i32_602 : BitVec 32 := 0#32
  let c8_i32_601 : BitVec 32 := 8#32
  let c0_i32_9 : BitVec 32 := 0#32
  let arg2 : BitVec 32 := BitVec.ofNat 32 (i 2).val
  let c8_i32 : BitVec 32 := 8#32
  let v11 : BitVec 32 := Scalar.divsi arg2 c8_i32
  let v14 : BitVec 32 := Scalar.subi v11 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg14 : BitVec 32 := Scf.iv v18 c1_i32_11 k0_t2
  let v722 : BitVec 32 := Scalar.muli c8_i32_601 arg14
  let v723 : BitVec 32 := Scalar.addi c0_i32_602 v722
  let c7_i32_603 : BitVec 32 := 7#32
  let v724 : BitVec 32 := Scalar.addi v723 c7_i32_603
  let c512_i32_638 : BitVec 32 := 512#32
  let v759 : BitVec 32 := Scalar.muli v724 c512_i32_638
  v759
def k0_mult66 (i : grid0.Coords) (k0_t2 : Fin (k0_t2_loop i).trips) : BitVec 32 :=
  let c0_i32_602 : BitVec 32 := 0#32
  let c8_i32_601 : BitVec 32 := 8#32
  let c0_i32_9 : BitVec 32 := 0#32
  let arg2 : BitVec 32 := BitVec.ofNat 32 (i 2).val
  let c8_i32 : BitVec 32 := 8#32
  let v11 : BitVec 32 := Scalar.divsi arg2 c8_i32
  let v14 : BitVec 32 := Scalar.subi v11 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg14 : BitVec 32 := Scf.iv v18 c1_i32_11 k0_t2
  let v722 : BitVec 32 := Scalar.muli c8_i32_601 arg14
  let v723 : BitVec 32 := Scalar.addi c0_i32_602 v722
  let c7_i32_603 : BitVec 32 := 7#32
  let v724 : BitVec 32 := Scalar.addi v723 c7_i32_603
  let c512_i32_661 : BitVec 32 := 512#32
  let v789 : BitVec 32 := Scalar.muli v724 c512_i32_661
  v789
def k0_cond2 (i : grid0.Coords) : BitVec 1 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let v13 : BitVec 32 := Scalar.subi arg2 v12
  let c0_i32_12 : BitVec 32 := 0#32
  let v19 : BitVec 1 := Scalar.cmpi .eq v13 c0_i32_12
  let v20 : BitVec 32 := Scalar.extui v19
  let c0_i32_13 : BitVec 32 := 0#32
  let v21 : BitVec 1 := Scalar.cmpi .ne v20 c0_i32_13
  v21

def k0_mult67 (i : grid0.Coords) : BitVec 32 :=
  let arg2 : BitVec 32 := BitVec.ofNat 32 (i 2).val
  let c512_i32 : BitVec 32 := 512#32
  let v43 : BitVec 32 := Scalar.muli arg2 c512_i32
  v43
def k0_off9 (i : grid0.Coords) : Fin 4 → Nat :=
  let c0_35 : Index := 0#32
  let c0_36 : Index := 0#32
  let c0_37 : Index := 0#32
  let arg2 : BitVec 32 := BitVec.ofNat 32 (i 2).val
  let c512_i32 : BitVec 32 := 512#32
  let v43 : BitVec 32 := Scalar.muli arg2 c512_i32
  let v44 : BitVec 32 := v43
  let v67 : Index := Scalar.indexCast v44
  ![0, 0, 0, v67.toNat]
def k0_mult68 (i : grid0.Coords) : BitVec 32 :=
  let arg2 : BitVec 32 := BitVec.ofNat 32 (i 2).val
  let c512_i32_45 : BitVec 32 := 512#32
  let v78 : BitVec 32 := Scalar.muli arg2 c512_i32_45
  v78
def k0_off10 (i : grid0.Coords) : Fin 4 → Nat :=
  let c0_58 : Index := 0#32
  let c1_59 : Index := 1#32
  let c0_60 : Index := 0#32
  let arg2 : BitVec 32 := BitVec.ofNat 32 (i 2).val
  let c512_i32_45 : BitVec 32 := 512#32
  let v78 : BitVec 32 := Scalar.muli arg2 c512_i32_45
  let v79 : BitVec 32 := v78
  let v102 : Index := Scalar.indexCast v79
  ![0, 1, 0, v102.toNat]
def k0_mult69 : BitVec 32 :=
  let c0_i32_68 : BitVec 32 := 0#32
  c0_i32_68
def k0_mult70 : BitVec 32 :=
  let c0_i32_84 : BitVec 32 := 0#32
  c0_i32_84
def k0_cond3 (i : grid0.Coords) : BitVec 1 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let v13 : BitVec 32 := Scalar.subi arg2 v12
  let c1_i32_14 : BitVec 32 := 1#32
  let v22 : BitVec 1 := Scalar.cmpi .eq v13 c1_i32_14
  let v23 : BitVec 32 := Scalar.extui v22
  let c0_i32_15 : BitVec 32 := 0#32
  let v24 : BitVec 1 := Scalar.cmpi .ne v23 c0_i32_15
  v24

def k0_mult71 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c0_i32_22 : BitVec 32 := 0#32
  let v43 : BitVec 32 := Scalar.addi v12 c0_i32_22
  let c1_i32_23 : BitVec 32 := 1#32
  let v44 : BitVec 32 := Scalar.addi v43 c1_i32_23
  let c512_i32 : BitVec 32 := 512#32
  let v45 : BitVec 32 := Scalar.muli v44 c512_i32
  v45
def k0_off11 (i : grid0.Coords) : Fin 4 → Nat :=
  let c0_24 : Index := 0#32
  let c0_25 : Index := 0#32
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c0_i32_22 : BitVec 32 := 0#32
  let v43 : BitVec 32 := Scalar.addi v12 c0_i32_22
  let c1_i32_23 : BitVec 32 := 1#32
  let v44 : BitVec 32 := Scalar.addi v43 c1_i32_23
  let c512_i32 : BitVec 32 := 512#32
  let v45 : BitVec 32 := Scalar.muli v44 c512_i32
  let v46 : BitVec 32 := v45
  let v47 : Index := Scalar.indexCast v46
  let c0_26 : Index := 0#32
  ![0, 0, v47.toNat, 0]
def k0_mult72 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c0_i32_22 : BitVec 32 := 0#32
  let v43 : BitVec 32 := Scalar.addi v12 c0_i32_22
  let c1_i32_39 : BitVec 32 := 1#32
  let v61 : BitVec 32 := Scalar.addi v43 c1_i32_39
  let c512_i32_40 : BitVec 32 := 512#32
  let v62 : BitVec 32 := Scalar.muli v61 c512_i32_40
  v62
def k0_off12 (i : grid0.Coords) : Fin 4 → Nat :=
  let c0_41 : Index := 0#32
  let c1 : Index := 1#32
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c0_i32_22 : BitVec 32 := 0#32
  let v43 : BitVec 32 := Scalar.addi v12 c0_i32_22
  let c1_i32_39 : BitVec 32 := 1#32
  let v61 : BitVec 32 := Scalar.addi v43 c1_i32_39
  let c512_i32_40 : BitVec 32 := 512#32
  let v62 : BitVec 32 := Scalar.muli v61 c512_i32_40
  let v63 : BitVec 32 := v62
  let v64 : Index := Scalar.indexCast v63
  let c0_42 : Index := 0#32
  ![0, 1, v64.toNat, 0]
def k0_mult73 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c0_i32_22 : BitVec 32 := 0#32
  let v43 : BitVec 32 := Scalar.addi v12 c0_i32_22
  let c512_i32_55 : BitVec 32 := 512#32
  let v78 : BitVec 32 := Scalar.muli v43 c512_i32_55
  v78
def k0_off13 (i : grid0.Coords) : Fin 4 → Nat :=
  let c0_68 : Index := 0#32
  let c0_69 : Index := 0#32
  let c0_70 : Index := 0#32
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c0_i32_22 : BitVec 32 := 0#32
  let v43 : BitVec 32 := Scalar.addi v12 c0_i32_22
  let c512_i32_55 : BitVec 32 := 512#32
  let v78 : BitVec 32 := Scalar.muli v43 c512_i32_55
  let v79 : BitVec 32 := v78
  let v97 : Index := Scalar.indexCast v79
  ![0, 0, 0, v97.toNat]
def k0_mult74 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c0_i32_22 : BitVec 32 := 0#32
  let v43 : BitVec 32 := Scalar.addi v12 c0_i32_22
  let c512_i32_78 : BitVec 32 := 512#32
  let v108 : BitVec 32 := Scalar.muli v43 c512_i32_78
  v108
def k0_off14 (i : grid0.Coords) : Fin 4 → Nat :=
  let c0_91 : Index := 0#32
  let c1_92 : Index := 1#32
  let c0_93 : Index := 0#32
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c0_i32_22 : BitVec 32 := 0#32
  let v43 : BitVec 32 := Scalar.addi v12 c0_i32_22
  let c512_i32_78 : BitVec 32 := 512#32
  let v108 : BitVec 32 := Scalar.muli v43 c512_i32_78
  let v109 : BitVec 32 := v108
  let v127 : Index := Scalar.indexCast v109
  ![0, 1, 0, v127.toNat]
def k0_mult75 (i : grid0.Coords) : BitVec 32 :=
  let arg2 : BitVec 32 := BitVec.ofNat 32 (i 2).val
  let c512_i32_101 : BitVec 32 := 512#32
  let v138 : BitVec 32 := Scalar.muli arg2 c512_i32_101
  v138
def k0_off15 (i : grid0.Coords) : Fin 4 → Nat :=
  let c0_115 : Index := 0#32
  let c0_116 : Index := 0#32
  let c0_117 : Index := 0#32
  let arg2 : BitVec 32 := BitVec.ofNat 32 (i 2).val
  let c512_i32_101 : BitVec 32 := 512#32
  let v138 : BitVec 32 := Scalar.muli arg2 c512_i32_101
  let v139 : BitVec 32 := v138
  let v162 : Index := Scalar.indexCast v139
  ![0, 0, 0, v162.toNat]
def k0_mult76 (i : grid0.Coords) : BitVec 32 :=
  let arg2 : BitVec 32 := BitVec.ofNat 32 (i 2).val
  let c512_i32_125 : BitVec 32 := 512#32
  let v173 : BitVec 32 := Scalar.muli arg2 c512_i32_125
  v173
def k0_off16 (i : grid0.Coords) : Fin 4 → Nat :=
  let c0_139 : Index := 0#32
  let c1_140 : Index := 1#32
  let c0_141 : Index := 0#32
  let arg2 : BitVec 32 := BitVec.ofNat 32 (i 2).val
  let c512_i32_125 : BitVec 32 := 512#32
  let v173 : BitVec 32 := Scalar.muli arg2 c512_i32_125
  let v174 : BitVec 32 := v173
  let v197 : Index := Scalar.indexCast v174
  ![0, 1, 0, v197.toNat]
def k0_mult77 : BitVec 32 :=
  let c0_i32_149 : BitVec 32 := 0#32
  c0_i32_149
def k0_mult78 : BitVec 32 :=
  let c0_i32_165 : BitVec 32 := 0#32
  c0_i32_165
def k0_cond4 (i : grid0.Coords) : BitVec 1 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let v13 : BitVec 32 := Scalar.subi arg2 v12
  let c2_i32 : BitVec 32 := 2#32
  let v25 : BitVec 1 := Scalar.cmpi .eq v13 c2_i32
  let v26 : BitVec 32 := Scalar.extui v25
  let c0_i32_16 : BitVec 32 := 0#32
  let v27 : BitVec 1 := Scalar.cmpi .ne v26 c0_i32_16
  v27

def k0_mult79 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c0_i32_22 : BitVec 32 := 0#32
  let v43 : BitVec 32 := Scalar.addi v12 c0_i32_22
  let c1_i32_23 : BitVec 32 := 1#32
  let v44 : BitVec 32 := Scalar.addi v43 c1_i32_23
  let c512_i32 : BitVec 32 := 512#32
  let v45 : BitVec 32 := Scalar.muli v44 c512_i32
  v45
def k0_off17 (i : grid0.Coords) (c0_i32_22 : BitVec 32) : Fin 4 → Nat :=
  let c0_24 : Index := 0#32
  let c0_25 : Index := 0#32
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let v43 : BitVec 32 := Scalar.addi v12 c0_i32_22
  let c1_i32_23 : BitVec 32 := 1#32
  let v44 : BitVec 32 := Scalar.addi v43 c1_i32_23
  let c512_i32 : BitVec 32 := 512#32
  let v45 : BitVec 32 := Scalar.muli v44 c512_i32
  let v46 : BitVec 32 := v45
  let v47 : Index := Scalar.indexCast v46
  let c0_26 : Index := 0#32
  ![0, 0, v47.toNat, 0]
def k0_mult80 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c0_i32_22 : BitVec 32 := 0#32
  let v43 : BitVec 32 := Scalar.addi v12 c0_i32_22
  let c1_i32_39 : BitVec 32 := 1#32
  let v61 : BitVec 32 := Scalar.addi v43 c1_i32_39
  let c512_i32_40 : BitVec 32 := 512#32
  let v62 : BitVec 32 := Scalar.muli v61 c512_i32_40
  v62
def k0_off18 (i : grid0.Coords) (c0_i32_22 : BitVec 32) : Fin 4 → Nat :=
  let c0_41 : Index := 0#32
  let c1 : Index := 1#32
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let v43 : BitVec 32 := Scalar.addi v12 c0_i32_22
  let c1_i32_39 : BitVec 32 := 1#32
  let v61 : BitVec 32 := Scalar.addi v43 c1_i32_39
  let c512_i32_40 : BitVec 32 := 512#32
  let v62 : BitVec 32 := Scalar.muli v61 c512_i32_40
  let v63 : BitVec 32 := v62
  let v64 : Index := Scalar.indexCast v63
  let c0_42 : Index := 0#32
  ![0, 1, v64.toNat, 0]
def k0_mult81 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c0_i32_22 : BitVec 32 := 0#32
  let v43 : BitVec 32 := Scalar.addi v12 c0_i32_22
  let c512_i32_55 : BitVec 32 := 512#32
  let v78 : BitVec 32 := Scalar.muli v43 c512_i32_55
  v78
def k0_off19 (i : grid0.Coords) (c0_i32_22 : BitVec 32) : Fin 4 → Nat :=
  let c0_68 : Index := 0#32
  let c0_69 : Index := 0#32
  let c0_70 : Index := 0#32
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let v43 : BitVec 32 := Scalar.addi v12 c0_i32_22
  let c512_i32_55 : BitVec 32 := 512#32
  let v78 : BitVec 32 := Scalar.muli v43 c512_i32_55
  let v79 : BitVec 32 := v78
  let v97 : Index := Scalar.indexCast v79
  ![0, 0, 0, v97.toNat]
def k0_mult82 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c0_i32_22 : BitVec 32 := 0#32
  let v43 : BitVec 32 := Scalar.addi v12 c0_i32_22
  let c512_i32_78 : BitVec 32 := 512#32
  let v108 : BitVec 32 := Scalar.muli v43 c512_i32_78
  v108
def k0_off20 (i : grid0.Coords) (c0_i32_22 : BitVec 32) : Fin 4 → Nat :=
  let c0_91 : Index := 0#32
  let c1_92 : Index := 1#32
  let c0_93 : Index := 0#32
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let v43 : BitVec 32 := Scalar.addi v12 c0_i32_22
  let c512_i32_78 : BitVec 32 := 512#32
  let v108 : BitVec 32 := Scalar.muli v43 c512_i32_78
  let v109 : BitVec 32 := v108
  let v127 : Index := Scalar.indexCast v109
  ![0, 1, 0, v127.toNat]
def k0_mult83 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c1_i32_101 : BitVec 32 := 1#32
  let v138 : BitVec 32 := Scalar.addi v12 c1_i32_101
  let c1_i32_102 : BitVec 32 := 1#32
  let v139 : BitVec 32 := Scalar.addi v138 c1_i32_102
  let c512_i32_103 : BitVec 32 := 512#32
  let v140 : BitVec 32 := Scalar.muli v139 c512_i32_103
  v140
def k0_mult84 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c1_i32_101 : BitVec 32 := 1#32
  let v138 : BitVec 32 := Scalar.addi v12 c1_i32_101
  let c1_i32_119 : BitVec 32 := 1#32
  let v156 : BitVec 32 := Scalar.addi v138 c1_i32_119
  let c512_i32_120 : BitVec 32 := 512#32
  let v157 : BitVec 32 := Scalar.muli v156 c512_i32_120
  v157
def k0_mult85 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c1_i32_101 : BitVec 32 := 1#32
  let v138 : BitVec 32 := Scalar.addi v12 c1_i32_101
  let c512_i32_136 : BitVec 32 := 512#32
  let v173 : BitVec 32 := Scalar.muli v138 c512_i32_136
  v173
def k0_mult86 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c1_i32_101 : BitVec 32 := 1#32
  let v138 : BitVec 32 := Scalar.addi v12 c1_i32_101
  let c512_i32_159 : BitVec 32 := 512#32
  let v203 : BitVec 32 := Scalar.muli v138 c512_i32_159
  v203
def k0_mult87 (i : grid0.Coords) : BitVec 32 :=
  let arg2 : BitVec 32 := BitVec.ofNat 32 (i 2).val
  let c512_i32_182 : BitVec 32 := 512#32
  let v233 : BitVec 32 := Scalar.muli arg2 c512_i32_182
  v233
def k0_off21 (i : grid0.Coords) : Fin 4 → Nat :=
  let c0_196 : Index := 0#32
  let c0_197 : Index := 0#32
  let c0_198 : Index := 0#32
  let arg2 : BitVec 32 := BitVec.ofNat 32 (i 2).val
  let c512_i32_182 : BitVec 32 := 512#32
  let v233 : BitVec 32 := Scalar.muli arg2 c512_i32_182
  let v234 : BitVec 32 := v233
  let v257 : Index := Scalar.indexCast v234
  ![0, 0, 0, v257.toNat]
def k0_mult88 (i : grid0.Coords) : BitVec 32 :=
  let arg2 : BitVec 32 := BitVec.ofNat 32 (i 2).val
  let c512_i32_206 : BitVec 32 := 512#32
  let v268 : BitVec 32 := Scalar.muli arg2 c512_i32_206
  v268
def k0_off22 (i : grid0.Coords) : Fin 4 → Nat :=
  let c0_220 : Index := 0#32
  let c1_221 : Index := 1#32
  let c0_222 : Index := 0#32
  let arg2 : BitVec 32 := BitVec.ofNat 32 (i 2).val
  let c512_i32_206 : BitVec 32 := 512#32
  let v268 : BitVec 32 := Scalar.muli arg2 c512_i32_206
  let v269 : BitVec 32 := v268
  let v292 : Index := Scalar.indexCast v269
  ![0, 1, 0, v292.toNat]
def k0_mult89 : BitVec 32 :=
  let c0_i32_230 : BitVec 32 := 0#32
  c0_i32_230
def k0_mult90 : BitVec 32 :=
  let c0_i32_246 : BitVec 32 := 0#32
  c0_i32_246
def k0_cond5 (i : grid0.Coords) : BitVec 1 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let v13 : BitVec 32 := Scalar.subi arg2 v12
  let c3_i32 : BitVec 32 := 3#32
  let v28 : BitVec 1 := Scalar.cmpi .eq v13 c3_i32
  let v29 : BitVec 32 := Scalar.extui v28
  let c0_i32_17 : BitVec 32 := 0#32
  let v30 : BitVec 1 := Scalar.cmpi .ne v29 c0_i32_17
  v30

def k0_mult91 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c0_i32_22 : BitVec 32 := 0#32
  let v43 : BitVec 32 := Scalar.addi v12 c0_i32_22
  let c1_i32_23 : BitVec 32 := 1#32
  let v44 : BitVec 32 := Scalar.addi v43 c1_i32_23
  let c512_i32 : BitVec 32 := 512#32
  let v45 : BitVec 32 := Scalar.muli v44 c512_i32
  v45
def k0_off23 (i : grid0.Coords) (c0_i32_22 : BitVec 32) : Fin 4 → Nat :=
  let c0_24 : Index := 0#32
  let c0_25 : Index := 0#32
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let v43 : BitVec 32 := Scalar.addi v12 c0_i32_22
  let c1_i32_23 : BitVec 32 := 1#32
  let v44 : BitVec 32 := Scalar.addi v43 c1_i32_23
  let c512_i32 : BitVec 32 := 512#32
  let v45 : BitVec 32 := Scalar.muli v44 c512_i32
  let v46 : BitVec 32 := v45
  let v47 : Index := Scalar.indexCast v46
  let c0_26 : Index := 0#32
  ![0, 0, v47.toNat, 0]
def k0_mult92 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c0_i32_22 : BitVec 32 := 0#32
  let v43 : BitVec 32 := Scalar.addi v12 c0_i32_22
  let c1_i32_39 : BitVec 32 := 1#32
  let v61 : BitVec 32 := Scalar.addi v43 c1_i32_39
  let c512_i32_40 : BitVec 32 := 512#32
  let v62 : BitVec 32 := Scalar.muli v61 c512_i32_40
  v62
def k0_off24 (i : grid0.Coords) (c0_i32_22 : BitVec 32) : Fin 4 → Nat :=
  let c0_41 : Index := 0#32
  let c1 : Index := 1#32
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let v43 : BitVec 32 := Scalar.addi v12 c0_i32_22
  let c1_i32_39 : BitVec 32 := 1#32
  let v61 : BitVec 32 := Scalar.addi v43 c1_i32_39
  let c512_i32_40 : BitVec 32 := 512#32
  let v62 : BitVec 32 := Scalar.muli v61 c512_i32_40
  let v63 : BitVec 32 := v62
  let v64 : Index := Scalar.indexCast v63
  let c0_42 : Index := 0#32
  ![0, 1, v64.toNat, 0]
def k0_mult93 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c0_i32_22 : BitVec 32 := 0#32
  let v43 : BitVec 32 := Scalar.addi v12 c0_i32_22
  let c512_i32_55 : BitVec 32 := 512#32
  let v78 : BitVec 32 := Scalar.muli v43 c512_i32_55
  v78
def k0_off25 (i : grid0.Coords) (c0_i32_22 : BitVec 32) : Fin 4 → Nat :=
  let c0_68 : Index := 0#32
  let c0_69 : Index := 0#32
  let c0_70 : Index := 0#32
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let v43 : BitVec 32 := Scalar.addi v12 c0_i32_22
  let c512_i32_55 : BitVec 32 := 512#32
  let v78 : BitVec 32 := Scalar.muli v43 c512_i32_55
  let v79 : BitVec 32 := v78
  let v97 : Index := Scalar.indexCast v79
  ![0, 0, 0, v97.toNat]
def k0_mult94 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c0_i32_22 : BitVec 32 := 0#32
  let v43 : BitVec 32 := Scalar.addi v12 c0_i32_22
  let c512_i32_78 : BitVec 32 := 512#32
  let v108 : BitVec 32 := Scalar.muli v43 c512_i32_78
  v108
def k0_off26 (i : grid0.Coords) (c0_i32_22 : BitVec 32) : Fin 4 → Nat :=
  let c0_91 : Index := 0#32
  let c1_92 : Index := 1#32
  let c0_93 : Index := 0#32
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let v43 : BitVec 32 := Scalar.addi v12 c0_i32_22
  let c512_i32_78 : BitVec 32 := 512#32
  let v108 : BitVec 32 := Scalar.muli v43 c512_i32_78
  let v109 : BitVec 32 := v108
  let v127 : Index := Scalar.indexCast v109
  ![0, 1, 0, v127.toNat]
def k0_mult95 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c1_i32_101 : BitVec 32 := 1#32
  let v138 : BitVec 32 := Scalar.addi v12 c1_i32_101
  let c1_i32_102 : BitVec 32 := 1#32
  let v139 : BitVec 32 := Scalar.addi v138 c1_i32_102
  let c512_i32_103 : BitVec 32 := 512#32
  let v140 : BitVec 32 := Scalar.muli v139 c512_i32_103
  v140
def k0_mult96 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c1_i32_101 : BitVec 32 := 1#32
  let v138 : BitVec 32 := Scalar.addi v12 c1_i32_101
  let c1_i32_119 : BitVec 32 := 1#32
  let v156 : BitVec 32 := Scalar.addi v138 c1_i32_119
  let c512_i32_120 : BitVec 32 := 512#32
  let v157 : BitVec 32 := Scalar.muli v156 c512_i32_120
  v157
def k0_mult97 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c1_i32_101 : BitVec 32 := 1#32
  let v138 : BitVec 32 := Scalar.addi v12 c1_i32_101
  let c512_i32_136 : BitVec 32 := 512#32
  let v173 : BitVec 32 := Scalar.muli v138 c512_i32_136
  v173
def k0_mult98 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c1_i32_101 : BitVec 32 := 1#32
  let v138 : BitVec 32 := Scalar.addi v12 c1_i32_101
  let c512_i32_159 : BitVec 32 := 512#32
  let v203 : BitVec 32 := Scalar.muli v138 c512_i32_159
  v203
def k0_mult99 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c2_i32_182 : BitVec 32 := 2#32
  let v233 : BitVec 32 := Scalar.addi v12 c2_i32_182
  let c1_i32_183 : BitVec 32 := 1#32
  let v234 : BitVec 32 := Scalar.addi v233 c1_i32_183
  let c512_i32_184 : BitVec 32 := 512#32
  let v235 : BitVec 32 := Scalar.muli v234 c512_i32_184
  v235
def k0_mult100 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c2_i32_182 : BitVec 32 := 2#32
  let v233 : BitVec 32 := Scalar.addi v12 c2_i32_182
  let c1_i32_200 : BitVec 32 := 1#32
  let v251 : BitVec 32 := Scalar.addi v233 c1_i32_200
  let c512_i32_201 : BitVec 32 := 512#32
  let v252 : BitVec 32 := Scalar.muli v251 c512_i32_201
  v252
def k0_mult101 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c2_i32_182 : BitVec 32 := 2#32
  let v233 : BitVec 32 := Scalar.addi v12 c2_i32_182
  let c512_i32_217 : BitVec 32 := 512#32
  let v268 : BitVec 32 := Scalar.muli v233 c512_i32_217
  v268
def k0_mult102 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c2_i32_182 : BitVec 32 := 2#32
  let v233 : BitVec 32 := Scalar.addi v12 c2_i32_182
  let c512_i32_240 : BitVec 32 := 512#32
  let v298 : BitVec 32 := Scalar.muli v233 c512_i32_240
  v298
def k0_mult103 (i : grid0.Coords) : BitVec 32 :=
  let arg2 : BitVec 32 := BitVec.ofNat 32 (i 2).val
  let c512_i32_263 : BitVec 32 := 512#32
  let v328 : BitVec 32 := Scalar.muli arg2 c512_i32_263
  v328
def k0_off27 (i : grid0.Coords) : Fin 4 → Nat :=
  let c0_277 : Index := 0#32
  let c0_278 : Index := 0#32
  let c0_279 : Index := 0#32
  let arg2 : BitVec 32 := BitVec.ofNat 32 (i 2).val
  let c512_i32_263 : BitVec 32 := 512#32
  let v328 : BitVec 32 := Scalar.muli arg2 c512_i32_263
  let v329 : BitVec 32 := v328
  let v352 : Index := Scalar.indexCast v329
  ![0, 0, 0, v352.toNat]
def k0_mult104 (i : grid0.Coords) : BitVec 32 :=
  let arg2 : BitVec 32 := BitVec.ofNat 32 (i 2).val
  let c512_i32_287 : BitVec 32 := 512#32
  let v363 : BitVec 32 := Scalar.muli arg2 c512_i32_287
  v363
def k0_off28 (i : grid0.Coords) : Fin 4 → Nat :=
  let c0_301 : Index := 0#32
  let c1_302 : Index := 1#32
  let c0_303 : Index := 0#32
  let arg2 : BitVec 32 := BitVec.ofNat 32 (i 2).val
  let c512_i32_287 : BitVec 32 := 512#32
  let v363 : BitVec 32 := Scalar.muli arg2 c512_i32_287
  let v364 : BitVec 32 := v363
  let v387 : Index := Scalar.indexCast v364
  ![0, 1, 0, v387.toNat]
def k0_mult105 : BitVec 32 :=
  let c0_i32_311 : BitVec 32 := 0#32
  c0_i32_311
def k0_mult106 : BitVec 32 :=
  let c0_i32_327 : BitVec 32 := 0#32
  c0_i32_327
def k0_cond6 (i : grid0.Coords) : BitVec 1 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let v13 : BitVec 32 := Scalar.subi arg2 v12
  let c4_i32 : BitVec 32 := 4#32
  let v31 : BitVec 1 := Scalar.cmpi .eq v13 c4_i32
  let v32 : BitVec 32 := Scalar.extui v31
  let c0_i32_18 : BitVec 32 := 0#32
  let v33 : BitVec 1 := Scalar.cmpi .ne v32 c0_i32_18
  v33

def k0_mult107 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c0_i32_22 : BitVec 32 := 0#32
  let v43 : BitVec 32 := Scalar.addi v12 c0_i32_22
  let c1_i32_23 : BitVec 32 := 1#32
  let v44 : BitVec 32 := Scalar.addi v43 c1_i32_23
  let c512_i32 : BitVec 32 := 512#32
  let v45 : BitVec 32 := Scalar.muli v44 c512_i32
  v45
def k0_off29 (i : grid0.Coords) (c0_i32_22 : BitVec 32) : Fin 4 → Nat :=
  let c0_24 : Index := 0#32
  let c0_25 : Index := 0#32
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let v43 : BitVec 32 := Scalar.addi v12 c0_i32_22
  let c1_i32_23 : BitVec 32 := 1#32
  let v44 : BitVec 32 := Scalar.addi v43 c1_i32_23
  let c512_i32 : BitVec 32 := 512#32
  let v45 : BitVec 32 := Scalar.muli v44 c512_i32
  let v46 : BitVec 32 := v45
  let v47 : Index := Scalar.indexCast v46
  let c0_26 : Index := 0#32
  ![0, 0, v47.toNat, 0]
def k0_mult108 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c0_i32_22 : BitVec 32 := 0#32
  let v43 : BitVec 32 := Scalar.addi v12 c0_i32_22
  let c1_i32_39 : BitVec 32 := 1#32
  let v61 : BitVec 32 := Scalar.addi v43 c1_i32_39
  let c512_i32_40 : BitVec 32 := 512#32
  let v62 : BitVec 32 := Scalar.muli v61 c512_i32_40
  v62
def k0_off30 (i : grid0.Coords) (c0_i32_22 : BitVec 32) : Fin 4 → Nat :=
  let c0_41 : Index := 0#32
  let c1 : Index := 1#32
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let v43 : BitVec 32 := Scalar.addi v12 c0_i32_22
  let c1_i32_39 : BitVec 32 := 1#32
  let v61 : BitVec 32 := Scalar.addi v43 c1_i32_39
  let c512_i32_40 : BitVec 32 := 512#32
  let v62 : BitVec 32 := Scalar.muli v61 c512_i32_40
  let v63 : BitVec 32 := v62
  let v64 : Index := Scalar.indexCast v63
  let c0_42 : Index := 0#32
  ![0, 1, v64.toNat, 0]
def k0_mult109 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c0_i32_22 : BitVec 32 := 0#32
  let v43 : BitVec 32 := Scalar.addi v12 c0_i32_22
  let c512_i32_55 : BitVec 32 := 512#32
  let v78 : BitVec 32 := Scalar.muli v43 c512_i32_55
  v78
def k0_off31 (i : grid0.Coords) (c0_i32_22 : BitVec 32) : Fin 4 → Nat :=
  let c0_68 : Index := 0#32
  let c0_69 : Index := 0#32
  let c0_70 : Index := 0#32
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let v43 : BitVec 32 := Scalar.addi v12 c0_i32_22
  let c512_i32_55 : BitVec 32 := 512#32
  let v78 : BitVec 32 := Scalar.muli v43 c512_i32_55
  let v79 : BitVec 32 := v78
  let v97 : Index := Scalar.indexCast v79
  ![0, 0, 0, v97.toNat]
def k0_mult110 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c0_i32_22 : BitVec 32 := 0#32
  let v43 : BitVec 32 := Scalar.addi v12 c0_i32_22
  let c512_i32_78 : BitVec 32 := 512#32
  let v108 : BitVec 32 := Scalar.muli v43 c512_i32_78
  v108
def k0_off32 (i : grid0.Coords) (c0_i32_22 : BitVec 32) : Fin 4 → Nat :=
  let c0_91 : Index := 0#32
  let c1_92 : Index := 1#32
  let c0_93 : Index := 0#32
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let v43 : BitVec 32 := Scalar.addi v12 c0_i32_22
  let c512_i32_78 : BitVec 32 := 512#32
  let v108 : BitVec 32 := Scalar.muli v43 c512_i32_78
  let v109 : BitVec 32 := v108
  let v127 : Index := Scalar.indexCast v109
  ![0, 1, 0, v127.toNat]
def k0_mult111 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c1_i32_101 : BitVec 32 := 1#32
  let v138 : BitVec 32 := Scalar.addi v12 c1_i32_101
  let c1_i32_102 : BitVec 32 := 1#32
  let v139 : BitVec 32 := Scalar.addi v138 c1_i32_102
  let c512_i32_103 : BitVec 32 := 512#32
  let v140 : BitVec 32 := Scalar.muli v139 c512_i32_103
  v140
def k0_mult112 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c1_i32_101 : BitVec 32 := 1#32
  let v138 : BitVec 32 := Scalar.addi v12 c1_i32_101
  let c1_i32_119 : BitVec 32 := 1#32
  let v156 : BitVec 32 := Scalar.addi v138 c1_i32_119
  let c512_i32_120 : BitVec 32 := 512#32
  let v157 : BitVec 32 := Scalar.muli v156 c512_i32_120
  v157
def k0_mult113 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c1_i32_101 : BitVec 32 := 1#32
  let v138 : BitVec 32 := Scalar.addi v12 c1_i32_101
  let c512_i32_136 : BitVec 32 := 512#32
  let v173 : BitVec 32 := Scalar.muli v138 c512_i32_136
  v173
def k0_mult114 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c1_i32_101 : BitVec 32 := 1#32
  let v138 : BitVec 32 := Scalar.addi v12 c1_i32_101
  let c512_i32_159 : BitVec 32 := 512#32
  let v203 : BitVec 32 := Scalar.muli v138 c512_i32_159
  v203
def k0_mult115 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c2_i32_182 : BitVec 32 := 2#32
  let v233 : BitVec 32 := Scalar.addi v12 c2_i32_182
  let c1_i32_183 : BitVec 32 := 1#32
  let v234 : BitVec 32 := Scalar.addi v233 c1_i32_183
  let c512_i32_184 : BitVec 32 := 512#32
  let v235 : BitVec 32 := Scalar.muli v234 c512_i32_184
  v235
def k0_mult116 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c2_i32_182 : BitVec 32 := 2#32
  let v233 : BitVec 32 := Scalar.addi v12 c2_i32_182
  let c1_i32_200 : BitVec 32 := 1#32
  let v251 : BitVec 32 := Scalar.addi v233 c1_i32_200
  let c512_i32_201 : BitVec 32 := 512#32
  let v252 : BitVec 32 := Scalar.muli v251 c512_i32_201
  v252
def k0_mult117 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c2_i32_182 : BitVec 32 := 2#32
  let v233 : BitVec 32 := Scalar.addi v12 c2_i32_182
  let c512_i32_217 : BitVec 32 := 512#32
  let v268 : BitVec 32 := Scalar.muli v233 c512_i32_217
  v268
def k0_mult118 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c2_i32_182 : BitVec 32 := 2#32
  let v233 : BitVec 32 := Scalar.addi v12 c2_i32_182
  let c512_i32_240 : BitVec 32 := 512#32
  let v298 : BitVec 32 := Scalar.muli v233 c512_i32_240
  v298
def k0_mult119 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c3_i32_263 : BitVec 32 := 3#32
  let v328 : BitVec 32 := Scalar.addi v12 c3_i32_263
  let c1_i32_264 : BitVec 32 := 1#32
  let v329 : BitVec 32 := Scalar.addi v328 c1_i32_264
  let c512_i32_265 : BitVec 32 := 512#32
  let v330 : BitVec 32 := Scalar.muli v329 c512_i32_265
  v330
def k0_mult120 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c3_i32_263 : BitVec 32 := 3#32
  let v328 : BitVec 32 := Scalar.addi v12 c3_i32_263
  let c1_i32_281 : BitVec 32 := 1#32
  let v346 : BitVec 32 := Scalar.addi v328 c1_i32_281
  let c512_i32_282 : BitVec 32 := 512#32
  let v347 : BitVec 32 := Scalar.muli v346 c512_i32_282
  v347
def k0_mult121 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c3_i32_263 : BitVec 32 := 3#32
  let v328 : BitVec 32 := Scalar.addi v12 c3_i32_263
  let c512_i32_298 : BitVec 32 := 512#32
  let v363 : BitVec 32 := Scalar.muli v328 c512_i32_298
  v363
def k0_mult122 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c3_i32_263 : BitVec 32 := 3#32
  let v328 : BitVec 32 := Scalar.addi v12 c3_i32_263
  let c512_i32_321 : BitVec 32 := 512#32
  let v393 : BitVec 32 := Scalar.muli v328 c512_i32_321
  v393
def k0_mult123 (i : grid0.Coords) : BitVec 32 :=
  let arg2 : BitVec 32 := BitVec.ofNat 32 (i 2).val
  let c512_i32_344 : BitVec 32 := 512#32
  let v423 : BitVec 32 := Scalar.muli arg2 c512_i32_344
  v423
def k0_off33 (i : grid0.Coords) : Fin 4 → Nat :=
  let c0_358 : Index := 0#32
  let c0_359 : Index := 0#32
  let c0_360 : Index := 0#32
  let arg2 : BitVec 32 := BitVec.ofNat 32 (i 2).val
  let c512_i32_344 : BitVec 32 := 512#32
  let v423 : BitVec 32 := Scalar.muli arg2 c512_i32_344
  let v424 : BitVec 32 := v423
  let v447 : Index := Scalar.indexCast v424
  ![0, 0, 0, v447.toNat]
def k0_mult124 (i : grid0.Coords) : BitVec 32 :=
  let arg2 : BitVec 32 := BitVec.ofNat 32 (i 2).val
  let c512_i32_368 : BitVec 32 := 512#32
  let v458 : BitVec 32 := Scalar.muli arg2 c512_i32_368
  v458
def k0_off34 (i : grid0.Coords) : Fin 4 → Nat :=
  let c0_382 : Index := 0#32
  let c1_383 : Index := 1#32
  let c0_384 : Index := 0#32
  let arg2 : BitVec 32 := BitVec.ofNat 32 (i 2).val
  let c512_i32_368 : BitVec 32 := 512#32
  let v458 : BitVec 32 := Scalar.muli arg2 c512_i32_368
  let v459 : BitVec 32 := v458
  let v482 : Index := Scalar.indexCast v459
  ![0, 1, 0, v482.toNat]
def k0_mult125 : BitVec 32 :=
  let c0_i32_392 : BitVec 32 := 0#32
  c0_i32_392
def k0_mult126 : BitVec 32 :=
  let c0_i32_408 : BitVec 32 := 0#32
  c0_i32_408
def k0_cond7 (i : grid0.Coords) : BitVec 1 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let v13 : BitVec 32 := Scalar.subi arg2 v12
  let c5_i32 : BitVec 32 := 5#32
  let v34 : BitVec 1 := Scalar.cmpi .eq v13 c5_i32
  let v35 : BitVec 32 := Scalar.extui v34
  let c0_i32_19 : BitVec 32 := 0#32
  let v36 : BitVec 1 := Scalar.cmpi .ne v35 c0_i32_19
  v36

def k0_mult127 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c0_i32_22 : BitVec 32 := 0#32
  let v43 : BitVec 32 := Scalar.addi v12 c0_i32_22
  let c1_i32_23 : BitVec 32 := 1#32
  let v44 : BitVec 32 := Scalar.addi v43 c1_i32_23
  let c512_i32 : BitVec 32 := 512#32
  let v45 : BitVec 32 := Scalar.muli v44 c512_i32
  v45
def k0_off35 (i : grid0.Coords) (c0_i32_22 : BitVec 32) : Fin 4 → Nat :=
  let c0_24 : Index := 0#32
  let c0_25 : Index := 0#32
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let v43 : BitVec 32 := Scalar.addi v12 c0_i32_22
  let c1_i32_23 : BitVec 32 := 1#32
  let v44 : BitVec 32 := Scalar.addi v43 c1_i32_23
  let c512_i32 : BitVec 32 := 512#32
  let v45 : BitVec 32 := Scalar.muli v44 c512_i32
  let v46 : BitVec 32 := v45
  let v47 : Index := Scalar.indexCast v46
  let c0_26 : Index := 0#32
  ![0, 0, v47.toNat, 0]
def k0_mult128 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c0_i32_22 : BitVec 32 := 0#32
  let v43 : BitVec 32 := Scalar.addi v12 c0_i32_22
  let c1_i32_39 : BitVec 32 := 1#32
  let v61 : BitVec 32 := Scalar.addi v43 c1_i32_39
  let c512_i32_40 : BitVec 32 := 512#32
  let v62 : BitVec 32 := Scalar.muli v61 c512_i32_40
  v62
def k0_off36 (i : grid0.Coords) (c0_i32_22 : BitVec 32) : Fin 4 → Nat :=
  let c0_41 : Index := 0#32
  let c1 : Index := 1#32
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let v43 : BitVec 32 := Scalar.addi v12 c0_i32_22
  let c1_i32_39 : BitVec 32 := 1#32
  let v61 : BitVec 32 := Scalar.addi v43 c1_i32_39
  let c512_i32_40 : BitVec 32 := 512#32
  let v62 : BitVec 32 := Scalar.muli v61 c512_i32_40
  let v63 : BitVec 32 := v62
  let v64 : Index := Scalar.indexCast v63
  let c0_42 : Index := 0#32
  ![0, 1, v64.toNat, 0]
def k0_mult129 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c0_i32_22 : BitVec 32 := 0#32
  let v43 : BitVec 32 := Scalar.addi v12 c0_i32_22
  let c512_i32_55 : BitVec 32 := 512#32
  let v78 : BitVec 32 := Scalar.muli v43 c512_i32_55
  v78
def k0_off37 (i : grid0.Coords) (c0_i32_22 : BitVec 32) : Fin 4 → Nat :=
  let c0_68 : Index := 0#32
  let c0_69 : Index := 0#32
  let c0_70 : Index := 0#32
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let v43 : BitVec 32 := Scalar.addi v12 c0_i32_22
  let c512_i32_55 : BitVec 32 := 512#32
  let v78 : BitVec 32 := Scalar.muli v43 c512_i32_55
  let v79 : BitVec 32 := v78
  let v97 : Index := Scalar.indexCast v79
  ![0, 0, 0, v97.toNat]
def k0_mult130 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c0_i32_22 : BitVec 32 := 0#32
  let v43 : BitVec 32 := Scalar.addi v12 c0_i32_22
  let c512_i32_78 : BitVec 32 := 512#32
  let v108 : BitVec 32 := Scalar.muli v43 c512_i32_78
  v108
def k0_off38 (i : grid0.Coords) (c0_i32_22 : BitVec 32) : Fin 4 → Nat :=
  let c0_91 : Index := 0#32
  let c1_92 : Index := 1#32
  let c0_93 : Index := 0#32
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let v43 : BitVec 32 := Scalar.addi v12 c0_i32_22
  let c512_i32_78 : BitVec 32 := 512#32
  let v108 : BitVec 32 := Scalar.muli v43 c512_i32_78
  let v109 : BitVec 32 := v108
  let v127 : Index := Scalar.indexCast v109
  ![0, 1, 0, v127.toNat]
def k0_mult131 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c1_i32_101 : BitVec 32 := 1#32
  let v138 : BitVec 32 := Scalar.addi v12 c1_i32_101
  let c1_i32_102 : BitVec 32 := 1#32
  let v139 : BitVec 32 := Scalar.addi v138 c1_i32_102
  let c512_i32_103 : BitVec 32 := 512#32
  let v140 : BitVec 32 := Scalar.muli v139 c512_i32_103
  v140
def k0_mult132 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c1_i32_101 : BitVec 32 := 1#32
  let v138 : BitVec 32 := Scalar.addi v12 c1_i32_101
  let c1_i32_119 : BitVec 32 := 1#32
  let v156 : BitVec 32 := Scalar.addi v138 c1_i32_119
  let c512_i32_120 : BitVec 32 := 512#32
  let v157 : BitVec 32 := Scalar.muli v156 c512_i32_120
  v157
def k0_mult133 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c1_i32_101 : BitVec 32 := 1#32
  let v138 : BitVec 32 := Scalar.addi v12 c1_i32_101
  let c512_i32_136 : BitVec 32 := 512#32
  let v173 : BitVec 32 := Scalar.muli v138 c512_i32_136
  v173
def k0_mult134 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c1_i32_101 : BitVec 32 := 1#32
  let v138 : BitVec 32 := Scalar.addi v12 c1_i32_101
  let c512_i32_159 : BitVec 32 := 512#32
  let v203 : BitVec 32 := Scalar.muli v138 c512_i32_159
  v203
def k0_mult135 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c2_i32_182 : BitVec 32 := 2#32
  let v233 : BitVec 32 := Scalar.addi v12 c2_i32_182
  let c1_i32_183 : BitVec 32 := 1#32
  let v234 : BitVec 32 := Scalar.addi v233 c1_i32_183
  let c512_i32_184 : BitVec 32 := 512#32
  let v235 : BitVec 32 := Scalar.muli v234 c512_i32_184
  v235
def k0_mult136 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c2_i32_182 : BitVec 32 := 2#32
  let v233 : BitVec 32 := Scalar.addi v12 c2_i32_182
  let c1_i32_200 : BitVec 32 := 1#32
  let v251 : BitVec 32 := Scalar.addi v233 c1_i32_200
  let c512_i32_201 : BitVec 32 := 512#32
  let v252 : BitVec 32 := Scalar.muli v251 c512_i32_201
  v252
def k0_mult137 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c2_i32_182 : BitVec 32 := 2#32
  let v233 : BitVec 32 := Scalar.addi v12 c2_i32_182
  let c512_i32_217 : BitVec 32 := 512#32
  let v268 : BitVec 32 := Scalar.muli v233 c512_i32_217
  v268
def k0_mult138 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c2_i32_182 : BitVec 32 := 2#32
  let v233 : BitVec 32 := Scalar.addi v12 c2_i32_182
  let c512_i32_240 : BitVec 32 := 512#32
  let v298 : BitVec 32 := Scalar.muli v233 c512_i32_240
  v298
def k0_mult139 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c3_i32_263 : BitVec 32 := 3#32
  let v328 : BitVec 32 := Scalar.addi v12 c3_i32_263
  let c1_i32_264 : BitVec 32 := 1#32
  let v329 : BitVec 32 := Scalar.addi v328 c1_i32_264
  let c512_i32_265 : BitVec 32 := 512#32
  let v330 : BitVec 32 := Scalar.muli v329 c512_i32_265
  v330
def k0_mult140 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c3_i32_263 : BitVec 32 := 3#32
  let v328 : BitVec 32 := Scalar.addi v12 c3_i32_263
  let c1_i32_281 : BitVec 32 := 1#32
  let v346 : BitVec 32 := Scalar.addi v328 c1_i32_281
  let c512_i32_282 : BitVec 32 := 512#32
  let v347 : BitVec 32 := Scalar.muli v346 c512_i32_282
  v347
def k0_mult141 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c3_i32_263 : BitVec 32 := 3#32
  let v328 : BitVec 32 := Scalar.addi v12 c3_i32_263
  let c512_i32_298 : BitVec 32 := 512#32
  let v363 : BitVec 32 := Scalar.muli v328 c512_i32_298
  v363
def k0_mult142 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c3_i32_263 : BitVec 32 := 3#32
  let v328 : BitVec 32 := Scalar.addi v12 c3_i32_263
  let c512_i32_321 : BitVec 32 := 512#32
  let v393 : BitVec 32 := Scalar.muli v328 c512_i32_321
  v393
def k0_mult143 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c4_i32_344 : BitVec 32 := 4#32
  let v423 : BitVec 32 := Scalar.addi v12 c4_i32_344
  let c1_i32_345 : BitVec 32 := 1#32
  let v424 : BitVec 32 := Scalar.addi v423 c1_i32_345
  let c512_i32_346 : BitVec 32 := 512#32
  let v425 : BitVec 32 := Scalar.muli v424 c512_i32_346
  v425
def k0_mult144 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c4_i32_344 : BitVec 32 := 4#32
  let v423 : BitVec 32 := Scalar.addi v12 c4_i32_344
  let c1_i32_362 : BitVec 32 := 1#32
  let v441 : BitVec 32 := Scalar.addi v423 c1_i32_362
  let c512_i32_363 : BitVec 32 := 512#32
  let v442 : BitVec 32 := Scalar.muli v441 c512_i32_363
  v442
def k0_mult145 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c4_i32_344 : BitVec 32 := 4#32
  let v423 : BitVec 32 := Scalar.addi v12 c4_i32_344
  let c512_i32_379 : BitVec 32 := 512#32
  let v458 : BitVec 32 := Scalar.muli v423 c512_i32_379
  v458
def k0_mult146 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c4_i32_344 : BitVec 32 := 4#32
  let v423 : BitVec 32 := Scalar.addi v12 c4_i32_344
  let c512_i32_402 : BitVec 32 := 512#32
  let v488 : BitVec 32 := Scalar.muli v423 c512_i32_402
  v488
def k0_mult147 (i : grid0.Coords) : BitVec 32 :=
  let arg2 : BitVec 32 := BitVec.ofNat 32 (i 2).val
  let c512_i32_425 : BitVec 32 := 512#32
  let v518 : BitVec 32 := Scalar.muli arg2 c512_i32_425
  v518
def k0_off39 (i : grid0.Coords) : Fin 4 → Nat :=
  let c0_439 : Index := 0#32
  let c0_440 : Index := 0#32
  let c0_441 : Index := 0#32
  let arg2 : BitVec 32 := BitVec.ofNat 32 (i 2).val
  let c512_i32_425 : BitVec 32 := 512#32
  let v518 : BitVec 32 := Scalar.muli arg2 c512_i32_425
  let v519 : BitVec 32 := v518
  let v542 : Index := Scalar.indexCast v519
  ![0, 0, 0, v542.toNat]
def k0_mult148 (i : grid0.Coords) : BitVec 32 :=
  let arg2 : BitVec 32 := BitVec.ofNat 32 (i 2).val
  let c512_i32_449 : BitVec 32 := 512#32
  let v553 : BitVec 32 := Scalar.muli arg2 c512_i32_449
  v553
def k0_off40 (i : grid0.Coords) : Fin 4 → Nat :=
  let c0_463 : Index := 0#32
  let c1_464 : Index := 1#32
  let c0_465 : Index := 0#32
  let arg2 : BitVec 32 := BitVec.ofNat 32 (i 2).val
  let c512_i32_449 : BitVec 32 := 512#32
  let v553 : BitVec 32 := Scalar.muli arg2 c512_i32_449
  let v554 : BitVec 32 := v553
  let v577 : Index := Scalar.indexCast v554
  ![0, 1, 0, v577.toNat]
def k0_mult149 : BitVec 32 :=
  let c0_i32_473 : BitVec 32 := 0#32
  c0_i32_473
def k0_mult150 : BitVec 32 :=
  let c0_i32_489 : BitVec 32 := 0#32
  c0_i32_489
def k0_cond8 (i : grid0.Coords) : BitVec 1 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let v13 : BitVec 32 := Scalar.subi arg2 v12
  let c6_i32 : BitVec 32 := 6#32
  let v37 : BitVec 1 := Scalar.cmpi .eq v13 c6_i32
  let v38 : BitVec 32 := Scalar.extui v37
  let c0_i32_20 : BitVec 32 := 0#32
  let v39 : BitVec 1 := Scalar.cmpi .ne v38 c0_i32_20
  v39

def k0_mult151 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c0_i32_22 : BitVec 32 := 0#32
  let v43 : BitVec 32 := Scalar.addi v12 c0_i32_22
  let c1_i32_23 : BitVec 32 := 1#32
  let v44 : BitVec 32 := Scalar.addi v43 c1_i32_23
  let c512_i32 : BitVec 32 := 512#32
  let v45 : BitVec 32 := Scalar.muli v44 c512_i32
  v45
def k0_off41 (i : grid0.Coords) (c0_i32_22 : BitVec 32) : Fin 4 → Nat :=
  let c0_24 : Index := 0#32
  let c0_25 : Index := 0#32
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let v43 : BitVec 32 := Scalar.addi v12 c0_i32_22
  let c1_i32_23 : BitVec 32 := 1#32
  let v44 : BitVec 32 := Scalar.addi v43 c1_i32_23
  let c512_i32 : BitVec 32 := 512#32
  let v45 : BitVec 32 := Scalar.muli v44 c512_i32
  let v46 : BitVec 32 := v45
  let v47 : Index := Scalar.indexCast v46
  let c0_26 : Index := 0#32
  ![0, 0, v47.toNat, 0]
def k0_mult152 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c0_i32_22 : BitVec 32 := 0#32
  let v43 : BitVec 32 := Scalar.addi v12 c0_i32_22
  let c1_i32_39 : BitVec 32 := 1#32
  let v61 : BitVec 32 := Scalar.addi v43 c1_i32_39
  let c512_i32_40 : BitVec 32 := 512#32
  let v62 : BitVec 32 := Scalar.muli v61 c512_i32_40
  v62
def k0_off42 (i : grid0.Coords) (c0_i32_22 : BitVec 32) : Fin 4 → Nat :=
  let c0_41 : Index := 0#32
  let c1 : Index := 1#32
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let v43 : BitVec 32 := Scalar.addi v12 c0_i32_22
  let c1_i32_39 : BitVec 32 := 1#32
  let v61 : BitVec 32 := Scalar.addi v43 c1_i32_39
  let c512_i32_40 : BitVec 32 := 512#32
  let v62 : BitVec 32 := Scalar.muli v61 c512_i32_40
  let v63 : BitVec 32 := v62
  let v64 : Index := Scalar.indexCast v63
  let c0_42 : Index := 0#32
  ![0, 1, v64.toNat, 0]
def k0_mult153 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c0_i32_22 : BitVec 32 := 0#32
  let v43 : BitVec 32 := Scalar.addi v12 c0_i32_22
  let c512_i32_55 : BitVec 32 := 512#32
  let v78 : BitVec 32 := Scalar.muli v43 c512_i32_55
  v78
def k0_off43 (i : grid0.Coords) (c0_i32_22 : BitVec 32) : Fin 4 → Nat :=
  let c0_68 : Index := 0#32
  let c0_69 : Index := 0#32
  let c0_70 : Index := 0#32
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let v43 : BitVec 32 := Scalar.addi v12 c0_i32_22
  let c512_i32_55 : BitVec 32 := 512#32
  let v78 : BitVec 32 := Scalar.muli v43 c512_i32_55
  let v79 : BitVec 32 := v78
  let v97 : Index := Scalar.indexCast v79
  ![0, 0, 0, v97.toNat]
def k0_mult154 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c0_i32_22 : BitVec 32 := 0#32
  let v43 : BitVec 32 := Scalar.addi v12 c0_i32_22
  let c512_i32_78 : BitVec 32 := 512#32
  let v108 : BitVec 32 := Scalar.muli v43 c512_i32_78
  v108
def k0_off44 (i : grid0.Coords) (c0_i32_22 : BitVec 32) : Fin 4 → Nat :=
  let c0_91 : Index := 0#32
  let c1_92 : Index := 1#32
  let c0_93 : Index := 0#32
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let v43 : BitVec 32 := Scalar.addi v12 c0_i32_22
  let c512_i32_78 : BitVec 32 := 512#32
  let v108 : BitVec 32 := Scalar.muli v43 c512_i32_78
  let v109 : BitVec 32 := v108
  let v127 : Index := Scalar.indexCast v109
  ![0, 1, 0, v127.toNat]
def k0_mult155 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c1_i32_101 : BitVec 32 := 1#32
  let v138 : BitVec 32 := Scalar.addi v12 c1_i32_101
  let c1_i32_102 : BitVec 32 := 1#32
  let v139 : BitVec 32 := Scalar.addi v138 c1_i32_102
  let c512_i32_103 : BitVec 32 := 512#32
  let v140 : BitVec 32 := Scalar.muli v139 c512_i32_103
  v140
def k0_mult156 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c1_i32_101 : BitVec 32 := 1#32
  let v138 : BitVec 32 := Scalar.addi v12 c1_i32_101
  let c1_i32_119 : BitVec 32 := 1#32
  let v156 : BitVec 32 := Scalar.addi v138 c1_i32_119
  let c512_i32_120 : BitVec 32 := 512#32
  let v157 : BitVec 32 := Scalar.muli v156 c512_i32_120
  v157
def k0_mult157 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c1_i32_101 : BitVec 32 := 1#32
  let v138 : BitVec 32 := Scalar.addi v12 c1_i32_101
  let c512_i32_136 : BitVec 32 := 512#32
  let v173 : BitVec 32 := Scalar.muli v138 c512_i32_136
  v173
def k0_mult158 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c1_i32_101 : BitVec 32 := 1#32
  let v138 : BitVec 32 := Scalar.addi v12 c1_i32_101
  let c512_i32_159 : BitVec 32 := 512#32
  let v203 : BitVec 32 := Scalar.muli v138 c512_i32_159
  v203
def k0_mult159 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c2_i32_182 : BitVec 32 := 2#32
  let v233 : BitVec 32 := Scalar.addi v12 c2_i32_182
  let c1_i32_183 : BitVec 32 := 1#32
  let v234 : BitVec 32 := Scalar.addi v233 c1_i32_183
  let c512_i32_184 : BitVec 32 := 512#32
  let v235 : BitVec 32 := Scalar.muli v234 c512_i32_184
  v235
def k0_mult160 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c2_i32_182 : BitVec 32 := 2#32
  let v233 : BitVec 32 := Scalar.addi v12 c2_i32_182
  let c1_i32_200 : BitVec 32 := 1#32
  let v251 : BitVec 32 := Scalar.addi v233 c1_i32_200
  let c512_i32_201 : BitVec 32 := 512#32
  let v252 : BitVec 32 := Scalar.muli v251 c512_i32_201
  v252
def k0_mult161 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c2_i32_182 : BitVec 32 := 2#32
  let v233 : BitVec 32 := Scalar.addi v12 c2_i32_182
  let c512_i32_217 : BitVec 32 := 512#32
  let v268 : BitVec 32 := Scalar.muli v233 c512_i32_217
  v268
def k0_mult162 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c2_i32_182 : BitVec 32 := 2#32
  let v233 : BitVec 32 := Scalar.addi v12 c2_i32_182
  let c512_i32_240 : BitVec 32 := 512#32
  let v298 : BitVec 32 := Scalar.muli v233 c512_i32_240
  v298
def k0_mult163 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c3_i32_263 : BitVec 32 := 3#32
  let v328 : BitVec 32 := Scalar.addi v12 c3_i32_263
  let c1_i32_264 : BitVec 32 := 1#32
  let v329 : BitVec 32 := Scalar.addi v328 c1_i32_264
  let c512_i32_265 : BitVec 32 := 512#32
  let v330 : BitVec 32 := Scalar.muli v329 c512_i32_265
  v330
def k0_mult164 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c3_i32_263 : BitVec 32 := 3#32
  let v328 : BitVec 32 := Scalar.addi v12 c3_i32_263
  let c1_i32_281 : BitVec 32 := 1#32
  let v346 : BitVec 32 := Scalar.addi v328 c1_i32_281
  let c512_i32_282 : BitVec 32 := 512#32
  let v347 : BitVec 32 := Scalar.muli v346 c512_i32_282
  v347
def k0_mult165 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c3_i32_263 : BitVec 32 := 3#32
  let v328 : BitVec 32 := Scalar.addi v12 c3_i32_263
  let c512_i32_298 : BitVec 32 := 512#32
  let v363 : BitVec 32 := Scalar.muli v328 c512_i32_298
  v363
def k0_mult166 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c3_i32_263 : BitVec 32 := 3#32
  let v328 : BitVec 32 := Scalar.addi v12 c3_i32_263
  let c512_i32_321 : BitVec 32 := 512#32
  let v393 : BitVec 32 := Scalar.muli v328 c512_i32_321
  v393
def k0_mult167 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c4_i32_344 : BitVec 32 := 4#32
  let v423 : BitVec 32 := Scalar.addi v12 c4_i32_344
  let c1_i32_345 : BitVec 32 := 1#32
  let v424 : BitVec 32 := Scalar.addi v423 c1_i32_345
  let c512_i32_346 : BitVec 32 := 512#32
  let v425 : BitVec 32 := Scalar.muli v424 c512_i32_346
  v425
def k0_mult168 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c4_i32_344 : BitVec 32 := 4#32
  let v423 : BitVec 32 := Scalar.addi v12 c4_i32_344
  let c1_i32_362 : BitVec 32 := 1#32
  let v441 : BitVec 32 := Scalar.addi v423 c1_i32_362
  let c512_i32_363 : BitVec 32 := 512#32
  let v442 : BitVec 32 := Scalar.muli v441 c512_i32_363
  v442
def k0_mult169 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c4_i32_344 : BitVec 32 := 4#32
  let v423 : BitVec 32 := Scalar.addi v12 c4_i32_344
  let c512_i32_379 : BitVec 32 := 512#32
  let v458 : BitVec 32 := Scalar.muli v423 c512_i32_379
  v458
def k0_mult170 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c4_i32_344 : BitVec 32 := 4#32
  let v423 : BitVec 32 := Scalar.addi v12 c4_i32_344
  let c512_i32_402 : BitVec 32 := 512#32
  let v488 : BitVec 32 := Scalar.muli v423 c512_i32_402
  v488
def k0_mult171 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c5_i32_425 : BitVec 32 := 5#32
  let v518 : BitVec 32 := Scalar.addi v12 c5_i32_425
  let c1_i32_426 : BitVec 32 := 1#32
  let v519 : BitVec 32 := Scalar.addi v518 c1_i32_426
  let c512_i32_427 : BitVec 32 := 512#32
  let v520 : BitVec 32 := Scalar.muli v519 c512_i32_427
  v520
def k0_mult172 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c5_i32_425 : BitVec 32 := 5#32
  let v518 : BitVec 32 := Scalar.addi v12 c5_i32_425
  let c1_i32_443 : BitVec 32 := 1#32
  let v536 : BitVec 32 := Scalar.addi v518 c1_i32_443
  let c512_i32_444 : BitVec 32 := 512#32
  let v537 : BitVec 32 := Scalar.muli v536 c512_i32_444
  v537
def k0_mult173 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c5_i32_425 : BitVec 32 := 5#32
  let v518 : BitVec 32 := Scalar.addi v12 c5_i32_425
  let c512_i32_460 : BitVec 32 := 512#32
  let v553 : BitVec 32 := Scalar.muli v518 c512_i32_460
  v553
def k0_mult174 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c5_i32_425 : BitVec 32 := 5#32
  let v518 : BitVec 32 := Scalar.addi v12 c5_i32_425
  let c512_i32_483 : BitVec 32 := 512#32
  let v583 : BitVec 32 := Scalar.muli v518 c512_i32_483
  v583
def k0_mult175 (i : grid0.Coords) : BitVec 32 :=
  let arg2 : BitVec 32 := BitVec.ofNat 32 (i 2).val
  let c512_i32_506 : BitVec 32 := 512#32
  let v613 : BitVec 32 := Scalar.muli arg2 c512_i32_506
  v613
def k0_off45 (i : grid0.Coords) : Fin 4 → Nat :=
  let c0_520 : Index := 0#32
  let c0_521 : Index := 0#32
  let c0_522 : Index := 0#32
  let arg2 : BitVec 32 := BitVec.ofNat 32 (i 2).val
  let c512_i32_506 : BitVec 32 := 512#32
  let v613 : BitVec 32 := Scalar.muli arg2 c512_i32_506
  let v614 : BitVec 32 := v613
  let v637 : Index := Scalar.indexCast v614
  ![0, 0, 0, v637.toNat]
def k0_mult176 (i : grid0.Coords) : BitVec 32 :=
  let arg2 : BitVec 32 := BitVec.ofNat 32 (i 2).val
  let c512_i32_530 : BitVec 32 := 512#32
  let v648 : BitVec 32 := Scalar.muli arg2 c512_i32_530
  v648
def k0_off46 (i : grid0.Coords) : Fin 4 → Nat :=
  let c0_544 : Index := 0#32
  let c1_545 : Index := 1#32
  let c0_546 : Index := 0#32
  let arg2 : BitVec 32 := BitVec.ofNat 32 (i 2).val
  let c512_i32_530 : BitVec 32 := 512#32
  let v648 : BitVec 32 := Scalar.muli arg2 c512_i32_530
  let v649 : BitVec 32 := v648
  let v672 : Index := Scalar.indexCast v649
  ![0, 1, 0, v672.toNat]
def k0_mult177 : BitVec 32 :=
  let c0_i32_554 : BitVec 32 := 0#32
  c0_i32_554
def k0_mult178 : BitVec 32 :=
  let c0_i32_570 : BitVec 32 := 0#32
  c0_i32_570
def k0_cond9 (i : grid0.Coords) : BitVec 1 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let v13 : BitVec 32 := Scalar.subi arg2 v12
  let c7_i32 : BitVec 32 := 7#32
  let v40 : BitVec 1 := Scalar.cmpi .eq v13 c7_i32
  let v41 : BitVec 32 := Scalar.extui v40
  let c0_i32_21 : BitVec 32 := 0#32
  let v42 : BitVec 1 := Scalar.cmpi .ne v41 c0_i32_21
  v42

def k0_mult179 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c0_i32_22 : BitVec 32 := 0#32
  let v43 : BitVec 32 := Scalar.addi v12 c0_i32_22
  let c1_i32_23 : BitVec 32 := 1#32
  let v44 : BitVec 32 := Scalar.addi v43 c1_i32_23
  let c512_i32 : BitVec 32 := 512#32
  let v45 : BitVec 32 := Scalar.muli v44 c512_i32
  v45
def k0_off47 (i : grid0.Coords) (c0_i32_22 : BitVec 32) : Fin 4 → Nat :=
  let c0_24 : Index := 0#32
  let c0_25 : Index := 0#32
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let v43 : BitVec 32 := Scalar.addi v12 c0_i32_22
  let c1_i32_23 : BitVec 32 := 1#32
  let v44 : BitVec 32 := Scalar.addi v43 c1_i32_23
  let c512_i32 : BitVec 32 := 512#32
  let v45 : BitVec 32 := Scalar.muli v44 c512_i32
  let v46 : BitVec 32 := v45
  let v47 : Index := Scalar.indexCast v46
  let c0_26 : Index := 0#32
  ![0, 0, v47.toNat, 0]
def k0_mult180 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c0_i32_22 : BitVec 32 := 0#32
  let v43 : BitVec 32 := Scalar.addi v12 c0_i32_22
  let c1_i32_39 : BitVec 32 := 1#32
  let v61 : BitVec 32 := Scalar.addi v43 c1_i32_39
  let c512_i32_40 : BitVec 32 := 512#32
  let v62 : BitVec 32 := Scalar.muli v61 c512_i32_40
  v62
def k0_off48 (i : grid0.Coords) (c0_i32_22 : BitVec 32) : Fin 4 → Nat :=
  let c0_41 : Index := 0#32
  let c1 : Index := 1#32
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let v43 : BitVec 32 := Scalar.addi v12 c0_i32_22
  let c1_i32_39 : BitVec 32 := 1#32
  let v61 : BitVec 32 := Scalar.addi v43 c1_i32_39
  let c512_i32_40 : BitVec 32 := 512#32
  let v62 : BitVec 32 := Scalar.muli v61 c512_i32_40
  let v63 : BitVec 32 := v62
  let v64 : Index := Scalar.indexCast v63
  let c0_42 : Index := 0#32
  ![0, 1, v64.toNat, 0]
def k0_mult181 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c0_i32_22 : BitVec 32 := 0#32
  let v43 : BitVec 32 := Scalar.addi v12 c0_i32_22
  let c512_i32_55 : BitVec 32 := 512#32
  let v78 : BitVec 32 := Scalar.muli v43 c512_i32_55
  v78
def k0_off49 (i : grid0.Coords) (c0_i32_22 : BitVec 32) : Fin 4 → Nat :=
  let c0_68 : Index := 0#32
  let c0_69 : Index := 0#32
  let c0_70 : Index := 0#32
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let v43 : BitVec 32 := Scalar.addi v12 c0_i32_22
  let c512_i32_55 : BitVec 32 := 512#32
  let v78 : BitVec 32 := Scalar.muli v43 c512_i32_55
  let v79 : BitVec 32 := v78
  let v97 : Index := Scalar.indexCast v79
  ![0, 0, 0, v97.toNat]
def k0_mult182 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c0_i32_22 : BitVec 32 := 0#32
  let v43 : BitVec 32 := Scalar.addi v12 c0_i32_22
  let c512_i32_78 : BitVec 32 := 512#32
  let v108 : BitVec 32 := Scalar.muli v43 c512_i32_78
  v108
def k0_off50 (i : grid0.Coords) (c0_i32_22 : BitVec 32) : Fin 4 → Nat :=
  let c0_91 : Index := 0#32
  let c1_92 : Index := 1#32
  let c0_93 : Index := 0#32
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let v43 : BitVec 32 := Scalar.addi v12 c0_i32_22
  let c512_i32_78 : BitVec 32 := 512#32
  let v108 : BitVec 32 := Scalar.muli v43 c512_i32_78
  let v109 : BitVec 32 := v108
  let v127 : Index := Scalar.indexCast v109
  ![0, 1, 0, v127.toNat]
def k0_mult183 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c1_i32_101 : BitVec 32 := 1#32
  let v138 : BitVec 32 := Scalar.addi v12 c1_i32_101
  let c1_i32_102 : BitVec 32 := 1#32
  let v139 : BitVec 32 := Scalar.addi v138 c1_i32_102
  let c512_i32_103 : BitVec 32 := 512#32
  let v140 : BitVec 32 := Scalar.muli v139 c512_i32_103
  v140
def k0_mult184 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c1_i32_101 : BitVec 32 := 1#32
  let v138 : BitVec 32 := Scalar.addi v12 c1_i32_101
  let c1_i32_119 : BitVec 32 := 1#32
  let v156 : BitVec 32 := Scalar.addi v138 c1_i32_119
  let c512_i32_120 : BitVec 32 := 512#32
  let v157 : BitVec 32 := Scalar.muli v156 c512_i32_120
  v157
def k0_mult185 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c1_i32_101 : BitVec 32 := 1#32
  let v138 : BitVec 32 := Scalar.addi v12 c1_i32_101
  let c512_i32_136 : BitVec 32 := 512#32
  let v173 : BitVec 32 := Scalar.muli v138 c512_i32_136
  v173
def k0_mult186 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c1_i32_101 : BitVec 32 := 1#32
  let v138 : BitVec 32 := Scalar.addi v12 c1_i32_101
  let c512_i32_159 : BitVec 32 := 512#32
  let v203 : BitVec 32 := Scalar.muli v138 c512_i32_159
  v203
def k0_mult187 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c2_i32_182 : BitVec 32 := 2#32
  let v233 : BitVec 32 := Scalar.addi v12 c2_i32_182
  let c1_i32_183 : BitVec 32 := 1#32
  let v234 : BitVec 32 := Scalar.addi v233 c1_i32_183
  let c512_i32_184 : BitVec 32 := 512#32
  let v235 : BitVec 32 := Scalar.muli v234 c512_i32_184
  v235
def k0_mult188 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c2_i32_182 : BitVec 32 := 2#32
  let v233 : BitVec 32 := Scalar.addi v12 c2_i32_182
  let c1_i32_200 : BitVec 32 := 1#32
  let v251 : BitVec 32 := Scalar.addi v233 c1_i32_200
  let c512_i32_201 : BitVec 32 := 512#32
  let v252 : BitVec 32 := Scalar.muli v251 c512_i32_201
  v252
def k0_mult189 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c2_i32_182 : BitVec 32 := 2#32
  let v233 : BitVec 32 := Scalar.addi v12 c2_i32_182
  let c512_i32_217 : BitVec 32 := 512#32
  let v268 : BitVec 32 := Scalar.muli v233 c512_i32_217
  v268
def k0_mult190 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c2_i32_182 : BitVec 32 := 2#32
  let v233 : BitVec 32 := Scalar.addi v12 c2_i32_182
  let c512_i32_240 : BitVec 32 := 512#32
  let v298 : BitVec 32 := Scalar.muli v233 c512_i32_240
  v298
def k0_mult191 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c3_i32_263 : BitVec 32 := 3#32
  let v328 : BitVec 32 := Scalar.addi v12 c3_i32_263
  let c1_i32_264 : BitVec 32 := 1#32
  let v329 : BitVec 32 := Scalar.addi v328 c1_i32_264
  let c512_i32_265 : BitVec 32 := 512#32
  let v330 : BitVec 32 := Scalar.muli v329 c512_i32_265
  v330
def k0_mult192 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c3_i32_263 : BitVec 32 := 3#32
  let v328 : BitVec 32 := Scalar.addi v12 c3_i32_263
  let c1_i32_281 : BitVec 32 := 1#32
  let v346 : BitVec 32 := Scalar.addi v328 c1_i32_281
  let c512_i32_282 : BitVec 32 := 512#32
  let v347 : BitVec 32 := Scalar.muli v346 c512_i32_282
  v347
def k0_mult193 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c3_i32_263 : BitVec 32 := 3#32
  let v328 : BitVec 32 := Scalar.addi v12 c3_i32_263
  let c512_i32_298 : BitVec 32 := 512#32
  let v363 : BitVec 32 := Scalar.muli v328 c512_i32_298
  v363
def k0_mult194 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c3_i32_263 : BitVec 32 := 3#32
  let v328 : BitVec 32 := Scalar.addi v12 c3_i32_263
  let c512_i32_321 : BitVec 32 := 512#32
  let v393 : BitVec 32 := Scalar.muli v328 c512_i32_321
  v393
def k0_mult195 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c4_i32_344 : BitVec 32 := 4#32
  let v423 : BitVec 32 := Scalar.addi v12 c4_i32_344
  let c1_i32_345 : BitVec 32 := 1#32
  let v424 : BitVec 32 := Scalar.addi v423 c1_i32_345
  let c512_i32_346 : BitVec 32 := 512#32
  let v425 : BitVec 32 := Scalar.muli v424 c512_i32_346
  v425
def k0_mult196 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c4_i32_344 : BitVec 32 := 4#32
  let v423 : BitVec 32 := Scalar.addi v12 c4_i32_344
  let c1_i32_362 : BitVec 32 := 1#32
  let v441 : BitVec 32 := Scalar.addi v423 c1_i32_362
  let c512_i32_363 : BitVec 32 := 512#32
  let v442 : BitVec 32 := Scalar.muli v441 c512_i32_363
  v442
def k0_mult197 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c4_i32_344 : BitVec 32 := 4#32
  let v423 : BitVec 32 := Scalar.addi v12 c4_i32_344
  let c512_i32_379 : BitVec 32 := 512#32
  let v458 : BitVec 32 := Scalar.muli v423 c512_i32_379
  v458
def k0_mult198 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c4_i32_344 : BitVec 32 := 4#32
  let v423 : BitVec 32 := Scalar.addi v12 c4_i32_344
  let c512_i32_402 : BitVec 32 := 512#32
  let v488 : BitVec 32 := Scalar.muli v423 c512_i32_402
  v488
def k0_mult199 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c5_i32_425 : BitVec 32 := 5#32
  let v518 : BitVec 32 := Scalar.addi v12 c5_i32_425
  let c1_i32_426 : BitVec 32 := 1#32
  let v519 : BitVec 32 := Scalar.addi v518 c1_i32_426
  let c512_i32_427 : BitVec 32 := 512#32
  let v520 : BitVec 32 := Scalar.muli v519 c512_i32_427
  v520
def k0_mult200 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c5_i32_425 : BitVec 32 := 5#32
  let v518 : BitVec 32 := Scalar.addi v12 c5_i32_425
  let c1_i32_443 : BitVec 32 := 1#32
  let v536 : BitVec 32 := Scalar.addi v518 c1_i32_443
  let c512_i32_444 : BitVec 32 := 512#32
  let v537 : BitVec 32 := Scalar.muli v536 c512_i32_444
  v537
def k0_mult201 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c5_i32_425 : BitVec 32 := 5#32
  let v518 : BitVec 32 := Scalar.addi v12 c5_i32_425
  let c512_i32_460 : BitVec 32 := 512#32
  let v553 : BitVec 32 := Scalar.muli v518 c512_i32_460
  v553
def k0_mult202 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c5_i32_425 : BitVec 32 := 5#32
  let v518 : BitVec 32 := Scalar.addi v12 c5_i32_425
  let c512_i32_483 : BitVec 32 := 512#32
  let v583 : BitVec 32 := Scalar.muli v518 c512_i32_483
  v583
def k0_mult203 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c6_i32_506 : BitVec 32 := 6#32
  let v613 : BitVec 32 := Scalar.addi v12 c6_i32_506
  let c1_i32_507 : BitVec 32 := 1#32
  let v614 : BitVec 32 := Scalar.addi v613 c1_i32_507
  let c512_i32_508 : BitVec 32 := 512#32
  let v615 : BitVec 32 := Scalar.muli v614 c512_i32_508
  v615
def k0_mult204 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c6_i32_506 : BitVec 32 := 6#32
  let v613 : BitVec 32 := Scalar.addi v12 c6_i32_506
  let c1_i32_524 : BitVec 32 := 1#32
  let v631 : BitVec 32 := Scalar.addi v613 c1_i32_524
  let c512_i32_525 : BitVec 32 := 512#32
  let v632 : BitVec 32 := Scalar.muli v631 c512_i32_525
  v632
def k0_mult205 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c6_i32_506 : BitVec 32 := 6#32
  let v613 : BitVec 32 := Scalar.addi v12 c6_i32_506
  let c512_i32_541 : BitVec 32 := 512#32
  let v648 : BitVec 32 := Scalar.muli v613 c512_i32_541
  v648
def k0_mult206 (i : grid0.Coords) : BitVec 32 :=
  let arg2 : BitVec 32 := BitVec.ofNat 32 (i 2).val
  let c8_i32 : BitVec 32 := 8#32
  let v11 : BitVec 32 := Scalar.divsi arg2 c8_i32
  let c8_i32_7 : BitVec 32 := 8#32
  let v12 : BitVec 32 := Scalar.muli v11 c8_i32_7
  let c6_i32_506 : BitVec 32 := 6#32
  let v613 : BitVec 32 := Scalar.addi v12 c6_i32_506
  let c512_i32_564 : BitVec 32 := 512#32
  let v678 : BitVec 32 := Scalar.muli v613 c512_i32_564
  v678
def k0_mult207 (i : grid0.Coords) : BitVec 32 :=
  let arg2 : BitVec 32 := BitVec.ofNat 32 (i 2).val
  let c512_i32_587 : BitVec 32 := 512#32
  let v708 : BitVec 32 := Scalar.muli arg2 c512_i32_587
  v708
def k0_off51 (i : grid0.Coords) : Fin 4 → Nat :=
  let c0_601 : Index := 0#32
  let c0_602 : Index := 0#32
  let c0_603 : Index := 0#32
  let arg2 : BitVec 32 := BitVec.ofNat 32 (i 2).val
  let c512_i32_587 : BitVec 32 := 512#32
  let v708 : BitVec 32 := Scalar.muli arg2 c512_i32_587
  let v709 : BitVec 32 := v708
  let v732 : Index := Scalar.indexCast v709
  ![0, 0, 0, v732.toNat]
def k0_mult208 (i : grid0.Coords) : BitVec 32 :=
  let arg2 : BitVec 32 := BitVec.ofNat 32 (i 2).val
  let c512_i32_611 : BitVec 32 := 512#32
  let v743 : BitVec 32 := Scalar.muli arg2 c512_i32_611
  v743
def k0_off52 (i : grid0.Coords) : Fin 4 → Nat :=
  let c0_625 : Index := 0#32
  let c1_626 : Index := 1#32
  let c0_627 : Index := 0#32
  let arg2 : BitVec 32 := BitVec.ofNat 32 (i 2).val
  let c512_i32_611 : BitVec 32 := 512#32
  let v743 : BitVec 32 := Scalar.muli arg2 c512_i32_611
  let v744 : BitVec 32 := v743
  let v767 : Index := Scalar.indexCast v744
  ![0, 1, 0, v767.toNat]
def k0_mult209 : BitVec 32 :=
  let c0_i32_635 : BitVec 32 := 0#32
  c0_i32_635
def k0_mult210 : BitVec 32 :=
  let c0_i32_651 : BitVec 32 := 0#32
  c0_i32_651
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c15_i32 : BitVec 32 := 15#32
  let v1 : BitVec 32 := Scalar.minsi v0 c15_i32
  let c0_i32 : BitVec 32 := 0#32
  let c0_i32_0 : BitVec 32 := 0#32
  ![arg0.toNat, arg1.toNat, c0_i32.toNat, v1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2x8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x144x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x8x8192x128 : Shape := ⟨4, ![4, 8, 8192, 128]⟩
abbrev S4x8x32x8192 : Shape := ⟨4, ![4, 8, 32, 8192]⟩
abbrev S4x8x8192x8192 : Shape := ⟨4, ![4, 8, 8192, 8192]⟩
abbrev S_ : Shape := ⟨0, ![]⟩
abbrev S8192 : Shape := ⟨1, ![8192]⟩
abbrev S32 : Shape := ⟨1, ![32]⟩
abbrev S32x256 : Shape := ⟨2, ![32, 256]⟩
abbrev S4x8x8192x32 : Shape := ⟨4, ![4, 8, 8192, 32]⟩
abbrev S4x8x8192x32x256 : Shape := ⟨5, ![4, 8, 8192, 32, 256]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S4x8x8192 : Shape := ⟨3, ![4, 8, 8192]⟩
abbrev S4x8x8192x1 : Shape := ⟨4, ![4, 8, 8192, 1]⟩
abbrev S4x8192x8x128 : Shape := ⟨4, ![4, 8192, 8, 128]⟩
abbrev S4x8192x1024 : Shape := ⟨3, ![4, 8192, 1024]⟩

abbrev nBuf : Space → Nat
  | .hbm => 63
  | .vmem => 0
  | .smem => 0
  | _ => 0

abbrev bufTy : (tb : Table) → Fin (tcTables nBuf tb) → BufTy
  | .hbm, ⟨0, _⟩ => ⟨S4x8x8192x128, .f32⟩
  | .hbm, ⟨1, _⟩ => ⟨S4x8x8192x128, .f32⟩
  | .hbm, ⟨2, _⟩ => ⟨S4x8x8192x128, .f32⟩
  | .hbm, ⟨3, _⟩ => ⟨S4x8x32x8192, .i32⟩
  | .hbm, ⟨4, _⟩ => ⟨S4x8x8192x8192, .f32⟩
  | .hbm, ⟨5, _⟩ => ⟨S_, .f32⟩
  | .hbm, ⟨6, _⟩ => ⟨S_, .f32⟩
  | .hbm, ⟨7, _⟩ => ⟨S4x8x8192x8192, .f32⟩
  | .hbm, ⟨8, _⟩ => ⟨S4x8x8192x8192, .f32⟩
  | .hbm, ⟨9, _⟩ => ⟨S8192, .i32⟩
  | .hbm, ⟨10, _⟩ => ⟨S32, .i32⟩
  | .hbm, ⟨11, _⟩ => ⟨S32x256, .i32⟩
  | .hbm, ⟨12, _⟩ => ⟨S8192, .i32⟩
  | .hbm, ⟨13, _⟩ => ⟨S_, .i32⟩
  | .hbm, ⟨14, _⟩ => ⟨S4x8x32x8192, .i32⟩
  | .hbm, ⟨15, _⟩ => ⟨S4x8x32x8192, .i1⟩
  | .hbm, ⟨16, _⟩ => ⟨S4x8x8192x32, .i1⟩
  | .hbm, ⟨17, _⟩ => ⟨S4x8x8192x32x256, .i1⟩
  | .hbm, ⟨18, _⟩ => ⟨S4x8x8192x8192, .i1⟩
  | .hbm, ⟨19, _⟩ => ⟨S1x8192, .i32⟩
  | .hbm, ⟨20, _⟩ => ⟨S8192x1, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S1x8192, .i32⟩
  | .hbm, ⟨25, _⟩ => ⟨S8192x1, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S8192x8192, .i1⟩
  | .hbm, ⟨30, _⟩ => ⟨S1x8192, .i32⟩
  | .hbm, ⟨31, _⟩ => ⟨S8192x1, .i32⟩
  | .hbm, ⟨32, _⟩ => ⟨S8192x8192, .i32⟩
  | .hbm, ⟨33, _⟩ => ⟨S8192x8192, .i32⟩
  | .hbm, ⟨34, _⟩ => ⟨S8192x8192, .i1⟩
  | .hbm, ⟨35, _⟩ => ⟨S1x1x8192x8192, .i1⟩
  | .hbm, ⟨36, _⟩ => ⟨S4x8x8192x8192, .i1⟩
  | .hbm, ⟨37, _⟩ => ⟨S4x8x8192x8192, .i1⟩
  | .hbm, ⟨38, _⟩ => ⟨S1x1x8192x8192, .i1⟩
  | .hbm, ⟨39, _⟩ => ⟨S4x8x8192x8192, .i1⟩
  | .hbm, ⟨40, _⟩ => ⟨S4x8x8192x8192, .i1⟩
  | .hbm, ⟨41, _⟩ => ⟨S_, .f32⟩
  | .hbm, ⟨42, _⟩ => ⟨S_, .f32⟩
  | .hbm, ⟨43, _⟩ => ⟨S4x8x8192x8192, .f32⟩
  | .hbm, ⟨44, _⟩ => ⟨S4x8x8192x8192, .f32⟩
  | .hbm, ⟨45, _⟩ => ⟨S_, .f32⟩
  | .hbm, ⟨46, _⟩ => ⟨S4x8x8192, .f32⟩
  | .hbm, ⟨47, _⟩ => ⟨S_, .f32⟩
  | .hbm, ⟨48, _⟩ => ⟨S4x8x8192, .f32⟩
  | .hbm, ⟨49, _⟩ => ⟨S4x8x8192, .f32⟩
  | .hbm, ⟨50, _⟩ => ⟨S4x8x8192x1, .f32⟩
  | .hbm, ⟨51, _⟩ => ⟨S4x8x8192x8192, .f32⟩
  | .hbm, ⟨52, _⟩ => ⟨S4x8x8192x8192, .f32⟩
  | .hbm, ⟨53, _⟩ => ⟨S4x8x8192x8192, .f32⟩
  | .hbm, ⟨54, _⟩ => ⟨S_, .f32⟩
  | .hbm, ⟨55, _⟩ => ⟨S4x8x8192, .f32⟩
  | .hbm, ⟨56, _⟩ => ⟨S4x8x8192x1, .f32⟩
  | .hbm, ⟨57, _⟩ => ⟨S4x8x8192x8192, .f32⟩
  | .hbm, ⟨58, _⟩ => ⟨S4x8x8192x8192, .f32⟩
  | .hbm, ⟨59, _⟩ => ⟨S4x8x8192x128, .f32⟩
  | .hbm, ⟨60, _⟩ => ⟨S4x8192x8x128, .f32⟩
  | .hbm, ⟨61, _⟩ => ⟨S4x8192x1024, .f32⟩
  | .hbm, ⟨62, _⟩ => ⟨S4x8192x1024, .bf16⟩
  | _, _ => ⟨S4x8x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_0 : Ref sig .tc := ⟨.hbm, 41, rfl⟩
abbrev main_call0_v0 : Ref sig .tc := ⟨.hbm, 42, rfl⟩
abbrev main_call0_v1 : Ref sig .tc := ⟨.hbm, 43, rfl⟩
abbrev main_v35 : Ref sig .tc := ⟨.hbm, 44, rfl⟩
abbrev main_cst_1 : Ref sig .tc := ⟨.hbm, 45, rfl⟩
abbrev main_v36 : Ref sig .tc := ⟨.hbm, 46, rfl⟩
abbrev main_cst_2 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_3 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩

abbrev nD : Nat := 1
abbrev τ : Topo := Topo.v7x

variable {F : FTy → Type} [FloatOps F]
-- ==== Kernel2.lean ====
abbrev S4x8192x1024 : Shape := ⟨3, ![4, 8192, 1024]⟩
abbrev S1x1024 : Shape := ⟨2, ![1, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S1x512x1024 : Shape := ⟨3, ![1, 512, 1024]⟩
abbrev S520x2816 : Shape := ⟨2, ![520, 2816]⟩
abbrev S512x1024 : Shape := ⟨2, ![512, 1024]⟩
abbrev S512 : Shape := ⟨1, ![512]⟩
abbrev S512x1 : Shape := ⟨2, ![512, 1]⟩
abbrev S8x2816 : Shape := ⟨2, ![8, 2816]⟩
abbrev S512x2816 : Shape := ⟨2, ![512, 2816]⟩

abbrev nBuf : Space → Nat
  | .hbm => 19
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x3x2816, .f32⟩
  | .hbm, ⟨5, _⟩ => ⟨S1x2816, .f32⟩
  | .hbm, ⟨6, _⟩ => ⟨S1x2816x1024, .f32⟩
  | .hbm, ⟨7, _⟩ => ⟨S1024, .f32⟩
  | .hbm, ⟨8, _⟩ => ⟨S1x1024, .f32⟩
  | .hbm, ⟨9, _⟩ => ⟨S1024x2816, .f32⟩
  | .hbm, ⟨10, _⟩ => ⟨S1024x2816, .bf16⟩
  | .hbm, ⟨11, _⟩ => ⟨S1024x2816, .f32⟩
  | .hbm, ⟨12, _⟩ => ⟨S1024x2816, .bf16⟩
  | .hbm, ⟨13, _⟩ => ⟨S3x2816, .f32⟩
  | .hbm, ⟨14, _⟩ => ⟨S2816, .f32⟩
  | .hbm, ⟨15, _⟩ => ⟨S1x2816, .f32⟩
  | .hbm, ⟨16, _⟩ => ⟨S2816x1024, .f32⟩
  | .hbm, ⟨17, _⟩ => ⟨S2816x1024, .bf16⟩
  | .hbm, ⟨18, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S3x2816, .f32⟩
  | .local _ .vmem, ⟨6, _⟩ => ⟨S1x2816, .f32⟩
  | .local _ .vmem, ⟨7, _⟩ => ⟨S2816x1024, .bf16⟩
  | .local _ .vmem, ⟨8, _⟩ => ⟨S1x512x1024, .f32⟩
  | .local _ .vmem, ⟨9, _⟩ => ⟨S1x512x1024, .f32⟩
  | .local _ .vmem, ⟨10, _⟩ => ⟨S520x2816, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel2Ideal.lean ====
variable {F : FTy → Type} [FloatOps F] [Named F]
def κ : String → Option EReal := fun
  | "k1" => some ((-((2 * (Real.sqrt (2 * Real.pi⁻¹))) * (Real.log 2)⁻¹) : ℝ) : EReal)
  | "k2" => some (((-((2 * (Real.sqrt (2 * Real.pi⁻¹))) * (Real.log 2)⁻¹)) * (8943 / 200000) : ℝ) : EReal)
  | _ => none
-- ==== Reference2Ideal.lean ====
abbrev S4x8192x1024 : Shape := ⟨3, ![4, 8192, 1024]⟩
abbrev S1x1024 : Shape := ⟨2, ![1, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x2816 : Shape := ⟨2, ![1024, 2816]⟩
abbrev S4x8192x2816 : Shape := ⟨3, ![4, 8192, 2816]⟩
abbrev S3x2816 : Shape := ⟨2, ![3, 2816]⟩
abbrev S2816 : Shape := ⟨1, ![2816]⟩
abbrev S4x8194x2816 : Shape := ⟨3, ![4, 8194, 2816]⟩
abbrev S1x1x2816 : Shape := ⟨3, ![1, 1, 2816]⟩
abbrev S2816x1024 : Shape := ⟨2, ![2816, 1024]⟩

abbrev nBuf : Space → Nat
  | .hbm => 85
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x3x2816, .f32⟩
  | .hbm, ⟨5, _⟩ => ⟨S1x2816, .f32⟩
  | .hbm, ⟨6, _⟩ => ⟨S1x2816x1024, .f32⟩
  | .hbm, ⟨7, _⟩ => ⟨S1024, .f32⟩
  | .hbm, ⟨8, _⟩ => ⟨S4x8192x1024, .f32⟩
  | .hbm, ⟨9, _⟩ => ⟨S_, .f32⟩
  | .hbm, ⟨10, _⟩ => ⟨S4x8192, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1, .f32⟩
  | .hbm, ⟨19, _⟩ => ⟨S4x8192x1024, .f32⟩
  | .hbm, ⟨20, _⟩ => ⟨S4x8192x1024, .f32⟩
  | .hbm, ⟨21, _⟩ => ⟨S1x1x1024, .f32⟩
  | .hbm, ⟨22, _⟩ => ⟨S4x8192x1024, .f32⟩
  | .hbm, ⟨23, _⟩ => ⟨S4x8192x1024, .f32⟩
  | .hbm, ⟨24, _⟩ => ⟨S1024x2816, .f32⟩
  | .hbm, ⟨25, _⟩ => ⟨S4x8192x2816, .f32⟩
  | .hbm, ⟨26, _⟩ => ⟨S3x2816, .f32⟩
  | .hbm, ⟨27, _⟩ => ⟨S2816, .f32⟩
  | .hbm, ⟨28, _⟩ => ⟨S_, .i32⟩
  | .hbm, ⟨29, _⟩ => ⟨S_, .f32⟩
  | .hbm, ⟨30, _⟩ => ⟨S4x8194x2816, .f32⟩
  | .hbm, ⟨31, _⟩ => ⟨S4x8192x2816, .f32⟩
  | .hbm, ⟨32, _⟩ => ⟨S1x2816, .f32⟩
  | .hbm, ⟨33, _⟩ => ⟨S2816, .f32⟩
  | .hbm, ⟨34, _⟩ => ⟨S1x1x2816, .f32⟩
  | .hbm, ⟨35, _⟩ => ⟨S4x8192x2816, .f32⟩
  | .hbm, ⟨36, _⟩ => ⟨S4x8192x2816, .f32⟩
  | .hbm, ⟨37, _⟩ => ⟨S1x1x2816, .f32⟩
  | .hbm, ⟨38, _⟩ => ⟨S4x8192x2816, .f32⟩
  | .hbm, ⟨39, _⟩ => ⟨S4x8192x2816, .f32⟩
  | .hbm, ⟨40, _⟩ => ⟨S4x8192x2816, .f32⟩
  | .hbm, ⟨41, _⟩ => ⟨S1x2816, .f32⟩
  | .hbm, ⟨42, _⟩ => ⟨S2816, .f32⟩
  | .hbm, ⟨43, _⟩ => ⟨S1x1x2816, .f32⟩
  | .hbm, ⟨44, _⟩ => ⟨S4x8192x2816, .f32⟩
  | .hbm, ⟨45, _⟩ => ⟨S4x8192x2816, .f32⟩
  | .hbm, ⟨46, _⟩ => ⟨S4x8192x2816, .f32⟩
  | .hbm, ⟨47, _⟩ => ⟨S4x8192x2816, .f32⟩
  | .hbm, ⟨48, _⟩ => ⟨S1x2816, .f32⟩
  | .hbm, ⟨49, _⟩ => ⟨S2816, .f32⟩
  | .hbm, ⟨50, _⟩ => ⟨S1x1x2816, .f32⟩
  | .hbm, ⟨51, _⟩ => ⟨S4x8192x2816, .f32⟩
  | .hbm, ⟨52, _⟩ => ⟨S4x8192x2816, .f32⟩
  | .hbm, ⟨53, _⟩ => ⟨S4x8192x2816, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S4x8192x2816, .f32⟩
  | .hbm, ⟨65, _⟩ => ⟨S4x8192x2816, .f32⟩
  | .hbm, ⟨66, _⟩ => ⟨S4x8192x2816, .f32⟩
  | .hbm, ⟨67, _⟩ => ⟨S4x8192x2816, .f32⟩
  | .hbm, ⟨68, _⟩ => ⟨S4x8192x2816, .f32⟩
  | .hbm, ⟨69, _⟩ => ⟨S4x8192x2816, .f32⟩
  | .hbm, ⟨70, _⟩ => ⟨S4x8192x2816, .f32⟩
  | .hbm, ⟨71, _⟩ => ⟨S4x8192x2816, .f32⟩
  | .hbm, ⟨72, _⟩ => ⟨S_, .f32⟩
  | .hbm, ⟨73, _⟩ => ⟨S4x8192x2816, .f32⟩
  | .hbm, ⟨74, _⟩ => ⟨S4x8192x2816, .f32⟩
  | .hbm, ⟨75, _⟩ => ⟨S_, .f32⟩
  | .hbm, ⟨76, _⟩ => ⟨S4x8192x2816, .f32⟩
  | .hbm, ⟨77, _⟩ => ⟨S4x8192x2816, .f32⟩
  | .hbm, ⟨78, _⟩ => ⟨S4x8192x2816, .f32⟩
  | .hbm, ⟨79, _⟩ => ⟨S1024x2816, .f32⟩
  | .hbm, ⟨80, _⟩ => ⟨S4x8192x2816, .f32⟩
  | .hbm, ⟨81, _⟩ => ⟨S4x8192x2816, .f32⟩
  | .hbm, ⟨82, _⟩ => ⟨S2816x1024, .f32⟩
  | .hbm, ⟨83, _⟩ => ⟨S4x8192x1024, .f32⟩
  | .hbm, ⟨84, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_2 : Ref sig .tc := ⟨.hbm, 54, rfl⟩
abbrev main_v42 : Ref sig .tc := ⟨.hbm, 55, rfl⟩
abbrev main_cst_3 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_cst_6 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_7 : Ref sig .tc := ⟨.hbm, 72, rfl⟩
abbrev main_v55 : Ref sig .tc := ⟨.hbm, 73, rfl⟩
abbrev main_v56 : Ref sig .tc := ⟨.hbm, 74, rfl⟩
abbrev main_cst_8 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩

abbrev nD : Nat := 1
abbrev τ : Topo := Topo.v7x

variable {F : FTy → Type} [FloatOps F]
-- ==== Kernel3.lean ====
abbrev S32768x2048 : Shape := ⟨2, ![32768, 2048]⟩
abbrev S32768x1024 : Shape := ⟨2, ![32768, 1024]⟩
abbrev S1x1024x1024 : Shape := ⟨3, ![1, 1024, 1024]⟩
abbrev S1024x1024 : Shape := ⟨2, ![1024, 1024]⟩
abbrev S512x2048 : Shape := ⟨2, ![512, 2048]⟩
abbrev S512x1024 : Shape := ⟨2, ![512, 1024]⟩

abbrev nBuf : Space → Nat
  | .hbm => 14
  | .vmem => 13
  | .smem => 0
  | _ => 0

abbrev bufTy : (tb : Table) → Fin (tcTables nBuf tb) → BufTy
  | .hbm, ⟨0, _⟩ => ⟨S32768x2048, .bf16⟩
  | .hbm, ⟨1, _⟩ => ⟨S32768x1024, .bf16⟩
  | .hbm, ⟨2, _⟩ => ⟨S32768x2048, .bf16⟩
  | .hbm, ⟨3, _⟩ => ⟨S32768x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S32768x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel3Ideal.lean ====
variable {F : FTy → Type} [FloatOps F] [Named F]
def κ : String → Option EReal := fun
  | "k1" => some ((-((2 * (Real.sqrt (2 * Real.pi⁻¹))) * (Real.log 2)⁻¹) : ℝ) : EReal)
  | "k2" => some (((-((2 * (Real.sqrt (2 * Real.pi⁻¹))) * (Real.log 2)⁻¹)) * (8943 / 200000) : ℝ) : EReal)
  | _ => none
-- ==== Reference3Ideal.lean ====
abbrev S32768x2048 : Shape := ⟨2, ![32768, 2048]⟩
abbrev S32768x1024 : Shape := ⟨2, ![32768, 1024]⟩
abbrev S1x1024x1024 : Shape := ⟨3, ![1, 1024, 1024]⟩
abbrev S_ : Shape := ⟨0, ![]⟩
abbrev S1024x1024 : Shape := ⟨2, ![1024, 1024]⟩

abbrev nBuf : Space → Nat
  | .hbm => 59
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x1024, .bf16⟩
  | .hbm, ⟨2, _⟩ => ⟨S32768x2048, .bf16⟩
  | .hbm, ⟨3, _⟩ => ⟨S32768x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S32768x1024, .bf16⟩
  | .hbm, ⟨8, _⟩ => ⟨S32768x1024, .f32⟩
  | .hbm, ⟨9, _⟩ => ⟨S32768x1024, .bf16⟩
  | .hbm, ⟨10, _⟩ => ⟨S32768x1024, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S_, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S32768x2048, .f32⟩
  | .hbm, ⟨38, _⟩ => ⟨S32768x2048, .f32⟩
  | .hbm, ⟨39, _⟩ => ⟨S32768x2048, .f32⟩
  | .hbm, ⟨40, _⟩ => ⟨S_, .f32⟩
  | .hbm, ⟨41, _⟩ => ⟨S32768x2048, .f32⟩
  | .hbm, ⟨42, _⟩ => ⟨S32768x2048, .f32⟩
  | .hbm, ⟨43, _⟩ => ⟨S_, .f32⟩
  | .hbm, ⟨44, _⟩ => ⟨S32768x2048, .f32⟩
  | .hbm, ⟨45, _⟩ => ⟨S32768x2048, .f32⟩
  | .hbm, ⟨46, _⟩ => ⟨S32768x1024, .f32⟩
  | .hbm, ⟨47, _⟩ => ⟨S1024x1024, .f32⟩
  | .hbm, ⟨48, _⟩ => ⟨S32768x1024, .f32⟩
  | .hbm, ⟨49, _⟩ => ⟨S32768x1024, .f32⟩
  | .hbm, ⟨50, _⟩ => ⟨S32768x1024, .f32⟩
  | .hbm, ⟨51, _⟩ => ⟨S32768x1024, .f32⟩
  | .hbm, ⟨52, _⟩ => ⟨S1024x1024, .f32⟩
  | .hbm, ⟨53, _⟩ => ⟨S32768x1024, .f32⟩
  | .hbm, ⟨54, _⟩ => ⟨S32768x1024, .f32⟩
  | .hbm, ⟨55, _⟩ => ⟨S32768x1024, .f32⟩
  | .hbm, ⟨56, _⟩ => ⟨S1024x1024, .f32⟩
  | .hbm, ⟨57, _⟩ => ⟨S32768x1024, .f32⟩
  | .hbm, ⟨58, _⟩ => ⟨S32768x1024, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Kernel4.lean ====
abbrev S4x8192x1024 : Shape := ⟨3, ![4, 8192, 1024]⟩
abbrev S1x1024 : Shape := ⟨2, ![1, 1024]⟩
abbrev S1x1024x7168 : Shape := ⟨3, ![1, 1024, 7168]⟩
abbrev S1x4x1024 : Shape := ⟨3, ![1, 4, 1024]⟩
abbrev S1x8x128x128 : Shape := ⟨4, ![1, 8, 128, 128]⟩
abbrev S1x8x128 : Shape := ⟨3, ![1, 8, 128]⟩
abbrev S1x128 : Shape := ⟨2, ![1, 128]⟩
abbrev S8x128x128 : Shape := ⟨3, ![8, 128, 128]⟩
abbrev S8x128x256 : Shape := ⟨3, ![8, 128, 256]⟩
abbrev S8x128 : Shape := ⟨2, ![8, 128]⟩
abbrev S8x256 : Shape := ⟨2, ![8, 256]⟩
abbrev S8x1x256 : Shape := ⟨3, ![8, 1, 256]⟩
abbrev S32768x1024 : Shape := ⟨2, ![32768, 1024]⟩
abbrev S1024 : Shape := ⟨1, ![1024]⟩
abbrev S1024x7168 : Shape := ⟨2, ![1024, 7168]⟩
abbrev S128 : Shape := ⟨1, ![128]⟩
abbrev S4x1024 : Shape := ⟨2, ![4, 1024]⟩
abbrev S32768x2048 : Shape := ⟨2, ![32768, 2048]⟩
abbrev S4x8x256x8192 : Shape := ⟨4, ![4, 8, 256, 8192]⟩
abbrev S4x8x8192x256 : Shape := ⟨4, ![4, 8, 8192, 256]⟩
abbrev S4x8x144x8192 : Shape := ⟨4, ![4, 8, 144, 8192]⟩
abbrev S256x1024 : Shape := ⟨2, ![256, 1024]⟩
abbrev S256x2048 : Shape := ⟨2, ![256, 2048]⟩
abbrev S1x8x256x256 : Shape := ⟨4, ![1, 8, 256, 256]⟩
abbrev S1x8x144x256 : Shape := ⟨4, ![1, 8, 144, 256]⟩
abbrev S32x1024 : Shape := ⟨2, ![32, 1024]⟩
abbrev S264x1024 : Shape := ⟨2, ![264, 1024]⟩
abbrev S8x1024 : Shape := ⟨2, ![8, 1024]⟩
abbrev S256x7168 : Shape := ⟨2, ![256, 7168]⟩
abbrev S256 : Shape := ⟨1, ![256]⟩
abbrev S256x1 : Shape := ⟨2, ![256, 1]⟩
abbrev S32x256 : Shape := ⟨2, ![32, 256]⟩
abbrev S256x128 : Shape := ⟨2, ![256, 128]⟩
abbrev S16x256 : Shape := ⟨2, ![16, 256]⟩
abbrev S1x128x256 : Shape := ⟨3, ![1, 128, 256]⟩
abbrev S128x256 : Shape := ⟨2, ![128, 256]⟩
abbrev S256x256 : Shape := ⟨2, ![256, 256]⟩
abbrev S1x1x256 : Shape := ⟨3, ![1, 1, 256]⟩
abbrev S1x256 : Shape := ⟨2, ![1, 256]⟩
abbrev S32x8x128 : Shape := ⟨3, ![32, 8, 128]⟩
abbrev S256x512 : Shape := ⟨2, ![256, 512]⟩
abbrev S1x1x128x256 : Shape := ⟨4, ![1, 1, 128, 256]⟩
abbrev S32x128 : Shape := ⟨2, ![32, 128]⟩
abbrev S96x256 : Shape := ⟨2, ![96, 256]⟩
abbrev S1x1x256x128 : Shape := ⟨4, ![1, 1, 256, 128]⟩
abbrev S1x1x16x256 : Shape := ⟨4, ![1, 1, 16, 256]⟩

abbrev nBuf : Space → Nat
  | .hbm => 39
  | .vmem => 26
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x7168, .f32⟩
  | .hbm, ⟨3, _⟩ => ⟨S1x4x1024, .f32⟩
  | .hbm, ⟨4, _⟩ => ⟨S1x1024, .f32⟩
  | .hbm, ⟨5, _⟩ => ⟨S1x8x128x128, .f32⟩
  | .hbm, ⟨6, _⟩ => ⟨S1x8x128, .f32⟩
  | .hbm, ⟨7, _⟩ => ⟨S1x8x128x128, .f32⟩
  | .hbm, ⟨8, _⟩ => ⟨S1x8x128, .f32⟩
  | .hbm, ⟨9, _⟩ => ⟨S1x1024, .f32⟩
  | .hbm, ⟨10, _⟩ => ⟨S1x128, .f32⟩
  | .hbm, ⟨11, _⟩ => ⟨S1x128, .f32⟩
  | .hbm, ⟨12, _⟩ => ⟨S8x128x128, .f32⟩
  | .hbm, ⟨13, _⟩ => ⟨S8x128x128, .f32⟩
  | .hbm, ⟨14, _⟩ => ⟨S8x128x256, .f32⟩
  | .hbm, ⟨15, _⟩ => ⟨S8x128x256, .bf16⟩
  | .hbm, ⟨16, _⟩ => ⟨S8x128, .f32⟩
  | .hbm, ⟨17, _⟩ => ⟨S8x128, .f32⟩
  | .hbm, ⟨18, _⟩ => ⟨S8x256, .f32⟩
  | .hbm, ⟨19, _⟩ => ⟨S8x1x256, .f32⟩
  | .hbm, ⟨20, _⟩ => ⟨S32768x1024, .f32⟩
  | .hbm, ⟨21, _⟩ => ⟨S1024, .f32⟩
  | .hbm, ⟨22, _⟩ => ⟨S1x1024, .f32⟩
  | .hbm, ⟨23, _⟩ => ⟨S1024x7168, .f32⟩
  | .hbm, ⟨24, _⟩ => ⟨S1024x7168, .bf16⟩
  | .hbm, ⟨25, _⟩ => ⟨S128, .f32⟩
  | .hbm, ⟨26, _⟩ => ⟨S1x128, .f32⟩
  | .hbm, ⟨27, _⟩ => ⟨S128, .f32⟩
  | .hbm, ⟨28, _⟩ => ⟨S1x128, .f32⟩
  | .hbm, ⟨29, _⟩ => ⟨S4x1024, .f32⟩
  | .hbm, ⟨30, _⟩ => ⟨S1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S32768x2048, .bf16⟩
  | .hbm, ⟨35, _⟩ => ⟨S4x8x256x8192, .bf16⟩
  | .hbm, ⟨36, _⟩ => ⟨S4x8x8192x256, .bf16⟩
  | .hbm, ⟨37, _⟩ => ⟨S4x8x144x8192, .bf16⟩
  | .hbm, ⟨38, _⟩ => ⟨S32768x2048, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x7168, .bf16⟩
  | .local _ .vmem, ⟨4, _⟩ => ⟨S1x128, .f32⟩
  | .local _ .vmem, ⟨5, _⟩ => ⟨S1x128, .f32⟩
  | .local _ .vmem, ⟨6, _⟩ => ⟨S4x1024, .f32⟩
  | .local _ .vmem, ⟨7, _⟩ => ⟨S1x1024, .f32⟩
  | .local _ .vmem, ⟨8, _⟩ => ⟨S8x128x256, .bf16⟩
  | .local _ .vmem, ⟨9, _⟩ => ⟨S8x1x256, .f32⟩
  | .local _ .vmem, ⟨10, _⟩ => ⟨S1x1024, .f32⟩
  | .local _ .vmem, ⟨11, _⟩ => ⟨S256x2048, .bf16⟩
  | .local _ .vmem, ⟨12, _⟩ => ⟨S256x2048, .bf16⟩
  | .local _ .vmem, ⟨13, _⟩ => ⟨S1x8x256x256, .bf16⟩
  | .local _ .vmem, ⟨14, _⟩ => ⟨S1x8x256x256, .bf16⟩
  | .local _ .vmem, ⟨15, _⟩ => ⟨S1x8x256x256, .bf16⟩
  | .local _ .vmem, ⟨16, _⟩ => ⟨S1x8x256x256, .bf16⟩
  | .local _ .vmem, ⟨17, _⟩ => ⟨S1x8x144x256, .bf16⟩
  | .local _ .vmem, ⟨18, _⟩ => ⟨S1x8x144x256, .bf16⟩
  | .local _ .vmem, ⟨19, _⟩ => ⟨S256x2048, .bf16⟩
  | .local _ .vmem, ⟨20, _⟩ => ⟨S256x2048, .bf16⟩
  | .local _ .vmem, ⟨21, _⟩ => ⟨S32x1024, .f32⟩
  | .local _ .vmem, ⟨22, _⟩ => ⟨S264x1024, .f32⟩
  | .local _ .vmem, ⟨23, _⟩ => ⟨S8x1024, .f32⟩
  | .local _ .vmem, ⟨24, _⟩ => ⟨S256x1024, .bf16⟩
  | .local _ .vmem, ⟨25, _⟩ => ⟨S256x7168, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev main_v22_2 : Ref sig .tc := ⟨.hbm, 36, rfl⟩
abbrev main_v22_3 : Ref sig .tc := ⟨.hbm, 37, rfl⟩
abbrev main_v22_4 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_12 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_13 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x144x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Kernel4Ideal.lean ====
variable {F : FTy → Type} [FloatOps F] [Named F]
def κ : String → Option EReal := fun
  | "scale" => some (((Real.sqrt 128)⁻¹ * (Real.log 2)⁻¹ : ℝ) : EReal)
  | _ => none
-- ==== Reference4Ideal.lean ====
abbrev S4x8192x1024 : Shape := ⟨3, ![4, 8192, 1024]⟩
abbrev S1x1024 : Shape := ⟨2, ![1, 1024]⟩
abbrev S1x1024x7168 : Shape := ⟨3, ![1, 1024, 7168]⟩
abbrev S1x4x1024 : Shape := ⟨3, ![1, 4, 1024]⟩
abbrev S1x8x128x128 : Shape := ⟨4, ![1, 8, 128, 128]⟩
abbrev S1x8x128 : Shape := ⟨3, ![1, 8, 128]⟩
abbrev S1x128 : Shape := ⟨2, ![1, 128]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x7168 : Shape := ⟨2, ![1024, 7168]⟩
abbrev S4x8192x7168 : Shape := ⟨3, ![4, 8192, 7168]⟩
abbrev S4x8192x2048 : Shape := ⟨3, ![4, 8192, 2048]⟩
abbrev S4x8192x8x128 : Shape := ⟨4, ![4, 8192, 8, 128]⟩
abbrev S128 : Shape := ⟨1, ![128]⟩
abbrev S4x8192x8 : Shape := ⟨3, ![4, 8192, 8]⟩
abbrev S4x8192x8x1 : Shape := ⟨4, ![4, 8192, 8, 1]⟩
abbrev S1x1x1x128 : Shape := ⟨4, ![1, 1, 1, 128]⟩
abbrev S4x8x128x8192 : Shape := ⟨4, ![4, 8, 128, 8192]⟩
abbrev S4x8x256x8192 : Shape := ⟨4, ![4, 8, 256, 8192]⟩
abbrev S4x8x8192x128 : Shape := ⟨4, ![4, 8, 8192, 128]⟩
abbrev S32 : Shape := ⟨1, ![32]⟩
abbrev S32x256 : Shape := ⟨2, ![32, 256]⟩
abbrev S8192 : Shape := ⟨1, ![8192]⟩
abbrev S8192x1 : Shape := ⟨2, ![8192, 1]⟩
abbrev S8192x128 : Shape := ⟨2, ![8192, 128]⟩
abbrev S4x8x16x8192 : Shape := ⟨4, ![4, 8, 16, 8192]⟩
abbrev S32768x2048 : Shape := ⟨2, ![32768, 2048]⟩
abbrev S4x8x8192x256 : Shape := ⟨4, ![4, 8, 8192, 256]⟩
abbrev S4x8x144x8192 : Shape := ⟨4, ![4, 8, 144, 8192]⟩

abbrev nBuf : Space → Nat
  | .hbm => 112
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x7168, .f32⟩
  | .hbm, ⟨3, _⟩ => ⟨S1x4x1024, .f32⟩
  | .hbm, ⟨4, _⟩ => ⟨S1x1024, .f32⟩
  | .hbm, ⟨5, _⟩ => ⟨S1x8x128x128, .f32⟩
  | .hbm, ⟨6, _⟩ => ⟨S1x8x128, .f32⟩
  | .hbm, ⟨7, _⟩ => ⟨S1x8x128x128, .f32⟩
  | .hbm, ⟨8, _⟩ => ⟨S1x8x128, .f32⟩
  | .hbm, ⟨9, _⟩ => ⟨S1x1024, .f32⟩
  | .hbm, ⟨10, _⟩ => ⟨S1x128, .f32⟩
  | .hbm, ⟨11, _⟩ => ⟨S1x128, .f32⟩
  | .hbm, ⟨12, _⟩ => ⟨S1024, .f32⟩
  | .hbm, ⟨13, _⟩ => ⟨S4x8192x1024, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S4x8192x1, .f32⟩
  | .hbm, ⟨24, _⟩ => ⟨S4x8192x1024, .f32⟩
  | .hbm, ⟨25, _⟩ => ⟨S4x8192x1024, .f32⟩
  | .hbm, ⟨26, _⟩ => ⟨S1x1x1024, .f32⟩
  | .hbm, ⟨27, _⟩ => ⟨S4x8192x1024, .f32⟩
  | .hbm, ⟨28, _⟩ => ⟨S4x8192x1024, .f32⟩
  | .hbm, ⟨29, _⟩ => ⟨S1024x7168, .f32⟩
  | .hbm, ⟨30, _⟩ => ⟨S4x8192x7168, .f32⟩
  | .hbm, ⟨31, _⟩ => ⟨S_, .f32⟩
  | .hbm, ⟨32, _⟩ => ⟨S4x8192x1024, .f32⟩
  | .hbm, ⟨33, _⟩ => ⟨S4x8192x1024, .f32⟩
  | .hbm, ⟨34, _⟩ => ⟨S4x8192x2048, .f32⟩
  | .hbm, ⟨35, _⟩ => ⟨S4x8192x1024, .f32⟩
  | .hbm, ⟨36, _⟩ => ⟨S4x8192x8x128, .f32⟩
  | .hbm, ⟨37, _⟩ => ⟨S128, .f32⟩
  | .hbm, ⟨38, _⟩ => ⟨S4x8192x8x128, .f32⟩
  | .hbm, ⟨39, _⟩ => ⟨S_, .f32⟩
  | .hbm, ⟨40, _⟩ => ⟨S4x8192x8, .f32⟩
  | .hbm, ⟨41, _⟩ => ⟨S4x8192x8x1, .f32⟩
  | .hbm, ⟨42, _⟩ => ⟨S_, .f32⟩
  | .hbm, ⟨43, _⟩ => ⟨S4x8192x8x1, .f32⟩
  | .hbm, ⟨44, _⟩ => ⟨S4x8192x8x1, .f32⟩
  | .hbm, ⟨45, _⟩ => ⟨S_, .f32⟩
  | .hbm, ⟨46, _⟩ => ⟨S4x8192x8x1, .f32⟩
  | .hbm, ⟨47, _⟩ => ⟨S4x8192x8x1, .f32⟩
  | .hbm, ⟨48, _⟩ => ⟨S4x8192x8x1, .f32⟩
  | .hbm, ⟨49, _⟩ => ⟨S4x8192x8x128, .f32⟩
  | .hbm, ⟨50, _⟩ => ⟨S4x8192x8x128, .f32⟩
  | .hbm, ⟨51, _⟩ => ⟨S1x1x1x128, .f32⟩
  | .hbm, ⟨52, _⟩ => ⟨S4x8192x8x128, .f32⟩
  | .hbm, ⟨53, _⟩ => ⟨S4x8192x8x128, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S4x8192x8x128, .f32⟩
  | .hbm, ⟨60, _⟩ => ⟨S4x8192x8x128, .f32⟩
  | .hbm, ⟨61, _⟩ => ⟨S4x8x128x8192, .f32⟩
  | .hbm, ⟨62, _⟩ => ⟨S_, .f32⟩
  | .hbm, ⟨63, _⟩ => ⟨S4x8x128x8192, .f32⟩
  | .hbm, ⟨64, _⟩ => ⟨S4x8x256x8192, .f32⟩
  | .hbm, ⟨65, _⟩ => ⟨S4x8192x1024, .f32⟩
  | .hbm, ⟨66, _⟩ => ⟨S4x8192x8x128, .f32⟩
  | .hbm, ⟨67, _⟩ => ⟨S128, .f32⟩
  | .hbm, ⟨68, _⟩ => ⟨S4x8192x8x128, .f32⟩
  | .hbm, ⟨69, _⟩ => ⟨S_, .f32⟩
  | .hbm, ⟨70, _⟩ => ⟨S4x8192x8, .f32⟩
  | .hbm, ⟨71, _⟩ => ⟨S4x8192x8x1, .f32⟩
  | .hbm, ⟨72, _⟩ => ⟨S_, .f32⟩
  | .hbm, ⟨73, _⟩ => ⟨S4x8192x8x1, .f32⟩
  | .hbm, ⟨74, _⟩ => ⟨S4x8192x8x1, .f32⟩
  | .hbm, ⟨75, _⟩ => ⟨S_, .f32⟩
  | .hbm, ⟨76, _⟩ => ⟨S4x8192x8x1, .f32⟩
  | .hbm, ⟨77, _⟩ => ⟨S4x8192x8x1, .f32⟩
  | .hbm, ⟨78, _⟩ => ⟨S4x8192x8x1, .f32⟩
  | .hbm, ⟨79, _⟩ => ⟨S4x8192x8x128, .f32⟩
  | .hbm, ⟨80, _⟩ => ⟨S4x8192x8x128, .f32⟩
  | .hbm, ⟨81, _⟩ => ⟨S1x1x1x128, .f32⟩
  | .hbm, ⟨82, _⟩ => ⟨S4x8192x8x128, .f32⟩
  | .hbm, ⟨83, _⟩ => ⟨S4x8192x8x128, .f32⟩
  | .hbm, ⟨84, _⟩ => ⟨S4x8x8192x128, .f32⟩
  | .hbm, ⟨85, _⟩ => ⟨S4x8192x1024, .f32⟩
  | .hbm, ⟨86, _⟩ => ⟨S4x8192x8x128, .f32⟩
  | .hbm, ⟨87, _⟩ => ⟨S4x8x128x8192, .f32⟩
  | .hbm, ⟨88, _⟩ => ⟨S32, .i32⟩
  | .hbm, ⟨89, _⟩ => ⟨S32x256, .i32⟩
  | .hbm, ⟨90, _⟩ => ⟨S8192, .i32⟩
  | .hbm, ⟨91, _⟩ => ⟨S8192x1, .i32⟩
  | .hbm, ⟨92, _⟩ => ⟨S128, .i32⟩
  | .hbm, ⟨93, _⟩ => ⟨S1x128, .i32⟩
  | .hbm, ⟨94, _⟩ => ⟨S8192x128, .i32⟩
  | .hbm, ⟨95, _⟩ => ⟨S8192x128, .i32⟩
  | .hbm, ⟨96, _⟩ => ⟨S8192x128, .i1⟩
  | .hbm, ⟨97, _⟩ => ⟨S8192x128, .i32⟩
  | .hbm, ⟨98, _⟩ => ⟨S8192x128, .f32⟩
  | .hbm, ⟨99, _⟩ => ⟨S4x8x8192x128, .f32⟩
  | .hbm, ⟨100, _⟩ => ⟨S_, .f32⟩
  | .hbm, ⟨101, _⟩ => ⟨S4x8x16x8192, .f32⟩
  | .hbm, ⟨102, _⟩ => ⟨S32768x2048, .f32⟩
  | .hbm, ⟨103, _⟩ => ⟨S32768x2048, .bf16⟩
  | .hbm, ⟨104, _⟩ => ⟨S4x8x256x8192, .bf16⟩
  | .hbm, ⟨105, _⟩ => ⟨S4x8x8192x256, .f32⟩
  | .hbm, ⟨106, _⟩ => ⟨S4x8x8192x256, .bf16⟩
  | .hbm, ⟨107, _⟩ => ⟨S4x8x144x8192, .f32⟩
  | .hbm, ⟨108, _⟩ => ⟨S4x8x144x8192, .bf16⟩
  | .hbm, ⟨109, _⟩ => ⟨S4x8192x2048, .f32⟩
  | .hbm, ⟨110, _⟩ => ⟨S32768x2048, .f32⟩
  | .hbm, ⟨111, _⟩ => ⟨S32768x2048, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_cst_11 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_12 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩

abbrev nD : Nat := 1
abbrev τ : Topo := Topo.v7x

variable {F : FTy → Type} [FloatOps F]
-- ==== Proof.MobaIdeal.Blocks.lean ====
/- The attention kernel's body as a sequence of a few blocks: the scores of one key chunk, the
   accumulation of one chunk into the running maximum and the running sums, the same under the causal
   mask, and the division that ends a query tile. -/
module

public import proofs.«01_k».proof.Proof.Gen.KernelIdeal

@[expose] public section

noncomputable section

namespace Cert.KernelIdeal.Moba

open Idealize.ShloMosaic Idealize.SL.Sem Cert.KernelIdeal Cert.KernelIdeal.Gen

variable {F : FTy → Type} [FloatOps F] [Named F]

/-! ## The values -/

/-- The scores of one chunk of keys against the query tile. -/
def scV (kc : Vec F S1x1x512x256 .bf16) (qc : Vec F S1x1x256x512 .bf16) : FVec F S512x512 .f32 :=
  matmul dot_S512x256_S256x512_S512x512_1_0_0_1_n_n none (shapeCast S512x256 kc shapeCasts_S1x1x512x256_S512x256)
    (shapeCast S256x512 qc shapeCasts_S1x1x256x512_S256x512) (constant S512x512 .f32 0x00000000#32)

/-- Each query's largest score in a chunk. -/
def mxV (s : FVec F S512x512 .f32) : FVec F S1x512 .f32 :=
  shapeCast S1x512 (multiReduction .maximumf [0] S512 s 0xFF800000#32 reduces_S512x512_S512 (.inl rfl) rfl) shapeCasts_S512_S1x512

/-- The running maximum after a chunk. -/
def mnV (mv x : Vec F S1x1x512 .f32) : FVec F S1x512 .f32 :=
  maximumf (shapeCast S1x512 mv shapeCasts_S1x1x512_S1x512) (shapeCast S1x512 x shapeCasts_S1x1x512_S1x512)

/-- The running sums after a chunk: the old ones rescaled, plus the chunk's weighted values. -/
def accV (s : FVec F S512x512 .f32) (mv x : Vec F S1x1x512 .f32) (ac : Vec F S1x144x512 .f32) (vc : Vec F S1x1x144x512 .bf16) :
    FVec F S144x512 .f32 :=
  addf
    (mulf (broadcastTo S144x512 (exp2 (subf (shapeCast S1x512 mv shapeCasts_S1x1x512_S1x512) (mnV mv x))) broadcasts_S1x512_S144x512)
      (shapeCast S144x512 ac shapeCasts_S1x144x512_S144x512))
    (matmul dot_S144x512_S512x512_S144x512_1_0_0_1_n_n none (shapeCast S144x512 vc shapeCasts_S1x1x144x512_S144x512)
      (truncf .bf16 (exp2 (subf s (broadcastTo S512x512 (mnV mv x) broadcasts_S1x512_S512x512))) bitsLt_bf16_f32)
      (constant S144x512 .f32 0x00000000#32))

/-- A chunk's scores with the keys after the query masked. -/
def causalV (s : FVec F S512x512 .f32) : FVec F S512x512 .f32 :=
  select (cmpi .sle (iota .tc S512x512 32 [0] iota_S512x512_d0_w32) (iota .tc S512x512 32 [1] iota_S512x512_d1_w32)) s
    (broadcast S512x512 (Named.named κ "mask" 0xF149F2CA#32))

/-- The tile's result: the weighted values over the weights' sum, turned to rows of queries. -/
def outV (ac : Vec F S1x144x512 .f32) : FVec F S512x128 .bf16 :=
  truncf .bf16
    (transpose S512x128 [1, 0]
      (divf (extractStridedSlice S128x512 ![0, 0] (shapeCast S144x512 ac shapeCasts_S1x144x512_S144x512) slices_S144x512_o0_0_S128x512)
        (broadcastTo S128x512
          (extractStridedSlice S1x512 ![128, 0] (shapeCast S144x512 ac shapeCasts_S1x144x512_S144x512) slices_S144x512_o128_0_S1x512)
          broadcasts_S1x512_S128x512))
      transposes_S128x512_p1_0_S512x128)
    bitsLt_bf16_f32

/-! ## The blocks -/

/-- One head's scores of a chunk, stored with each query's largest. -/
def scoresP (kr : Memref sig .tc .vmem S1x2x8192x256 .bf16) (ok : Fin 4 → ℕ) (hk : ∀ a, ok a + S1x1x512x256.size a ≤ S1x2x8192x256.size a)
    (qr : Memref sig .tc .vmem S1x2x256x512 .bf16) (oq : Fin 4 → ℕ) (hq : ∀ a, oq a + S1x1x256x512.size a ≤ S1x2x256x512.size a)
    (sr : Memref sig .tc .vmem S2x512x512 .f32) (os : Fin 3 → ℕ) (hs : ∀ a, os a + S1x512x512.size a ≤ S2x512x512.size a)
    (xr : Memref sig .tc .vmem S2x1x512 .f32) (ox : Fin 3 → ℕ) (hx : ∀ a, ox a + S1x1x512.size a ≤ S2x1x512.size a) :
    Prog (TpuEff nD τ sig (Elt F) Λ₀ .tc) PUnit := do
  let kc : Vec F S1x1x512x256 .bf16 ← Prog.lift (.load kr (Rect.unit (s := S1x2x8192x256) ok S1x1x512x256.size hk).toLoadRect (View.loadsAt_vmem h_S1x1x512x256))
  let qc : Vec F S1x1x256x512 .bf16 ← Prog.lift (.load qr (Rect.unit (s := S1x2x256x512) oq S1x1x256x512.size hq).toLoadRect (View.loadsAt_vmem h_S1x1x256x512))
  let _ : Vec F S1x512x512 .f32 ← Prog.lift (.load sr (Rect.unit (s := S2x512x512) os S1x512x512.size hs).toLoadRect (View.loadsAt_vmem h_S1x512x512))
  Prog.lift (.store sr (Rect.unit (s := S2x512x512) os S1x512x512.size hs) (shapeCast S1x512x512 (scV kc qc) shapeCasts_S512x512_S1x512x512) Finset.univ (View.stores_vmem_bits_univ h_S1x512x512 rfl) (.inl rfl))
  let _ : Vec F S1x1x512 .f32 ← Prog.lift (.load xr (Rect.unit (s := S2x1x512) ox S1x1x512.size hx).toLoadRect (View.loadsAt_vmem h_S1x1x512))
  Prog.lift (.store xr (Rect.unit (s := S2x1x512) ox S1x1x512.size hx) (shapeCast S1x1x512 (mxV (scV kc qc)) shapeCasts_S1x512_S1x1x512) Finset.univ (View.stores_vmem_bits_univ h_S1x1x512 rfl) (.inl rfl))

/-- One head's accumulation of a chunk whose scores are stored, through a function of those scores
    (the identity, or the causal mask). -/
def accP (g : FVec F S512x512 .f32 → FVec F S512x512 .f32)
    (sr : Memref sig .tc .vmem S2x512x512 .f32) (os : Fin 3 → ℕ) (hs : ∀ a, os a + S1x512x512.size a ≤ S2x512x512.size a)
    (xr mr : Memref sig .tc .vmem S2x1x512 .f32) (ox : Fin 3 → ℕ) (hx : ∀ a, ox a + S1x1x512.size a ≤ S2x1x512.size a)
    (vr : Memref sig .tc .vmem S1x2x144x8192 .bf16) (ov : Fin 4 → ℕ) (hv : ∀ a, ov a + S1x1x144x512.size a ≤ S1x2x144x8192.size a)
    (ar : Memref sig .tc .vmem S2x144x512 .f32) (oa : Fin 3 → ℕ) (ha : ∀ a, oa a + S1x144x512.size a ≤ S2x144x512.size a) :
    Prog (TpuEff nD τ sig (Elt F) Λ₀ .tc) PUnit := do
  let s : Vec F S1x512x512 .f32 ← Prog.lift (.load sr (Rect.unit (s := S2x512x512) os S1x512x512.size hs).toLoadRect (View.loadsAt_vmem h_S1x512x512))
  let mv : Vec F S1x1x512 .f32 ← Prog.lift (.load mr (Rect.unit (s := S2x1x512) ox S1x1x512.size hx).toLoadRect (View.loadsAt_vmem h_S1x1x512))
  let x : Vec F S1x1x512 .f32 ← Prog.lift (.load xr (Rect.unit (s := S2x1x512) ox S1x1x512.size hx).toLoadRect (View.loadsAt_vmem h_S1x1x512))
  let ac : Vec F S1x144x512 .f32 ← Prog.lift (.load ar (Rect.unit (s := S2x144x512) oa S1x144x512.size ha).toLoadRect (View.loadsAt_vmem h_S1x144x512))
  let vc : Vec F S1x1x144x512 .bf16 ← Prog.lift (.load vr (Rect.unit (s := S1x2x144x8192) ov S1x1x144x512.size hv).toLoadRect (View.loadsAt_vmem h_S1x1x144x512))
  let _ : Vec F S1x144x512 .f32 ← Prog.lift (.load ar (Rect.unit (s := S2x144x512) oa S1x144x512.size ha).toLoadRect (View.loadsAt_vmem h_S1x144x512))
  Prog.lift (.store ar (Rect.unit (s := S2x144x512) oa S1x144x512.size ha) (shapeCast S1x144x512 (accV (g (shapeCast S512x512 s shapeCasts_S1x512x512_S512x512)) mv x ac vc) shapeCasts_S144x512_S1x144x512) Finset.univ (View.stores_vmem_bits_univ h_S1x144x512 rfl) (.inl rfl))
  let _ : Vec F S1x1x512 .f32 ← Prog.lift (.load mr (Rect.unit (s := S2x1x512) ox S1x1x512.size hx).toLoadRect (View.loadsAt_vmem h_S1x1x512))
  Prog.lift (.store mr (Rect.unit (s := S2x1x512) ox S1x1x512.size hx) (shapeCast S1x1x512 (mnV mv x) shapeCasts_S1x512_S1x1x512) Finset.univ (View.stores_vmem_bits_univ h_S1x1x512 rfl) (.inl rfl))

/-- Both heads' scores of a chunk. -/
def scores2P (kr : Memref sig .tc .vmem S1x2x8192x256 .bf16) (ok ok' : Fin 4 → ℕ) (hk : ∀ a, ok a + S1x1x512x256.size a ≤ S1x2x8192x256.size a)
    (hk' : ∀ a, ok' a + S1x1x512x256.size a ≤ S1x2x8192x256.size a)
    (qr : Memref sig .tc .vmem S1x2x256x512 .bf16) (sr : Memref sig .tc .vmem S2x512x512 .f32) (xr : Memref sig .tc .vmem S2x1x512 .f32) :
    Prog (TpuEff nD τ sig (Elt F) Λ₀ .tc) PUnit := do
  scoresP kr ok hk qr ![0, 0, 0, 0] inb_S1x2x256x512_S1x1x256x512_0_0_0_0 sr ![0, 0, 0] inb_S2x512x512_S1x512x512_0_0_0 xr ![0, 0, 0] inb_S2x1x512_S1x1x512_0_0_0
  scoresP kr ok' hk' qr ![0, 1, 0, 0] inb_S1x2x256x512_S1x1x256x512_0_1_0_0 sr ![1, 0, 0] inb_S2x512x512_S1x512x512_1_0_0 xr ![1, 0, 0] inb_S2x1x512_S1x1x512_1_0_0

/-- Both heads' accumulation of a chunk. -/
def acc2P (g : FVec F S512x512 .f32 → FVec F S512x512 .f32) (sr : Memref sig .tc .vmem S2x512x512 .f32) (xr mr : Memref sig .tc .vmem S2x1x512 .f32)
    (vr : Memref sig .tc .vmem S1x2x144x8192 .bf16) (ov ov' : Fin 4 → ℕ) (hv : ∀ a, ov a + S1x1x144x512.size a ≤ S1x2x144x8192.size a)
    (hv' : ∀ a, ov' a + S1x1x144x512.size a ≤ S1x2x144x8192.size a) (ar : Memref sig .tc .vmem S2x144x512 .f32) :
    Prog (TpuEff nD τ sig (Elt F) Λ₀ .tc) PUnit := do
  accP g sr ![0, 0, 0] inb_S2x512x512_S1x512x512_0_0_0 xr mr ![0, 0, 0] inb_S2x1x512_S1x1x512_0_0_0 vr ov hv ar ![0, 0, 0] inb_S2x144x512_S1x144x512_0_0_0
  accP g sr ![1, 0, 0] inb_S2x512x512_S1x512x512_1_0_0 xr mr ![1, 0, 0] inb_S2x1x512_S1x1x512_1_0_0 vr ov' hv' ar ![1, 0, 0] inb_S2x144x512_S1x144x512_1_0_0

/-- One head's result stored in its columns of the output tile. -/
def outP (ar : Memref sig .tc .vmem S2x144x512 .f32) (oa : Fin 3 → ℕ) (ha : ∀ a, oa a + S1x144x512.size a ≤ S2x144x512.size a)
    (yr : Memref sig .tc .vmem S1x512x256 .bf16) (hyr : yr.IsWhole) (oy : Fin 3 → ℕ) (hy : ∀ a, oy a + S1x512x128.size a ≤ S1x512x256.size a)
    (py : (Rect.unit (s := S1x512x256) oy S1x512x128.size hy).PackedRows (EltTy.packing .bf16)) :
    Prog (TpuEff nD τ sig (Elt F) Λ₀ .tc) PUnit := do
  let ac : Vec F S1x144x512 .f32 ← Prog.lift (.load ar (Rect.unit (s := S2x144x512) oa S1x144x512.size ha).toLoadRect (View.loadsAt_vmem h_S1x144x512))
  let _ : Vec F S1x512x128 .bf16 ← Prog.lift (.load yr (Rect.unit (s := S1x512x256) oy S1x512x128.size hy).toLoadRect (View.loadsAt_vmem h_S1x512x128))
  Prog.lift (.store yr (Rect.unit (s := S1x512x256) oy S1x512x128.size hy) (shapeCast S1x512x128 (outV ac) shapeCasts_S512x128_S1x512x128) Finset.univ (View.stores_vmem h_S1x512x128 (hyr.storeExact_slice rfl _ py) (fun _ => rfl)) (.inl rfl))

end Cert.KernelIdeal.Moba
-- ==== Proof.MobaIdeal.Body.lean ====
/- The attention kernel's body as composed of its blocks: what one trip of its loop over whole groups
   of eight key chunks does, and what each of the eight ends of a query tile does. -/
module

public import proofs.«01_k».proof.Proof.MobaIdeal.Blocks

@[expose] public section

set_option maxRecDepth 16384

noncomputable section

namespace Cert.KernelIdeal.Moba

open Idealize.ShloMosaic Idealize.SL.Sem Cert.KernelIdeal Cert.KernelIdeal.Gen

variable {F : FTy → Type} [FloatOps F] [Named F]

/-- The eleven buffers the body works on. -/
structure Refs where
  /-- The query tile. -/
  a3 : Memref sig .tc .vmem S1x2x256x512 .bf16
  /-- It is a whole buffer. -/
  h3 : a3.IsWhole
  /-- The next query tile. -/
  a4 : Memref sig .tc .vmem S1x2x256x512 .bf16
  /-- It is a whole buffer. -/
  h4 : a4.IsWhole
  /-- The keys. -/
  a5 : Memref sig .tc .vmem S1x2x8192x256 .bf16
  /-- It is a whole buffer. -/
  h5 : a5.IsWhole
  /-- The values. -/
  a6 : Memref sig .tc .vmem S1x2x144x8192 .bf16
  /-- It is a whole buffer. -/
  h6 : a6.IsWhole
  /-- The output tile. -/
  a7 : Memref sig .tc .vmem S1x512x256 .bf16
  /-- It is a whole buffer. -/
  h7 : a7.IsWhole
  /-- The even chunks' scores. -/
  a8 : Memref sig .tc .vmem S2x512x512 .f32
  /-- It is a whole buffer. -/
  h8 : a8.IsWhole
  /-- The odd chunks' scores. -/
  a9 : Memref sig .tc .vmem S2x512x512 .f32
  /-- It is a whole buffer. -/
  h9 : a9.IsWhole
  /-- The even chunks' largest scores. -/
  a10 : Memref sig .tc .vmem S2x1x512 .f32
  /-- It is a whole buffer. -/
  h10 : a10.IsWhole
  /-- The odd chunks' largest scores. -/
  a11 : Memref sig .tc .vmem S2x1x512 .f32
  /-- It is a whole buffer. -/
  h11 : a11.IsWhole
  /-- The running maxima. -/
  a12 : Memref sig .tc .vmem S2x1x512 .f32
  /-- It is a whole buffer. -/
  h12 : a12.IsWhole
  /-- The running sums. -/
  a13 : Memref sig .tc .vmem S2x144x512 .f32
  /-- It is a whole buffer. -/
  h13 : a13.IsWhole

/-- The running maxima and sums set to their starting values. -/
def initP (A : Refs) : Prog (TpuEff nD τ sig (Elt F) Λ₀ .tc) PUnit := do
  let _ : Vec F S2x1x512 .f32 ← Prog.lift (.load A.a12 (Rect.unit (s := S2x1x512) ![0, 0, 0] S2x1x512.size inb_S2x1x512_S2x1x512_0_0_0).toLoadRect (View.loadsAt_vmem h_S2x1x512))
  Prog.lift (.store A.a12 (Rect.unit (s := S2x1x512) ![0, 0, 0] S2x1x512.size inb_S2x1x512_S2x1x512_0_0_0) (shapeCast S2x1x512 (broadcast S2x1x512 (Named.named κ "mask" 0xF149F2CA#32)) shapeCasts_S2x1x512_S2x1x512) Finset.univ (View.stores_vmem_bits_univ h_S2x1x512 rfl) (.inl rfl))
  let _ : Vec F S2x144x512 .f32 ← Prog.lift (.load A.a13 (Rect.unit (s := S2x144x512) ![0, 0, 0] S2x144x512.size inb_S2x144x512_S2x144x512_0_0_0).toLoadRect (View.loadsAt_vmem h_S2x144x512))
  Prog.lift (.store A.a13 (Rect.unit (s := S2x144x512) ![0, 0, 0] S2x144x512.size inb_S2x144x512_S2x144x512_0_0_0) (shapeCast S2x144x512 (broadcast S2x144x512 (Scalar.ofBits .f32 0x00000000#32)) shapeCasts_S2x144x512_S2x144x512) Finset.univ (View.stores_vmem_bits_univ h_S2x144x512 rfl) (.inl rfl))

/-- One trip of the loop: eight chunks, the scores of the next one and the accumulation of the present one. -/
def tripP (i : grid0.Coords) (A : Refs) (t : Fin (k0_t1_loop i).trips) : Prog (TpuEff nD τ sig (Elt F) Λ₀ .tc) PUnit := do
  scores2P A.a5 (k0_off1 i t 0#32) (k0_off2 i t 0#32) (k0_off1_inb i t 0) (k0_off2_inb i t 0) A.a3 A.a9 A.a11
  acc2P id A.a8 A.a10 A.a12 A.a6 (k0_off3 i t 0#32) (k0_off4 i t 0#32) (k0_off3_inb i t 0) (k0_off4_inb i t 0) A.a13
  scores2P A.a5 (k0_off1 i t 1#32) (k0_off2 i t 1#32) (k0_off1_inb i t 1) (k0_off2_inb i t 1) A.a3 A.a8 A.a10
  acc2P id A.a9 A.a11 A.a12 A.a6 (k0_off3 i t 1#32) (k0_off4 i t 1#32) (k0_off3_inb i t 1) (k0_off4_inb i t 1) A.a13
  scores2P A.a5 (k0_off1 i t 2#32) (k0_off2 i t 2#32) (k0_off1_inb i t 2) (k0_off2_inb i t 2) A.a3 A.a9 A.a11
  acc2P id A.a8 A.a10 A.a12 A.a6 (k0_off3 i t 2#32) (k0_off4 i t 2#32) (k0_off3_inb i t 2) (k0_off4_inb i t 2) A.a13
  scores2P A.a5 (k0_off1 i t 3#32) (k0_off2 i t 3#32) (k0_off1_inb i t 3) (k0_off2_inb i t 3) A.a3 A.a8 A.a10
  acc2P id A.a9 A.a11 A.a12 A.a6 (k0_off3 i t 3#32) (k0_off4 i t 3#32) (k0_off3_inb i t 3) (k0_off4_inb i t 3) A.a13
  scores2P A.a5 (k0_off1 i t 4#32) (k0_off2 i t 4#32) (k0_off1_inb i t 4) (k0_off2_inb i t 4) A.a3 A.a9 A.a11
  acc2P id A.a8 A.a10 A.a12 A.a6 (k0_off3 i t 4#32) (k0_off4 i t 4#32) (k0_off3_inb i t 4) (k0_off4_inb i t 4) A.a13
  scores2P A.a5 (k0_off1 i t 5#32) (k0_off2 i t 5#32) (k0_off1_inb i t 5) (k0_off2_inb i t 5) A.a3 A.a8 A.a10
  acc2P id A.a9 A.a11 A.a12 A.a6 (k0_off3 i t 5#32) (k0_off4 i t 5#32) (k0_off3_inb i t 5) (k0_off4_inb i t 5) A.a13
  scores2P A.a5 (k0_off1 i t 6#32) (k0_off2 i t 6#32) (k0_off1_inb i t 6) (k0_off2_inb i t 6) A.a3 A.a9 A.a11
  acc2P id A.a8 A.a10 A.a12 A.a6 (k0_off3 i t 6#32) (k0_off4 i t 6#32) (k0_off3_inb i t 6) (k0_off4_inb i t 6) A.a13
  scores2P A.a5 (k0_off1 i t 7#32) (k0_off2 i t 7#32) (k0_off1_inb i t 7) (k0_off2_inb i t 7) A.a3 A.a8 A.a10
  acc2P id A.a9 A.a11 A.a12 A.a6 (k0_off3 i t 7#32) (k0_off4 i t 7#32) (k0_off3_inb i t 7) (k0_off4_inb i t 7) A.a13

/-- A trip of the loop over what the whole groups leave of themselves (it never runs): eight chunks, the scores of the next one and the accumulation of the present one. -/
def restP (i : grid0.Coords) (A : Refs) (t : Fin (k0_t2_loop i).trips) : Prog (TpuEff nD τ sig (Elt F) Λ₀ .tc) PUnit := do
  scores2P A.a5 (k0_off5 i t 0#32) (k0_off6 i t 0#32) (k0_off5_inb i t 0) (k0_off6_inb i t 0) A.a3 A.a9 A.a11
  acc2P id A.a8 A.a10 A.a12 A.a6 (k0_off7 i t 0#32) (k0_off8 i t 0#32) (k0_off7_inb i t 0) (k0_off8_inb i t 0) A.a13
  scores2P A.a5 (k0_off5 i t 1#32) (k0_off6 i t 1#32) (k0_off5_inb i t 1) (k0_off6_inb i t 1) A.a3 A.a8 A.a10
  acc2P id A.a9 A.a11 A.a12 A.a6 (k0_off7 i t 1#32) (k0_off8 i t 1#32) (k0_off7_inb i t 1) (k0_off8_inb i t 1) A.a13
  scores2P A.a5 (k0_off5 i t 2#32) (k0_off6 i t 2#32) (k0_off5_inb i t 2) (k0_off6_inb i t 2) A.a3 A.a9 A.a11
  acc2P id A.a8 A.a10 A.a12 A.a6 (k0_off7 i t 2#32) (k0_off8 i t 2#32) (k0_off7_inb i t 2) (k0_off8_inb i t 2) A.a13
  scores2P A.a5 (k0_off5 i t 3#32) (k0_off6 i t 3#32) (k0_off5_inb i t 3) (k0_off6_inb i t 3) A.a3 A.a8 A.a10
  acc2P id A.a9 A.a11 A.a12 A.a6 (k0_off7 i t 3#32) (k0_off8 i t 3#32) (k0_off7_inb i t 3) (k0_off8_inb i t 3) A.a13
  scores2P A.a5 (k0_off5 i t 4#32) (k0_off6 i t 4#32) (k0_off5_inb i t 4) (k0_off6_inb i t 4) A.a3 A.a9 A.a11
  acc2P id A.a8 A.a10 A.a12 A.a6 (k0_off7 i t 4#32) (k0_off8 i t 4#32) (k0_off7_inb i t 4) (k0_off8_inb i t 4) A.a13
  scores2P A.a5 (k0_off5 i t 5#32) (k0_off6 i t 5#32) (k0_off5_inb i t 5) (k0_off6_inb i t 5) A.a3 A.a8 A.a10
  acc2P id A.a9 A.a11 A.a12 A.a6 (k0_off7 i t 5#32) (k0_off8 i t 5#32) (k0_off7_inb i t 5) (k0_off8_inb i t 5) A.a13
  scores2P A.a5 (k0_off5 i t 6#32) (k0_off6 i t 6#32) (k0_off5_inb i t 6) (k0_off6_inb i t 6) A.a3 A.a9 A.a11
  acc2P id A.a8 A.a10 A.a12 A.a6 (k0_off7 i t 6#32) (k0_off8 i t 6#32) (k0_off7_inb i t 6) (k0_off8_inb i t 6) A.a13
  scores2P A.a5 (k0_off5 i t 7#32) (k0_off6 i t 7#32) (k0_off5_inb i t 7) (k0_off6_inb i t 7) A.a3 A.a8 A.a10
  acc2P id A.a9 A.a11 A.a12 A.a6 (k0_off7 i t 7#32) (k0_off8 i t 7#32) (k0_off7_inb i t 7) (k0_off8_inb i t 7) A.a13

/-- The end of a query tile: the next tile's scores of the first chunk, and both heads' results. -/
def endP (A : Refs) : Prog (TpuEff nD τ sig (Elt F) Λ₀ .tc) PUnit := do
  scores2P A.a5 ![0, 0, 0, 0] ![0, 1, 0, 0] inb_S1x2x8192x256_S1x1x512x256_0_0_0_0 inb_S1x2x8192x256_S1x1x512x256_0_1_0_0 A.a4 A.a8 A.a10
  outP A.a13 ![0, 0, 0] inb_S2x144x512_S1x144x512_0_0_0 A.a7 A.h7 ![0, 0, 0] inb_S1x512x256_S1x512x128_0_0_0 packedbf16_S1x512x256_S1x512x128_0_0_0
  outP A.a13 ![1, 0, 0] inb_S2x144x512_S1x144x512_1_0_0 A.a7 A.h7 ![0, 0, 128] inb_S1x512x256_S1x512x128_0_0_128 packedbf16_S1x512x256_S1x512x128_0_0_128

/-- A query tile with 0 whole chunks left before its own. -/
def caseP0 (i : grid0.Coords) (A : Refs) (hc : k0_cond2 i = 1#1) : Prog (TpuEff nD τ sig (Elt F) Λ₀ .tc) PUnit := do
  acc2P causalV A.a8 A.a10 A.a12 A.a6 (k0_off9 i) (k0_off10 i) (k0_off9_inb i hc) (k0_off10_inb i hc) A.a13
  endP A

/-- A query tile with 1 whole chunks left before its own. -/
def caseP1 (i : grid0.Coords) (A : Refs) (hc : k0_cond3 i = 1#1) : Prog (TpuEff nD τ sig (Elt F) Λ₀ .tc) PUnit := do
  scores2P A.a5 (k0_off11 i) (k0_off12 i) (k0_off11_inb i hc) (k0_off12_inb i hc) A.a3 A.a9 A.a11
  acc2P id A.a8 A.a10 A.a12 A.a6 (k0_off13 i) (k0_off14 i) (k0_off13_inb i hc) (k0_off14_inb i hc) A.a13
  acc2P causalV A.a9 A.a11 A.a12 A.a6 (k0_off15 i) (k0_off16 i) (k0_off15_inb i hc) (k0_off16_inb i hc) A.a13
  endP A

/-- A query tile with 2 whole chunks left before its own. -/
def caseP2 (i : grid0.Coords) (A : Refs) (hc : k0_cond4 i = 1#1) : Prog (TpuEff nD τ sig (Elt F) Λ₀ .tc) PUnit := do
  scores2P A.a5 (k0_off17 i 0#32) (k0_off18 i 0#32) (k0_off17_inb i hc 0) (k0_off18_inb i hc 0) A.a3 A.a9 A.a11
  acc2P id A.a8 A.a10 A.a12 A.a6 (k0_off19 i 0#32) (k0_off20 i 0#32) (k0_off19_inb i hc 0) (k0_off20_inb i hc 0) A.a13
  scores2P A.a5 (k0_off17 i 1#32) (k0_off18 i 1#32) (k0_off17_inb i hc 1) (k0_off18_inb i hc 1) A.a3 A.a8 A.a10
  acc2P id A.a9 A.a11 A.a12 A.a6 (k0_off19 i 1#32) (k0_off20 i 1#32) (k0_off19_inb i hc 1) (k0_off20_inb i hc 1) A.a13
  acc2P causalV A.a8 A.a10 A.a12 A.a6 (k0_off21 i) (k0_off22 i) (k0_off21_inb i hc) (k0_off22_inb i hc) A.a13
  endP A

/-- A query tile with 3 whole chunks left before its own. -/
def caseP3 (i : grid0.Coords) (A : Refs) (hc : k0_cond5 i = 1#1) : Prog (TpuEff nD τ sig (Elt F) Λ₀ .tc) PUnit := do
  scores2P A.a5 (k0_off23 i 0#32) (k0_off24 i 0#32) (k0_off23_inb i hc 0) (k0_off24_inb i hc 0) A.a3 A.a9 A.a11
  acc2P id A.a8 A.a10 A.a12 A.a6 (k0_off25 i 0#32) (k0_off26 i 0#32) (k0_off25_inb i hc 0) (k0_off26_inb i hc 0) A.a13
  scores2P A.a5 (k0_off23 i 1#32) (k0_off24 i 1#32) (k0_off23_inb i hc 1) (k0_off24_inb i hc 1) A.a3 A.a8 A.a10
  acc2P id A.a9 A.a11 A.a12 A.a6 (k0_off25 i 1#32) (k0_off26 i 1#32) (k0_off25_inb i hc 1) (k0_off26_inb i hc 1) A.a13
  scores2P A.a5 (k0_off23 i 2#32) (k0_off24 i 2#32) (k0_off23_inb i hc 2) (k0_off24_inb i hc 2) A.a3 A.a9 A.a11
  acc2P id A.a8 A.a10 A.a12 A.a6 (k0_off25 i 2#32) (k0_off26 i 2#32) (k0_off25_inb i hc 2) (k0_off26_inb i hc 2) A.a13
  acc2P causalV A.a9 A.a11 A.a12 A.a6 (k0_off27 i) (k0_off28 i) (k0_off27_inb i hc) (k0_off28_inb i hc) A.a13
  endP A

/-- A query tile with 4 whole chunks left before its own. -/
def caseP4 (i : grid0.Coords) (A : Refs) (hc : k0_cond6 i = 1#1) : Prog (TpuEff nD τ sig (Elt F) Λ₀ .tc) PUnit := do
  scores2P A.a5 (k0_off29 i 0#32) (k0_off30 i 0#32) (k0_off29_inb i hc 0) (k0_off30_inb i hc 0) A.a3 A.a9 A.a11
  acc2P id A.a8 A.a10 A.a12 A.a6 (k0_off31 i 0#32) (k0_off32 i 0#32) (k0_off31_inb i hc 0) (k0_off32_inb i hc 0) A.a13
  scores2P A.a5 (k0_off29 i 1#32) (k0_off30 i 1#32) (k0_off29_inb i hc 1) (k0_off30_inb i hc 1) A.a3 A.a8 A.a10
  acc2P id A.a9 A.a11 A.a12 A.a6 (k0_off31 i 1#32) (k0_off32 i 1#32) (k0_off31_inb i hc 1) (k0_off32_inb i hc 1) A.a13
  scores2P A.a5 (k0_off29 i 2#32) (k0_off30 i 2#32) (k0_off29_inb i hc 2) (k0_off30_inb i hc 2) A.a3 A.a9 A.a11
  acc2P id A.a8 A.a10 A.a12 A.a6 (k0_off31 i 2#32) (k0_off32 i 2#32) (k0_off31_inb i hc 2) (k0_off32_inb i hc 2) A.a13
  scores2P A.a5 (k0_off29 i 3#32) (k0_off30 i 3#32) (k0_off29_inb i hc 3) (k0_off30_inb i hc 3) A.a3 A.a8 A.a10
  acc2P id A.a9 A.a11 A.a12 A.a6 (k0_off31 i 3#32) (k0_off32 i 3#32) (k0_off31_inb i hc 3) (k0_off32_inb i hc 3) A.a13
  acc2P causalV A.a8 A.a10 A.a12 A.a6 (k0_off33 i) (k0_off34 i) (k0_off33_inb i hc) (k0_off34_inb i hc) A.a13
  endP A

/-- A query tile with 5 whole chunks left before its own. -/
def caseP5 (i : grid0.Coords) (A : Refs) (hc : k0_cond7 i = 1#1) : Prog (TpuEff nD τ sig (Elt F) Λ₀ .tc) PUnit := do
  scores2P A.a5 (k0_off35 i 0#32) (k0_off36 i 0#32) (k0_off35_inb i hc 0) (k0_off36_inb i hc 0) A.a3 A.a9 A.a11
  acc2P id A.a8 A.a10 A.a12 A.a6 (k0_off37 i 0#32) (k0_off38 i 0#32) (k0_off37_inb i hc 0) (k0_off38_inb i hc 0) A.a13
  scores2P A.a5 (k0_off35 i 1#32) (k0_off36 i 1#32) (k0_off35_inb i hc 1) (k0_off36_inb i hc 1) A.a3 A.a8 A.a10
  acc2P id A.a9 A.a11 A.a12 A.a6 (k0_off37 i 1#32) (k0_off38 i 1#32) (k0_off37_inb i hc 1) (k0_off38_inb i hc 1) A.a13
  scores2P A.a5 (k0_off35 i 2#32) (k0_off36 i 2#32) (k0_off35_inb i hc 2) (k0_off36_inb i hc 2) A.a3 A.a9 A.a11
  acc2P id A.a8 A.a10 A.a12 A.a6 (k0_off37 i 2#32) (k0_off38 i 2#32) (k0_off37_inb i hc 2) (k0_off38_inb i hc 2) A.a13
  scores2P A.a5 (k0_off35 i 3#32) (k0_off36 i 3#32) (k0_off35_inb i hc 3) (k0_off36_inb i hc 3) A.a3 A.a8 A.a10
  acc2P id A.a9 A.a11 A.a12 A.a6 (k0_off37 i 3#32) (k0_off38 i 3#32) (k0_off37_inb i hc 3) (k0_off38_inb i hc 3) A.a13
  scores2P A.a5 (k0_off35 i 4#32) (k0_off36 i 4#32) (k0_off35_inb i hc 4) (k0_off36_inb i hc 4) A.a3 A.a9 A.a11
  acc2P id A.a8 A.a10 A.a12 A.a6 (k0_off37 i 4#32) (k0_off38 i 4#32) (k0_off37_inb i hc 4) (k0_off38_inb i hc 4) A.a13
  acc2P causalV A.a9 A.a11 A.a12 A.a6 (k0_off39 i) (k0_off40 i) (k0_off39_inb i hc) (k0_off40_inb i hc) A.a13
  endP A

/-- A query tile with 6 whole chunks left before its own. -/
def caseP6 (i : grid0.Coords) (A : Refs) (hc : k0_cond8 i = 1#1) : Prog (TpuEff nD τ sig (Elt F) Λ₀ .tc) PUnit := do
  scores2P A.a5 (k0_off41 i 0#32) (k0_off42 i 0#32) (k0_off41_inb i hc 0) (k0_off42_inb i hc 0) A.a3 A.a9 A.a11
  acc2P id A.a8 A.a10 A.a12 A.a6 (k0_off43 i 0#32) (k0_off44 i 0#32) (k0_off43_inb i hc 0) (k0_off44_inb i hc 0) A.a13
  scores2P A.a5 (k0_off41 i 1#32) (k0_off42 i 1#32) (k0_off41_inb i hc 1) (k0_off42_inb i hc 1) A.a3 A.a8 A.a10
  acc2P id A.a9 A.a11 A.a12 A.a6 (k0_off43 i 1#32) (k0_off44 i 1#32) (k0_off43_inb i hc 1) (k0_off44_inb i hc 1) A.a13
  scores2P A.a5 (k0_off41 i 2#32) (k0_off42 i 2#32) (k0_off41_inb i hc 2) (k0_off42_inb i hc 2) A.a3 A.a9 A.a11
  acc2P id A.a8 A.a10 A.a12 A.a6 (k0_off43 i 2#32) (k0_off44 i 2#32) (k0_off43_inb i hc 2) (k0_off44_inb i hc 2) A.a13
  scores2P A.a5 (k0_off41 i 3#32) (k0_off42 i 3#32) (k0_off41_inb i hc 3) (k0_off42_inb i hc 3) A.a3 A.a8 A.a10
  acc2P id A.a9 A.a11 A.a12 A.a6 (k0_off43 i 3#32) (k0_off44 i 3#32) (k0_off43_inb i hc 3) (k0_off44_inb i hc 3) A.a13
  scores2P A.a5 (k0_off41 i 4#32) (k0_off42 i 4#32) (k0_off41_inb i hc 4) (k0_off42_inb i hc 4) A.a3 A.a9 A.a11
  acc2P id A.a8 A.a10 A.a12 A.a6 (k0_off43 i 4#32) (k0_off44 i 4#32) (k0_off43_inb i hc 4) (k0_off44_inb i hc 4) A.a13
  scores2P A.a5 (k0_off41 i 5#32) (k0_off42 i 5#32) (k0_off41_inb i hc 5) (k0_off42_inb i hc 5) A.a3 A.a8 A.a10
  acc2P id A.a9 A.a11 A.a12 A.a6 (k0_off43 i 5#32) (k0_off44 i 5#32) (k0_off43_inb i hc 5) (k0_off44_inb i hc 5) A.a13
  acc2P causalV A.a8 A.a10 A.a12 A.a6 (k0_off45 i) (k0_off46 i) (k0_off45_inb i hc) (k0_off46_inb i hc) A.a13
  endP A

/-- A query tile with 7 whole chunks left before its own. -/
def caseP7 (i : grid0.Coords) (A : Refs) (hc : k0_cond9 i = 1#1) : Prog (TpuEff nD τ sig (Elt F) Λ₀ .tc) PUnit := do
  scores2P A.a5 (k0_off47 i 0#32) (k0_off48 i 0#32) (k0_off47_inb i hc 0) (k0_off48_inb i hc 0) A.a3 A.a9 A.a11
  acc2P id A.a8 A.a10 A.a12 A.a6 (k0_off49 i 0#32) (k0_off50 i 0#32) (k0_off49_inb i hc 0) (k0_off50_inb i hc 0) A.a13
  scores2P A.a5 (k0_off47 i 1#32) (k0_off48 i 1#32) (k0_off47_inb i hc 1) (k0_off48_inb i hc 1) A.a3 A.a8 A.a10
  acc2P id A.a9 A.a11 A.a12 A.a6 (k0_off49 i 1#32) (k0_off50 i 1#32) (k0_off49_inb i hc 1) (k0_off50_inb i hc 1) A.a13
  scores2P A.a5 (k0_off47 i 2#32) (k0_off48 i 2#32) (k0_off47_inb i hc 2) (k0_off48_inb i hc 2) A.a3 A.a9 A.a11
  acc2P id A.a8 A.a10 A.a12 A.a6 (k0_off49 i 2#32) (k0_off50 i 2#32) (k0_off49_inb i hc 2) (k0_off50_inb i hc 2) A.a13
  scores2P A.a5 (k0_off47 i 3#32) (k0_off48 i 3#32) (k0_off47_inb i hc 3) (k0_off48_inb i hc 3) A.a3 A.a8 A.a10
  acc2P id A.a9 A.a11 A.a12 A.a6 (k0_off49 i 3#32) (k0_off50 i 3#32) (k0_off49_inb i hc 3) (k0_off50_inb i hc 3) A.a13
  scores2P A.a5 (k0_off47 i 4#32) (k0_off48 i 4#32) (k0_off47_inb i hc 4) (k0_off48_inb i hc 4) A.a3 A.a9 A.a11
  acc2P id A.a8 A.a10 A.a12 A.a6 (k0_off49 i 4#32) (k0_off50 i 4#32) (k0_off49_inb i hc 4) (k0_off50_inb i hc 4) A.a13
  scores2P A.a5 (k0_off47 i 5#32) (k0_off48 i 5#32) (k0_off47_inb i hc 5) (k0_off48_inb i hc 5) A.a3 A.a8 A.a10
  acc2P id A.a9 A.a11 A.a12 A.a6 (k0_off49 i 5#32) (k0_off50 i 5#32) (k0_off49_inb i hc 5) (k0_off50_inb i hc 5) A.a13
  scores2P A.a5 (k0_off47 i 6#32) (k0_off48 i 6#32) (k0_off47_inb i hc 6) (k0_off48_inb i hc 6) A.a3 A.a9 A.a11
  acc2P id A.a8 A.a10 A.a12 A.a6 (k0_off49 i 6#32) (k0_off50 i 6#32) (k0_off49_inb i hc 6) (k0_off50_inb i hc 6) A.a13
  acc2P causalV A.a9 A.a11 A.a12 A.a6 (k0_off51 i) (k0_off52 i) (k0_off51_inb i hc) (k0_off52_inb i hc) A.a13
  endP A

/-- The first chunk's scores, computed where no earlier tile left them. -/
def firstP (A : Refs) : Prog (TpuEff nD τ sig (Elt F) Λ₀ .tc) PUnit :=
  scores2P A.a5 ![0, 0, 0, 0] ![0, 1, 0, 0] inb_S1x2x8192x256_S1x1x512x256_0_0_0_0 inb_S1x2x8192x256_S1x1x512x256_0_1_0_0 A.a3 A.a8 A.a10

/-- The body's first part: the start, the whole groups of chunks, and the ends with at most one chunk left. -/
def headP (i : grid0.Coords) (A : Refs) :
    Prog (TpuEff nD τ sig (Elt F) Λ₀ .tc) (Σ' (arg2 : BitVec 32) (v12 : BitVec 32) (v13 : BitVec 32) (v26 : BitVec 32), BitVec 32) := do
  let arg2 : BitVec 32 := BitVec.ofNat 32 (i 2).val
  initP A
  if h1 : k0_cond1 i = 1#1 then do
    firstP A
    pure ⟨⟩
  else do
    pure ⟨⟩
  let v12 : BitVec 32 := Scalar.muli (Scalar.divsi arg2 8#32) 8#32
  let v13 : BitVec 32 := Scalar.subi arg2 v12
  Scf.Loop.for (k0_t1_loop i) (k0_t1_ok i) ⟨⟩ fun t _ => do
    tripP i A t
    pure ⟨⟩
  Scf.Loop.for (k0_t2_loop i) (k0_t2_ok i) ⟨⟩ fun t _ => do
    restP i A t
    pure ⟨⟩
  if h2 : k0_cond2 i = 1#1 then do
    caseP0 i A h2
    pure ⟨⟩
  else do
    pure ⟨⟩
  if h3 : k0_cond3 i = 1#1 then do
    caseP1 i A h3
    pure ⟨⟩
  else do
    pure ⟨⟩
  pure ⟨arg2, v12, v13, Scalar.extui (Scalar.cmpi .eq v13 2#32), 0#32⟩

/-- The body's second part: the ends with two chunks left and more. -/
def tailP (i : grid0.Coords) (A : Refs) : Prog (TpuEff nD τ sig (Elt F) Λ₀ .tc) PUnit := do
  if h4 : k0_cond4 i = 1#1 then do
    caseP2 i A h4
    pure ⟨⟩
  else do
    pure ⟨⟩
  if h5 : k0_cond5 i = 1#1 then do
    caseP3 i A h5
    pure ⟨⟩
  else do
    pure ⟨⟩
  if h6 : k0_cond6 i = 1#1 then do
    caseP4 i A h6
    pure ⟨⟩
  else do
    pure ⟨⟩
  if h7 : k0_cond7 i = 1#1 then do
    caseP5 i A h7
    pure ⟨⟩
  else do
    pure ⟨⟩
  if h8 : k0_cond8 i = 1#1 then do
    caseP6 i A h8
    pure ⟨⟩
  else do
    pure ⟨⟩
  if h9 : k0_cond9 i = 1#1 then do
    caseP7 i A h9
    pure ⟨⟩
  else do
    pure ⟨⟩
  pure ⟨⟩

theorem head_eq (i : grid0.Coords) (A : Refs) :
    k0_part166 (F := F) i A.a3 A.h3 A.a4 A.h4 A.a5 A.h5 A.a6 A.h6 A.a7 A.h7 A.a8 A.h8 A.a9 A.h9 A.a10 A.h10 A.a11 A.h11 A.a12 A.h12 A.a13 A.h13 = headP i A := rfl

/-- The printed body is its blocks. -/
theorem body_eq (i : grid0.Coords) (A : Refs) :
    cc0_moba (F := F) i A.a3 A.h3 A.a4 A.h4 A.a5 A.h5 A.a6 A.h6 A.a7 A.h7 A.a8 A.h8 A.a9 A.h9 A.a10 A.h10 A.a11 A.h11 A.a12 A.h12 A.a13 A.h13 = (do let _ ← headP i A; tailP i A) := by
  unfold cc0_moba
  rw [head_eq]
  rfl

end Cert.KernelIdeal.Moba
-- ==== Proof.MobaIdeal.Triples.lean ====
/- What each block of the attention kernel's body does to the buffers it works on. -/
module

public import proofs.«01_k».proof.Proof.MobaIdeal.Body
public import Idealize.ShloMosaic.Lib.Pipeline.FrameBody
public import Idealize.ShloMosaic.Lib.Pipeline.Value
public import Idealize.ShloMosaic.Lib.Tactic
public import Idealize.ShloMosaic.Lib.VecWindow

@[expose] public section

set_option maxRecDepth 16384

noncomputable section

namespace Cert.KernelIdeal.Moba

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)
open Cert.KernelIdeal Cert.KernelIdeal.Gen

variable {F : FTy → Type} [FloatOps F] [Named F]

local notation "𝕄" => MT nD τ sig Unit (Elt F) ℕ (UR sig nD τ) ℕ

/-! ## Loads and stores of windows -/

section Access

variable (c : Dev nD) {E : Set ℕ} {s : Shape} {e : EltTy} (m : Memref sig .tc .vmem s e)

/-- A load of a window of a buffer. -/
theorem wp_load_window {off size : Fin s.rank → ℕ} {inb : ∀ a, off a + size a ≤ s.size a} {hl : m.view.LoadsAt (Rect.unit off size inb).toLoadRect}
    {q : PosShare TreeShare} {X : s.Idx → Elt F e} {Φ : ((Rect.unit off size inb).toLoadRect.shape.Idx → Elt F e) → sProp 𝕄} :
    (iprop(owns (c : Thread nD τ) m q X ∗ (owns (c : Thread nD τ) m q X -∗ Φ (window X off size inb))) : sProp 𝕄)
      ⊢ wp frame (wpE (defs₀ (F := F)) Variants.none (c : Thread nD τ) none) E (Prog.lift (.load m (Rect.unit off size inb).toLoadRect hl)) Φ := by
  unfold owns
  iintro ⟨⟨%f, %hf, H⟩, HK⟩
  have h := wp_load (defs := defs₀ (F := F)) Variants.none (c : Thread nD τ) none E (Γ := []) (Q := Φ) (m := m)
    (r := (Rect.unit off size inb).toLoadRect) (hl := hl) (k := Prog.ret) (q := q) (f := f) (S := m.view.set) (View.setOn_subset_set _ _)
  iapply h $$ H
  iintro H
  rw [wp_ret]
  imodintro
  rw [View.readAt_unit m.view f inb rfl inb, hf]
  iapply HK
  iexists f
  isplitr
  · ipureintro; exact hf
  iexact H

/-- A store of a window of a buffer. -/
theorem wp_store_window {off size : Fin s.rank → ℕ} {inb : ∀ a, off a + size a ≤ s.size a} {w : (Rect.unit off size inb).shape.Idx → Elt F e}
    {hx : (m.access (Rect.unit off size inb)).Stores Finset.univ} {hm : Finset.univ = Finset.univ ∨ ∀ a, (Rect.unit off size inb).stride a = 1}
    {X : s.Idx → Elt F e} {Φ : PUnit → sProp 𝕄} :
    (iprop(owns (c : Thread nD τ) m fullShare X ∗ (owns (c : Thread nD τ) m fullShare (put X off size w) -∗ Φ ⟨⟩)) : sProp 𝕄)
      ⊢ wp frame (wpE (defs₀ (F := F)) Variants.none (c : Thread nD τ) none) E
          (Prog.lift (.store m (Rect.unit off size inb) w Finset.univ hx hm)) Φ := by
  unfold owns
  iintro ⟨⟨%f, %hf, H⟩, HK⟩
  have h := wp_store (defs := defs₀ (F := F)) Variants.none (c : Thread nD τ) none E (Γ := []) (Q := Φ) (w := w) (hx := hx) (hm := hm) (k := Prog.ret)
    (Mk := Finset.univ) (f := f) (S := m.view.set)
    (((m.access (Rect.unit off size inb)).setOn_subset_set _).trans (m.view.set_slice_subset _))
  iapply h $$ H
  iintro H
  rw [wp_ret]
  imodintro
  iapply HK
  iexists _
  isplitr
  · ipureintro
    exact (View.read_writes_cons_put m.view f inb w [] rfl).trans (by rw [View.writes_nil, hf])
  iexact H

end Access

/-! ## The blocks, at any buffers -/

section Blocks

variable (c : Dev nD) {E : Set ℕ}

/-- The scores' block: the chunk's scores and their maxima over the window of each buffer. -/
theorem wp_scoresP {Φ : PUnit → sProp 𝕄} {kr : Memref sig .tc .vmem S1x2x8192x256 .bf16} {ok : Fin 4 → ℕ} {hk : ∀ a, ok a + S1x1x512x256.size a ≤ S1x2x8192x256.size a}
    {qr : Memref sig .tc .vmem S1x2x256x512 .bf16} {oq : Fin 4 → ℕ} {hq : ∀ a, oq a + S1x1x256x512.size a ≤ S1x2x256x512.size a}
    {sr : Memref sig .tc .vmem S2x512x512 .f32} {os : Fin 3 → ℕ} {hs : ∀ a, os a + S1x512x512.size a ≤ S2x512x512.size a}
    {xr : Memref sig .tc .vmem S2x1x512 .f32} {ox : Fin 3 → ℕ} {hx : ∀ a, ox a + S1x1x512.size a ≤ S2x1x512.size a}
    {pk pq : PosShare TreeShare} {K : S1x2x8192x256.Idx → Elt F .bf16} {Q : S1x2x256x512.Idx → Elt F .bf16}
    {S : S2x512x512.Idx → Elt F .f32} {X : S2x1x512.Idx → Elt F .f32} :
    (iprop(owns (c : Thread nD τ) kr pk K ∗ owns (c : Thread nD τ) qr pq Q ∗ owns (c : Thread nD τ) sr fullShare S ∗ owns (c : Thread nD τ) xr fullShare X
      ∗ ((owns (c : Thread nD τ) kr pk K ∗ owns (c : Thread nD τ) qr pq Q
          ∗ owns (c : Thread nD τ) sr fullShare (put S os S1x512x512.size
              (shapeCast S1x512x512 (scV (F := F) (window K ok S1x1x512x256.size hk) (window Q oq S1x1x256x512.size hq)) shapeCasts_S512x512_S1x512x512))
          ∗ owns (c : Thread nD τ) xr fullShare (put X ox S1x1x512.size
              (shapeCast S1x1x512 (mxV (scV (F := F) (window K ok S1x1x512x256.size hk) (window Q oq S1x1x256x512.size hq))) shapeCasts_S1x512_S1x1x512)))
        -∗ Φ ⟨⟩)) : sProp 𝕄)
      ⊢ wp frame (wpE (defs₀ (F := F)) Variants.none (c : Thread nD τ) none) E (scoresP kr ok hk qr oq hq sr os hs xr ox hx) Φ := by
  unfold scoresP
  simp only [wp_bind]
  iintro ⟨HK, HQ, HS, HX, Hk⟩
  iapply (wp_load_window c kr); isplitl [HK]; · iexact HK
  iintro HK
  iapply (wp_load_window c qr); isplitl [HQ]; · iexact HQ
  iintro HQ
  iapply (wp_load_window c sr); isplitl [HS]; · iexact HS
  iintro HS
  iapply (wp_store_window c sr); isplitl [HS]; · iexact HS
  iintro HS
  iapply (wp_load_window c xr); isplitl [HX]; · iexact HX
  iintro HX
  iapply (wp_store_window c xr); isplitl [HX]; · iexact HX
  iintro HX
  iapply Hk
  isplitl [HK]; · iexact HK
  isplitl [HQ]; · iexact HQ
  isplitl [HS]; · iexact HS
  iexact HX

/-- The accumulation's block: the running maximum and the running sums over their windows. -/
theorem wp_accP {Φ : PUnit → sProp 𝕄} {g : FVec F S512x512 .f32 → FVec F S512x512 .f32}
    {sr : Memref sig .tc .vmem S2x512x512 .f32} {os : Fin 3 → ℕ} {hs : ∀ a, os a + S1x512x512.size a ≤ S2x512x512.size a}
    {xr mr : Memref sig .tc .vmem S2x1x512 .f32} {ox : Fin 3 → ℕ} {hx : ∀ a, ox a + S1x1x512.size a ≤ S2x1x512.size a}
    {vr : Memref sig .tc .vmem S1x2x144x8192 .bf16} {ov : Fin 4 → ℕ} {hv : ∀ a, ov a + S1x1x144x512.size a ≤ S1x2x144x8192.size a}
    {ar : Memref sig .tc .vmem S2x144x512 .f32} {oa : Fin 3 → ℕ} {ha : ∀ a, oa a + S1x144x512.size a ≤ S2x144x512.size a}
    {ps px pv : PosShare TreeShare} {S : S2x512x512.Idx → Elt F .f32} {X M : S2x1x512.Idx → Elt F .f32}
    {V : S1x2x144x8192.Idx → Elt F .bf16} {A : S2x144x512.Idx → Elt F .f32} :
    (iprop(owns (c : Thread nD τ) sr ps S ∗ owns (c : Thread nD τ) xr px X ∗ owns (c : Thread nD τ) mr fullShare M ∗ owns (c : Thread nD τ) vr pv V
        ∗ owns (c : Thread nD τ) ar fullShare A
      ∗ ((owns (c : Thread nD τ) sr ps S ∗ owns (c : Thread nD τ) xr px X
          ∗ owns (c : Thread nD τ) mr fullShare (put M ox S1x1x512.size
              (shapeCast S1x1x512 (mnV (F := F) (window M ox S1x1x512.size hx) (window X ox S1x1x512.size hx)) shapeCasts_S1x512_S1x1x512))
          ∗ owns (c : Thread nD τ) vr pv V
          ∗ owns (c : Thread nD τ) ar fullShare (put A oa S1x144x512.size
              (shapeCast S1x144x512 (accV (F := F) (g (shapeCast S512x512 (window S os S1x512x512.size hs) shapeCasts_S1x512x512_S512x512))
                (window M ox S1x1x512.size hx) (window X ox S1x1x512.size hx) (window A oa S1x144x512.size ha) (window V ov S1x1x144x512.size hv))
                shapeCasts_S144x512_S1x144x512)))
        -∗ Φ ⟨⟩)) : sProp 𝕄)
      ⊢ wp frame (wpE (defs₀ (F := F)) Variants.none (c : Thread nD τ) none) E (accP g sr os hs xr mr ox hx vr ov hv ar oa ha) Φ := by
  unfold accP
  simp only [wp_bind]
  iintro ⟨HS, HX, HM, HV, HA, Hk⟩
  iapply (wp_load_window c sr); isplitl [HS]; · iexact HS
  iintro HS
  iapply (wp_load_window c mr); isplitl [HM]; · iexact HM
  iintro HM
  iapply (wp_load_window c xr); isplitl [HX]; · iexact HX
  iintro HX
  iapply (wp_load_window c ar); isplitl [HA]; · iexact HA
  iintro HA
  iapply (wp_load_window c vr); isplitl [HV]; · iexact HV
  iintro HV
  iapply (wp_load_window c ar); isplitl [HA]; · iexact HA
  iintro HA
  iapply (wp_store_window c ar); isplitl [HA]; · iexact HA
  iintro HA
  iapply (wp_load_window c mr); isplitl [HM]; · iexact HM
  iintro HM
  iapply (wp_store_window c mr); isplitl [HM]; · iexact HM
  iintro HM
  iapply Hk
  isplitl [HS]; · iexact HS
  isplitl [HX]; · iexact HX
  isplitl [HM]; · iexact HM
  isplitl [HV]; · iexact HV
  iexact HA

/-- The result's block: one head's columns of the output tile. -/
theorem wp_outP {Φ : PUnit → sProp 𝕄} {ar : Memref sig .tc .vmem S2x144x512 .f32} {oa : Fin 3 → ℕ} {ha : ∀ a, oa a + S1x144x512.size a ≤ S2x144x512.size a}
    {yr : Memref sig .tc .vmem S1x512x256 .bf16} {hyr : yr.IsWhole} {oy : Fin 3 → ℕ} {hy : ∀ a, oy a + S1x512x128.size a ≤ S1x512x256.size a}
    {py : (Rect.unit (s := S1x512x256) oy S1x512x128.size hy).PackedRows (EltTy.packing .bf16)}
    {pa : PosShare TreeShare} {A : S2x144x512.Idx → Elt F .f32} {Y : S1x512x256.Idx → Elt F .bf16} :
    (iprop(owns (c : Thread nD τ) ar pa A ∗ owns (c : Thread nD τ) yr fullShare Y
      ∗ ((owns (c : Thread nD τ) ar pa A
          ∗ owns (c : Thread nD τ) yr fullShare (put Y oy S1x512x128.size
              (shapeCast S1x512x128 (outV (F := F) (window A oa S1x144x512.size ha)) shapeCasts_S512x128_S1x512x128)))
        -∗ Φ ⟨⟩)) : sProp 𝕄)
      ⊢ wp frame (wpE (defs₀ (F := F)) Variants.none (c : Thread nD τ) none) E (outP ar oa ha yr hyr oy hy py) Φ := by
  unfold outP
  simp only [wp_bind]
  iintro ⟨HA, HY, Hk⟩
  iapply (wp_load_window c ar); isplitl [HA]; · iexact HA
  iintro HA
  iapply (wp_load_window c yr); isplitl [HY]; · iexact HY
  iintro HY
  iapply (wp_store_window c yr); isplitl [HY]; · iexact HY
  iintro HY
  iapply Hk
  isplitl [HA]; · iexact HA
  iexact HY

end Blocks

end Cert.KernelIdeal.Moba
-- ==== Proof.MobaIdeal.Heads.lean ====
/- The blocks of the attention kernel's body over pairs of heads: a buffer of both heads' matrices is
   the pair of them, and each block takes pairs to pairs. -/
module

public import proofs.«01_k».proof.Proof.MobaIdeal.Triples
public import Idealize.ShloMosaic.Lib.Pointwise.Reshape

@[expose] public section

set_option maxRecDepth 16384

noncomputable section

namespace Cert.KernelIdeal.Moba

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)
open Cert.KernelIdeal Cert.KernelIdeal.Gen

variable {F : FTy → Type} [FloatOps F] [Named F]

local notation "𝕄" => MT nD τ sig Unit (Elt F) ℕ (UR sig nD τ) ℕ

/-! ## Pairs of matrices -/

section Pack

variable {α : Type} {a b : ℕ}

/-- Two matrices as one three-axis tensor. -/
def pack (w : Fin 2 → (⟨2, ![a, b]⟩ : Shape).Idx → α) : (⟨3, ![2, a, b]⟩ : Shape).Idx → α := fun y => w (y 0) fun c => y c.succ

/-- The two matrices of a three-axis tensor. -/
def unpack (X : (⟨3, ![2, a, b]⟩ : Shape).Idx → α) (h : Fin 2) : (⟨2, ![a, b]⟩ : Shape).Idx → α := fun y => X (Fin.cons h y)

theorem pack_unpack (X : (⟨3, ![2, a, b]⟩ : Shape).Idx → α) : pack (unpack X) = X :=
  funext fun y => congrArg X (funext fun c => by
    refine Fin.cases ?_ (fun c => ?_) c <;> rfl)

/-- The window over one of the two matrices, as a matrix, is that matrix. -/
theorem cast_window_pack (w : Fin 2 → (⟨2, ![a, b]⟩ : Shape).Idx → α) (h : Fin 2) {off : Fin 3 → ℕ} (hoff : off = ![h.val, 0, 0])
    (inb : ∀ x, off x + (![1, a, b] : Fin 3 → ℕ) x ≤ (⟨3, ![2, a, b]⟩ : Shape).size x)
    (hc : (⟨3, ![1, a, b]⟩ : Shape).ShapeCasts ⟨2, ![a, b]⟩) :
    shapeCast ⟨2, ![a, b]⟩ (window (s := ⟨3, ![2, a, b]⟩) (pack w) off ![1, a, b] inb : (⟨3, ![1, a, b]⟩ : Shape).Idx → α) hc = w h := by
  subst hoff
  funext j
  rw [shapeCast_dropUnit_apply]
  show w ⟨h.val + 1 * 0, _⟩ _ = w h j
  have e : (⟨h.val + 1 * 0, by have := h.isLt; omega⟩ : Fin 2) = h := Fin.ext (by simp)
  refine (congrFun (congrArg w e) _).trans (congrArg (w h) (funext fun x => Fin.ext ?_))
  match x with
  | ⟨0, _⟩ => show 0 + 1 * (j 0).val = (j 0).val; omega
  | ⟨1, _⟩ => show 0 + 1 * (j 1).val = (j 1).val; omega

/-- Putting a matrix over the window of one of the two replaces that one. -/
theorem put_pack (w : Fin 2 → (⟨2, ![a, b]⟩ : Shape).Idx → α) (h : Fin 2) {off : Fin 3 → ℕ} (hoff : off = ![h.val, 0, 0])
    (x : (⟨2, ![a, b]⟩ : Shape).Idx → α) (hc : (⟨2, ![a, b]⟩ : Shape).ShapeCasts ⟨3, ![1, a, b]⟩) :
    put (s := ⟨3, ![2, a, b]⟩) (pack w) off ![1, a, b] (shapeCast ⟨3, ![1, a, b]⟩ x hc) = pack (Function.update w h x) := by
  subst hoff
  funext y
  unfold put
  by_cases hy : y 0 = h
  · rw [dif_pos]
    · rw [shapeCast_addUnit_apply]
      unfold pack
      rw [hy]
      refine Eq.trans (congrArg x (funext fun c => Fin.ext ?_)) (congrFun (Function.update_self h x w).symm _)
      match c with
      | ⟨0, _⟩ => show (y 1).val - 0 = (y 1).val; omega
      | ⟨1, _⟩ => show (y 2).val - 0 = (y 2).val; omega
    · intro c
      match c with
      | ⟨0, _⟩ => show h.val ≤ (y 0).val ∧ (y 0).val < h.val + 1; rw [hy]; omega
      | ⟨1, _⟩ => show 0 ≤ (y 1).val ∧ (y 1).val < 0 + a; exact ⟨Nat.zero_le _, by have := (y 1).isLt; simpa using this⟩
      | ⟨2, _⟩ => show 0 ≤ (y 2).val ∧ (y 2).val < 0 + b; exact ⟨Nat.zero_le _, by have := (y 2).isLt; simpa using this⟩
  · rw [dif_neg]
    · exact (congrFun (Function.update_of_ne (f := w) hy x) _).symm
    · intro hall
      have h0 : h.val ≤ (y 0).val ∧ (y 0).val < h.val + 1 := hall 0
      exact hy (Fin.ext (by omega))

theorem update_two (w : Fin 2 → (⟨2, ![a, b]⟩ : Shape).Idx → α) (x : Fin 2 → (⟨2, ![a, b]⟩ : Shape).Idx → α) :
    Function.update (Function.update w 0 (x 0)) 1 (x 1) = x := by
  funext h
  match h with
  | ⟨0, _⟩ => rfl
  | ⟨1, _⟩ => rfl

/-- The four-axis index of its coordinates. -/
def idx4 {p q r s : ℕ} (i : Fin p) (j : Fin q) (k : Fin r) (l : Fin s) : (⟨4, ![p, q, r, s]⟩ : Shape).Idx
  | ⟨0, _⟩ => i
  | ⟨1, _⟩ => j
  | ⟨2, _⟩ => k
  | ⟨3, _⟩ => l

/-- Head `h`'s rows of chunk `j` of a tensor with a chunked third axis. -/
def rowsAt (K : (⟨4, ![1, 2, 8192, b]⟩ : Shape).Idx → α) (h : Fin 2) (j : ℕ) : (⟨2, ![512, b]⟩ : Shape).Idx → α := fun y =>
  K (idx4 0 h ⟨(512 * j + (y 0).val) % 8192, Nat.mod_lt _ (by decide)⟩ (y 1))

/-- Head `h`'s columns of chunk `j` of a tensor with a chunked last axis. -/
def colsAt (V : (⟨4, ![1, 2, a, 8192]⟩ : Shape).Idx → α) (h : Fin 2) (j : ℕ) : (⟨2, ![a, 512]⟩ : Shape).Idx → α := fun y =>
  V (idx4 0 h (y 0) ⟨(512 * j + (y 1).val) % 8192, Nat.mod_lt _ (by decide)⟩)

/-- Head `h`'s matrix of a tensor. -/
def matAt (Q : (⟨4, ![1, 2, a, b]⟩ : Shape).Idx → α) (h : Fin 2) : (⟨2, ![a, b]⟩ : Shape).Idx → α := fun y =>
  Q (idx4 0 h (y 0) (y 1))

/-- A cast dropping two leading unit axes. -/
theorem cast_drop2 (x : (⟨4, ![1, 1, a, b]⟩ : Shape).Idx → α) (hc : (⟨4, ![1, 1, a, b]⟩ : Shape).ShapeCasts ⟨2, ![a, b]⟩) (j : (⟨2, ![a, b]⟩ : Shape).Idx) :
    shapeCast ⟨2, ![a, b]⟩ x hc j = x (Fin.cons ⟨0, Nat.one_pos⟩ (Fin.cons ⟨0, Nat.one_pos⟩ j)) := by
  have h1 : (⟨4, ![1, 1, a, b]⟩ : Shape).ShapeCasts ⟨3, ![1, a, b]⟩ := by
    show (⟨3, ![1, a, b]⟩ : Shape).numel = (⟨4, ![1, 1, a, b]⟩ : Shape).numel
    simp [Shape.numel, Fin.prod_univ_succ]
  have h2 : (⟨3, ![1, a, b]⟩ : Shape).ShapeCasts ⟨2, ![a, b]⟩ := by
    show (⟨2, ![a, b]⟩ : Shape).numel = (⟨3, ![1, a, b]⟩ : Shape).numel
    simp [Shape.numel, Fin.prod_univ_succ]
  have e : shapeCast ⟨2, ![a, b]⟩ x hc = shapeCast ⟨2, ![a, b]⟩ (shapeCast ⟨3, ![1, a, b]⟩ x h1) h2 := by
    rw [shapeCast_comp]
  rw [e, shapeCast_dropUnit_apply]
  exact shapeCast_dropUnit_apply _ x h1 _

theorem cast_window_rows (K : (⟨4, ![1, 2, 8192, b]⟩ : Shape).Idx → α) (h : Fin 2) (j : ℕ) (hj : j < 16) {off : Fin 4 → ℕ} (hoff : off = ![0, h.val, 512 * j, 0])
    (inb : ∀ x, off x + (![1, 1, 512, b] : Fin 4 → ℕ) x ≤ (⟨4, ![1, 2, 8192, b]⟩ : Shape).size x)
    (hc : (⟨4, ![1, 1, 512, b]⟩ : Shape).ShapeCasts ⟨2, ![512, b]⟩) :
    shapeCast ⟨2, ![512, b]⟩ (window (s := ⟨4, ![1, 2, 8192, b]⟩) K off ![1, 1, 512, b] inb : (⟨4, ![1, 1, 512, b]⟩ : Shape).Idx → α) hc = rowsAt K h j := by
  subst hoff
  funext y
  rw [cast_drop2]
  unfold window rowsAt
  refine congrArg K (funext fun x => Fin.ext ?_)
  match x with
  | ⟨0, _⟩ => rfl
  | ⟨1, _⟩ => show h.val + 1 * 0 = h.val; omega
  | ⟨2, _⟩ =>
    show 512 * j + 1 * (y 0).val = (512 * j + (y 0).val) % 8192
    have : (y 0).val < 512 := (y 0).isLt
    rw [Nat.mod_eq_of_lt (by omega)]; omega
  | ⟨3, _⟩ => show 0 + 1 * (y 1).val = (y 1).val; omega

theorem cast_window_cols (V : (⟨4, ![1, 2, a, 8192]⟩ : Shape).Idx → α) (h : Fin 2) (j : ℕ) (hj : j < 16) {off : Fin 4 → ℕ} (hoff : off = ![0, h.val, 0, 512 * j])
    (inb : ∀ x, off x + (![1, 1, a, 512] : Fin 4 → ℕ) x ≤ (⟨4, ![1, 2, a, 8192]⟩ : Shape).size x)
    (hc : (⟨4, ![1, 1, a, 512]⟩ : Shape).ShapeCasts ⟨2, ![a, 512]⟩) :
    shapeCast ⟨2, ![a, 512]⟩ (window (s := ⟨4, ![1, 2, a, 8192]⟩) V off ![1, 1, a, 512] inb : (⟨4, ![1, 1, a, 512]⟩ : Shape).Idx → α) hc = colsAt V h j := by
  subst hoff
  funext y
  rw [cast_drop2]
  unfold window colsAt
  refine congrArg V (funext fun x => Fin.ext ?_)
  match x with
  | ⟨0, _⟩ => rfl
  | ⟨1, _⟩ => show h.val + 1 * 0 = h.val; omega
  | ⟨2, _⟩ => show 0 + 1 * (y 0).val = (y 0).val; omega
  | ⟨3, _⟩ =>
    show 512 * j + 1 * (y 1).val = (512 * j + (y 1).val) % 8192
    have : (y 1).val < 512 := (y 1).isLt
    rw [Nat.mod_eq_of_lt (by omega)]; omega

theorem cast_window_mat (Q : (⟨4, ![1, 2, a, b]⟩ : Shape).Idx → α) (h : Fin 2) {off : Fin 4 → ℕ} (hoff : off = ![0, h.val, 0, 0])
    (inb : ∀ x, off x + (![1, 1, a, b] : Fin 4 → ℕ) x ≤ (⟨4, ![1, 2, a, b]⟩ : Shape).size x)
    (hc : (⟨4, ![1, 1, a, b]⟩ : Shape).ShapeCasts ⟨2, ![a, b]⟩) :
    shapeCast ⟨2, ![a, b]⟩ (window (s := ⟨4, ![1, 2, a, b]⟩) Q off ![1, 1, a, b] inb : (⟨4, ![1, 1, a, b]⟩ : Shape).Idx → α) hc = matAt Q h := by
  subst hoff
  funext y
  rw [cast_drop2]
  unfold window matAt
  refine congrArg Q (funext fun x => Fin.ext ?_)
  match x with
  | ⟨0, _⟩ => rfl
  | ⟨1, _⟩ => show h.val + 1 * 0 = h.val; omega
  | ⟨2, _⟩ => show 0 + 1 * (y 0).val = (y 0).val; omega
  | ⟨3, _⟩ => show 0 + 1 * (y 1).val = (y 1).val; omega

end Pack

/-! ## One head's values -/

/-- The scores of a matrix of keys against a matrix of queries (queries along the columns). -/
def scF (k : S512x256.Idx → Elt F .bf16) (q : S256x512.Idx → Elt F .bf16) : FVec F S512x512 .f32 :=
  matmul dot_S512x256_S256x512_S512x512_1_0_0_1_n_n none (k : FVec F S512x256 .bf16) (q : FVec F S256x512 .bf16) (constant S512x512 .f32 0x00000000#32)

/-- The running sums after a chunk, from its scores (`g` of them weigh the values). -/
def accF (g : FVec F S512x512 .f32 → FVec F S512x512 .f32) (s : FVec F S512x512 .f32) (mv : FVec F S1x512 .f32) (ac : FVec F S144x512 .f32)
    (v : S144x512.Idx → Elt F .bf16) : FVec F S144x512 .f32 :=
  addf
    (mulf (broadcastTo S144x512 (exp2 (subf mv (maximumf mv (mxV s)))) broadcasts_S1x512_S144x512) ac)
    (matmul dot_S144x512_S512x512_S144x512_1_0_0_1_n_n none (v : FVec F S144x512 .bf16)
      (truncf .bf16 (exp2 (subf (g s) (broadcastTo S512x512 (maximumf mv (mxV s)) broadcasts_S1x512_S512x512))) bitsLt_bf16_f32)
      (constant S144x512 .f32 0x00000000#32))

/-- One head's tile of the result. -/
def outF (ac : FVec F S144x512 .f32) : FVec F S512x128 .bf16 :=
  truncf .bf16
    (transpose S512x128 [1, 0]
      (divf (extractStridedSlice S128x512 ![0, 0] ac slices_S144x512_o0_0_S128x512)
        (broadcastTo S128x512 (extractStridedSlice S1x512 ![128, 0] ac slices_S144x512_o128_0_S1x512) broadcasts_S1x512_S128x512))
      transposes_S128x512_p1_0_S512x128)
    bitsLt_bf16_f32

/-! ## The blocks over pairs -/

section Blocks

variable (c : Dev nD) {E : Set ℕ}

/-- Both heads' scores of chunk `j`. -/
theorem wp_scores2P {Φ : PUnit → sProp 𝕄} {kr : Memref sig .tc .vmem S1x2x8192x256 .bf16} {ok ok' : Fin 4 → ℕ}
    {hk : ∀ a, ok a + S1x1x512x256.size a ≤ S1x2x8192x256.size a} {hk' : ∀ a, ok' a + S1x1x512x256.size a ≤ S1x2x8192x256.size a}
    {qr : Memref sig .tc .vmem S1x2x256x512 .bf16} {sr : Memref sig .tc .vmem S2x512x512 .f32} {xr : Memref sig .tc .vmem S2x1x512 .f32}
    (j : ℕ) (hj : j < 16) (e : ok = ![0, 0, 512 * j, 0]) (e' : ok' = ![0, 1, 512 * j, 0])
    {pk pq : PosShare TreeShare} {K : S1x2x8192x256.Idx → Elt F .bf16} {Q : S1x2x256x512.Idx → Elt F .bf16}
    {S : S2x512x512.Idx → Elt F .f32} {X : S2x1x512.Idx → Elt F .f32} :
    (iprop(owns (c : Thread nD τ) kr pk K ∗ owns (c : Thread nD τ) qr pq Q ∗ owns (c : Thread nD τ) sr fullShare S ∗ owns (c : Thread nD τ) xr fullShare X
      ∗ ((owns (c : Thread nD τ) kr pk K ∗ owns (c : Thread nD τ) qr pq Q
          ∗ owns (c : Thread nD τ) sr fullShare (pack fun h => scF (F := F) (rowsAt K h j) (matAt Q h))
          ∗ owns (c : Thread nD τ) xr fullShare (pack fun h => mxV (scF (F := F) (rowsAt K h j) (matAt Q h))))
        -∗ Φ ⟨⟩)) : sProp 𝕄)
      ⊢ wp frame (wpE (defs₀ (F := F)) Variants.none (c : Thread nD τ) none) E (scores2P kr ok ok' hk hk' qr sr xr) Φ := by
  unfold scores2P
  simp only [wp_bind]
  iintro ⟨HK, HQ, HS, HX, Hk⟩
  iapply (wp_scoresP c)
  isplitl [HK]; · iexact HK
  isplitl [HQ]; · iexact HQ
  isplitl [HS]; · iexact HS
  isplitl [HX]; · iexact HX
  iintro ⟨HK, HQ, HS, HX⟩
  iapply (wp_scoresP c)
  isplitl [HK]; · iexact HK
  isplitl [HQ]; · iexact HQ
  isplitl [HS]; · iexact HS
  isplitl [HX]; · iexact HX
  iintro ⟨HK, HQ, HS, HX⟩
  have k0 : ∀ hc, shapeCast S512x256 (window K ok S1x1x512x256.size hk : S1x1x512x256.Idx → Elt F .bf16) hc = rowsAt K 0 j := cast_window_rows K 0 j hj e hk
  have k1 : ∀ hc, shapeCast S512x256 (window K ok' S1x1x512x256.size hk' : S1x1x512x256.Idx → Elt F .bf16) hc = rowsAt K 1 j := cast_window_rows K 1 j hj e' hk'
  have q0 : ∀ inb hc, shapeCast S256x512 (window Q ![0, 0, 0, 0] S1x1x256x512.size inb : S1x1x256x512.Idx → Elt F .bf16) hc = matAt Q 0 := cast_window_mat Q 0 rfl
  have q1 : ∀ inb hc, shapeCast S256x512 (window Q ![0, 1, 0, 0] S1x1x256x512.size inb : S1x1x256x512.Idx → Elt F .bf16) hc = matAt Q 1 := cast_window_mat Q 1 rfl
  have s0 : scV (F := F) (window K ok S1x1x512x256.size hk) (window Q ![0, 0, 0, 0] S1x1x256x512.size inb_S1x2x256x512_S1x1x256x512_0_0_0_0) = scF (rowsAt K 0 j) (matAt Q 0) := by
    unfold scV scF; rw [k0, q0]
  have s1 : scV (F := F) (window K ok' S1x1x512x256.size hk') (window Q ![0, 1, 0, 0] S1x1x256x512.size inb_S1x2x256x512_S1x1x256x512_0_1_0_0) = scF (rowsAt K 1 j) (matAt Q 1) := by
    unfold scV scF; rw [k1, q1]
  rw [s0, s1]
  have eS : ∀ (x : Fin 2 → FVec F S512x512 .f32) h h', put (put S ![0, 0, 0] S1x512x512.size (shapeCast S1x512x512 (x 0) h)) ![1, 0, 0] S1x512x512.size (shapeCast S1x512x512 (x 1) h') = pack x := fun x h h' => by
    conv_lhs => rw [← pack_unpack (a := 512) (b := 512) S]
    exact (congrArg (fun z => put (s := S2x512x512) z _ _ _) (put_pack (unpack S) 0 rfl (x 0) h)).trans ((put_pack _ 1 rfl (x 1) h').trans (congrArg pack (update_two _ x)))
  have eX : ∀ (x : Fin 2 → FVec F S1x512 .f32) h h', put (put X ![0, 0, 0] S1x1x512.size (shapeCast S1x1x512 (x 0) h)) ![1, 0, 0] S1x1x512.size (shapeCast S1x1x512 (x 1) h') = pack x := fun x h h' => by
    conv_lhs => rw [← pack_unpack (a := 1) (b := 512) X]
    exact (congrArg (fun z => put (s := S2x1x512) z _ _ _) (put_pack (unpack X) 0 rfl (x 0) h)).trans ((put_pack _ 1 rfl (x 1) h').trans (congrArg pack (update_two _ x)))
  rw [eS (fun h => scF (rowsAt K h j) (matAt Q h)), eX (fun h => mxV (scF (rowsAt K h j) (matAt Q h)))]
  iapply Hk
  isplitl [HK]; · iexact HK
  isplitl [HQ]; · iexact HQ
  isplitl [HS]; · iexact HS
  iexact HX

/-- Both heads' accumulation of chunk `j`. -/
theorem wp_acc2P {Φ : PUnit → sProp 𝕄} {g : FVec F S512x512 .f32 → FVec F S512x512 .f32} {sr : Memref sig .tc .vmem S2x512x512 .f32}
    {xr mr : Memref sig .tc .vmem S2x1x512 .f32} {vr : Memref sig .tc .vmem S1x2x144x8192 .bf16} {ov ov' : Fin 4 → ℕ}
    {hv : ∀ a, ov a + S1x1x144x512.size a ≤ S1x2x144x8192.size a} {hv' : ∀ a, ov' a + S1x1x144x512.size a ≤ S1x2x144x8192.size a}
    {ar : Memref sig .tc .vmem S2x144x512 .f32}
    (j : ℕ) (hj : j < 16) (e : ov = ![0, 0, 0, 512 * j]) (e' : ov' = ![0, 1, 0, 512 * j])
    {ps px pv : PosShare TreeShare} {s : Fin 2 → FVec F S512x512 .f32} {m : Fin 2 → FVec F S1x512 .f32}
    {V : S1x2x144x8192.Idx → Elt F .bf16} {a : Fin 2 → FVec F S144x512 .f32} :
    (iprop(owns (c : Thread nD τ) sr ps (pack s) ∗ owns (c : Thread nD τ) xr px (pack fun h => mxV (s h)) ∗ owns (c : Thread nD τ) mr fullShare (pack m)
        ∗ owns (c : Thread nD τ) vr pv V ∗ owns (c : Thread nD τ) ar fullShare (pack a)
      ∗ ((owns (c : Thread nD τ) sr ps (pack s) ∗ owns (c : Thread nD τ) xr px (pack fun h => mxV (s h))
          ∗ owns (c : Thread nD τ) mr fullShare (pack fun h => maximumf (m h) (mxV (s h)))
          ∗ owns (c : Thread nD τ) vr pv V
          ∗ owns (c : Thread nD τ) ar fullShare (pack fun h => accF g (s h) (m h) (a h) (colsAt V h j)))
        -∗ Φ ⟨⟩)) : sProp 𝕄)
      ⊢ wp frame (wpE (defs₀ (F := F)) Variants.none (c : Thread nD τ) none) E (acc2P g sr xr mr vr ov ov' hv hv' ar) Φ := by
  have hs0 : ∀ inb hc, shapeCast S512x512 (window (s := S2x512x512) (pack s) ![0, 0, 0] S1x512x512.size inb : S1x512x512.Idx → Elt F .f32) hc = s 0 := cast_window_pack s 0 rfl
  have hs1 : ∀ inb hc, shapeCast S512x512 (window (s := S2x512x512) (pack s) ![1, 0, 0] S1x512x512.size inb : S1x512x512.Idx → Elt F .f32) hc = s 1 := cast_window_pack s 1 rfl
  have hm0 : ∀ (x : Fin 2 → FVec F S1x512 .f32) inb hc, shapeCast S1x512 (window (s := S2x1x512) (pack x) ![0, 0, 0] S1x1x512.size inb : S1x1x512.Idx → Elt F .f32) hc = x 0 := fun x => cast_window_pack x 0 rfl
  have hm1 : ∀ (x : Fin 2 → FVec F S1x512 .f32) inb hc, shapeCast S1x512 (window (s := S2x1x512) (pack x) ![1, 0, 0] S1x1x512.size inb : S1x1x512.Idx → Elt F .f32) hc = x 1 := fun x => cast_window_pack x 1 rfl
  have ha0 : ∀ (x : Fin 2 → FVec F S144x512 .f32) inb hc, shapeCast S144x512 (window (s := S2x144x512) (pack x) ![0, 0, 0] S1x144x512.size inb : S1x144x512.Idx → Elt F .f32) hc = x 0 := fun x => cast_window_pack x 0 rfl
  have ha1 : ∀ (x : Fin 2 → FVec F S144x512 .f32) inb hc, shapeCast S144x512 (window (s := S2x144x512) (pack x) ![1, 0, 0] S1x144x512.size inb : S1x144x512.Idx → Elt F .f32) hc = x 1 := fun x => cast_window_pack x 1 rfl
  have hv0 : ∀ hc, shapeCast S144x512 (window V ov S1x1x144x512.size hv : S1x1x144x512.Idx → Elt F .bf16) hc = colsAt V 0 j := cast_window_cols V 0 j hj e hv
  have hv1 : ∀ hc, shapeCast S144x512 (window V ov' S1x1x144x512.size hv' : S1x1x144x512.Idx → Elt F .bf16) hc = colsAt V 1 j := cast_window_cols V 1 j hj e' hv'
  have pm0 : ∀ (x : Fin 2 → FVec F S1x512 .f32) y hc, put (s := S2x1x512) (pack x) ![0, 0, 0] S1x1x512.size (shapeCast S1x1x512 y hc) = pack (Function.update x 0 y) := fun x y => put_pack x 0 rfl y
  have pm1 : ∀ (x : Fin 2 → FVec F S1x512 .f32) y hc, put (s := S2x1x512) (pack x) ![1, 0, 0] S1x1x512.size (shapeCast S1x1x512 y hc) = pack (Function.update x 1 y) := fun x y => put_pack x 1 rfl y
  have pa0 : ∀ (x : Fin 2 → FVec F S144x512 .f32) y hc, put (s := S2x144x512) (pack x) ![0, 0, 0] S1x144x512.size (shapeCast S1x144x512 y hc) = pack (Function.update x 0 y) := fun x y => put_pack x 0 rfl y
  have pa1 : ∀ (x : Fin 2 → FVec F S144x512 .f32) y hc, put (s := S2x144x512) (pack x) ![1, 0, 0] S1x144x512.size (shapeCast S1x144x512 y hc) = pack (Function.update x 1 y) := fun x y => put_pack x 1 rfl y
  unfold acc2P
  simp only [wp_bind]
  iintro ⟨HS, HX, HM, HV, HA, Hk⟩
  iapply (wp_accP c)
  isplitl [HS]; · iexact HS
  isplitl [HX]; · iexact HX
  isplitl [HM]; · iexact HM
  isplitl [HV]; · iexact HV
  isplitl [HA]; · iexact HA
  unfold mnV accV mnV
  rw [hs0, hm0, hm0, ha0, hv0, pm0, pa0]
  iintro ⟨HS, HX, HM, HV, HA⟩
  iapply (wp_accP c)
  isplitl [HS]; · iexact HS
  isplitl [HX]; · iexact HX
  isplitl [HM]; · iexact HM
  isplitl [HV]; · iexact HV
  isplitl [HA]; · iexact HA
  unfold mnV accV mnV
  rw [hs1, hm1, hm1, ha1, hv1, pm1, pa1]
  have um : Function.update (Function.update m 0 (maximumf (m 0) (mxV (s 0)))) 1 (maximumf (Function.update m 0 (maximumf (m 0) (mxV (s 0))) 1) (mxV (s 1)))
      = fun h => maximumf (m h) (mxV (s h)) := update_two m fun h => maximumf (m h) (mxV (s h))
  rw [um]
  have ua := update_two a fun h => accF g (s h) (m h) (a h) (colsAt V h j)
  iintro ⟨HS, HX, HM, HV, HA⟩
  iapply Hk
  isplitl [HS]; · iexact HS
  isplitl [HX]; · iexact HX
  isplitl [HM]; · iexact HM
  isplitl [HV]; · iexact HV
  rw [← ua]
  iexact HA

/-- Both heads' results, side by side in the output tile. -/
def pairOut (a : Fin 2 → FVec F S144x512 .f32) : S1x512x256.Idx → Elt F .bf16 := fun y =>
  outF (a ⟨(y 2).val / 128, by have : (y 2).val < 256 := (y 2).isLt; omega⟩) (Shape.pair (d := ![512, 128]) (y 1) ⟨(y 2).val % 128, Nat.mod_lt _ (by decide)⟩)

end Blocks

end Cert.KernelIdeal.Moba
-- ==== Proof.MobaIdeal.Steps.lean ====
/- What the attention kernel's body does to its buffers: a step over one chunk, the loop over whole
   groups of eight, the eight ends, and the whole body. -/
module

public import proofs.«01_k».proof.Proof.MobaIdeal.Heads
public import Idealize.ShloMosaic.Lib.Scf

@[expose] public section

set_option maxRecDepth 16384

noncomputable section

namespace Cert.KernelIdeal.Moba

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)
open Cert.KernelIdeal Cert.KernelIdeal.Gen

variable {F : FTy → Type} [FloatOps F] [Named F]

local notation "𝕄" => MT nD τ sig Unit (Elt F) ℕ (UR sig nD τ) ℕ

/-! ## The values along a query tile -/

section Values

variable (K : S1x2x8192x256.Idx → Elt F .bf16) (Q : S1x2x256x512.Idx → Elt F .bf16) (V : S1x2x144x8192.Idx → Elt F .bf16)

/-- A head's scores of chunk `n`. -/
def sc (h : Fin 2) (n : ℕ) : FVec F S512x512 .f32 := scF (rowsAt K h n) (matAt Q h)

/-- A head's running maxima and sums after `n` chunks. -/
def st (h : Fin 2) : ℕ → FVec F S1x512 .f32 × FVec F S144x512 .f32
  | 0 => (broadcast S1x512 (Named.named κ "mask" 0xF149F2CA#32), broadcast S144x512 (Scalar.ofBits .f32 0x00000000#32))
  | n + 1 => (maximumf (st h n).1 (mxV (sc K Q h n)), accF id (sc K Q h n) (st h n).1 (st h n).2 (colsAt V h n))

/-- A head's sums with its own chunk, `n`, taken up to the diagonal. -/
def fin (h : Fin 2) (n : ℕ) : FVec F S144x512 .f32 := accF causalV (sc K Q h n) (st K Q V h n).1 (st K Q V h n).2 (colsAt V h n)

/-- The result's tile of the query tile `n`. -/
def tile (n : ℕ) : S1x512x256.Idx → Elt F .bf16 := pairOut fun h => fin K Q V h n

end Values

/-- Both heads' results, one put after the other, are the tile. -/
theorem put_pairOut (Y : S1x512x256.Idx → Elt F .bf16) (a : Fin 2 → FVec F S144x512 .f32) (hc hc' : S512x128.ShapeCasts S1x512x128) :
    put (put Y ![0, 0, 0] S1x512x128.size (shapeCast S1x512x128 (outF (a 0)) hc)) ![0, 0, 128] S1x512x128.size (shapeCast S1x512x128 (outF (a 1)) hc') = pairOut a := by
  funext y
  have h0 : (y 0).val < 1 := (y 0).isLt
  have h1 : (y 1).val < 512 := (y 1).isLt
  have h2 : (y 2).val < 256 := (y 2).isLt
  unfold put pairOut
  by_cases hy : (y 2).val < 128
  · rw [dif_neg, dif_pos]
    · refine (shapeCast_addUnit_apply _ _ hc _).trans ?_
      have e : (⟨(y 2).val / 128, by omega⟩ : Fin 2) = 0 := Fin.ext (by show (y 2).val / 128 = 0; omega)
      refine Eq.trans (congrArg (outF (a 0)) (funext fun x => Fin.ext ?_)) (congrFun (congrArg (fun z => outF (a z)) e).symm _)
      match x with
      | ⟨0, _⟩ => show (y 1).val - 0 = (y 1).val; omega
      | ⟨1, _⟩ => show (y 2).val - 0 = (y 2).val % 128; omega
    · intro x
      match x with
      | ⟨0, _⟩ => show 0 ≤ (y 0).val ∧ (y 0).val < 0 + 1; omega
      | ⟨1, _⟩ => show 0 ≤ (y 1).val ∧ (y 1).val < 0 + 512; omega
      | ⟨2, _⟩ => show 0 ≤ (y 2).val ∧ (y 2).val < 0 + 128; omega
    · intro hall
      have : 128 ≤ (y 2).val ∧ _ := hall 2
      omega
  · rw [dif_pos]
    · refine (shapeCast_addUnit_apply _ _ hc' _).trans ?_
      have e : (⟨(y 2).val / 128, by omega⟩ : Fin 2) = 1 := Fin.ext (by show (y 2).val / 128 = 1; omega)
      refine Eq.trans (congrArg (outF (a 1)) (funext fun x => Fin.ext ?_)) (congrFun (congrArg (fun z => outF (a z)) e).symm _)
      match x with
      | ⟨0, _⟩ => show (y 1).val - 0 = (y 1).val; omega
      | ⟨1, _⟩ => show (y 2).val - 128 = (y 2).val % 128; omega
    · intro x
      match x with
      | ⟨0, _⟩ => show 0 ≤ (y 0).val ∧ (y 0).val < 0 + 1; omega
      | ⟨1, _⟩ => show 0 ≤ (y 1).val ∧ (y 1).val < 0 + 512; omega
      | ⟨2, _⟩ => show 128 ≤ (y 2).val ∧ (y 2).val < 128 + 128; omega

/-- Putting over the whole of a buffer leaves what was put. -/
theorem put_zero {s : Shape} {α : Type} (X w : s.Idx → α) {off : Fin s.rank → ℕ} (hoff : ∀ a, off a = 0) : put X off s.size w = w := by
  obtain rfl : off = fun _ => 0 := funext hoff
  funext y
  unfold put
  rw [dif_pos fun a => ⟨Nat.zero_le _, by have := (y a).isLt; omega⟩]
  rfl

section Body

variable (c : Dev nD) {E : Set ℕ} (A : Refs) (p : Fin 4 → PosShare TreeShare)
  (K : S1x2x8192x256.Idx → Elt F .bf16) (Q Qn : S1x2x256x512.Idx → Elt F .bf16) (V : S1x2x144x8192.Idx → Elt F .bf16)

/-- What is held with `n` chunks accumulated, chunk `n`'s scores in `sA` and their maxima in `xA`. -/
def Inv (sA : Memref sig .tc .vmem S2x512x512 .f32) (xA : Memref sig .tc .vmem S2x1x512 .f32)
    (sB : Memref sig .tc .vmem S2x512x512 .f32) (xB : Memref sig .tc .vmem S2x1x512 .f32) (n : ℕ) : sProp 𝕄 :=
  iprop(owns (c : Thread nD τ) A.a3 (p 0) Q ∗ owns (c : Thread nD τ) A.a4 (p 1) Qn ∗ owns (c : Thread nD τ) A.a5 (p 2) K ∗ owns (c : Thread nD τ) A.a6 (p 3) V
    ∗ (∃ d, owns (c : Thread nD τ) A.a7 fullShare d)
    ∗ owns (c : Thread nD τ) sA fullShare (pack fun h => sc K Q h n) ∗ owns (c : Thread nD τ) xA fullShare (pack fun h => mxV (sc K Q h n))
    ∗ (∃ d, owns (c : Thread nD τ) sB fullShare d) ∗ (∃ d, owns (c : Thread nD τ) xB fullShare d)
    ∗ owns (c : Thread nD τ) A.a12 fullShare (pack fun h => (st K Q V h n).1) ∗ owns (c : Thread nD τ) A.a13 fullShare (pack fun h => (st K Q V h n).2))

/-- What is held when the query tile `n` is done: its result, and the next tile's scores of the first chunk. -/
def Done (n : ℕ) : sProp 𝕄 :=
  iprop(owns (c : Thread nD τ) A.a3 (p 0) Q ∗ owns (c : Thread nD τ) A.a4 (p 1) Qn ∗ owns (c : Thread nD τ) A.a5 (p 2) K ∗ owns (c : Thread nD τ) A.a6 (p 3) V
    ∗ owns (c : Thread nD τ) A.a7 fullShare (tile K Q V n)
    ∗ owns (c : Thread nD τ) A.a8 fullShare (pack fun h => sc K Qn h 0) ∗ owns (c : Thread nD τ) A.a10 fullShare (pack fun h => mxV (sc K Qn h 0))
    ∗ (∃ d, owns (c : Thread nD τ) A.a9 fullShare d) ∗ (∃ d, owns (c : Thread nD τ) A.a11 fullShare d)
    ∗ (∃ d, owns (c : Thread nD τ) A.a12 fullShare d) ∗ (∃ d, owns (c : Thread nD τ) A.a13 fullShare d))

/-- A step: the next chunk's scores, and this chunk's accumulation. -/
theorem wp_step {Φ : PUnit → sProp 𝕄} {sA sB : Memref sig .tc .vmem S2x512x512 .f32} {xA xB : Memref sig .tc .vmem S2x1x512 .f32} {ok ok' ov ov' : Fin 4 → ℕ}
    {hk : ∀ a, ok a + S1x1x512x256.size a ≤ S1x2x8192x256.size a} {hk' : ∀ a, ok' a + S1x1x512x256.size a ≤ S1x2x8192x256.size a}
    {hv : ∀ a, ov a + S1x1x144x512.size a ≤ S1x2x144x8192.size a} {hv' : ∀ a, ov' a + S1x1x144x512.size a ≤ S1x2x144x8192.size a}
    (n : ℕ) (hn : n + 1 < 16) (ek : ok = ![0, 0, 512 * (n + 1), 0]) (ek' : ok' = ![0, 1, 512 * (n + 1), 0])
    (ev : ov = ![0, 0, 0, 512 * n]) (ev' : ov' = ![0, 1, 0, 512 * n]) :
    (iprop(Inv c A p K Q Qn V sA xA sB xB n ∗ (Inv c A p K Q Qn V sB xB sA xA (n + 1) -∗ Φ ⟨⟩)) : sProp 𝕄)
      ⊢ wp frame (wpE (defs₀ (F := F)) Variants.none (c : Thread nD τ) none) E (scores2P A.a5 ok ok' hk hk' A.a3 sB xB)
          fun _ => wp frame (wpE (defs₀ (F := F)) Variants.none (c : Thread nD τ) none) E (acc2P id sA xA A.a12 A.a6 ov ov' hv hv' A.a13) Φ := by
  unfold Inv
  iintro ⟨⟨H3, H4, H5, H6, H7, HsA, HxA, ⟨%dS, HsB⟩, ⟨%dX, HxB⟩, H12, H13⟩, Hk⟩
  iapply (wp_scores2P c (n + 1) hn ek ek')
  isplitl [H5]; · iexact H5
  isplitl [H3]; · iexact H3
  isplitl [HsB]; · iexact HsB
  isplitl [HxB]; · iexact HxB
  iintro ⟨H5, H3, HsB, HxB⟩
  iapply (wp_acc2P c n (by omega) ev ev' (s := fun h => sc K Q h n))
  isplitl [HsA]; · iexact HsA
  isplitl [HxA]; · iexact HxA
  isplitl [H12]; · iexact H12
  isplitl [H6]; · iexact H6
  isplitl [H13]; · iexact H13
  iintro ⟨HsA, HxA, H12, H6, H13⟩
  iapply Hk
  isplitl [H3]; · iexact H3
  isplitl [H4]; · iexact H4
  isplitl [H5]; · iexact H5
  isplitl [H6]; · iexact H6
  isplitl [H7]; · iexact H7
  isplitl [HsB]; · iexact HsB
  isplitl [HxB]; · iexact HxB
  isplitl [HsA]; · iexists _; iexact HsA
  isplitl [HxA]; · iexists _; iexact HxA
  isplitl [H12]; · iexact H12
  iexact H13

/-- The running maxima and sums' start. -/
theorem wp_initP {Φ : PUnit → sProp 𝕄} {M : S2x1x512.Idx → Elt F .f32} {S : S2x144x512.Idx → Elt F .f32} :
    (iprop(owns (c : Thread nD τ) A.a12 fullShare M ∗ owns (c : Thread nD τ) A.a13 fullShare S
      ∗ ((owns (c : Thread nD τ) A.a12 fullShare (pack fun h => (st K Q V h 0).1) ∗ owns (c : Thread nD τ) A.a13 fullShare (pack fun h => (st K Q V h 0).2)) -∗ Φ ⟨⟩)) : sProp 𝕄)
      ⊢ wp frame (wpE (defs₀ (F := F)) Variants.none (c : Thread nD τ) none) E (initP A) Φ := by
  unfold initP
  simp only [wp_bind]
  iintro ⟨HM, HS, Hk⟩
  iapply (wp_load_window c A.a12)
  isplitl [HM]; · iexact HM
  iintro HM
  iapply (wp_store_window c A.a12)
  isplitl [HM]; · iexact HM
  iintro HM
  iapply (wp_load_window c A.a13)
  isplitl [HS]; · iexact HS
  iintro HS
  iapply (wp_store_window c A.a13)
  isplitl [HS]; · iexact HS
  iintro HS
  have z : ∀ a : Fin 3, (![0, 0, 0] : Fin 3 → ℕ) a = 0 := fun a => by
    match a with
    | ⟨0, _⟩ => rfl
    | ⟨1, _⟩ => rfl
    | ⟨2, _⟩ => rfl
  rw [put_zero (s := S2x1x512) _ _ z, put_zero (s := S2x144x512) _ _ z, shapeCast_self, shapeCast_self]
  iapply Hk
  isplitl [HM]; · iexact HM
  iexact HS

/-- The end with the accumulation of the tile's own chunk. -/
theorem wp_end {Φ : PUnit → sProp 𝕄} {sr sO : Memref sig .tc .vmem S2x512x512 .f32} {xr xO : Memref sig .tc .vmem S2x1x512 .f32} {ov ov' : Fin 4 → ℕ}
    {hv : ∀ a, ov a + S1x1x144x512.size a ≤ S1x2x144x8192.size a} {hv' : ∀ a, ov' a + S1x1x144x512.size a ≤ S1x2x144x8192.size a}
    (hpar : (sr = A.a8 ∧ xr = A.a10 ∧ sO = A.a9 ∧ xO = A.a11) ∨ (sr = A.a9 ∧ xr = A.a11 ∧ sO = A.a8 ∧ xO = A.a10))
    (n n' : ℕ) (e : n = n') (hn : n < 16) (ev : ov = ![0, 0, 0, 512 * n']) (ev' : ov' = ![0, 1, 0, 512 * n']) :
    (iprop(Inv c A p K Q Qn V sr xr sO xO n ∗ (Done c A p K Q Qn V n' -∗ Φ ⟨⟩)) : sProp 𝕄)
      ⊢ wp frame (wpE (defs₀ (F := F)) Variants.none (c : Thread nD τ) none) E (acc2P causalV sr xr A.a12 A.a6 ov ov' hv hv' A.a13)
          fun _ => wp frame (wpE (defs₀ (F := F)) Variants.none (c : Thread nD τ) none) E (endP A) Φ := by
  subst e
  have both : (iprop((∃ d, owns (c : Thread nD τ) A.a8 fullShare d) ∗ (∃ d, owns (c : Thread nD τ) A.a10 fullShare d)
        ∗ (∃ d, owns (c : Thread nD τ) A.a9 fullShare d) ∗ (∃ d, owns (c : Thread nD τ) A.a11 fullShare d)
        ∗ owns (c : Thread nD τ) A.a3 (p 0) Q ∗ owns (c : Thread nD τ) A.a4 (p 1) Qn ∗ owns (c : Thread nD τ) A.a5 (p 2) K ∗ owns (c : Thread nD τ) A.a6 (p 3) V
        ∗ (∃ d, owns (c : Thread nD τ) A.a7 fullShare d) ∗ (∃ d, owns (c : Thread nD τ) A.a12 fullShare d)
        ∗ owns (c : Thread nD τ) A.a13 fullShare (pack fun h => fin K Q V h n) ∗ (Done c A p K Q Qn V n -∗ Φ ⟨⟩)) : sProp 𝕄)
      ⊢ wp frame (wpE (defs₀ (F := F)) Variants.none (c : Thread nD τ) none) E (endP A) Φ := by
    unfold endP
    simp only [wp_bind]
    iintro ⟨⟨%d8, H8⟩, ⟨%d10, H10⟩, H9, H11, H3, H4, H5, H6, ⟨%d7, H7⟩, H12, H13, Hk⟩
    iapply (wp_scores2P c 0 (by omega) rfl rfl)
    isplitl [H5]; · iexact H5
    isplitl [H4]; · iexact H4
    isplitl [H8]; · iexact H8
    isplitl [H10]; · iexact H10
    iintro ⟨H5, H4, H8, H10⟩
    iapply (wp_outP c)
    isplitl [H13]; · iexact H13
    isplitl [H7]; · iexact H7
    iintro ⟨H13, H7⟩
    iapply (wp_outP c)
    isplitl [H13]; · iexact H13
    isplitl [H7]; · iexact H7
    have o0 : ∀ inb, outV (window (s := S2x144x512) (pack fun h => fin K Q V h n) ![0, 0, 0] S1x144x512.size inb) = outF (fin K Q V 0 n) := fun inb => by
      unfold outV outF
      rw [show ∀ hc, shapeCast S144x512 (window (s := S2x144x512) (pack fun h => fin K Q V h n) ![0, 0, 0] S1x144x512.size inb : S1x144x512.Idx → Elt F .f32) hc = fin K Q V 0 n from
        cast_window_pack (fun h => fin K Q V h n) 0 rfl inb]
    have o1 : ∀ inb, outV (window (s := S2x144x512) (pack fun h => fin K Q V h n) ![1, 0, 0] S1x144x512.size inb) = outF (fin K Q V 1 n) := fun inb => by
      unfold outV outF
      rw [show ∀ hc, shapeCast S144x512 (window (s := S2x144x512) (pack fun h => fin K Q V h n) ![1, 0, 0] S1x144x512.size inb : S1x144x512.Idx → Elt F .f32) hc = fin K Q V 1 n from
        cast_window_pack (fun h => fin K Q V h n) 1 rfl inb]
    rw [o0, o1, put_pairOut _ fun h => fin K Q V h n]
    iintro ⟨H13, H7⟩
    iapply Hk
    unfold Done
    isplitl [H3]; · iexact H3
    isplitl [H4]; · iexact H4
    isplitl [H5]; · iexact H5
    isplitl [H6]; · iexact H6
    isplitl [H7]; · iexact H7
    isplitl [H8]; · iexact H8
    isplitl [H10]; · iexact H10
    isplitl [H9]; · iexact H9
    isplitl [H11]; · iexact H11
    isplitl [H12]; · iexact H12
    iexists _; iexact H13
  unfold Inv
  iintro ⟨⟨H3, H4, H5, H6, H7, HsA, HxA, HsB, HxB, H12, H13⟩, Hk⟩
  iapply (wp_acc2P c n (by omega) ev ev' (s := fun h => sc K Q h n))
  isplitl [HsA]; · iexact HsA
  isplitl [HxA]; · iexact HxA
  isplitl [H12]; · iexact H12
  isplitl [H6]; · iexact H6
  isplitl [H13]; · iexact H13
  iintro ⟨HsA, HxA, H12, H6, H13⟩
  iapply both
  rcases hpar with ⟨rfl, rfl, rfl, rfl⟩ | ⟨rfl, rfl, rfl, rfl⟩
  · isplitl [HsA]; · iexists _; iexact HsA
    isplitl [HxA]; · iexists _; iexact HxA
    isplitl [HsB]; · iexact HsB
    isplitl [HxB]; · iexact HxB
    isplitl [H3]; · iexact H3
    isplitl [H4]; · iexact H4
    isplitl [H5]; · iexact H5
    isplitl [H6]; · iexact H6
    isplitl [H7]; · iexact H7
    isplitl [H12]; · iexists _; iexact H12
    isplitl [H13]; · iexact H13
    iexact Hk
  · isplitl [HsB]; · iexact HsB
    isplitl [HxB]; · iexact HxB
    isplitl [HsA]; · iexists _; iexact HsA
    isplitl [HxA]; · iexists _; iexact HxA
    isplitl [H3]; · iexact H3
    isplitl [H4]; · iexact H4
    isplitl [H5]; · iexact H5
    isplitl [H6]; · iexact H6
    isplitl [H7]; · iexact H7
    isplitl [H12]; · iexists _; iexact H12
    isplitl [H13]; · iexact H13
    iexact Hk

end Body

section Ends

variable (c : Dev nD) {E : Set ℕ} (A : Refs) (p : Fin 4 → PosShare TreeShare)
  (K : S1x2x8192x256.Idx → Elt F .bf16) (Q Qn : S1x2x256x512.Idx → Elt F .bf16) (V : S1x2x144x8192.Idx → Elt F .bf16)

theorem off_keys {a b h : ℕ} (e : a = b) : (![0, h, a, 0] : Fin 4 → ℕ) = ![0, h, b, 0] := by rw [e]
theorem off_values {a b h : ℕ} (e : a = b) : (![0, h, 0, a] : Fin 4 → ℕ) = ![0, h, 0, b] := by rw [e]

/-- One trip of the loop takes the invariant on by eight chunks. -/
theorem wp_tripP (i : grid0.Coords) (t : Fin (k0_t1_loop i).trips) {Φ : PUnit → sProp 𝕄} :
    (iprop(Inv c A p K Q Qn V A.a8 A.a10 A.a9 A.a11 (8 * t.val) ∗ (Inv c A p K Q Qn V A.a8 A.a10 A.a9 A.a11 (8 * (t.val + 1)) -∗ Φ ⟨⟩)) : sProp 𝕄)
      ⊢ wp frame (wpE (defs₀ (F := F)) Variants.none (c : Thread nD τ) none) E (tripP i A t) Φ := by
  have ht : t.val < 1 := Nat.lt_of_lt_of_le t.isLt (k0_t1_abs i).2.1
  unfold tripP
  simp only [wp_bind]
  iintro ⟨HI, Hk⟩
  iapply (wp_step c A p K Q Qn V (8 * t.val + 0) (by omega) ((k0_off1_eq i t 0).trans (off_keys (by simp <;> omega))) ((k0_off2_eq i t 0).trans (off_keys (by simp <;> omega)))
    ((k0_off3_eq i t 0).trans (off_values (by simp <;> omega))) ((k0_off4_eq i t 0).trans (off_values (by simp <;> omega))))
  isplitl [HI]; · iexact HI
  iintro HI
  iapply (wp_step c A p K Q Qn V (8 * t.val + 1) (by omega) ((k0_off1_eq i t 1).trans (off_keys (by simp <;> omega))) ((k0_off2_eq i t 1).trans (off_keys (by simp <;> omega)))
    ((k0_off3_eq i t 1).trans (off_values (by simp <;> omega))) ((k0_off4_eq i t 1).trans (off_values (by simp <;> omega))))
  isplitl [HI]; · iexact HI
  iintro HI
  iapply (wp_step c A p K Q Qn V (8 * t.val + 2) (by omega) ((k0_off1_eq i t 2).trans (off_keys (by simp <;> omega))) ((k0_off2_eq i t 2).trans (off_keys (by simp <;> omega)))
    ((k0_off3_eq i t 2).trans (off_values (by simp <;> omega))) ((k0_off4_eq i t 2).trans (off_values (by simp <;> omega))))
  isplitl [HI]; · iexact HI
  iintro HI
  iapply (wp_step c A p K Q Qn V (8 * t.val + 3) (by omega) ((k0_off1_eq i t 3).trans (off_keys (by simp <;> omega))) ((k0_off2_eq i t 3).trans (off_keys (by simp <;> omega)))
    ((k0_off3_eq i t 3).trans (off_values (by simp <;> omega))) ((k0_off4_eq i t 3).trans (off_values (by simp <;> omega))))
  isplitl [HI]; · iexact HI
  iintro HI
  iapply (wp_step c A p K Q Qn V (8 * t.val + 4) (by omega) ((k0_off1_eq i t 4).trans (off_keys (by simp <;> omega))) ((k0_off2_eq i t 4).trans (off_keys (by simp <;> omega)))
    ((k0_off3_eq i t 4).trans (off_values (by simp <;> omega))) ((k0_off4_eq i t 4).trans (off_values (by simp <;> omega))))
  isplitl [HI]; · iexact HI
  iintro HI
  iapply (wp_step c A p K Q Qn V (8 * t.val + 5) (by omega) ((k0_off1_eq i t 5).trans (off_keys (by simp <;> omega))) ((k0_off2_eq i t 5).trans (off_keys (by simp <;> omega)))
    ((k0_off3_eq i t 5).trans (off_values (by simp <;> omega))) ((k0_off4_eq i t 5).trans (off_values (by simp <;> omega))))
  isplitl [HI]; · iexact HI
  iintro HI
  iapply (wp_step c A p K Q Qn V (8 * t.val + 6) (by omega) ((k0_off1_eq i t 6).trans (off_keys (by simp <;> omega))) ((k0_off2_eq i t 6).trans (off_keys (by simp <;> omega)))
    ((k0_off3_eq i t 6).trans (off_values (by simp <;> omega))) ((k0_off4_eq i t 6).trans (off_values (by simp <;> omega))))
  isplitl [HI]; · iexact HI
  iintro HI
  iapply (wp_step c A p K Q Qn V (8 * t.val + 7) (by omega) ((k0_off1_eq i t 7).trans (off_keys (by simp <;> omega))) ((k0_off2_eq i t 7).trans (off_keys (by simp <;> omega)))
    ((k0_off3_eq i t 7).trans (off_values (by simp <;> omega))) ((k0_off4_eq i t 7).trans (off_values (by simp <;> omega))))
  isplitl [HI]; · iexact HI
  iintro HI
  iapply Hk
  iexact HI

/-- The end with 0 chunks left. -/
theorem wp_caseP0 (i : grid0.Coords) (hc : k0_cond2 i = 1#1) (hi : (i 2).val % 8 = 0) {Φ : PUnit → sProp 𝕄} :
    (iprop(Inv c A p K Q Qn V A.a8 A.a10 A.a9 A.a11 (8 * ((i 2).val / 8)) ∗ (Done c A p K Q Qn V (i 2).val -∗ Φ ⟨⟩)) : sProp 𝕄)
      ⊢ wp frame (wpE (defs₀ (F := F)) Variants.none (c : Thread nD τ) none) E (caseP0 i A hc) Φ := by
  have h16 : (i 2).val < 16 := (i 2).isLt
  unfold caseP0
  simp only [wp_bind]
  iintro ⟨HI, Hk⟩
  iapply (wp_end c A p K Q Qn V (.inl ⟨rfl, rfl, rfl, rfl⟩) (8 * ((i 2).val / 8) + 0) (i 2).val (by omega) (by omega) (k0_off9_eq i) (k0_off10_eq i))
  isplitl [HI]; · iexact HI
  iexact Hk

/-- The end with 1 chunks left. -/
theorem wp_caseP1 (i : grid0.Coords) (hc : k0_cond3 i = 1#1) (hi : (i 2).val % 8 = 1) {Φ : PUnit → sProp 𝕄} :
    (iprop(Inv c A p K Q Qn V A.a8 A.a10 A.a9 A.a11 (8 * ((i 2).val / 8)) ∗ (Done c A p K Q Qn V (i 2).val -∗ Φ ⟨⟩)) : sProp 𝕄)
      ⊢ wp frame (wpE (defs₀ (F := F)) Variants.none (c : Thread nD τ) none) E (caseP1 i A hc) Φ := by
  have h16 : (i 2).val < 16 := (i 2).isLt
  unfold caseP1
  simp only [wp_bind]
  iintro ⟨HI, Hk⟩
  iapply (wp_step c A p K Q Qn V (8 * ((i 2).val / 8) + 0) (by omega) ((k0_off11_eq i).trans (off_keys (by simp <;> omega))) ((k0_off12_eq i).trans (off_keys (by simp <;> omega)))
    ((k0_off13_eq i).trans (off_values (by simp <;> omega))) ((k0_off14_eq i).trans (off_values (by simp <;> omega))))
  isplitl [HI]; · iexact HI
  iintro HI
  iapply (wp_end c A p K Q Qn V (.inr ⟨rfl, rfl, rfl, rfl⟩) (8 * ((i 2).val / 8) + 1) (i 2).val (by omega) (by omega) (k0_off15_eq i) (k0_off16_eq i))
  isplitl [HI]; · iexact HI
  iexact Hk

/-- The end with 2 chunks left. -/
theorem wp_caseP2 (i : grid0.Coords) (hc : k0_cond4 i = 1#1) (hi : (i 2).val % 8 = 2) {Φ : PUnit → sProp 𝕄} :
    (iprop(Inv c A p K Q Qn V A.a8 A.a10 A.a9 A.a11 (8 * ((i 2).val / 8)) ∗ (Done c A p K Q Qn V (i 2).val -∗ Φ ⟨⟩)) : sProp 𝕄)
      ⊢ wp frame (wpE (defs₀ (F := F)) Variants.none (c : Thread nD τ) none) E (caseP2 i A hc) Φ := by
  have h16 : (i 2).val < 16 := (i 2).isLt
  unfold caseP2
  simp only [wp_bind]
  iintro ⟨HI, Hk⟩
  iapply (wp_step c A p K Q Qn V (8 * ((i 2).val / 8) + 0) (by omega) ((k0_off17_eq i 0).trans (off_keys (by simp <;> omega))) ((k0_off18_eq i 0).trans (off_keys (by simp <;> omega)))
    ((k0_off19_eq i 0).trans (off_values (by simp <;> omega))) ((k0_off20_eq i 0).trans (off_values (by simp <;> omega))))
  isplitl [HI]; · iexact HI
  iintro HI
  iapply (wp_step c A p K Q Qn V (8 * ((i 2).val / 8) + 1) (by omega) ((k0_off17_eq i 1).trans (off_keys (by simp <;> omega))) ((k0_off18_eq i 1).trans (off_keys (by simp <;> omega)))
    ((k0_off19_eq i 1).trans (off_values (by simp <;> omega))) ((k0_off20_eq i 1).trans (off_values (by simp <;> omega))))
  isplitl [HI]; · iexact HI
  iintro HI
  iapply (wp_end c A p K Q Qn V (.inl ⟨rfl, rfl, rfl, rfl⟩) (8 * ((i 2).val / 8) + 2) (i 2).val (by omega) (by omega) (k0_off21_eq i) (k0_off22_eq i))
  isplitl [HI]; · iexact HI
  iexact Hk

/-- The end with 3 chunks left. -/
theorem wp_caseP3 (i : grid0.Coords) (hc : k0_cond5 i = 1#1) (hi : (i 2).val % 8 = 3) {Φ : PUnit → sProp 𝕄} :
    (iprop(Inv c A p K Q Qn V A.a8 A.a10 A.a9 A.a11 (8 * ((i 2).val / 8)) ∗ (Done c A p K Q Qn V (i 2).val -∗ Φ ⟨⟩)) : sProp 𝕄)
      ⊢ wp frame (wpE (defs₀ (F := F)) Variants.none (c : Thread nD τ) none) E (caseP3 i A hc) Φ := by
  have h16 : (i 2).val < 16 := (i 2).isLt
  unfold caseP3
  simp only [wp_bind]
  iintro ⟨HI, Hk⟩
  iapply (wp_step c A p K Q Qn V (8 * ((i 2).val / 8) + 0) (by omega) ((k0_off23_eq i 0).trans (off_keys (by simp <;> omega))) ((k0_off24_eq i 0).trans (off_keys (by simp <;> omega)))
    ((k0_off25_eq i 0).trans (off_values (by simp <;> omega))) ((k0_off26_eq i 0).trans (off_values (by simp <;> omega))))
  isplitl [HI]; · iexact HI
  iintro HI
  iapply (wp_step c A p K Q Qn V (8 * ((i 2).val / 8) + 1) (by omega) ((k0_off23_eq i 1).trans (off_keys (by simp <;> omega))) ((k0_off24_eq i 1).trans (off_keys (by simp <;> omega)))
    ((k0_off25_eq i 1).trans (off_values (by simp <;> omega))) ((k0_off26_eq i 1).trans (off_values (by simp <;> omega))))
  isplitl [HI]; · iexact HI
  iintro HI
  iapply (wp_step c A p K Q Qn V (8 * ((i 2).val / 8) + 2) (by omega) ((k0_off23_eq i 2).trans (off_keys (by simp <;> omega))) ((k0_off24_eq i 2).trans (off_keys (by simp <;> omega)))
    ((k0_off25_eq i 2).trans (off_values (by simp <;> omega))) ((k0_off26_eq i 2).trans (off_values (by simp <;> omega))))
  isplitl [HI]; · iexact HI
  iintro HI
  iapply (wp_end c A p K Q Qn V (.inr ⟨rfl, rfl, rfl, rfl⟩) (8 * ((i 2).val / 8) + 3) (i 2).val (by omega) (by omega) (k0_off27_eq i) (k0_off28_eq i))
  isplitl [HI]; · iexact HI
  iexact Hk

/-- The end with 4 chunks left. -/
theorem wp_caseP4 (i : grid0.Coords) (hc : k0_cond6 i = 1#1) (hi : (i 2).val % 8 = 4) {Φ : PUnit → sProp 𝕄} :
    (iprop(Inv c A p K Q Qn V A.a8 A.a10 A.a9 A.a11 (8 * ((i 2).val / 8)) ∗ (Done c A p K Q Qn V (i 2).val -∗ Φ ⟨⟩)) : sProp 𝕄)
      ⊢ wp frame (wpE (defs₀ (F := F)) Variants.none (c : Thread nD τ) none) E (caseP4 i A hc) Φ := by
  have h16 : (i 2).val < 16 := (i 2).isLt
  unfold caseP4
  simp only [wp_bind]
  iintro ⟨HI, Hk⟩
  iapply (wp_step c A p K Q Qn V (8 * ((i 2).val / 8) + 0) (by omega) ((k0_off29_eq i 0).trans (off_keys (by simp <;> omega))) ((k0_off30_eq i 0).trans (off_keys (by simp <;> omega)))
    ((k0_off31_eq i 0).trans (off_values (by simp <;> omega))) ((k0_off32_eq i 0).trans (off_values (by simp <;> omega))))
  isplitl [HI]; · iexact HI
  iintro HI
  iapply (wp_step c A p K Q Qn V (8 * ((i 2).val / 8) + 1) (by omega) ((k0_off29_eq i 1).trans (off_keys (by simp <;> omega))) ((k0_off30_eq i 1).trans (off_keys (by simp <;> omega)))
    ((k0_off31_eq i 1).trans (off_values (by simp <;> omega))) ((k0_off32_eq i 1).trans (off_values (by simp <;> omega))))
  isplitl [HI]; · iexact HI
  iintro HI
  iapply (wp_step c A p K Q Qn V (8 * ((i 2).val / 8) + 2) (by omega) ((k0_off29_eq i 2).trans (off_keys (by simp <;> omega))) ((k0_off30_eq i 2).trans (off_keys (by simp <;> omega)))
    ((k0_off31_eq i 2).trans (off_values (by simp <;> omega))) ((k0_off32_eq i 2).trans (off_values (by simp <;> omega))))
  isplitl [HI]; · iexact HI
  iintro HI
  iapply (wp_step c A p K Q Qn V (8 * ((i 2).val / 8) + 3) (by omega) ((k0_off29_eq i 3).trans (off_keys (by simp <;> omega))) ((k0_off30_eq i 3).trans (off_keys (by simp <;> omega)))
    ((k0_off31_eq i 3).trans (off_values (by simp <;> omega))) ((k0_off32_eq i 3).trans (off_values (by simp <;> omega))))
  isplitl [HI]; · iexact HI
  iintro HI
  iapply (wp_end c A p K Q Qn V (.inl ⟨rfl, rfl, rfl, rfl⟩) (8 * ((i 2).val / 8) + 4) (i 2).val (by omega) (by omega) (k0_off33_eq i) (k0_off34_eq i))
  isplitl [HI]; · iexact HI
  iexact Hk

/-- The end with 5 chunks left. -/
theorem wp_caseP5 (i : grid0.Coords) (hc : k0_cond7 i = 1#1) (hi : (i 2).val % 8 = 5) {Φ : PUnit → sProp 𝕄} :
    (iprop(Inv c A p K Q Qn V A.a8 A.a10 A.a9 A.a11 (8 * ((i 2).val / 8)) ∗ (Done c A p K Q Qn V (i 2).val -∗ Φ ⟨⟩)) : sProp 𝕄)
      ⊢ wp frame (wpE (defs₀ (F := F)) Variants.none (c : Thread nD τ) none) E (caseP5 i A hc) Φ := by
  have h16 : (i 2).val < 16 := (i 2).isLt
  unfold caseP5
  simp only [wp_bind]
  iintro ⟨HI, Hk⟩
  iapply (wp_step c A p K Q Qn V (8 * ((i 2).val / 8) + 0) (by omega) ((k0_off35_eq i 0).trans (off_keys (by simp <;> omega))) ((k0_off36_eq i 0).trans (off_keys (by simp <;> omega)))
    ((k0_off37_eq i 0).trans (off_values (by simp <;> omega))) ((k0_off38_eq i 0).trans (off_values (by simp <;> omega))))
  isplitl [HI]; · iexact HI
  iintro HI
  iapply (wp_step c A p K Q Qn V (8 * ((i 2).val / 8) + 1) (by omega) ((k0_off35_eq i 1).trans (off_keys (by simp <;> omega))) ((k0_off36_eq i 1).trans (off_keys (by simp <;> omega)))
    ((k0_off37_eq i 1).trans (off_values (by simp <;> omega))) ((k0_off38_eq i 1).trans (off_values (by simp <;> omega))))
  isplitl [HI]; · iexact HI
  iintro HI
  iapply (wp_step c A p K Q Qn V (8 * ((i 2).val / 8) + 2) (by omega) ((k0_off35_eq i 2).trans (off_keys (by simp <;> omega))) ((k0_off36_eq i 2).trans (off_keys (by simp <;> omega)))
    ((k0_off37_eq i 2).trans (off_values (by simp <;> omega))) ((k0_off38_eq i 2).trans (off_values (by simp <;> omega))))
  isplitl [HI]; · iexact HI
  iintro HI
  iapply (wp_step c A p K Q Qn V (8 * ((i 2).val / 8) + 3) (by omega) ((k0_off35_eq i 3).trans (off_keys (by simp <;> omega))) ((k0_off36_eq i 3).trans (off_keys (by simp <;> omega)))
    ((k0_off37_eq i 3).trans (off_values (by simp <;> omega))) ((k0_off38_eq i 3).trans (off_values (by simp <;> omega))))
  isplitl [HI]; · iexact HI
  iintro HI
  iapply (wp_step c A p K Q Qn V (8 * ((i 2).val / 8) + 4) (by omega) ((k0_off35_eq i 4).trans (off_keys (by simp <;> omega))) ((k0_off36_eq i 4).trans (off_keys (by simp <;> omega)))
    ((k0_off37_eq i 4).trans (off_values (by simp <;> omega))) ((k0_off38_eq i 4).trans (off_values (by simp <;> omega))))
  isplitl [HI]; · iexact HI
  iintro HI
  iapply (wp_end c A p K Q Qn V (.inr ⟨rfl, rfl, rfl, rfl⟩) (8 * ((i 2).val / 8) + 5) (i 2).val (by omega) (by omega) (k0_off39_eq i) (k0_off40_eq i))
  isplitl [HI]; · iexact HI
  iexact Hk

/-- The end with 6 chunks left. -/
theorem wp_caseP6 (i : grid0.Coords) (hc : k0_cond8 i = 1#1) (hi : (i 2).val % 8 = 6) {Φ : PUnit → sProp 𝕄} :
    (iprop(Inv c A p K Q Qn V A.a8 A.a10 A.a9 A.a11 (8 * ((i 2).val / 8)) ∗ (Done c A p K Q Qn V (i 2).val -∗ Φ ⟨⟩)) : sProp 𝕄)
      ⊢ wp frame (wpE (defs₀ (F := F)) Variants.none (c : Thread nD τ) none) E (caseP6 i A hc) Φ := by
  have h16 : (i 2).val < 16 := (i 2).isLt
  unfold caseP6
  simp only [wp_bind]
  iintro ⟨HI, Hk⟩
  iapply (wp_step c A p K Q Qn V (8 * ((i 2).val / 8) + 0) (by omega) ((k0_off41_eq i 0).trans (off_keys (by simp <;> omega))) ((k0_off42_eq i 0).trans (off_keys (by simp <;> omega)))
    ((k0_off43_eq i 0).trans (off_values (by simp <;> omega))) ((k0_off44_eq i 0).trans (off_values (by simp <;> omega))))
  isplitl [HI]; · iexact HI
  iintro HI
  iapply (wp_step c A p K Q Qn V (8 * ((i 2).val / 8) + 1) (by omega) ((k0_off41_eq i 1).trans (off_keys (by simp <;> omega))) ((k0_off42_eq i 1).trans (off_keys (by simp <;> omega)))
    ((k0_off43_eq i 1).trans (off_values (by simp <;> omega))) ((k0_off44_eq i 1).trans (off_values (by simp <;> omega))))
  isplitl [HI]; · iexact HI
  iintro HI
  iapply (wp_step c A p K Q Qn V (8 * ((i 2).val / 8) + 2) (by omega) ((k0_off41_eq i 2).trans (off_keys (by simp <;> omega))) ((k0_off42_eq i 2).trans (off_keys (by simp <;> omega)))
    ((k0_off43_eq i 2).trans (off_values (by simp <;> omega))) ((k0_off44_eq i 2).trans (off_values (by simp <;> omega))))
  isplitl [HI]; · iexact HI
  iintro HI
  iapply (wp_step c A p K Q Qn V (8 * ((i 2).val / 8) + 3) (by omega) ((k0_off41_eq i 3).trans (off_keys (by simp <;> omega))) ((k0_off42_eq i 3).trans (off_keys (by simp <;> omega)))
    ((k0_off43_eq i 3).trans (off_values (by simp <;> omega))) ((k0_off44_eq i 3).trans (off_values (by simp <;> omega))))
  isplitl [HI]; · iexact HI
  iintro HI
  iapply (wp_step c A p K Q Qn V (8 * ((i 2).val / 8) + 4) (by omega) ((k0_off41_eq i 4).trans (off_keys (by simp <;> omega))) ((k0_off42_eq i 4).trans (off_keys (by simp <;> omega)))
    ((k0_off43_eq i 4).trans (off_values (by simp <;> omega))) ((k0_off44_eq i 4).trans (off_values (by simp <;> omega))))
  isplitl [HI]; · iexact HI
  iintro HI
  iapply (wp_step c A p K Q Qn V (8 * ((i 2).val / 8) + 5) (by omega) ((k0_off41_eq i 5).trans (off_keys (by simp <;> omega))) ((k0_off42_eq i 5).trans (off_keys (by simp <;> omega)))
    ((k0_off43_eq i 5).trans (off_values (by simp <;> omega))) ((k0_off44_eq i 5).trans (off_values (by simp <;> omega))))
  isplitl [HI]; · iexact HI
  iintro HI
  iapply (wp_end c A p K Q Qn V (.inl ⟨rfl, rfl, rfl, rfl⟩) (8 * ((i 2).val / 8) + 6) (i 2).val (by omega) (by omega) (k0_off45_eq i) (k0_off46_eq i))
  isplitl [HI]; · iexact HI
  iexact Hk

/-- The end with 7 chunks left. -/
theorem wp_caseP7 (i : grid0.Coords) (hc : k0_cond9 i = 1#1) (hi : (i 2).val % 8 = 7) {Φ : PUnit → sProp 𝕄} :
    (iprop(Inv c A p K Q Qn V A.a8 A.a10 A.a9 A.a11 (8 * ((i 2).val / 8)) ∗ (Done c A p K Q Qn V (i 2).val -∗ Φ ⟨⟩)) : sProp 𝕄)
      ⊢ wp frame (wpE (defs₀ (F := F)) Variants.none (c : Thread nD τ) none) E (caseP7 i A hc) Φ := by
  have h16 : (i 2).val < 16 := (i 2).isLt
  unfold caseP7
  simp only [wp_bind]
  iintro ⟨HI, Hk⟩
  iapply (wp_step c A p K Q Qn V (8 * ((i 2).val / 8) + 0) (by omega) ((k0_off47_eq i 0).trans (off_keys (by simp <;> omega))) ((k0_off48_eq i 0).trans (off_keys (by simp <;> omega)))
    ((k0_off49_eq i 0).trans (off_values (by simp <;> omega))) ((k0_off50_eq i 0).trans (off_values (by simp <;> omega))))
  isplitl [HI]; · iexact HI
  iintro HI
  iapply (wp_step c A p K Q Qn V (8 * ((i 2).val / 8) + 1) (by omega) ((k0_off47_eq i 1).trans (off_keys (by simp <;> omega))) ((k0_off48_eq i 1).trans (off_keys (by simp <;> omega)))
    ((k0_off49_eq i 1).trans (off_values (by simp <;> omega))) ((k0_off50_eq i 1).trans (off_values (by simp <;> omega))))
  isplitl [HI]; · iexact HI
  iintro HI
  iapply (wp_step c A p K Q Qn V (8 * ((i 2).val / 8) + 2) (by omega) ((k0_off47_eq i 2).trans (off_keys (by simp <;> omega))) ((k0_off48_eq i 2).trans (off_keys (by simp <;> omega)))
    ((k0_off49_eq i 2).trans (off_values (by simp <;> omega))) ((k0_off50_eq i 2).trans (off_values (by simp <;> omega))))
  isplitl [HI]; · iexact HI
  iintro HI
  iapply (wp_step c A p K Q Qn V (8 * ((i 2).val / 8) + 3) (by omega) ((k0_off47_eq i 3).trans (off_keys (by simp <;> omega))) ((k0_off48_eq i 3).trans (off_keys (by simp <;> omega)))
    ((k0_off49_eq i 3).trans (off_values (by simp <;> omega))) ((k0_off50_eq i 3).trans (off_values (by simp <;> omega))))
  isplitl [HI]; · iexact HI
  iintro HI
  iapply (wp_step c A p K Q Qn V (8 * ((i 2).val / 8) + 4) (by omega) ((k0_off47_eq i 4).trans (off_keys (by simp <;> omega))) ((k0_off48_eq i 4).trans (off_keys (by simp <;> omega)))
    ((k0_off49_eq i 4).trans (off_values (by simp <;> omega))) ((k0_off50_eq i 4).trans (off_values (by simp <;> omega))))
  isplitl [HI]; · iexact HI
  iintro HI
  iapply (wp_step c A p K Q Qn V (8 * ((i 2).val / 8) + 5) (by omega) ((k0_off47_eq i 5).trans (off_keys (by simp <;> omega))) ((k0_off48_eq i 5).trans (off_keys (by simp <;> omega)))
    ((k0_off49_eq i 5).trans (off_values (by simp <;> omega))) ((k0_off50_eq i 5).trans (off_values (by simp <;> omega))))
  isplitl [HI]; · iexact HI
  iintro HI
  iapply (wp_step c A p K Q Qn V (8 * ((i 2).val / 8) + 6) (by omega) ((k0_off47_eq i 6).trans (off_keys (by simp <;> omega))) ((k0_off48_eq i 6).trans (off_keys (by simp <;> omega)))
    ((k0_off49_eq i 6).trans (off_values (by simp <;> omega))) ((k0_off50_eq i 6).trans (off_values (by simp <;> omega))))
  isplitl [HI]; · iexact HI
  iintro HI
  iapply (wp_end c A p K Q Qn V (.inr ⟨rfl, rfl, rfl, rfl⟩) (8 * ((i 2).val / 8) + 7) (i 2).val (by omega) (by omega) (k0_off51_eq i) (k0_off52_eq i))
  isplitl [HI]; · iexact HI
  iexact Hk

end Ends

end Cert.KernelIdeal.Moba
-- ==== Proof.MobaIdeal.Whole.lean ====
/- The attention kernel's whole body at a grid point. -/
module

public import proofs.«01_k».proof.Proof.MobaIdeal.Steps
public import proofs.«01_k».proof.Proof.MobaIdeal.Body

@[expose] public section

set_option maxRecDepth 16384

noncomputable section

namespace Cert.KernelIdeal.Moba

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)
open Cert.KernelIdeal Cert.KernelIdeal.Gen

variable {F : FTy → Type} [FloatOps F] [Named F]

local notation "𝕄" => MT nD τ sig Unit (Elt F) ℕ (UR sig nD τ) ℕ

/-! ## The branches -/

theorem cond1_iff (i : grid0.Coords) : k0_cond1 i = 1#1 ↔ (i 2).val = 0 := by
  have h : (i 2).val < 16 := (i 2).isLt
  unfold k0_cond1
  revert h
  generalize (i 2).val = n
  revert n
  decide +kernel

theorem cond2_iff (i : grid0.Coords) : k0_cond2 i = 1#1 ↔ (i 2).val % 8 = 0 := by
  have h : (i 2).val < 16 := (i 2).isLt
  unfold k0_cond2
  revert h
  generalize (i 2).val = n
  revert n
  decide +kernel

theorem cond3_iff (i : grid0.Coords) : k0_cond3 i = 1#1 ↔ (i 2).val % 8 = 1 := by
  have h : (i 2).val < 16 := (i 2).isLt
  unfold k0_cond3
  revert h
  generalize (i 2).val = n
  revert n
  decide +kernel

theorem cond4_iff (i : grid0.Coords) : k0_cond4 i = 1#1 ↔ (i 2).val % 8 = 2 := by
  have h : (i 2).val < 16 := (i 2).isLt
  unfold k0_cond4
  revert h
  generalize (i 2).val = n
  revert n
  decide +kernel

theorem cond5_iff (i : grid0.Coords) : k0_cond5 i = 1#1 ↔ (i 2).val % 8 = 3 := by
  have h : (i 2).val < 16 := (i 2).isLt
  unfold k0_cond5
  revert h
  generalize (i 2).val = n
  revert n
  decide +kernel

theorem cond6_iff (i : grid0.Coords) : k0_cond6 i = 1#1 ↔ (i 2).val % 8 = 4 := by
  have h : (i 2).val < 16 := (i 2).isLt
  unfold k0_cond6
  revert h
  generalize (i 2).val = n
  revert n
  decide +kernel

theorem cond7_iff (i : grid0.Coords) : k0_cond7 i = 1#1 ↔ (i 2).val % 8 = 5 := by
  have h : (i 2).val < 16 := (i 2).isLt
  unfold k0_cond7
  revert h
  generalize (i 2).val = n
  revert n
  decide +kernel

theorem cond8_iff (i : grid0.Coords) : k0_cond8 i = 1#1 ↔ (i 2).val % 8 = 6 := by
  have h : (i 2).val < 16 := (i 2).isLt
  unfold k0_cond8
  revert h
  generalize (i 2).val = n
  revert n
  decide +kernel

theorem cond9_iff (i : grid0.Coords) : k0_cond9 i = 1#1 ↔ (i 2).val % 8 = 7 := by
  have h : (i 2).val < 16 := (i 2).isLt
  unfold k0_cond9
  revert h
  generalize (i 2).val = n
  revert n
  decide +kernel

/-- The loop over whole groups runs once per group. -/
theorem trips1 (i : grid0.Coords) : (k0_t1_loop i).trips = (i 2).val / 8 := by
  have h : (i 2).val < 16 := (i 2).isLt
  unfold k0_t1_loop
  revert h
  generalize (i 2).val = n
  revert n
  decide +kernel

/-- The loop over the groups' remainder never runs. -/
theorem trips2 (i : grid0.Coords) : (k0_t2_loop i).trips = 0 := by
  have h : (i 2).val < 16 := (i 2).isLt
  unfold k0_t2_loop
  revert h
  generalize (i 2).val = n
  revert n
  decide +kernel

/-- What follows the first chunk's scores. -/
def afterP (i : grid0.Coords) (A : Refs) : Prog (TpuEff nD τ sig (Elt F) Λ₀ .tc) PUnit := do
  Scf.Loop.for (k0_t1_loop i) (k0_t1_ok i) ⟨⟩ fun t _ => do
    tripP i A t
    pure ⟨⟩
  Scf.Loop.for (k0_t2_loop i) (k0_t2_ok i) ⟨⟩ fun t _ => do
    restP i A t
    pure ⟨⟩
  if h2 : k0_cond2 i = 1#1 then do
    caseP0 i A h2
    pure ⟨⟩
  else do
    pure ⟨⟩
  if h3 : k0_cond3 i = 1#1 then do
    caseP1 i A h3
    pure ⟨⟩
  else do
    pure ⟨⟩
  let _ ← pure (⟨BitVec.ofNat 32 (i 2).val, Scalar.muli (Scalar.divsi (BitVec.ofNat 32 (i 2).val) 8#32) 8#32,
      Scalar.subi (BitVec.ofNat 32 (i 2).val) (Scalar.muli (Scalar.divsi (BitVec.ofNat 32 (i 2).val) 8#32) 8#32),
      Scalar.extui (Scalar.cmpi .eq (Scalar.subi (BitVec.ofNat 32 (i 2).val) (Scalar.muli (Scalar.divsi (BitVec.ofNat 32 (i 2).val) 8#32) 8#32)) 2#32), 0#32⟩ :
      Σ' (arg2 : BitVec 32) (v12 : BitVec 32) (v13 : BitVec 32) (v26 : BitVec 32), BitVec 32)
  tailP i A

/-- The body starts, computes the first chunk's scores at the first query tile, and goes on. -/
theorem split_eq (i : grid0.Coords) (A : Refs) : (do let _ ← headP (F := F) i A; tailP i A) =
    (initP A >>= fun _ => if _h : k0_cond1 i = 1#1 then firstP A >>= fun _ => afterP i A else afterP i A) := by
  unfold headP afterP
  by_cases h1 : k0_cond1 i = 1#1
  · simp only [dif_pos h1, bind_assoc]
    by_cases h2 : k0_cond2 i = 1#1 <;> by_cases h3 : k0_cond3 i = 1#1 <;> simp only [h2, h3, dite_true, dite_false, bind_assoc] <;> rfl
  · simp only [dif_neg h1, bind_assoc]
    by_cases h2 : k0_cond2 i = 1#1 <;> by_cases h3 : k0_cond3 i = 1#1 <;> simp only [h2, h3, dite_true, dite_false, bind_assoc] <;> rfl

section Body

variable (c : Dev nD) {E : Set ℕ} (A : Refs) (p : Fin 4 → PosShare TreeShare)
  (K : S1x2x8192x256.Idx → Elt F .bf16) (Q Qn : S1x2x256x512.Idx → Elt F .bf16) (V : S1x2x144x8192.Idx → Elt F .bf16)

/-- The loop over whole groups takes the invariant from no chunk to all of them. -/
theorem wp_groups (i : grid0.Coords) {Φ : PUnit → sProp 𝕄} :
    (iprop(Inv c A p K Q Qn V A.a8 A.a10 A.a9 A.a11 0 ∗ (Inv c A p K Q Qn V A.a8 A.a10 A.a9 A.a11 (8 * ((i 2).val / 8)) -∗ Φ ⟨⟩)) : sProp 𝕄)
      ⊢ wp frame (wpE (defs₀ (F := F)) Variants.none (c : Thread nD τ) none) E
          (Scf.Loop.for (k0_t1_loop i) (k0_t1_ok i) ⟨⟩ fun t _ => do
            tripP i A t
            pure ⟨⟩) Φ := by
  have key := Scf.wp_for frame (wpE (defs₀ (F := F)) Variants.none (c : Thread nD τ) none) E (k0_t1_loop i).lb (k0_t1_loop i).ub (k0_t1_loop i).st (k0_t1_ok i)
    (⟨⟩ : PUnit) (fun t _ => do
            tripP i A t
            pure ⟨⟩) (fun n _ => Inv c A p K Q Qn V A.a8 A.a10 A.a9 A.a11 (8 * n)) (fun t _ => by
      simp only [wp_bind, wp_pure]
      iintro HI
      iapply (wp_tripP c A p K Q Qn V i t)
      isplitl [HI]; · iexact HI
      iintro HI
      imodintro
      iexact HI) (Q := Φ)
  refine BIBase.Entails.trans ?_ key
  have e : Scf.trips (k0_t1_loop i).lb (k0_t1_loop i).ub (k0_t1_loop i).st = (i 2).val / 8 := trips1 i
  rw [e]
  iintro ⟨HI, Hk⟩
  isplitl [HI]; · iexact HI
  iintro %acc HI
  iapply Hk
  iexact HI

/-- The ends: of the eight only the one that takes the chunks left runs. -/
theorem wp_ends (i : grid0.Coords) {β : Type} (x : β) {Φ : PUnit → sProp 𝕄} :
    (iprop(Inv c A p K Q Qn V A.a8 A.a10 A.a9 A.a11 (8 * ((i 2).val / 8)) ∗ (Done c A p K Q Qn V (i 2).val -∗ Φ ⟨⟩)) : sProp 𝕄)
      ⊢ wp frame (wpE (defs₀ (F := F)) Variants.none (c : Thread nD τ) none) E (do
          if h2 : k0_cond2 i = 1#1 then do
            caseP0 i A h2
            pure ⟨⟩
          else do
            pure ⟨⟩
          if h3 : k0_cond3 i = 1#1 then do
            caseP1 i A h3
            pure ⟨⟩
          else do
            pure ⟨⟩
          let _ ← pure x
          tailP i A) Φ := by
  unfold tailP
  have hL : (i 2).val % 8 < 8 := Nat.mod_lt _ (by omega)
  have c0 := cond2_iff i
  have c1 := cond3_iff i
  have c2 := cond4_iff i
  have c3 := cond5_iff i
  have c4 := cond6_iff i
  have c5 := cond7_iff i
  have c6 := cond8_iff i
  have c7 := cond9_iff i
  rcases (show (i 2).val % 8 = 0 ∨ (i 2).val % 8 = 1 ∨ (i 2).val % 8 = 2 ∨ (i 2).val % 8 = 3 ∨ (i 2).val % 8 = 4 ∨ (i 2).val % 8 = 5 ∨ (i 2).val % 8 = 6 ∨ (i 2).val % 8 = 7 by omega) with h | h | h | h | h | h | h | h
  · simp only [dif_pos (c0.mpr h), dif_neg (fun z => absurd (c1.mp z) (by omega) : ¬ k0_cond3 i = 1#1), dif_neg (fun z => absurd (c2.mp z) (by omega) : ¬ k0_cond4 i = 1#1), dif_neg (fun z => absurd (c3.mp z) (by omega) : ¬ k0_cond5 i = 1#1), dif_neg (fun z => absurd (c4.mp z) (by omega) : ¬ k0_cond6 i = 1#1), dif_neg (fun z => absurd (c5.mp z) (by omega) : ¬ k0_cond7 i = 1#1), dif_neg (fun z => absurd (c6.mp z) (by omega) : ¬ k0_cond8 i = 1#1), dif_neg (fun z => absurd (c7.mp z) (by omega) : ¬ k0_cond9 i = 1#1), wp_bind, wp_pure]
    iintro ⟨HI, Hk⟩
    iapply (wp_caseP0 c A p K Q Qn V i (c0.mpr h) h)
    isplitl [HI]; · iexact HI
    iintro HD
    imodintro
    imodintro
    iapply Hk
    iexact HD
  · simp only [dif_neg (fun z => absurd (c0.mp z) (by omega) : ¬ k0_cond2 i = 1#1), dif_pos (c1.mpr h), dif_neg (fun z => absurd (c2.mp z) (by omega) : ¬ k0_cond4 i = 1#1), dif_neg (fun z => absurd (c3.mp z) (by omega) : ¬ k0_cond5 i = 1#1), dif_neg (fun z => absurd (c4.mp z) (by omega) : ¬ k0_cond6 i = 1#1), dif_neg (fun z => absurd (c5.mp z) (by omega) : ¬ k0_cond7 i = 1#1), dif_neg (fun z => absurd (c6.mp z) (by omega) : ¬ k0_cond8 i = 1#1), dif_neg (fun z => absurd (c7.mp z) (by omega) : ¬ k0_cond9 i = 1#1), wp_bind, wp_pure]
    iintro ⟨HI, Hk⟩
    iapply (wp_caseP1 c A p K Q Qn V i (c1.mpr h) h)
    isplitl [HI]; · iexact HI
    iintro HD
    imodintro
    imodintro
    iapply Hk
    iexact HD
  · simp only [dif_neg (fun z => absurd (c0.mp z) (by omega) : ¬ k0_cond2 i = 1#1), dif_neg (fun z => absurd (c1.mp z) (by omega) : ¬ k0_cond3 i = 1#1), dif_pos (c2.mpr h), dif_neg (fun z => absurd (c3.mp z) (by omega) : ¬ k0_cond5 i = 1#1), dif_neg (fun z => absurd (c4.mp z) (by omega) : ¬ k0_cond6 i = 1#1), dif_neg (fun z => absurd (c5.mp z) (by omega) : ¬ k0_cond7 i = 1#1), dif_neg (fun z => absurd (c6.mp z) (by omega) : ¬ k0_cond8 i = 1#1), dif_neg (fun z => absurd (c7.mp z) (by omega) : ¬ k0_cond9 i = 1#1), wp_bind, wp_pure]
    iintro ⟨HI, Hk⟩
    imodintro
    iapply (wp_caseP2 c A p K Q Qn V i (c2.mpr h) h)
    isplitl [HI]; · iexact HI
    iintro HD
    imodintro
    iapply Hk
    iexact HD
  · simp only [dif_neg (fun z => absurd (c0.mp z) (by omega) : ¬ k0_cond2 i = 1#1), dif_neg (fun z => absurd (c1.mp z) (by omega) : ¬ k0_cond3 i = 1#1), dif_neg (fun z => absurd (c2.mp z) (by omega) : ¬ k0_cond4 i = 1#1), dif_pos (c3.mpr h), dif_neg (fun z => absurd (c4.mp z) (by omega) : ¬ k0_cond6 i = 1#1), dif_neg (fun z => absurd (c5.mp z) (by omega) : ¬ k0_cond7 i = 1#1), dif_neg (fun z => absurd (c6.mp z) (by omega) : ¬ k0_cond8 i = 1#1), dif_neg (fun z => absurd (c7.mp z) (by omega) : ¬ k0_cond9 i = 1#1), wp_bind, wp_pure]
    iintro ⟨HI, Hk⟩
    imodintro
    iapply (wp_caseP3 c A p K Q Qn V i (c3.mpr h) h)
    isplitl [HI]; · iexact HI
    iintro HD
    imodintro
    iapply Hk
    iexact HD
  · simp only [dif_neg (fun z => absurd (c0.mp z) (by omega) : ¬ k0_cond2 i = 1#1), dif_neg (fun z => absurd (c1.mp z) (by omega) : ¬ k0_cond3 i = 1#1), dif_neg (fun z => absurd (c2.mp z) (by omega) : ¬ k0_cond4 i = 1#1), dif_neg (fun z => absurd (c3.mp z) (by omega) : ¬ k0_cond5 i = 1#1), dif_pos (c4.mpr h), dif_neg (fun z => absurd (c5.mp z) (by omega) : ¬ k0_cond7 i = 1#1), dif_neg (fun z => absurd (c6.mp z) (by omega) : ¬ k0_cond8 i = 1#1), dif_neg (fun z => absurd (c7.mp z) (by omega) : ¬ k0_cond9 i = 1#1), wp_bind, wp_pure]
    iintro ⟨HI, Hk⟩
    imodintro
    iapply (wp_caseP4 c A p K Q Qn V i (c4.mpr h) h)
    isplitl [HI]; · iexact HI
    iintro HD
    imodintro
    iapply Hk
    iexact HD
  · simp only [dif_neg (fun z => absurd (c0.mp z) (by omega) : ¬ k0_cond2 i = 1#1), dif_neg (fun z => absurd (c1.mp z) (by omega) : ¬ k0_cond3 i = 1#1), dif_neg (fun z => absurd (c2.mp z) (by omega) : ¬ k0_cond4 i = 1#1), dif_neg (fun z => absurd (c3.mp z) (by omega) : ¬ k0_cond5 i = 1#1), dif_neg (fun z => absurd (c4.mp z) (by omega) : ¬ k0_cond6 i = 1#1), dif_pos (c5.mpr h), dif_neg (fun z => absurd (c6.mp z) (by omega) : ¬ k0_cond8 i = 1#1), dif_neg (fun z => absurd (c7.mp z) (by omega) : ¬ k0_cond9 i = 1#1), wp_bind, wp_pure]
    iintro ⟨HI, Hk⟩
    imodintro
    iapply (wp_caseP5 c A p K Q Qn V i (c5.mpr h) h)
    isplitl [HI]; · iexact HI
    iintro HD
    imodintro
    iapply Hk
    iexact HD
  · simp only [dif_neg (fun z => absurd (c0.mp z) (by omega) : ¬ k0_cond2 i = 1#1), dif_neg (fun z => absurd (c1.mp z) (by omega) : ¬ k0_cond3 i = 1#1), dif_neg (fun z => absurd (c2.mp z) (by omega) : ¬ k0_cond4 i = 1#1), dif_neg (fun z => absurd (c3.mp z) (by omega) : ¬ k0_cond5 i = 1#1), dif_neg (fun z => absurd (c4.mp z) (by omega) : ¬ k0_cond6 i = 1#1), dif_neg (fun z => absurd (c5.mp z) (by omega) : ¬ k0_cond7 i = 1#1), dif_pos (c6.mpr h), dif_neg (fun z => absurd (c7.mp z) (by omega) : ¬ k0_cond9 i = 1#1), wp_bind, wp_pure]
    iintro ⟨HI, Hk⟩
    imodintro
    iapply (wp_caseP6 c A p K Q Qn V i (c6.mpr h) h)
    isplitl [HI]; · iexact HI
    iintro HD
    imodintro
    iapply Hk
    iexact HD
  · simp only [dif_neg (fun z => absurd (c0.mp z) (by omega) : ¬ k0_cond2 i = 1#1), dif_neg (fun z => absurd (c1.mp z) (by omega) : ¬ k0_cond3 i = 1#1), dif_neg (fun z => absurd (c2.mp z) (by omega) : ¬ k0_cond4 i = 1#1), dif_neg (fun z => absurd (c3.mp z) (by omega) : ¬ k0_cond5 i = 1#1), dif_neg (fun z => absurd (c4.mp z) (by omega) : ¬ k0_cond6 i = 1#1), dif_neg (fun z => absurd (c5.mp z) (by omega) : ¬ k0_cond7 i = 1#1), dif_neg (fun z => absurd (c6.mp z) (by omega) : ¬ k0_cond8 i = 1#1), dif_pos (c7.mpr h), wp_bind, wp_pure]
    iintro ⟨HI, Hk⟩
    imodintro
    iapply (wp_caseP7 c A p K Q Qn V i (c7.mpr h) h)
    isplitl [HI]; · iexact HI
    iintro HD
    imodintro
    iapply Hk
    iexact HD

set_option maxHeartbeats 1000000 in
/-- The whole body at a grid point: unless it is its batch entry's and heads' first query tile, the first chunk's scores
    are already there. -/
theorem wp_body (i : grid0.Coords) {D8 : S2x512x512.Idx → Elt F .f32} {D10 : S2x1x512.Idx → Elt F .f32}
    (hD : (i 2).val ≠ 0 → D8 = (pack fun h => sc K Q h 0) ∧ D10 = pack fun h => mxV (sc K Q h 0)) {Φ : PUnit → sProp 𝕄} :
    (iprop(owns (c : Thread nD τ) A.a3 (p 0) Q ∗ owns (c : Thread nD τ) A.a4 (p 1) Qn ∗ owns (c : Thread nD τ) A.a5 (p 2) K ∗ owns (c : Thread nD τ) A.a6 (p 3) V
        ∗ (∃ d, owns (c : Thread nD τ) A.a7 fullShare d)
        ∗ owns (c : Thread nD τ) A.a8 fullShare D8 ∗ owns (c : Thread nD τ) A.a10 fullShare D10
        ∗ (∃ d, owns (c : Thread nD τ) A.a9 fullShare d) ∗ (∃ d, owns (c : Thread nD τ) A.a11 fullShare d)
        ∗ (∃ d, owns (c : Thread nD τ) A.a12 fullShare d) ∗ (∃ d, owns (c : Thread nD τ) A.a13 fullShare d)
        ∗ (Done c A p K Q Qn V (i 2).val -∗ Φ ⟨⟩)) : sProp 𝕄)
      ⊢ wp frame (wpE (defs₀ (F := F)) Variants.none (c : Thread nD τ) none) E
          (cc0_moba (F := F) i A.a3 A.h3 A.a4 A.h4 A.a5 A.h5 A.a6 A.h6 A.a7 A.h7 A.a8 A.h8 A.a9 A.h9 A.a10 A.h10 A.a11 A.h11 A.a12 A.h12 A.a13 A.h13) Φ := by
  have loops : (iprop(Inv c A p K Q Qn V A.a8 A.a10 A.a9 A.a11 0 ∗ (Done c A p K Q Qn V (i 2).val -∗ Φ ⟨⟩)) : sProp 𝕄)
      ⊢ wp frame (wpE (defs₀ (F := F)) Variants.none (c : Thread nD τ) none) E
          (afterP i A) Φ := by
    unfold afterP
    rw [wp_bind]
    iintro ⟨HI, Hk⟩
    iapply (wp_groups c A p K Q Qn V i)
    isplitl [HI]; · iexact HI
    iintro HI
    rw [wp_bind]
    iapply (Scf.wp_for frame (wpE (defs₀ (F := F)) Variants.none (c : Thread nD τ) none) E (k0_t2_loop i).lb (k0_t2_loop i).ub (k0_t2_loop i).st (k0_t2_ok i)
      (⟨⟩ : PUnit) (fun t _ => do
              restP i A t
              pure ⟨⟩) (fun _ _ => Inv c A p K Q Qn V A.a8 A.a10 A.a9 A.a11 (8 * ((i 2).val / 8)))
      (fun t _ => absurd (show t.val < 0 from lt_of_lt_of_eq t.isLt (trips2 i)) (Nat.not_lt_zero _)))
    isplitl [HI]; · iexact HI
    iintro %acc HI
    iapply (wp_ends c A p K Q Qn V i)
    isplitl [HI]; · iexact HI
    iexact Hk
  rw [body_eq]
  rw [split_eq, wp_bind]
  iintro ⟨H3, H4, H5, H6, H7, H8, H10, H9, H11, ⟨%d12, H12⟩, ⟨%d13, H13⟩, Hk⟩
  iapply (wp_initP c A K Q V)
  isplitl [H12]; · iexact H12
  isplitl [H13]; · iexact H13
  iintro ⟨H12, H13⟩
  by_cases h1 : (i 2).val = 0
  · rw [dif_pos ((cond1_iff i).mpr h1), wp_bind]
    unfold firstP
    iapply (wp_scores2P c 0 (by omega) rfl rfl)
    isplitl [H5]; · iexact H5
    isplitl [H3]; · iexact H3
    isplitl [H8]; · iexact H8
    isplitl [H10]; · iexact H10
    iintro ⟨H5, H3, H8, H10⟩
    iapply loops
    unfold Inv
    isplitr [Hk]
    · isplitl [H3]; · iexact H3
      isplitl [H4]; · iexact H4
      isplitl [H5]; · iexact H5
      isplitl [H6]; · iexact H6
      isplitl [H7]; · iexact H7
      isplitl [H8]; · iexact H8
      isplitl [H10]; · iexact H10
      isplitl [H9]; · iexact H9
      isplitl [H11]; · iexact H11
      isplitl [H12]; · iexact H12
      iexact H13
    · iexact Hk
  · rw [dif_neg (fun z => h1 ((cond1_iff i).mp z))]
    obtain ⟨rfl, rfl⟩ := hD h1
    iapply loops
    unfold Inv
    isplitr [Hk]
    · isplitl [H3]; · iexact H3
      isplitl [H4]; · iexact H4
      isplitl [H5]; · iexact H5
      isplitl [H6]; · iexact H6
      isplitl [H7]; · iexact H7
      isplitl [H8]; · iexact H8
      isplitl [H10]; · iexact H10
      isplitl [H9]; · iexact H9
      isplitl [H11]; · iexact H11
      isplitl [H12]; · iexact H12
      iexact H13
    · iexact Hk

end Body

end Cert.KernelIdeal.Moba
-- ==== Proof.MobaIdeal.Frame.lean ====
/- The attention kernel's run: what its grid points pass on to each other, the body's triple at every
   point, and the frame. -/
module

public import proofs.«01_k».proof.Proof.MobaIdeal.Whole
public import proofs.«01_k».proof.Proof.Gen.KernelIdeal.Frame
public import Idealize.ShloMosaic.Lib.Claim

@[expose] public section

set_option maxRecDepth 16384

noncomputable section

namespace Cert.KernelIdeal.Moba

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The grid's points -/

theorem coord0 (t : Fin cfg0.N) : (grid0.coords t 0).val = t.val / 64 % 4 := Pipeline.Grid.coords_val (G := grid0) t 0 (by decide) rfl
theorem coord1 (t : Fin cfg0.N) : (grid0.coords t 1).val = t.val / 16 % 4 := Pipeline.Grid.coords_val (G := grid0) t 1 (by decide) rfl
theorem coord2 (t : Fin cfg0.N) : (grid0.coords t 2).val = t.val % 16 :=
  (Pipeline.Grid.coords_val (G := grid0) t 2 (S := 1) (by decide) rfl).trans (by rw [Nat.div_one]; rfl)

/-- The second window's query tile is the one after. -/
theorem next_tile : ∀ i : grid0.Coords, cc0_transform_1 i = ![(i 0).val, (i 1).val, 0, min ((i 2).val + 1) 15] := by
  intro i
  have h0 : (i 0).val < 4 := (i 0).isLt
  have h1 : (i 1).val < 4 := (i 1).isLt
  have h2 : (i 2).val < 16 := (i 2).isLt
  unfold cc0_transform_1
  revert h0 h1 h2
  generalize (i 0).val = a
  generalize (i 1).val = b
  generalize (i 2).val = d
  intro h0 h1 h2
  have ha : (BitVec.ofNat 32 a).toNat = a := by rw [BitVec.toNat_ofNat]; omega
  have hb : (BitVec.ofNat 32 b).toNat = b := by rw [BitVec.toNat_ofNat]; omega
  have hd : ∀ d < 16, (Scalar.minsi (Scalar.addi (BitVec.ofNat 32 d) 1#32) 15#32).toNat = min (d + 1) 15 := by decide +kernel
  dsimp only
  rw [ha, hb, hd d h2]
  rfl

/-- A query tile's block indices. -/
theorem this_tile : ∀ i : grid0.Coords, cc0_transform_0 i = ![(i 0).val, (i 1).val, 0, (i 2).val] := by
  intro i
  have h0 : (i 0).val < 4 := (i 0).isLt
  have h1 : (i 1).val < 4 := (i 1).isLt
  have h2 : (i 2).val < 16 := (i 2).isLt
  unfold cc0_transform_0
  dsimp only
  have ha : (BitVec.ofNat 32 (i 0).val).toNat = (i 0).val := by rw [BitVec.toNat_ofNat]; omega
  have hb : (BitVec.ofNat 32 (i 1).val).toNat = (i 1).val := by rw [BitVec.toNat_ofNat]; omega
  have hd : (BitVec.ofNat 32 (i 2).val).toNat = (i 2).val := by rw [BitVec.toNat_ofNat]; omega
  rw [ha, hb, hd]
  rfl

/-- The keys' block indices. -/
theorem keys_block : ∀ i : grid0.Coords, cc0_transform_2 i = ![(i 0).val, (i 1).val, 0, 0] := by
  intro i
  have h0 : (i 0).val < 4 := (i 0).isLt
  have h1 : (i 1).val < 4 := (i 1).isLt
  unfold cc0_transform_2
  dsimp only
  have ha : (BitVec.ofNat 32 (i 0).val).toNat = (i 0).val := by rw [BitVec.toNat_ofNat]; omega
  have hb : (BitVec.ofNat 32 (i 1).val).toNat = (i 1).val := by rw [BitVec.toNat_ofNat]; omega
  rw [ha, hb]
  rfl

/-- The next query tile at a point is the query tile at the point after, within one batch entry and pair of heads. -/
theorem read_next {c : Dev nD} (G : Buf (Elt F) ((c : Thread nD τ).loc main_v27)) (t t' : Fin cfg0.N) (h : t'.val = t.val + 1) (h' : t'.val % 16 ≠ 0) :
    (win0_1.blk t).view.read (Elt F) G = (win0_0.blk t').view.read (Elt F) G := by
  funext y
  refine congrArg G (funext fun a => Fin.ext ?_)
  show ((win0_1.rect t).emb y a : Nat) = ((win0_0.rect t').emb y a : Nat)
  rw [Pipeline.Window.rect_emb_val win0_1 t y a, Pipeline.Window.rect_emb_val win0_0 t' y a]
  have e : win0_1.index t = win0_0.index t' := by
    show cc0_transform_1 (grid0.coords t) = cc0_transform_0 (grid0.coords t')
    rw [next_tile, this_tile, coord0, coord1, coord2, coord0, coord1, coord2]
    have e0 : t.val / 64 % 4 = t'.val / 64 % 4 := by omega
    have e1 : t.val / 16 % 4 = t'.val / 16 % 4 := by omega
    have e2 : min (t.val % 16 + 1) 15 = t'.val % 16 := by omega
    rw [e0, e1, e2]
  rw [e]

/-- The keys stay within one batch entry and pair of heads. -/
theorem read_keys {c : Dev nD} (G : Buf (Elt F) ((c : Thread nD τ).loc main_v38)) (t t' : Fin cfg0.N) (h : t'.val = t.val + 1) (h' : t'.val % 16 ≠ 0) :
    (win0_2.blk t).view.read (Elt F) G = (win0_2.blk t').view.read (Elt F) G := by
  funext y
  refine congrArg G (funext fun a => Fin.ext ?_)
  show ((win0_2.rect t).emb y a : Nat) = ((win0_2.rect t').emb y a : Nat)
  rw [Pipeline.Window.rect_emb_val win0_2 t y a, Pipeline.Window.rect_emb_val win0_2 t' y a]
  have e : win0_2.index t = win0_2.index t' := by
    show cc0_transform_2 (grid0.coords t) = cc0_transform_2 (grid0.coords t')
    rw [keys_block, keys_block, coord0, coord1, coord0, coord1]
    have e0 : t.val / 64 % 4 = t'.val / 64 % 4 := by omega
    have e1 : t.val / 16 % 4 = t'.val / 16 % 4 := by omega
    rw [e0, e1]
  rw [e]

theorem iblk_next (c : Dev nD) (t t' : Fin cfg0.N) (h : t'.val = t.val + 1) (h' : t'.val % 16 ≠ 0) : iblk m c 1 t = iblk m c 0 t' :=
  read_next (V m c main_v27) t t' h h'

theorem iblk_keys (c : Dev nD) (t t' : Fin cfg0.N) (h : t'.val = t.val + 1) (h' : t'.val % 16 ≠ 0) : iblk m c 2 t = iblk m c 2 t' :=
  read_keys (V m c main_v38) t t' h h'

/-! ## The body's buffers -/

/-- The staging buffers and the scratch buffers at a point. -/
def refs (t : Fin cfg0.N) : Refs where
  a3 := win0_0.stage (cfg0.slots t 0)
  h3 := hstage0_0 ((cfg0.slots t 0).cast nbuf0_0)
  a4 := win0_1.stage (cfg0.slots t 1)
  h4 := hstage0_1 ((cfg0.slots t 1).cast nbuf0_1)
  a5 := win0_2.stage (cfg0.slots t 2)
  h5 := hstage0_2 ((cfg0.slots t 2).cast nbuf0_2)
  a6 := win0_3.stage (cfg0.slots t 3)
  h6 := hstage0_3 ((cfg0.slots t 3).cast nbuf0_3)
  a7 := win0_4.stage (cfg0.slots t 4)
  h7 := hstage0_4 ((cfg0.slots t 4).cast nbuf0_4)
  a8 := Memref.whole cc0_scratch0
  h8 := Memref.isWhole_whole _
  a9 := Memref.whole cc0_scratch1
  h9 := Memref.isWhole_whole _
  a10 := Memref.whole cc0_scratch2
  h10 := Memref.isWhole_whole _
  a11 := Memref.whole cc0_scratch3
  h11 := Memref.isWhole_whole _
  a12 := Memref.whole cc0_scratch4
  h12 := Memref.isWhole_whole _
  a13 := Memref.whole cc0_scratch5
  h13 := Memref.isWhole_whole _

/-- What the launch hands the region: the scratch buffers at anything. -/
theorem PhiA0_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)
          ∗ (∃ d, owns (c : Thread nD τ) (Memref.whole cc0_scratch4) fullShare d) ∗ (∃ d, owns (c : Thread nD τ) (Memref.whole cc0_scratch5) fullShare d))
          ∗ (∃ r, prngReg c r)) := by
  unfold Pipeline.ΦA; rw [scopedRest0_eq]; simp only [owns_whole]; try rfl

/-! ## The pipeline's proof data -/

/-- The result's tile at a point. -/
def outTile (c : Dev nD) (t : Fin cfg0.N) : S1x512x256.Idx → Elt F .bf16 :=
  tile (F := F) (iblk m c 2 t) (iblk m c 0 t) (iblk m c 3 t) (t.val % 16)

/-- What the point before position `n` left in the first score buffers. -/
def Left (c : Dev nD) (n : ℕ) (d8 : S2x512x512.Idx → Elt F .f32) (d10 : S2x1x512.Idx → Elt F .f32) : Prop :=
  ∀ h : n < cfg0.N, n % 16 ≠ 0 →
    d8 = (pack fun k => sc (F := F) (iblk m c 2 ⟨n, h⟩) (iblk m c 0 ⟨n, h⟩) k 0) ∧ d10 = pack fun k => mxV (sc (F := F) (iblk m c 2 ⟨n, h⟩) (iblk m c 0 ⟨n, h⟩) k 0)

/-- The invariant before position `n`. -/
def PhiS (c : Dev nD) (n : ℕ) (_ : n ≤ cfg0.N) : sProp 𝕄 :=
  iprop(∃ d8, ∃ d10, ⌜Left m c n d8 d10⌝ ∗ (owns (c : Thread nD τ) (Memref.whole cc0_scratch0) fullShare d8 ∗ (∃ d, owns (c : Thread nD τ) (Memref.whole cc0_scratch1) fullShare d)
    ∗ owns (c : Thread nD τ) (Memref.whole cc0_scratch2) fullShare d10 ∗ (∃ d, owns (c : Thread nD τ) (Memref.whole cc0_scratch3) fullShare d)
    ∗ (∃ d, owns (c : Thread nD τ) (Memref.whole cc0_scratch4) fullShare d) ∗ (∃ d, owns (c : Thread nD τ) (Memref.whole cc0_scratch5) fullShare d))
    ∗ (∃ r, prngReg c r))

/-- The proof data: each input's buffer at its block, the output's at the point's tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outTile m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outTile m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body at a point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 1000000 in
/-- The body at any point. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost
  simp only [before0_0, before0_1, before0_2, before0_3]
  rw [show (dats m 0 c).owesAt () t.succ = (dats m 0 c).owesAt () t.castSucc from rfl, after0_0, after0_1, after0_2, after0_3, after0_4,
    show (dats m 0 c).Φ t.castSucc = PhiS m c t.val (Nat.le_of_lt t.isLt) from rfl, show (dats m 0 c).Φ t.succ = PhiS m c (t.val + 1) t.isLt from rfl]
  unfold PhiS
  iintro ⟨⟨%d8, %d10, %hL, ⟨H8, H9, H10, H11, H12, H13⟩, Hg⟩, Ho, ⟨%e0, H0⟩, ⟨%e1, H1⟩, ⟨%e2, H2⟩, ⟨%e3, H3⟩, ⟨%e4, H4⟩⟩
  iapply (wp_body c (refs t) (fun _ => fullShare) (iblk m c 2 t) (iblk m c 0 t) (iblk m c 1 t) (iblk m c 3 t) (grid0.coords t)
    (D8 := d8) (D10 := d10) (fun h => hL t.isLt (by rw [← coord2]; exact h)))
  isplitl [H0]; · iexact H0
  isplitl [H1]; · iexact H1
  isplitl [H2]; · iexact H2
  isplitl [H3]; · iexact H3
  isplitl [H4]; · iexists _; iexact H4
  isplitl [H8]; · iexact H8
  isplitl [H10]; · iexact H10
  isplitl [H9]; · iexact H9
  isplitl [H11]; · iexact H11
  isplitl [H12]; · iexact H12
  isplitl [H13]; · iexact H13
  unfold Done
  iintro ⟨H0, H1, H2, H3, H4, H8, H10, H9, H11, H12, H13⟩
  isplitl [H8 H9 H10 H11 H12 H13 Hg]
  · iexists _; iexists _
    isplitr
    rotate_left
    · isplitr [Hg]
      · isplitl [H8]; · iexact H8
        isplitl [H9]; · iexact H9
        isplitl [H10]; · iexact H10
        isplitl [H11]; · iexact H11
        isplitl [H12]; · iexact H12
        iexact H13
      · iexact Hg
    · ipureintro
      intro h h'
      have ek := iblk_keys m c t ⟨t.val + 1, h⟩ rfl h'
      have eq := iblk_next m c t ⟨t.val + 1, h⟩ rfl h'
      rw [← ek, ← eq]
      exact ⟨rfl, rfl⟩
  isplitl [Ho]; · iexact Ho
  isplitl [H0]; · iexact H0
  isplitl [H1]; · iexact H1
  isplitl [H2]; · iexact H2
  isplitl [H3]; · iexact H3
  unfold outTile
  rw [← coord2]
  iexact H4

/-- Some end runs at every point: the output's buffer is stored at every one. -/
theorem busy (t : Fin cfg0.N) : cfg0.idle 4 (cfg0.grid.coords t) = false := by
  have hL : (grid0.coords t 2).val % 8 < 8 := Nat.mod_lt _ (by omega)
  show (!(k0_cond2 (grid0.coords t) == 1#1) && !(k0_cond3 (grid0.coords t) == 1#1) && !(k0_cond4 (grid0.coords t) == 1#1) && !(k0_cond5 (grid0.coords t) == 1#1) && !(k0_cond6 (grid0.coords t) == 1#1) && !(k0_cond7 (grid0.coords t) == 1#1) && !(k0_cond8 (grid0.coords t) == 1#1) && !(k0_cond9 (grid0.coords t) == 1#1)) = false
  rcases (show (grid0.coords t 2).val % 8 = 0 ∨ (grid0.coords t 2).val % 8 = 1 ∨ (grid0.coords t 2).val % 8 = 2 ∨ (grid0.coords t 2).val % 8 = 3 ∨ (grid0.coords t 2).val % 8 = 4
      ∨ (grid0.coords t 2).val % 8 = 5 ∨ (grid0.coords t 2).val % 8 = 6 ∨ (grid0.coords t 2).val % 8 = 7 by omega) with h | h | h | h | h | h | h | h
  · rw [(cond2_iff (grid0.coords t)).mpr h]; simp only [beq_self_eq_true, Bool.not_true, Bool.and_false, Bool.false_and]
  · rw [(cond3_iff (grid0.coords t)).mpr h]; simp only [beq_self_eq_true, Bool.not_true, Bool.and_false, Bool.false_and]
  · rw [(cond4_iff (grid0.coords t)).mpr h]; simp only [beq_self_eq_true, Bool.not_true, Bool.and_false, Bool.false_and]
  · rw [(cond5_iff (grid0.coords t)).mpr h]; simp only [beq_self_eq_true, Bool.not_true, Bool.and_false, Bool.false_and]
  · rw [(cond6_iff (grid0.coords t)).mpr h]; simp only [beq_self_eq_true, Bool.not_true, Bool.and_false, Bool.false_and]
  · rw [(cond7_iff (grid0.coords t)).mpr h]; simp only [beq_self_eq_true, Bool.not_true, Bool.and_false, Bool.false_and]
  · rw [(cond8_iff (grid0.coords t)).mpr h]; simp only [beq_self_eq_true, Bool.not_true, Bool.and_false, Bool.false_and]
  · rw [(cond9_iff (grid0.coords t)).mpr h]; simp only [beq_self_eq_true, Bool.not_true, Bool.and_false, Bool.false_and]

/-- The body table's row at a point is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  rw [busy t]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiA0_eq]
  unfold PhiS
  iintro ⟨⟨⟨%d8, H8⟩, H9, ⟨%d10, H10⟩, H11, H12, H13⟩, Hg⟩
  iexists d8; iexists d10
  isplitr
  · ipureintro
    intro _ h
    exact absurd rfl h
  isplitr [Hg]
  · isplitl [H8]; · iexact H8
    isplitl [H9]; · iexact H9
    isplitl [H10]; · iexact H10
    isplitl [H11]; · iexact H11
    isplitl [H12]; · iexact H12
    iexact H13
  iexact Hg

/-- After the last point the buffers' contents are forgotten. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl, PhiA0_eq]
  unfold PhiS
  iintro ⟨%d8, %d10, -, ⟨H8, H9, H10, H11, H12, H13⟩, Hg⟩
  isplitr [Hg]
  · isplitl [H8]; · iexists _; iexact H8
    isplitl [H9]; · iexact H9
    isplitl [H10]; · iexists _; iexact H10
    isplitl [H11]; · iexact H11
    isplitl [H12]; · iexact H12
    iexact H13
  iexact Hg

/-! ## The run and the frame -/

set_option backward.isDefEq.respectTransparency.types false in
/-- The run: every array of the pipeline ends at what the proof data says, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: every execution terminates, leaves the arguments as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Moba
-- ==== Proof.Frames.lean ====
/- The claims that say nothing about values: each program's frame, and what the named constants of the
   ideal programs stand for. -/
module

public import proofs.«01_k».proof.Defs
public import proofs.«01_k».proof.Proof.MobaBits.Frame
public import proofs.«01_k».proof.Proof.MobaIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.ReferenceIdeal.Run
public import proofs.«01_k».proof.Proof.Gen.Reference2Ideal.Run
public import proofs.«01_k».proof.Proof.Gen.Reference3Ideal.Run

@[expose] public section

namespace Cert.Proof

open Idealize.ShloMosaic Idealize.SL.Sem

/-- The attention kernel on words: it ends, leaves its arguments alone and every counter at zero. -/
theorem frame_attention : Cert.quiescent_Kernel (hKernel := Cert.Kernel.Gen.facts) :=
  fun m ρ _ => Cert.Kernel.Moba.frame m ρ

/-- The same of the attention kernel on extended reals. -/
theorem frame_attention_ideal : Cert.quiescent_KernelIdeal (hKernelIdeal := Cert.KernelIdeal.Gen.facts) :=
  fun m ρ _ => Cert.KernelIdeal.Moba.frame m ρ

/-- The plain attention on extended reals ends and leaves its arguments alone; it declares no semaphore. -/
theorem frame_attention_reference :
    Cert.quiescent_ReferenceIdeal (hReferenceIdeal := Cert.ReferenceIdeal.Gen.facts) :=
  fun m ρ _ => (θ_run _ _ _).mono
    (fun r h => ⟨fun c => (h c).2, sem_eq_zero_of_no_sems (by decide) r.2⟩)
    (Cert.ReferenceIdeal.Value.run m ρ)

/-- The feed-forward kernel on words. -/
theorem frame_ffn : Cert.quiescent_Kernel2 (hKernel2 := Cert.Kernel2.Gen.facts) :=
  fun m ρ _ => Cert.Kernel2.Gen.frame m ρ

/-- The feed-forward kernel on extended reals. -/
theorem frame_ffn_ideal : Cert.quiescent_Kernel2Ideal (hKernel2Ideal := Cert.Kernel2Ideal.Gen.facts) :=
  fun m ρ _ => Cert.Kernel2Ideal.Gen.frame m ρ

/-- The plain feed-forward layer on extended reals. -/
theorem frame_ffn_reference :
    Cert.quiescent_Reference2Ideal (hReference2Ideal := Cert.Reference2Ideal.Gen.facts) :=
  fun m ρ _ => (θ_run _ _ _).mono
    (fun r h => ⟨fun c => (h c).2, sem_eq_zero_of_no_sems (by decide) r.2⟩)
    (Cert.Reference2Ideal.Value.run m ρ)

/-- The merge kernel on words. -/
theorem frame_merge : Cert.quiescent_Kernel3 (hKernel3 := Cert.Kernel3.Gen.facts) :=
  fun m ρ _ => Cert.Kernel3.Gen.frame m ρ

/-- The merge kernel on extended reals. -/
theorem frame_merge_ideal : Cert.quiescent_Kernel3Ideal (hKernel3Ideal := Cert.Kernel3Ideal.Gen.facts) :=
  fun m ρ _ => Cert.Kernel3Ideal.Gen.frame m ρ

/-- The plain merge on extended reals. -/
theorem frame_merge_reference :
    Cert.quiescent_Reference3Ideal (hReference3Ideal := Cert.Reference3Ideal.Gen.facts) :=
  fun m ρ _ => (θ_run _ _ _).mono
    (fun r h => ⟨fun c => (h c).2, sem_eq_zero_of_no_sems (by decide) r.2⟩)
    (Cert.Reference3Ideal.Value.run m ρ)

/-- The input-projection kernel on words. -/
theorem frame_inproj : Cert.quiescent_Kernel4 (hKernel4 := Cert.Kernel4.Gen.facts) :=
  fun m ρ _ => Cert.Kernel4.Gen.frame m ρ

/-- The input-projection kernel on extended reals. -/
theorem frame_inproj_ideal : Cert.quiescent_Kernel4Ideal (hKernel4Ideal := Cert.Kernel4Ideal.Gen.facts) :=
  fun m ρ _ => Cert.Kernel4Ideal.Gen.frame m ρ

/-- The plain projections on extended reals. -/
theorem frame_inproj_reference :
    Cert.quiescent_Reference4Ideal (hReference4Ideal := Cert.Reference4Ideal.Gen.facts) :=
  fun m ρ _ => (θ_run _ _ _).mono
    (fun r h => ⟨fun c => (h c).2.2.2.2.2, sem_eq_zero_of_no_sems (by decide) r.2⟩)
    (Cert.Reference4Ideal.Value.run m ρ)

/-- The attention kernel's mask is minus infinity in the ideal program. -/
theorem preserves_attention : Cert.preserves_Kernel_KernelIdeal :=
  IdealRules.named_const.statement _ _ _ _ _ rfl

/-- The two constants of the feed-forward kernel's gelu are the real numbers they round. -/
theorem preserves_ffn : Cert.preserves_Kernel2_Kernel2Ideal :=
  ⟨IdealRules.named_const.statement _ _ _ _ _ rfl, IdealRules.named_const.statement _ _ _ _ _ rfl⟩

/-- The same of the merge kernel. -/
theorem preserves_merge : Cert.preserves_Kernel3_Kernel3Ideal :=
  ⟨IdealRules.named_const.statement _ _ _ _ _ rfl, IdealRules.named_const.statement _ _ _ _ _ rfl⟩

/-- The scale of the queries is the real number it rounds. -/
theorem preserves_inproj : Cert.preserves_Kernel4_Kernel4Ideal :=
  IdealRules.named_const.statement _ _ _ _ _ rfl

end Cert.Proof

end
-- ==== Proof.Attention.Words.lean ====
/- The words of the attention programs as numbers: positions, their blocks, their comparisons, and the constants. -/
module

public import Idealize.ShloMosaic.Lib.Pointwise
public import Idealize.ShloMosaic.Lib.IdealHost

@[expose] public section

noncomputable section

namespace Cert.Attention

open Idealize.ShloMosaic

theorem toInt_small {a : ℕ} (h : a < 8192) : (BitVec.ofNat 32 a).toInt = a := by
  rw [BitVec.toInt_eq_toNat_of_lt, BitVec.toNat_ofNat]
  · congr 1; omega
  · rw [BitVec.toNat_ofNat]; omega

/-- A position shifted by eight bits is its block of 256. -/
theorem block_word {j : ℕ} (h : j < 8192) : IntOp.shrsi ArithUnit.host (BitVec.ofNat 32 j) 8#32 = BitVec.ofNat 32 (j / 256) := by
  have hm : (BitVec.ofNat 32 j).msb = false := by
    rw [BitVec.msb_eq_false_iff_two_mul_lt, BitVec.toNat_ofNat]; omega
  unfold IntOp.shrsi
  rw [if_pos (by decide)]
  apply BitVec.eq_of_toNat_eq
  rw [BitVec.sshiftRight', BitVec.sshiftRight_eq_of_msb_false hm, BitVec.toNat_ushiftRight]
  simp only [BitVec.toNat_ofNat, Nat.shiftRight_eq_div_pow]
  rw [show (2 : ℕ) ^ (8 % 2 ^ 32) = 256 by norm_num]
  omega

theorem or_one (x y : BitVec 1) : IntOp.ori x y = 1 ↔ x = 1 ∨ y = 1 := by revert x y; decide
theorem and_one (x y : BitVec 1) : IntOp.andi x y = 1 ↔ x = 1 ∧ y = 1 := by revert x y; decide

theorem ofBool_one (b : Bool) : BitVec.ofBool b = 1 ↔ b = true := by cases b <;> decide

theorem eq_one {a b : ℕ} (ha : a < 8192) (hb : b < 8192) : IntOp.cmpi .eq (BitVec.ofNat 32 a) (BitVec.ofNat 32 b) = 1 ↔ a = b := by
  unfold IntOp.cmpi
  rw [ofBool_one]
  simp only [beq_iff_eq]
  rw [← BitVec.toInt_inj, toInt_small ha, toInt_small hb]
  exact Int.ofNat_inj

theorem lt_one {a b : ℕ} (ha : a < 8192) (hb : b < 8192) : IntOp.cmpi .slt (BitVec.ofNat 32 a) (BitVec.ofNat 32 b) = 1 ↔ a < b := by
  unfold IntOp.cmpi
  rw [ofBool_one]
  simp only [BitVec.slt_iff_toInt_lt, toInt_small ha, toInt_small hb, Int.ofNat_lt]

theorem le_one {a b : ℕ} (ha : a < 8192) (hb : b < 8192) : IntOp.cmpi .sle (BitVec.ofNat 32 a) (BitVec.ofNat 32 b) = 1 ↔ a ≤ b := by
  unfold IntOp.cmpi
  rw [ofBool_one]
  simp only [BitVec.sle_iff_toInt_le, toInt_small ha, toInt_small hb, Int.ofNat_le]

/-- A comparison's bit, as a float, is one or zero. -/
theorem bit_float (b : BitVec 1) : (FloatOps.sitofp FTy.f32 (BitVec.setWidth 32 b) : Ideal .f32) = if b = 1 then (1 : EReal) else 0 := by
  have h : ∀ b : BitVec 1, (BitVec.setWidth 32 b).toInt = if b = 1 then 1 else 0 := by decide
  show (((BitVec.setWidth 32 b).toInt : ℝ) : EReal) = _
  rw [h]
  split <;> simp

/-- The pattern of minus infinity. -/
theorem neg_inf : Ideal.ofBits .f32 0xFF800000#32 = ⊥ := by
  simp [Ideal.ofBits, Ideal.ieee]

/-- The pattern of plus infinity. -/
theorem pos_inf : Ideal.ofBits .f32 0x7F800000#32 = ⊤ := by
  simp [Ideal.ofBits, Ideal.ieee]

/-- The pattern of two. -/
theorem two : Ideal.ofBits .f32 0x40000000#32 = ((2 : ℝ) : EReal) := by
  simp [Ideal.ofBits, Ideal.ieee, -EReal.coe_mul]; norm_num

/-- The pattern of 128. -/
theorem width : Ideal.ofBits .f32 0x43000000#32 = ((128 : ℝ) : EReal) := by
  simp [Ideal.ofBits, Ideal.ieee, -EReal.coe_mul]; norm_num

theorem sqrt_width : Ideal.sqrt (Ideal.ofBits .f32 0x43000000#32) = ((Real.sqrt 128 : ℝ) : EReal) := by
  rw [width, Ideal.sqrt_coe, if_neg (by norm_num)]

theorem log_two : Ideal.log (Ideal.ofBits .f32 0x40000000#32) = ((Real.log 2 : ℝ) : EReal) := by
  rw [two, Ideal.log_coe, if_neg (by norm_num)]

/-- The kernel's scale of the queries. -/
theorem scale : Ideal.sqrt (Ideal.ofBits .f32 0x43000000#32) * Ideal.log (Ideal.ofBits .f32 0x40000000#32)
    = ((Real.sqrt 128 * Real.log 2 : ℝ) : EReal) := by
  rw [sqrt_width, log_two, EReal.coe_mul]

theorem scale_pos : (0 : ℝ) < Real.sqrt 128 * Real.log 2 :=
  mul_pos (Real.sqrt_pos.2 (by norm_num)) (Real.log_pos (by norm_num))

/-- A real number over a real number that is not zero. -/
theorem div_real (x : ℝ) {y : ℝ} (h : y ≠ 0) : Ideal.div (x : EReal) (y : EReal) = ((x / y : ℝ) : EReal) := by
  rw [Ideal.div_coe h, ← EReal.coe_mul, mul_one_div]

/-- The largest of finitely many numbers, over minus infinity, bounds them. -/
theorem le_fold {ι : Type} [Fintype ι] (f : ι → EReal) (i : ι) : f i ≤ Finset.univ.fold max ⊥ f :=
  Finset.le_fold_max _ |>.2 (.inr ⟨i, Finset.mem_univ i, le_rfl⟩)

/-- The largest of finitely many numbers, none plus infinity, is not plus infinity. -/
theorem fold_ne_top {ι : Type} [Fintype ι] (f : ι → EReal) (h : ∀ i, f i ≠ ⊤) : Finset.univ.fold max ⊥ f ≠ ⊤ :=
  (Finset.fold_max_lt _ |>.2 ⟨bot_lt_top, fun i _ => lt_top_iff_ne_top.2 (h i)⟩).ne

/-- The largest over a last axis of a host reduction. -/
theorem rowMax {A B C D : ℕ} {u : Shape} (s : FVec Ideal ⟨4, ![A, B, C, D]⟩ .f32) (c : FVec Ideal u .f32)
    (h : (⟨4, ![A, B, C, D]⟩ : Shape).ReducesTo [3] ⟨3, ![A, B, C]⟩) (hu : 0 < u.numel) (i : Fin A) (j : Fin B) (k : Fin C) :
    Host.reduce FloatOps.maximumf s c h hu (ix3 i j k) = Finset.univ.fold max (c (Shape.Idx.first hu)) fun x : Fin D => s (ix4 i j k x) := by
  simp only [pointwise]

/-- The same under a maximum with minus infinity, the reduction's start being minus infinity too. -/
theorem rowMax_bot {A B C D : ℕ} {u : Shape} (s : FVec Ideal ⟨4, ![A, B, C, D]⟩ .f32) (x : FVec Ideal ⟨3, ![A, B, C]⟩ .f32) (c : FVec Ideal u .f32)
    (h : (⟨4, ![A, B, C, D]⟩ : Shape).ReducesTo [3] ⟨3, ![A, B, C]⟩) (hu : 0 < u.numel) (hx : ∀ i, (x i : EReal) = ⊥) (hc : ∀ i, (c i : EReal) = ⊥)
    (i : Fin A) (j : Fin B) (k : Fin C) :
    (maximumf x (Host.reduce FloatOps.maximumf s c h hu) (ix3 i j k) : EReal) = Finset.univ.fold max (⊥ : EReal) fun y : Fin D => s (ix4 i j k y) := by
  have e := rowMax s c h hu i j k
  rw [hc] at e
  show max (x (ix3 i j k) : EReal) (Host.reduce FloatOps.maximumf s c h hu (ix3 i j k)) = _
  rw [hx, e]
  exact max_eq_right bot_le

/-- The keys in sixteen chunks of 512. -/
theorem sum_chunks (f : Fin 8192 → EReal) :
    ∑ k, f k = ∑ j ∈ Finset.range 16, ∑ l : Fin 512, f ⟨(512 * j + l.val) % 8192, Nat.mod_lt _ (by decide)⟩ := by
  rw [Finset.sum_range (fun j => ∑ l : Fin 512, f ⟨(512 * j + l.val) % 8192, Nat.mod_lt _ (by decide)⟩), ← Fintype.sum_prod_type']
  refine (Fintype.sum_equiv (finProdFinEquiv (m := 16) (n := 512)) _ _ fun x => ?_).symm
  congr 1
  apply Fin.ext
  have h1 := x.1.isLt
  have h2 := x.2.isLt
  show (512 * x.1.val + x.2.val) % 8192 = x.2.val + 512 * x.1.val
  omega

end Cert.Attention
-- ==== Proof.Attention.Softmax.lean ====
/- One query's attention over the extended reals, apart from any program: the sums kept under a running
   maximum are the sums of the weighted values under the last maximum, and their quotient is the softmax. -/
module

public import Idealize.ShloMosaic.PureOps.Ideal
public import Idealize.ShloMosaic.PureOps.Ideal.Laws

@[expose] public section

noncomputable section

namespace Cert.Attention

open Idealize.ShloMosaic
open scoped BigOperators

/-- A power of two is never below zero. -/
theorem exp2_nonneg (x : EReal) : 0 ≤ Ideal.exp2 x := by
  induction x using EReal.rec with
  | bot => exact le_rfl
  | top => exact le_top
  | coe r => exact EReal.coe_nonneg.2 (Real.rpow_nonneg (by norm_num) r)

/-- Off plus infinity a power of two is finite. -/
theorem exp2_ne_top {x : EReal} (h : x ≠ ⊤) : Ideal.exp2 x ≠ ⊤ := by
  induction x using EReal.rec with
  | bot => exact EReal.zero_ne_top
  | top => exact absurd rfl h
  | coe r => exact EReal.coe_ne_top _

/-- A finite factor that is not negative goes into a sum, whatever the terms. -/
theorem mul_sum {ι : Type} (s : Finset ι) (f : ι → EReal) {c : EReal} (h : 0 ≤ c) (h' : c ≠ ⊤) : c * ∑ i ∈ s, f i = ∑ i ∈ s, c * f i := by
  classical
  induction s using Finset.induction_on with
  | empty => simp
  | insert a s ha ih => rw [Finset.sum_insert ha, Finset.sum_insert ha, EReal.left_distrib_of_nonneg_of_ne_top h h', ih]

/-- A sum of real numbers is the sum of them as extended reals. -/
theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- A difference of a number that is not plus infinity and a larger one is not plus infinity. -/
theorem sub_ne_top {x y : EReal} (h : x ≤ y) (hy : y ≠ ⊤) : x - y ≠ ⊤ := by
  induction y using EReal.rec with
  | bot => rw [le_bot_iff.1 h]; decide
  | top => exact absurd rfl hy
  | coe r =>
    induction x using EReal.rec with
    | bot => rw [EReal.bot_sub]; exact bot_ne_top
    | top => exact absurd (top_le_iff.1 h) hy
    | coe q => rw [← EReal.coe_sub]; exact EReal.coe_ne_top _

/-- Going from one maximum to a larger one rescales a weight. -/
theorem rescale {s a b : EReal} (v : EReal) (hs : s ≤ a) (hab : a ≤ b) (hb : b ≠ ⊤) :
    Ideal.exp2 (a - b) * (v * Ideal.exp2 (s - a)) = v * Ideal.exp2 (s - b) := by
  have hbot : ∀ y : EReal, Ideal.exp2 (⊥ - y) = 0 := fun y => by rw [EReal.bot_sub]; rfl
  induction b using EReal.rec with
  | top => exact absurd rfl hb
  | bot =>
    rw [le_bot_iff.1 hab] at hs ⊢
    rw [le_bot_iff.1 hs, hbot, mul_zero, mul_zero]
  | coe b =>
    induction a using EReal.rec with
    | top => exact absurd (top_le_iff.1 hab) hb
    | bot => rw [le_bot_iff.1 hs, hbot, hbot, mul_zero, mul_zero]
    | coe a =>
      induction s using EReal.rec with
      | top => exact absurd (top_le_iff.1 hs) (EReal.coe_ne_top _)
      | bot => rw [hbot, hbot, mul_zero, mul_zero]
      | coe s =>
        rw [← EReal.coe_sub, ← EReal.coe_sub, ← EReal.coe_sub]
        show ((Real.rpow 2 (a - b) : ℝ) : EReal) * (v * ((Real.rpow 2 (s - a) : ℝ) : EReal)) = v * ((Real.rpow 2 (s - b) : ℝ) : EReal)
        rw [mul_left_comm, ← EReal.coe_mul]
        congr 2
        show (2 : ℝ) ^ (a - b) * (2 : ℝ) ^ (s - a) = (2 : ℝ) ^ (s - b)
        rw [← Real.rpow_add (by norm_num)]
        congr 1; ring

section Running

variable {n : ℕ} (x v : ℕ → Fin n → EReal) (mx : ℕ → EReal)

/-- The running maximum and the running sum after some chunks. -/
def running : ℕ → EReal × EReal
  | 0 => (⊥, 0)
  | i + 1 => (max (running i).1 (mx i),
      Ideal.exp2 ((running i).1 - max (running i).1 (mx i)) * (running i).2
        + ∑ k, v i k * Ideal.exp2 (x i k - max (running i).1 (mx i)))

theorem running_fst_ne_top (hmx : ∀ i, mx i ≠ ⊤) (i : ℕ) : (running x v mx i).1 ≠ ⊤ := by
  induction i with
  | zero => exact bot_ne_top
  | succ i ih =>
    show max _ _ ≠ ⊤
    rcases max_choice (running x v mx i).1 (mx i) with h | h <;> rw [h]
    · exact ih
    · exact hmx i

theorem le_running (hx : ∀ i k, x i k ≤ mx i) (i j : ℕ) (h : i < j) (k : Fin n) : x i k ≤ (running x v mx j).1 := by
  induction j with
  | zero => exact absurd h (Nat.not_lt_zero i)
  | succ j ih =>
    rcases Nat.lt_succ_iff_lt_or_eq.1 h with h' | rfl
    · exact (ih h').trans (le_max_left _ _)
    · exact (hx i k).trans (le_max_right _ _)

/-- Sums under one maximum, carried to a larger one. -/
theorem carry (hx : ∀ i k, x i k ≤ mx i) (i : ℕ) {b : EReal} (hb : b ≠ ⊤) (hab : (running x v mx i).1 ≤ b)
    (h : (running x v mx i).2 = ∑ j ∈ Finset.range i, ∑ k, v j k * Ideal.exp2 (x j k - (running x v mx i).1)) :
    Ideal.exp2 ((running x v mx i).1 - b) * (running x v mx i).2 = ∑ j ∈ Finset.range i, ∑ k, v j k * Ideal.exp2 (x j k - b) := by
  have hc := exp2_ne_top (sub_ne_top hab hb)
  rw [h, mul_sum _ _ (exp2_nonneg _) hc]
  refine Finset.sum_congr rfl fun j hj => ?_
  rw [mul_sum _ _ (exp2_nonneg _) hc]
  exact Finset.sum_congr rfl fun k _ => rescale _ (le_running x v mx hx j i (Finset.mem_range.1 hj) k) hab hb

/-- The running sum is the sum of all weighted values so far under the running maximum. -/
theorem running_snd (hx : ∀ i k, x i k ≤ mx i) (hmx : ∀ i, mx i ≠ ⊤) (i : ℕ) :
    (running x v mx i).2 = ∑ j ∈ Finset.range i, ∑ k, v j k * Ideal.exp2 (x j k - (running x v mx i).1) := by
  induction i with
  | zero => rfl
  | succ i ih =>
    rw [Finset.sum_range_succ, ← carry x v mx hx i (running_fst_ne_top x v mx hmx (i + 1)) (le_max_left _ _) ih]
    rfl

/-- The last chunk, some of its scores replaced: the sums of everything under the last maximum. -/
theorem last (hx : ∀ i k, x i k ≤ mx i) (hmx : ∀ i, mx i ≠ ⊤) (i : ℕ) (x' : Fin n → EReal) :
    Ideal.exp2 ((running x v mx i).1 - (running x v mx (i + 1)).1) * (running x v mx i).2
        + ∑ k, v i k * Ideal.exp2 (x' k - (running x v mx (i + 1)).1)
      = (∑ j ∈ Finset.range i, ∑ k, v j k * Ideal.exp2 (x j k - (running x v mx (i + 1)).1))
        + ∑ k, v i k * Ideal.exp2 (x' k - (running x v mx (i + 1)).1) := by
  rw [carry x v mx hx i (running_fst_ne_top x v mx hmx (i + 1)) (le_max_left _ _) (running_snd x v mx hx hmx i)]

end Running

/-- The quotient of the sums is the softmax: `y` are the scores in base two, `s` the same in base `e`,
    a masked key's minus infinity in both. -/
theorem quotient {ι : Type} [Fintype ι] (y s v : ι → EReal) (a b : ℝ) (j₀ : ι) (r₀ : ℝ) (h₀ : y j₀ = r₀)
    (h : ∀ j, (y j = ⊥ ∧ s j = ⊥) ∨ ∃ r : ℝ, y j = r ∧ s j = ((r * Real.log 2 : ℝ) : EReal)) :
    Ideal.div (∑ j, v j * Ideal.exp2 (y j - a)) (∑ j, 1 * Ideal.exp2 (y j - a))
      = ∑ j, Ideal.div (Ideal.exp (s j - b)) (0 + ∑ i, Ideal.exp (s i - b)) * v j := by
  classical
  -- the weights as real numbers
  have hw : ∀ j, ∃ e : ℝ, 0 ≤ e ∧ Ideal.exp2 (y j - a) = e ∧ Ideal.exp (s j - b) = ((Real.exp (a * Real.log 2 - b) * e : ℝ) : EReal) := by
    intro j
    rcases h j with ⟨h1, h2⟩ | ⟨r, h1, h2⟩
    · refine ⟨0, le_rfl, ?_, ?_⟩
      · rw [h1, EReal.bot_sub]; rfl
      · rw [h2, EReal.bot_sub, mul_zero]; rfl
    · refine ⟨(2 : ℝ) ^ (r - a), Real.rpow_nonneg (by norm_num) _, ?_, ?_⟩
      · rw [h1, ← EReal.coe_sub]; rfl
      · rw [h2, ← EReal.coe_sub]
        show ((Real.exp (r * Real.log 2 - b) : ℝ) : EReal) = _
        rw [Real.rpow_def_of_pos (by norm_num), ← Real.exp_add]
        congr 2; ring
  choose e he0 he hs using hw
  have hp : 0 < e j₀ := by
    have h1 : ((e j₀ : ℝ) : EReal) = (((2 : ℝ) ^ (r₀ - a) : ℝ) : EReal) := by
      rw [← he j₀, h₀, ← EReal.coe_sub]; rfl
    rw [EReal.coe_eq_coe_iff.1 h1]
    exact Real.rpow_pos_of_pos (by norm_num) _
  have hL : 0 < ∑ j, e j := Finset.sum_pos' (fun j _ => he0 j) ⟨j₀, Finset.mem_univ _, hp⟩
  have hC : 0 < Real.exp (a * Real.log 2 - b) := Real.exp_pos _
  have e1 : (∑ j, 1 * Ideal.exp2 (y j - a)) = ((∑ j, e j : ℝ) : EReal) := by
    rw [coe_sum]; exact Finset.sum_congr rfl fun j _ => by rw [he, one_mul]
  have e2 : (0 + ∑ i, Ideal.exp (s i - b)) = ((Real.exp (a * Real.log 2 - b) * ∑ j, e j : ℝ) : EReal) := by
    rw [zero_add, Finset.mul_sum, coe_sum]; exact Finset.sum_congr rfl fun j _ => hs j
  rw [e1, e2, Ideal.div_coe hL.ne', mul_comm, mul_sum _ _ (EReal.coe_nonneg.2 (by positivity)) (EReal.coe_ne_top _)]
  refine Finset.sum_congr rfl fun j _ => ?_
  rw [he, hs, Ideal.div_coe (mul_pos hC hL).ne', ← EReal.coe_mul, mul_left_comm, ← EReal.coe_mul, mul_comm]
  congr 2
  field_simp

end Cert.Attention
-- ==== Proof.Attention.Tiles.lean ====
/- A tile of the attention kernel's result, read at a query: quotients of sums over all the keys. -/
module

public import proofs.«01_k».proof.Proof.Attention.Words
public import proofs.«01_k».proof.Proof.Attention.Softmax
public import proofs.«01_k».proof.Proof.MobaIdeal.Steps

@[expose] public section

noncomputable section

namespace Cert.KernelIdeal.Moba

open Idealize.ShloMosaic Idealize.SL.Sem Cert.KernelIdeal Cert.KernelIdeal.Gen Cert.Attention

/-- The mask is minus infinity. -/
theorem mask_bot : Named.named (F := Ideal) κ "mask" (φ := .f32) 0xF149F2CA#32 = (⊥ : EReal) := by
  simp [Named.named, κ]

theorem mxV_apply (s : FVec Ideal S512x512 .f32) (p : Fin 512) : mxV s (ix2 0 p) = Finset.univ.fold max (⊥ : EReal) fun l => s (ix2 l p) := by
  pointwise [mxV]
  rw [neg_inf]

theorem causalV_apply (s : FVec Ideal S512x512 .f32) (l p : Fin 512) :
    causalV s (ix2 l p) = if l.val ≤ p.val then (s (ix2 l p) : EReal) else ⊥ := by
  pointwise [causalV]
  rw [mask_bot]
  unfold Scalar.select
  have h1 := l.isLt
  have h2 := p.isLt
  simp only [le_one (show l.val < 8192 by omega) (show p.val < 8192 by omega)]

theorem scF_apply (k : FVec Ideal S512x256 .bf16) (q : FVec Ideal S256x512 .bf16) (l p : Fin 512) :
    scF (F := Ideal) k q (ix2 l p) = ∑ x, (k (ix2 l x) : EReal) * q (ix2 x p) := by
  pointwise [scF]

theorem accF_apply (g : FVec Ideal S512x512 .f32 → FVec Ideal S512x512 .f32) (s : FVec Ideal S512x512 .f32) (mv : FVec Ideal S1x512 .f32)
    (ac : FVec Ideal S144x512 .f32) (v : FVec Ideal S144x512 .bf16) (r : Fin 144) (p : Fin 512) :
    accF (F := Ideal) g s mv ac v (ix2 r p)
      = Ideal.exp2 ((mv (ix2 0 p) : EReal) - max (mv (ix2 0 p) : EReal) (mxV s (ix2 0 p))) * ac (ix2 r p)
        + ∑ l, (v (ix2 r l) : EReal) * Ideal.exp2 ((g s (ix2 l p) : EReal) - max (mv (ix2 0 p) : EReal) (mxV s (ix2 0 p))) := by
  pointwise [accF]
  rfl

theorem outF_apply (ac : FVec Ideal S144x512 .f32) (p : Fin 512) (d : Fin 128) :
    outF (F := Ideal) ac (ix2 p d) = Ideal.div (ac (ix2 ⟨d.val, by omega⟩ p)) (ac (ix2 128 p)) := by
  pointwise [outF]

/-- The running maxima do not see the values. -/
theorem running_fst {n : ℕ} (x v v' : ℕ → Fin n → EReal) (mx : ℕ → EReal) (i : ℕ) : (running x v mx i).1 = (running x v' mx i).1 := by
  induction i with
  | zero => rfl
  | succ i ih => show max _ _ = max _ _; rw [ih]

section Tile

variable (K : S1x2x8192x256.Idx → Elt Ideal .bf16) (Q : S1x2x256x512.Idx → Elt Ideal .bf16) (V : S1x2x144x8192.Idx → Elt Ideal .bf16)
  (h : Fin 2) (p : Fin 512)

/-- A query's scores of a chunk, -/
def xs (j : ℕ) (l : Fin 512) : EReal := sc K Q h j (ix2 l p)

/-- their maximum, -/
def ms (j : ℕ) : EReal := Finset.univ.fold max ⊥ (xs K Q h p j)

/-- and a row of the chunk's values. -/
def vs (r : Fin 144) (j : ℕ) (l : Fin 512) : EReal := colsAt V h j (ix2 r l)

/-- The stored maxima and sums are the running ones. -/
theorem st_eq (r : Fin 144) (n : ℕ) :
    ((st K Q V h n).1 (ix2 0 p) : EReal) = (running (xs K Q h p) (vs V h r) (ms K Q h p) n).1
      ∧ ((st K Q V h n).2 (ix2 r p) : EReal) = (running (xs K Q h p) (vs V h r) (ms K Q h p) n).2 := by
  induction n with
  | zero => exact ⟨mask_bot, Ideal.ofBits_zero_f32⟩
  | succ n ih =>
    have hm : (mxV (sc K Q h n) (ix2 0 p) : EReal) = ms K Q h p n := mxV_apply _ p
    refine ⟨?_, ?_⟩
    · show max ((st K Q V h n).1 (ix2 0 p) : EReal) (mxV (sc K Q h n) (ix2 0 p)) = max _ _
      rw [ih.1, hm]
    · refine (accF_apply id (sc K Q h n) (st K Q V h n).1 (st K Q V h n).2 (colsAt V h n) r p).trans ?_
      rw [ih.1, ih.2, hm]
      rfl

/-- A query's sums over all the keys, the ones after the query at no weight. -/
theorem fin_sum (raw : Fin 8192 → EReal) (hraw : ∀ k, raw k ≠ ⊤)
    (hx : ∀ (j : ℕ) (l : Fin 512), (sc K Q h j (ix2 l p) : EReal) = raw ⟨(512 * j + l.val) % 8192, Nat.mod_lt _ (by decide)⟩)
    (n : ℕ) (hn : n < 16) (i : Fin 8192) (hi : i.val = 512 * n + p.val) (hown : raw i ≠ ⊥) :
    ∃ a : ℝ, ∀ r : Fin 144, (fin K Q V h n (ix2 r p) : EReal)
      = ∑ k : Fin 8192, (V (idx4 0 h r k) : EReal) * Ideal.exp2 ((if k.val ≤ i.val then raw k else ⊥) - a) := by
  have hmx : ∀ j, ms K Q h p j ≠ ⊤ := fun j => fold_ne_top _ fun l => by
    show (sc K Q h j (ix2 l p) : EReal) ≠ ⊤
    rw [hx]; exact hraw _
  have hle : ∀ j l, xs K Q h p j l ≤ ms K Q h p j := fun j l => le_fold _ l
  -- the last maximum is a real number: the query's own key is among the scores
  obtain ⟨a, ha⟩ : ∃ a : ℝ, (running (xs K Q h p) (vs V h 0) (ms K Q h p) (n + 1)).1 = a := by
    have h1 := running_fst_ne_top (xs K Q h p) (vs V h 0) (ms K Q h p) hmx (n + 1)
    have h2 := le_running (xs K Q h p) (vs V h 0) (ms K Q h p) hle n (n + 1) (Nat.lt_succ_self n) p
    have h3 : xs K Q h p n p = raw i := by
      refine (hx n p).trans (congrArg raw (Fin.ext ?_))
      show (512 * n + p.val) % 8192 = i.val
      have := i.isLt
      omega
    rw [h3] at h2
    have h4 : (running (xs K Q h p) (vs V h 0) (ms K Q h p) (n + 1)).1 ≠ ⊥ := fun h0 => hown (le_bot_iff.1 (h0 ▸ h2))
    exact ⟨_, (EReal.coe_toReal h1 h4).symm⟩
  refine ⟨a, fun r => ?_⟩
  have har : (running (xs K Q h p) (vs V h r) (ms K Q h p) (n + 1)).1 = a := (running_fst _ _ _ _ _).trans ha
  have hm : (mxV (sc K Q h n) (ix2 0 p) : EReal) = ms K Q h p n := mxV_apply _ p
  have e := last (xs K Q h p) (vs V h r) (ms K Q h p) hle hmx n fun l => if l.val ≤ p.val then xs K Q h p n l else ⊥
  rw [har] at e
  have e1 : (fin K Q V h n (ix2 r p) : EReal)
      = Ideal.exp2 ((running (xs K Q h p) (vs V h r) (ms K Q h p) n).1 - a) * (running (xs K Q h p) (vs V h r) (ms K Q h p) n).2
        + ∑ l, vs V h r n l * Ideal.exp2 ((if l.val ≤ p.val then xs K Q h p n l else ⊥) - a) := by
    refine (accF_apply causalV (sc K Q h n) (st K Q V h n).1 (st K Q V h n).2 (colsAt V h n) r p).trans ?_
    rw [(st_eq K Q V h p r n).1, (st_eq K Q V h p r n).2, hm]
    have hmax : max (running (xs K Q h p) (vs V h r) (ms K Q h p) n).1 (ms K Q h p n) = a := har
    rw [hmax]
    refine congrArg₂ (fun x y : EReal => x + y) rfl ?_
    refine Finset.sum_congr rfl fun l _ => ?_
    rw [causalV_apply]
    rfl
  rw [e1, e, sum_chunks]
  have hsub : Finset.range (n + 1) ⊆ Finset.range 16 := Finset.range_subset_range.2 (by omega)
  rw [← Finset.sum_subset hsub, Finset.sum_range_succ]
  · refine congrArg₂ (fun x y : EReal => x + y) ?_ ?_
    · refine Finset.sum_congr rfl fun j hj => Finset.sum_congr rfl fun l _ => ?_
      have hj' := Finset.mem_range.1 hj
      have hl := l.isLt
      rw [if_pos (by show (512 * j + l.val) % 8192 ≤ i.val; omega), ← hx]
      rfl
    · refine Finset.sum_congr rfl fun l _ => ?_
      have hl := l.isLt
      have hc : (512 * n + l.val) % 8192 ≤ i.val ↔ l.val ≤ p.val := by omega
      show _ = V _ * Ideal.exp2 ((if (512 * n + l.val) % 8192 ≤ i.val then _ else ⊥) - _)
      simp only [hc, ← hx]
      rfl
  · intro j hj hj'
    refine Finset.sum_eq_zero fun l _ => ?_
    have h1 := Finset.mem_range.1 hj
    have h2 : ¬ j < n + 1 := fun hlt => hj' (Finset.mem_range.2 hlt)
    have hl := l.isLt
    have hp := p.isLt
    rw [if_neg (by show ¬ (512 * j + l.val) % 8192 ≤ i.val; omega), EReal.bot_sub]
    exact mul_zero _

end Tile

/-- The result's tile at a query and a channel. -/
theorem tile_apply (K : S1x2x8192x256.Idx → Elt Ideal .bf16) (Q : S1x2x256x512.Idx → Elt Ideal .bf16) (V : S1x2x144x8192.Idx → Elt Ideal .bf16)
    (n : ℕ) (y : S1x512x256.Idx) (h : Fin 2) (p : Fin 512) (d : Fin 128) (hp : p.val = (y 1).val) (hh : h.val = (y 2).val / 128) (hd : d.val = (y 2).val % 128) :
    tile K Q V n y = Ideal.div (fin K Q V h n (ix2 ⟨d.val, by omega⟩ p)) (fin K Q V h n (ix2 128 p)) := by
  rw [← outF_apply]
  unfold tile pairOut
  have e1 : (⟨(y 2).val / 128, by have : (y 2).val < 256 := (y 2).isLt; omega⟩ : Fin 2) = h := Fin.ext hh.symm
  have e2 : Shape.pair (d := ![512, 128]) (y 1) ⟨(y 2).val % 128, Nat.mod_lt _ (by decide)⟩ = ix2 p d := by
    funext a
    match a with
    | ⟨0, _⟩ => exact Fin.ext hp.symm
    | ⟨1, _⟩ => exact Fin.ext hd.symm
  rw [e2]
  exact congrFun (congrArg (fun z => outF (fin K Q V z n)) e1) _

end Cert.KernelIdeal.Moba
-- ==== Proof.Attention.Blocks.lean ====
/- The attention kernel's blocks as parts of its arrays, and its result array from the tiles. -/
module

public import proofs.«01_k».proof.Proof.MobaIdeal.Frame
public import Idealize.ShloMosaic.Lib.Pointwise

@[expose] public section

set_option maxRecDepth 16384

noncomputable section

namespace Cert.KernelIdeal.Moba

open Idealize.ShloMosaic Idealize.ShloMosaic.TcCoe Idealize.SL.Sem Cert.KernelIdeal Cert.KernelIdeal.Gen

variable {F : FTy → Type} [FloatOps F] [Named F] (m : (ℓ : Loc nD τ sig) → Buf (Elt F) ℓ) (ρ : Dev nD → PrngReg)

theorem index0 : ∀ t : Fin cfg0.N, win0_0.index t = ![t.val / 64, t.val / 16 % 4, 0, t.val % 16] := (by decide +kernel : ∀ t : Fin grid0.N, _)
theorem index2 : ∀ t : Fin cfg0.N, win0_2.index t = ![t.val / 64, t.val / 16 % 4, 0, 0] := (by decide +kernel : ∀ t : Fin grid0.N, _)
theorem index3 : ∀ t : Fin cfg0.N, win0_3.index t = ![t.val / 64, t.val / 16 % 4, 0, 0] := (by decide +kernel : ∀ t : Fin grid0.N, _)
theorem index4 : ∀ t : Fin cfg0.N, win0_4.index t = ![t.val / 64, t.val % 16, t.val / 16 % 4] := (by decide +kernel : ∀ t : Fin grid0.N, _)
theorem flush4 : ∀ t : Fin cfg0.N, (cfg0.win 4).flush t = true := (by decide +kernel : ∀ t : Fin grid0.N, win0_4.flush t = true)

variable (c : Dev nD) (t : Fin cfg0.N) (a : Fin 4) (h : Fin 8) (hh : Fin 2) (ha : a.val = t.val / 64) (hh' : h.val = 2 * (t.val / 16 % 4) + hh.val)

include ha hh'

/-- A query of the point's tile. -/
theorem query_read (d : Fin 256) (p : Fin 512) (i : Fin 8192) (hi : i.val = 512 * (t.val % 16) + p.val) :
    (iblk m c 0 t : S1x2x256x512.Idx → Elt F .bf16) (idx4 0 hh d p) = V m c main_v27 (ix4 a h d i) := by
  refine congrArg (V m c main_v27) (funext fun x => Fin.ext ?_)
  show ((win0_0.rect t).emb (idx4 0 hh d p) x : Nat) = _
  rw [Pipeline.Window.rect_emb_val win0_0, index0]
  match x with
  | ⟨0, _⟩ => show t.val / 64 * 1 + 0 = a.val; omega
  | ⟨1, _⟩ => show t.val / 16 % 4 * 2 + hh.val = h.val; omega
  | ⟨2, _⟩ => show 0 * 256 + d.val = d.val; omega
  | ⟨3, _⟩ => show t.val % 16 * 512 + p.val = i.val; omega

/-- A key of the point's heads. -/
theorem key_read (j : Fin 8192) (d : Fin 256) :
    (iblk m c 2 t : S1x2x8192x256.Idx → Elt F .bf16) (idx4 0 hh j d) = V m c main_v38 (ix4 a h j d) := by
  refine congrArg (V m c main_v38) (funext fun x => Fin.ext ?_)
  show ((win0_2.rect t).emb (idx4 0 hh j d) x : Nat) = _
  rw [Pipeline.Window.rect_emb_val win0_2, index2]
  match x with
  | ⟨0, _⟩ => show t.val / 64 * 1 + 0 = a.val; omega
  | ⟨1, _⟩ => show t.val / 16 % 4 * 2 + hh.val = h.val; omega
  | ⟨2, _⟩ => show 0 * 8192 + j.val = j.val; omega
  | ⟨3, _⟩ => show 0 * 256 + d.val = d.val; omega

/-- A value of the point's heads. -/
theorem value_read (r : Fin 144) (j : Fin 8192) :
    (iblk m c 3 t : S1x2x144x8192.Idx → Elt F .bf16) (idx4 0 hh r j) = V m c main_v42 (ix4 a h r j) := by
  refine congrArg (V m c main_v42) (funext fun x => Fin.ext ?_)
  show ((win0_3.rect t).emb (idx4 0 hh r j) x : Nat) = _
  rw [Pipeline.Window.rect_emb_val win0_3, index3]
  match x with
  | ⟨0, _⟩ => show t.val / 64 * 1 + 0 = a.val; omega
  | ⟨1, _⟩ => show t.val / 16 % 4 * 2 + hh.val = h.val; omega
  | ⟨2, _⟩ => show 0 * 144 + r.val = r.val; omega
  | ⟨3, _⟩ => show 0 * 8192 + j.val = j.val; omega

omit ha hh'

/-- An index of the result array is in a point's block when each coordinate is in the block's range. -/
theorem mem_part (i : S4x8192x1024.Idx) :
    i ∈ ((cfg0.win 4).blk t).view.set ↔ ∀ x : Fin 3, win0_4.index t x * S1x512x256.size x ≤ (i x).val ∧ (i x).val < win0_4.index t x * S1x512x256.size x + S1x512x256.size x := by
  show i ∈ ((View.whole main_v43).slice (win0_4.rect t)).set ↔ _
  rw [View.set_slice_whole, Rect.mem_set_unit]
  exact Iff.rfl

/-- The result array is any array whose parts are the points' tiles. -/
theorem result_of (G : S4x8192x1024.Idx → Elt F .bf16)
    (hG : ∀ (t : Fin cfg0.N) (y : S1x512x256.Idx) (a : Fin 4) (i : Fin 8192) (ch : Fin 1024), a.val = t.val / 64 → i.val = 512 * (t.val % 16) + (y 1).val →
      ch.val = 256 * (t.val / 16 % 4) + (y 2).val → outTile m c t y = G (ix3 a i ch)) :
    (dats m 0 c).arrAt 4 cfg0.N = G := by
  refine (dats m 0 c).arrAt_eq_of_cover 4 _ (fun t _ => ?_) (fun i => ?_)
  · show (cfg0.win 4).cut (grid0.coords t) ((dats m 0 c).after 4 t) = _
    rw [after0_4]
    funext y
    have hN : t.val < 256 := lt_of_lt_of_eq t.isLt N_0
    have h0 : (y 0).val < 1 := (y 0).isLt
    have h1 : (y 1).val < 512 := (y 1).isLt
    have h2 : (y 2).val < 256 := (y 2).isLt
    refine (hG t y ⟨t.val / 64, by omega⟩ ⟨512 * (t.val % 16) + (y 1).val, by omega⟩ ⟨256 * (t.val / 16 % 4) + (y 2).val, by omega⟩ rfl rfl rfl).trans ?_
    refine congrArg G (funext fun x => Fin.ext ?_)
    show _ = ((win0_4.rect t).emb y x : Nat)
    rw [Pipeline.Window.rect_emb_val win0_4, index4]
    match x with
    | ⟨0, _⟩ => show t.val / 64 = t.val / 64 * 1 + (y 0).val; omega
    | ⟨1, _⟩ => show 512 * (t.val % 16) + (y 1).val = t.val % 16 * 512 + (y 1).val; omega
    | ⟨2, _⟩ => show 256 * (t.val / 16 % 4) + (y 2).val = t.val / 16 % 4 * 256 + (y 2).val; omega
  · have h0 : (i 0).val < 4 := (i 0).isLt
    have h1 : (i 1).val < 8192 := (i 1).isLt
    have h2 : (i 2).val < 1024 := (i 2).isLt
    have hlt : 64 * (i 0).val + 16 * ((i 2).val / 256) + (i 1).val / 512 < cfg0.N := lt_of_lt_of_eq (by omega : _ < 256) N_0.symm
    refine ⟨⟨64 * (i 0).val + 16 * ((i 2).val / 256) + (i 1).val / 512, hlt⟩, flush4 _, ?_⟩
    rw [mem_part]
    intro x
    rw [index4]
    match x with
    | ⟨0, _⟩ =>
      show (64 * (i 0).val + 16 * ((i 2).val / 256) + (i 1).val / 512) / 64 * 1 ≤ (i 0).val ∧ (i 0).val < (64 * (i 0).val + 16 * ((i 2).val / 256) + (i 1).val / 512) / 64 * 1 + 1
      omega
    | ⟨1, _⟩ =>
      show (64 * (i 0).val + 16 * ((i 2).val / 256) + (i 1).val / 512) % 16 * 512 ≤ (i 1).val ∧ (i 1).val < (64 * (i 0).val + 16 * ((i 2).val / 256) + (i 1).val / 512) % 16 * 512 + 512
      omega
    | ⟨2, _⟩ =>
      show (64 * (i 0).val + 16 * ((i 2).val / 256) + (i 1).val / 512) / 16 % 4 * 256 ≤ (i 2).val ∧ (i 2).val < (64 * (i 0).val + 16 * ((i 2).val / 256) + (i 1).val / 512) / 16 % 4 * 256 + 256
      omega

/-- The run leaves the result array at what the proof data says and the arguments as they were. -/
theorem run : θ_run defs (onTc (τ := τ) (main (F := F))) ⟨m, fun _ => 0, ρ⟩ fun r => ∀ c : Dev nD,
      r.2.mem ((c.tc : Thread nD τ).loc main_v43) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h.1 c).1 4, h.2.1 c⟩) (θ_run_and (run_main m ρ) (frame m ρ))

end Cert.KernelIdeal.Moba
-- ==== Proof.Attention.Arrays.lean ====
/- The three arrays that the attention kernel's host code hands the call: the scaled queries over the rows of
   the block mask, the keys beside the code of their block, the values over rows of ones. -/
module

public import proofs.«01_k».proof.Proof.Gen.KernelIdeal.Frame
public import Idealize.ShloMosaic.Lib.Pointwise
public import Idealize.ShloMosaic.Lib.ValueIdx

@[expose] public section

noncomputable section

namespace Cert.KernelIdeal.Moba

open Idealize.ShloMosaic Idealize.SL.Sem Cert.KernelIdeal Cert.KernelIdeal.Gen

variable {F : FTy → Type} [FloatOps F] [Named F]

/-- The block of every position. -/
def ownV : IVec S1x1x1x8192 32 :=
  shapeCast S1x1x1x8192 (Host.shrsi (iotaInDim S8192 32 0) (broadcastInDim S8192 ![] bcast_S_S8192 (constantI S_ 32 8#32))) shapeCasts_S8192_S1x1x1x8192

/-- The number of every block. -/
def blkV : IVec S1x1x32x1 32 := shapeCast S1x1x32x1 (iotaInDim S32 32 0) shapeCasts_S32_S1x1x32x1

/-- Which blocks a query may see: its own, and the past ones chosen for it. -/
def takeV (sel : IVec S4x8x32x8192 32) : IVec S4x8x32x8192 1 :=
  ori
    (broadcastInDim S4x8x32x8192 ![0, 1, 2, 3] bcast_S1x1x32x8192_S4x8x32x8192_0_1_2_3
      (cmpi .eq (broadcastInDim S1x1x32x8192 ![0, 1, 2, 3] bcast_S1x1x32x1_S1x1x32x8192_0_1_2_3 blkV)
        (broadcastInDim S1x1x32x8192 ![0, 1, 2, 3] bcast_S1x1x1x8192_S1x1x32x8192_0_1_2_3 ownV)))
    (andi
      (broadcastInDim S4x8x32x8192 ![0, 1, 2, 3] bcast_S1x1x32x8192_S4x8x32x8192_0_1_2_3
        (cmpi .slt (broadcastInDim S1x1x32x8192 ![0, 1, 2, 3] bcast_S1x1x32x1_S1x1x32x8192_0_1_2_3 blkV)
          (broadcastInDim S1x1x32x8192 ![0, 1, 2, 3] bcast_S1x1x1x8192_S1x1x32x8192_0_1_2_3 ownV)))
      (cmpi .sgt sel (broadcastInDim S4x8x32x8192 ![] bcast_S_S4x8x32x8192 (constantI S_ 32 0#32))))

/-- The queries' array. -/
def queriesV (q : FVec F S4x8x8192x128 .f32) (sel : IVec S4x8x32x8192 32) : FVec F S4x8x256x8192 .bf16 :=
  truncf .bf16
    (concatenate S4x8x256x8192 2
      [⟨S4x8x128x8192, transpose S4x8x128x8192 [0, 1, 3, 2]
          (Host.divf q (broadcastInDim S4x8x8192x128 ![] bcast_S_S4x8x8192x128
            (mulf (Host.sqrt (constant S_ .f32 0x43000000#32)) (Host.log (constant S_ .f32 0x40000000#32)))))
          transposes_S4x8x8192x128_S4x8x128x8192_0_1_3_2⟩,
        ⟨S4x8x32x8192, select (takeV sel) (broadcastInDim S4x8x32x8192 ![] bcast_S_S4x8x32x8192 (constant S_ .f32 0x00000000#32))
          (broadcastInDim S4x8x32x8192 ![] bcast_S_S4x8x32x8192 (constant S_ .f32 0xFF800000#32))⟩,
        ⟨S4x8x96x8192, broadcastInDim S4x8x96x8192 ![] bcast_S_S4x8x96x8192 (constant S_ .f32 0x00000000#32)⟩]
      concatenates_S4x8x128x8192_S4x8x32x8192_S4x8x96x8192_S4x8x256x8192_d2)
    bitsLt_bf16_f32

/-- The keys' array. -/
def keysV (k : FVec F S4x8x8192x128 .f32) : FVec F S4x8x8192x256 .bf16 :=
  truncf .bf16
    (concatenate S4x8x8192x256 3
      [⟨S4x8x8192x128, k⟩,
        ⟨S4x8x8192x128, broadcastInDim S4x8x8192x128 ![0, 1, 2, 3] bcast_S1x1x8192x128_S4x8x8192x128_0_1_2_3
          (sitofp .f32 (extui 32
            (cmpi .eq
              (broadcastInDim S1x1x8192x128 ![0, 1, 2, 3] bcast_S1x1x1x128_S1x1x8192x128_0_1_2_3 (shapeCast S1x1x1x128 (iotaInDim S128 32 0) shapeCasts_S128_S1x1x1x128))
              (broadcastInDim S1x1x8192x128 ![0, 1, 2, 3] bcast_S1x1x8192x1_S1x1x8192x128_0_1_2_3 (shapeCast S1x1x8192x1 ownV shapeCasts_S1x1x1x8192_S1x1x8192x1)))
            natLt_1_32))⟩]
      concatenates_S4x8x8192x128_S4x8x8192x128_S4x8x8192x256_d3)
    bitsLt_bf16_f32

/-- The values' array. -/
def valuesV (v : FVec F S4x8x8192x128 .f32) : FVec F S4x8x144x8192 .bf16 :=
  truncf .bf16
    (concatenate S4x8x144x8192 2
      [⟨S4x8x128x8192, transpose S4x8x128x8192 [0, 1, 3, 2] v transposes_S4x8x8192x128_S4x8x128x8192_0_1_3_2⟩,
        ⟨S4x8x16x8192, broadcastInDim S4x8x16x8192 ![] bcast_S_S4x8x16x8192 (constant S_ .f32 0x3F800000#32)⟩]
      concatenates_S4x8x128x8192_S4x8x16x8192_S4x8x144x8192_d2)
    bitsLt_bf16_f32

variable (m : (ℓ : Loc nD τ sig) → Buf (Elt F) ℓ)

set_option maxRecDepth 8192 in
set_option maxHeartbeats 4000000 in
/-- The region finds the queries' array. -/
theorem V_queries (c : Dev nD) : V m c main_v27 = queriesV (m ((c.tc : Thread nD τ).loc main_arg0)) (m ((c.tc : Thread nD τ).loc main_arg3)) := by
  show StableHlo.after _ _ _ = _
  simp only [hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

set_option maxRecDepth 8192 in
set_option maxHeartbeats 4000000 in
/-- The region finds the keys' array. -/
theorem V_keys (c : Dev nD) : V m c main_v38 = keysV (m ((c.tc : Thread nD τ).loc main_arg1)) := by
  show StableHlo.after _ _ _ = _
  simp only [hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

set_option maxRecDepth 8192 in
set_option maxHeartbeats 4000000 in
/-- The region finds the values' array. -/
theorem V_values (c : Dev nD) : V m c main_v42 = valuesV (m ((c.tc : Thread nD τ).loc main_arg2)) := by
  show StableHlo.after _ _ _ = _
  simp only [hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

end Cert.KernelIdeal.Moba
-- ==== Proof.Attention.Reads.lean ====
/- The attention kernel's three arrays read at an index, and a query's scores from them: the scaled product where the
   key's block may be seen, minus infinity elsewhere. -/
module

public import proofs.«01_k».proof.Proof.Attention.Words
public import proofs.«01_k».proof.Proof.Attention.Softmax
public import proofs.«01_k».proof.Proof.Attention.Arrays

@[expose] public section

noncomputable section

namespace Cert.KernelIdeal.Moba

open Idealize.ShloMosaic Idealize.SL.Sem Cert.KernelIdeal Cert.KernelIdeal.Gen Cert.Attention

/-- Block `b` of the keys may be seen by query `i`: it is the query's own, or a past one chosen for it. -/
def Vis (sel : IVec S4x8x32x8192 32) (a : Fin 4) (h : Fin 8) (i : Fin 8192) (b : Fin 32) : Prop :=
  b.val = i.val / 256 ∨ (b.val < i.val / 256 ∧ IntOp.cmpi .sgt (sel (ix4 a h b i)) 0#32 = 1)

theorem takeV_apply (sel : IVec S4x8x32x8192 32) (a : Fin 4) (h : Fin 8) (b : Fin 32) (i : Fin 8192) :
    takeV sel (ix4 a h b i) = 1 ↔ Vis sel a h i b := by
  have hb := b.isLt
  have hi := i.isLt
  pointwise [takeV, ownV, blkV]
  rw [block_word hi, or_one, and_one, eq_one (by omega) (by omega), lt_one (by omega) (by omega)]
  rfl

/-- The queries' array: the scaled query, then the mask of its blocks, then nothing. -/
theorem queriesV_apply (q : FVec Ideal S4x8x8192x128 .f32) (sel : IVec S4x8x32x8192 32) (a : Fin 4) (h : Fin 8) (d : Fin 256) (i : Fin 8192) :
    (queriesV q sel (ix4 a h d i) : EReal)
      = if hd : d.val < 128 then Ideal.div (q (ix4 a h i ⟨d.val, hd⟩)) ((Real.sqrt 128 * Real.log 2 : ℝ) : EReal)
        else if hd' : d.val - 128 < 32 then Scalar.select (takeV sel (ix4 a h ⟨d.val - 128, hd'⟩ i)) (0 : EReal) ⊥ else 0 := by
  pointwise [queriesV]
  rw [scale, neg_inf]

/-- The keys' array: the key, then the code of its block. -/
theorem keysV_apply (k : FVec Ideal S4x8x8192x128 .f32) (a : Fin 4) (h : Fin 8) (j : Fin 8192) (d : Fin 256) :
    (keysV k (ix4 a h j d) : EReal)
      = if hd : d.val < 128 then (k (ix4 a h j ⟨d.val, hd⟩) : EReal) else if d.val - 128 = j.val / 256 then 1 else 0 := by
  have hd := d.isLt
  have hj := j.isLt
  pointwise [keysV, ownV]
  simp only [bit_float, block_word hj, eq_one (show d.val - 128 < 8192 by omega) (show j.val / 256 < 8192 by omega)]

/-- The values' array: the values, then ones. -/
theorem valuesV_apply (v : FVec Ideal S4x8x8192x128 .f32) (a : Fin 4) (h : Fin 8) (r : Fin 144) (j : Fin 8192) :
    (valuesV v (ix4 a h r j) : EReal) = if hr : r.val < 128 then (v (ix4 a h j ⟨r.val, hr⟩) : EReal) else 1 := by
  pointwise [valuesV]

open Classical in
/-- A query's score of a key, from the two arrays: real numbers `q`, `k`. -/
theorem score_eq (q k : FVec Ideal S4x8x8192x128 .f32) (sel : IVec S4x8x32x8192 32) (qr kr : S4x8x8192x128.Idx → ℝ)
    (hq : ∀ x, (q x : EReal) = qr x) (hk : ∀ x, (k x : EReal) = kr x) (a : Fin 4) (h : Fin 8) (i j : Fin 8192) :
    ∑ d : Fin 256, (keysV k (ix4 a h j d) : EReal) * queriesV q sel (ix4 a h d i)
      = if Vis sel a h i ⟨j.val / 256, by omega⟩ then (((∑ d : Fin 128, qr (ix4 a h i d) * kr (ix4 a h j d)) / (Real.sqrt 128 * Real.log 2) : ℝ) : EReal) else ⊥ := by
  have hj := j.isLt
  refine (Fin.sum_univ_add (a := 128) (b := 128) (fun d : Fin (128 + 128) => (keysV k (ix4 a h j d) : EReal) * queriesV q sel (ix4 a h d i))).trans ?_
  -- the product of key and query
  have e1 : ∀ d : Fin 128, (keysV k (ix4 a h j (Fin.castAdd 128 d)) : EReal) * queriesV q sel (ix4 a h (Fin.castAdd 128 d) i)
      = ((qr (ix4 a h i d) * kr (ix4 a h j d) / (Real.sqrt 128 * Real.log 2) : ℝ) : EReal) := by
    intro d
    have hd : (Fin.castAdd 128 d).val < 128 := d.isLt
    rw [keysV_apply, queriesV_apply, dif_pos hd, dif_pos hd]
    show (k (ix4 a h j d) : EReal) * Ideal.div (q (ix4 a h i d)) _ = _
    rw [hk, hq, div_real _ scale_pos.ne', ← EReal.coe_mul]
    congr 1
    ring
  -- the code of the key's block picks out the mask's row of that block
  have e2 : ∑ d : Fin 128, (keysV k (ix4 a h j (Fin.natAdd 128 d)) : EReal) * queriesV q sel (ix4 a h (Fin.natAdd 128 d) i)
      = if Vis sel a h i ⟨j.val / 256, by omega⟩ then 0 else ⊥ := by
    rw [Finset.sum_eq_single (⟨j.val / 256, by omega⟩ : Fin 128)]
    · have hd : ¬ (Fin.natAdd 128 (⟨j.val / 256, by omega⟩ : Fin 128)).val < 128 := by show ¬ 128 + j.val / 256 < 128; omega
      have hd' : (Fin.natAdd 128 (⟨j.val / 256, by omega⟩ : Fin 128)).val - 128 = j.val / 256 := by show 128 + j.val / 256 - 128 = _; omega
      rw [keysV_apply, queriesV_apply, dif_neg hd, dif_neg hd, if_pos hd', dif_pos (by rw [hd']; omega), one_mul]
      unfold Scalar.select
      simp only [takeV_apply, hd']
    · intro d _ hne
      have hd : ¬ (Fin.natAdd 128 d).val < 128 := by show ¬ 128 + d.val < 128; omega
      have hd' : ¬ (Fin.natAdd 128 d).val - 128 = j.val / 256 := by
        show ¬ 128 + d.val - 128 = _
        intro e
        exact hne (Fin.ext (by show d.val = j.val / 256; omega))
      rw [keysV_apply, dif_neg hd, if_neg hd', zero_mul]
    · exact fun hn => absurd (Finset.mem_univ _) hn
  rw [e2, Finset.sum_congr rfl fun d _ => e1 d, ← coe_sum, ← Finset.sum_div]
  split
  · rw [add_zero]
  · rw [EReal.add_bot]

end Cert.KernelIdeal.Moba
-- ==== Proof.Attention.Reference.lean ====
/- The plain attention's result read at an index: softmax-weighted sums of the values. -/
module

public import proofs.«01_k».proof.Proof.Attention.Reads
public import proofs.«01_k».proof.Proof.Gen.ReferenceIdeal.Run

@[expose] public section

noncomputable section

namespace Cert.ReferenceIdeal.Softmax

open Idealize.ShloMosaic Idealize.SL.Sem Cert.ReferenceIdeal Cert.ReferenceIdeal.Gen Cert.Attention
open Cert.KernelIdeal.Moba (Vis)

/-- The block of every position. -/
def own : IVec S8192 32 := shapeCast _ (broadcastInDim S32x256 ![0] bcast_S32_S32x256_0 (iotaInDim S32 32 0)) shapeCasts_S32x256_S8192

/-- A fact about key and query positions at every batch entry and head. -/
def everywhere (x : IVec S8192x8192 1) : IVec S4x8x8192x8192 1 :=
  broadcastInDim S4x8x8192x8192 ![0, 1, 2, 3] bcast_S1x1x8192x8192_S4x8x8192x8192_0_1_2_3 (broadcastInDim S1x1x8192x8192 ![2, 3] bcast_S8192x8192_S1x1x8192x8192_2_3 x)

/-- A number of every key, -/
def ofKey (x : IVec S8192 32) : IVec S8192x8192 32 :=
  broadcastInDim S8192x8192 ![0, 1] bcast_S1x8192_S8192x8192_0_1 (broadcastInDim S1x8192 ![1] bcast_S8192_S1x8192_1 x)

/-- and of every query. -/
def ofQuery (x : IVec S8192 32) : IVec S8192x8192 32 :=
  broadcastInDim S8192x8192 ![0, 1] bcast_S8192x1_S8192x8192_0_1 (broadcastInDim S8192x1 ![0] bcast_S8192_S8192x1_0 x)

/-- Which keys a query sees. -/
def seen (sel : IVec S4x8x32x8192 32) : IVec S4x8x8192x8192 1 :=
  ori (everywhere (andi (cmpi .eq (ofKey own) (ofQuery own)) (cmpi .sle (ofKey (iotaInDim S8192 32 0)) (ofQuery (iotaInDim S8192 32 0)))))
    (andi (everywhere (cmpi .slt (ofKey own) (ofQuery own)))
      (shapeCast _ (broadcastInDim S4x8x8192x32x256 ![0, 1, 2, 3] bcast_S4x8x8192x32_S4x8x8192x32x256_0_1_2_3 (transpose S4x8x8192x32 [0, 1, 3, 2] (cmpi .sgt sel (broadcastInDim S4x8x32x8192 ![] bcast_S_S4x8x32x8192 (constantI S_ 32 0#32))) transposes_S4x8x32x8192_S4x8x8192x32_0_1_3_2)) shapeCasts_S4x8x8192x32x256_S4x8x8192x8192))

/-- The scores, minus infinity where the key is not seen. -/
def scores (q k : FVec Ideal S4x8x8192x128 .f32) (sel : IVec S4x8x32x8192 32) : FVec Ideal S4x8x8192x8192 .f32 :=
  select (seen sel) (Host.divf (Host.dotGeneral dot_S4x8x8192x128_S4x8x8192x128_S4x8x8192x8192_3_3_2_2_01_01 none q k) (broadcastInDim S4x8x8192x8192 ![] bcast_S_S4x8x8192x8192 (Host.sqrt (constant S_ .f32 0x43000000#32)))) (broadcastInDim S4x8x8192x8192 ![] bcast_S_S4x8x8192x8192 (id (constant S_ .f32 0xFF800000#32)))

/-- Each query's largest score. -/
def top (s : FVec Ideal S4x8x8192x8192 .f32) : FVec Ideal S4x8x8192 .f32 :=
  maximumf (broadcastInDim S4x8x8192 ![] bcast_S_S4x8x8192 (constant S_ .f32 0xFF800000#32)) (Host.reduce FloatOps.maximumf s (constant S_ .f32 0xFF800000#32) reducesTo_S4x8x8192x8192_S4x8x8192_d3 h_S_)

/-- A query's number at every key. -/
def along (x : FVec Ideal S4x8x8192 .f32) : FVec Ideal S4x8x8192x8192 .f32 :=
  broadcastInDim S4x8x8192x8192 ![0, 1, 2, 3] bcast_S4x8x8192x1_S4x8x8192x8192_0_1_2_3 (broadcastInDim S4x8x8192x1 ![0, 1, 2] bcast_S4x8x8192_S4x8x8192x1_0_1_2 x)

/-- The exponentials of the scores under the largest. -/
def ex (s : FVec Ideal S4x8x8192x8192 .f32) : FVec Ideal S4x8x8192x8192 .f32 := Host.exp (subf s (along (top s)))

/-- The result from the exponentials and the values. -/
def out (e : FVec Ideal S4x8x8192x8192 .f32) (v : FVec Ideal S4x8x8192x128 .f32) : FVec Ideal S4x8192x1024 .bf16 :=
  truncf .bf16 (shapeCast _ (transpose S4x8192x8x128 [0, 2, 1, 3] (Host.dotGeneral dot_S4x8x8192x8192_S4x8x8192x128_S4x8x8192x128_3_2_2_3_01_01 none (Host.divf e (along (Host.reduceAdd e (constant S_ .f32 0x00000000#32) reducesTo_S4x8x8192x8192_S4x8x8192_d3 h_S_))) v) transposes_S4x8x8192x128_S4x8192x8x128_0_2_1_3) shapeCasts_S4x8192x8x128_S4x8192x1024) bitsLt_bf16_f32

/-- The plain attention of queries, keys, values and chosen blocks. -/
def attention (q k v : FVec Ideal S4x8x8192x128 .f32) (sel : IVec S4x8x32x8192 32) : FVec Ideal S4x8192x1024 .bf16 := out (ex (scores q k sel)) v

theorem res_eq (m : (ℓ : Loc nD τ sig) → Buf (Elt Ideal) ℓ) (c : Dev nD) :
    Value.res_out0 m c = attention (m ((c.tc : Thread nD τ).loc main_arg0)) (m ((c.tc : Thread nD τ).loc main_arg1)) (m ((c.tc : Thread nD τ).loc main_arg2)) (m ((c.tc : Thread nD τ).loc main_arg3)) := rfl

/-- A query sees the keys up to its own place in the blocks it may see. -/
theorem seen_apply (sel : IVec S4x8x32x8192 32) (a : Fin 4) (h : Fin 8) (i j : Fin 8192) :
    seen sel (ix4 a h i j) = 1 ↔ j.val ≤ i.val ∧ Vis sel a h i ⟨j.val / 256, by omega⟩ := by
  have hi := i.isLt
  have hj := j.isLt
  pointwise [seen, own, everywhere, ofKey, ofQuery]
  rw [or_one, and_one, and_one, eq_one (by omega) (by omega), lt_one (by omega) (by omega), le_one hj hi]
  unfold Vis
  constructor
  · rintro (⟨h1, h2⟩ | ⟨h1, h2⟩)
    · exact ⟨h2, .inl h1⟩
    · exact ⟨by omega, .inr ⟨h1, h2⟩⟩
  · rintro ⟨h1, h2 | ⟨h2, h3⟩⟩
    · exact .inl ⟨h2, h1⟩
    · exact .inr ⟨h2, h3⟩

open Classical in
/-- A score of real numbers. -/
theorem scores_apply (q k : FVec Ideal S4x8x8192x128 .f32) (sel : IVec S4x8x32x8192 32) (qr kr : S4x8x8192x128.Idx → ℝ)
    (hq : ∀ x, (q x : EReal) = qr x) (hk : ∀ x, (k x : EReal) = kr x) (a : Fin 4) (h : Fin 8) (i j : Fin 8192) :
    (scores q k sel (ix4 a h i j) : EReal)
      = if j.val ≤ i.val ∧ Vis sel a h i ⟨j.val / 256, by omega⟩ then (((∑ d : Fin 128, qr (ix4 a h i d) * kr (ix4 a h j d)) / Real.sqrt 128 : ℝ) : EReal) else ⊥ := by
  have e : ∑ d : Fin 128, (q (ix4 a h i d) : EReal) * k (ix4 a h j d) = ((∑ d : Fin 128, qr (ix4 a h i d) * kr (ix4 a h j d) : ℝ) : EReal) := by
    rw [coe_sum]
    exact Finset.sum_congr rfl fun d _ => by rw [hq, hk, EReal.coe_mul]
  have hb : (id (constant S_ FTy.f32 4286578688#32) ix0 : Ideal .f32) = (⊥ : EReal) := neg_inf
  pointwise [scores]
  rw [sqrt_width, e, hb, div_real _ (Real.sqrt_pos.2 (by norm_num)).ne']
  unfold Scalar.select
  simp only [seen_apply]

theorem top_apply (s : FVec Ideal S4x8x8192x8192 .f32) (a : Fin 4) (h : Fin 8) (i : Fin 8192) :
    (top s (ix3 a h i) : EReal) = Finset.univ.fold max ⊥ fun x : Fin 8192 => (s (ix4 a h i x) : EReal) := by
  unfold top
  exact rowMax_bot s _ _ reducesTo_S4x8x8192x8192_S4x8x8192_d3 h_S_ (fun _ => neg_inf) (fun _ => neg_inf) a h i

theorem ex_apply (s : FVec Ideal S4x8x8192x8192 .f32) (a : Fin 4) (h : Fin 8) (i j : Fin 8192) :
    (ex s (ix4 a h i j) : EReal) = Ideal.exp ((s (ix4 a h i j) : EReal) - top s (ix3 a h i)) := by
  pointwise [ex, along]

theorem out_apply (e : FVec Ideal S4x8x8192x8192 .f32) (v : FVec Ideal S4x8x8192x128 .f32) (a : Fin 4) (i : Fin 8192) (ch : Fin 1024) :
    (out e v (ix3 a i ch) : EReal)
      = ∑ j, Ideal.div (e (ix4 a ⟨ch.val / 128, by omega⟩ i j)) (∑ j', (e (ix4 a ⟨ch.val / 128, by omega⟩ i j') : EReal))
          * v (ix4 a ⟨ch.val / 128, by omega⟩ j ⟨ch.val % 128, by omega⟩) := by
  pointwise [out, along]

/-- The plain attention's result at a query, head and channel, from any real number in place of the largest score. -/
theorem attention_apply (q k v : FVec Ideal S4x8x8192x128 .f32) (sel : IVec S4x8x32x8192 32) (a : Fin 4) (i : Fin 8192) (ch : Fin 1024)
    (h : Fin 8) (d : Fin 128) (hh : h.val = ch.val / 128) (hd : d.val = ch.val % 128) (b : EReal) (hb : top (scores q k sel) (ix3 a h i) = b) :
    (attention q k v sel (ix3 a i ch) : EReal)
      = ∑ j, Ideal.div (Ideal.exp ((scores q k sel (ix4 a h i j) : EReal) - b)) (0 + ∑ j', Ideal.exp ((scores q k sel (ix4 a h i j') : EReal) - b)) * v (ix4 a h j d) := by
  have eh : (⟨ch.val / 128, by omega⟩ : Fin 8) = h := Fin.ext hh.symm
  have ed : (⟨ch.val % 128, by omega⟩ : Fin 128) = d := Fin.ext hd.symm
  unfold attention
  rw [out_apply]
  simp only [ex_apply, eh, ed, hb, zero_add]

end Cert.ReferenceIdeal.Softmax
-- ==== Proof.Attention.Value.lean ====
/- The attention kernel computes the plain attention: equality of the two results over the extended reals. -/
module

public import proofs.«01_k».proof.Defs
public import proofs.«01_k».proof.Proof.Attention.Tiles
public import proofs.«01_k».proof.Proof.Attention.Blocks
public import proofs.«01_k».proof.Proof.Attention.Reference

@[expose] public section

set_option maxRecDepth 16384

noncomputable section

namespace Cert.KernelIdeal.Moba

open Idealize.ShloMosaic Idealize.ShloMosaic.TcCoe Idealize.SL.Sem Cert.KernelIdeal Cert.KernelIdeal.Gen Cert.Attention
open Cert.ReferenceIdeal.Softmax (attention attention_apply scores scores_apply top top_apply)

/-- The plain attention's largest score of a query is a real number: the query's own key is seen. -/
theorem top_real (q k : FVec Ideal S4x8x8192x128 .f32) (sel : IVec S4x8x32x8192 32) (qr kr : S4x8x8192x128.Idx → ℝ)
    (hq : ∀ x, (q x : EReal) = qr x) (hk : ∀ x, (k x : EReal) = kr x) (a : Fin 4) (h : Fin 8) (i : Fin 8192) :
    ∃ b : ℝ, (top (scores q k sel) (ix3 a h i) : EReal) = b := by
  classical
  have h1 : (top (scores q k sel) (ix3 a h i) : EReal) ≠ ⊤ := by
    rw [top_apply]
    refine fold_ne_top _ fun j => ?_
    rw [scores_apply q k sel qr kr hq hk]
    split
    · exact EReal.coe_ne_top _
    · exact bot_ne_top
  have h2 : (top (scores q k sel) (ix3 a h i) : EReal) ≠ ⊥ := by
    intro h0
    rw [top_apply] at h0
    have h3 := le_fold (fun x : Fin 8192 => (scores q k sel (ix4 a h i x) : EReal)) i
    rw [h0, scores_apply q k sel qr kr hq hk, if_pos ⟨le_rfl, .inl rfl⟩] at h3
    exact EReal.coe_ne_bot _ (le_bot_iff.1 h3)
  exact ⟨_, (EReal.coe_toReal h1 h2).symm⟩

variable (m : (ℓ : Loc nD τ sig) → Buf (Elt Ideal) ℓ) (c : Dev nD)

/-- A point's tile is its part of the plain attention. -/
theorem tile_eq (q k v : FVec Ideal S4x8x8192x128 .f32) (sel : IVec S4x8x32x8192 32) (hQ : m ((c : Thread nD τ).loc main_arg0) = q)
    (hK : m ((c : Thread nD τ).loc main_arg1) = k) (hV : m ((c : Thread nD τ).loc main_arg2) = v) (hS : m ((c : Thread nD τ).loc main_arg3) = sel)
    (qr kr : S4x8x8192x128.Idx → ℝ) (hq : ∀ x, (q x : EReal) = qr x) (hk : ∀ x, (k x : EReal) = kr x)
    (t : Fin cfg0.N) (y : S1x512x256.Idx) (a : Fin 4) (i : Fin 8192) (ch : Fin 1024) (ha : a.val = t.val / 64) (hi : i.val = 512 * (t.val % 16) + (y 1).val)
    (hch : ch.val = 256 * (t.val / 16 % 4) + (y 2).val) :
    outTile m c t y = attention q k v sel (ix3 a i ch) := by
  classical
  have h1 : (y 1).val < 512 := (y 1).isLt
  have h2 : (y 2).val < 256 := (y 2).isLt
  have hc := ch.isLt
  obtain ⟨p, hp⟩ : ∃ p : Fin 512, p.val = (y 1).val := ⟨⟨_, h1⟩, rfl⟩
  obtain ⟨hh, hhh⟩ : ∃ hh : Fin 2, hh.val = (y 2).val / 128 := ⟨⟨(y 2).val / 128, by omega⟩, rfl⟩
  obtain ⟨d, hd⟩ : ∃ d : Fin 128, d.val = (y 2).val % 128 := ⟨⟨(y 2).val % 128, by omega⟩, rfl⟩
  obtain ⟨h, hhd⟩ : ∃ h : Fin 8, h.val = ch.val / 128 := ⟨⟨ch.val / 128, by omega⟩, rfl⟩
  have hh' : h.val = 2 * (t.val / 16 % 4) + hh.val := by omega
  have hd' : d.val = ch.val % 128 := by omega
  have hi' : i.val = 512 * (t.val % 16) + p.val := by omega
  -- the kernel's scores
  obtain ⟨raw, hraw⟩ : ∃ raw : Fin 8192 → EReal, raw = fun j : Fin 8192 => if Vis sel a h i ⟨j.val / 256, by omega⟩ then (((∑ d : Fin 128, qr (ix4 a h i d) * kr (ix4 a h j d)) / (Real.sqrt 128 * Real.log 2) : ℝ) : EReal) else ⊥ :=
    ⟨_, rfl⟩
  have hx : ∀ (j : ℕ) (l : Fin 512), (sc (F := Ideal) (iblk m c 2 t) (iblk m c 0 t) hh j (ix2 l p) : EReal) = raw ⟨(512 * j + l.val) % 8192, Nat.mod_lt _ (by decide)⟩ := by
    intro j l
    have e : (sc (F := Ideal) (iblk m c 2 t) (iblk m c 0 t) hh j (ix2 l p) : EReal)
        = ∑ x : Fin 256, (rowsAt (iblk m c 2 t : S1x2x8192x256.Idx → Elt Ideal .bf16) hh j (ix2 l x) : EReal) * matAt (iblk m c 0 t : S1x2x256x512.Idx → Elt Ideal .bf16) hh (ix2 x p) :=
      scF_apply _ _ l p
    rw [e, hraw]
    refine Eq.trans ?_ (score_eq q k sel qr kr hq hk a h i ⟨(512 * j + l.val) % 8192, Nat.mod_lt _ (by decide)⟩)
    refine Finset.sum_congr rfl fun x _ => ?_
    have e1 := key_read m c t a h hh ha hh' ⟨(512 * j + l.val) % 8192, Nat.mod_lt _ (by decide)⟩ x
    have e2 := query_read m c t a h hh ha hh' x p i hi'
    rw [V_keys, hK] at e1
    rw [V_queries, hQ, hS] at e2
    exact congrArg₂ (fun x y : EReal => x * y) e1 e2
  have hne : ∀ j, raw j ≠ ⊤ := by
    intro j
    rw [hraw]
    show (if _ then _ else _) ≠ _
    split
    · exact EReal.coe_ne_top _
    · exact bot_ne_top
  have hown : raw i ≠ ⊥ := by
    rw [hraw]
    show (if _ then _ else _) ≠ _
    rw [if_pos (.inl rfl)]
    exact EReal.coe_ne_bot _
  obtain ⟨r, hr⟩ := fin_sum (iblk m c 2 t) (iblk m c 0 t) (iblk m c 3 t) hh p raw hne hx (t.val % 16) (Nat.mod_lt _ (by decide)) i hi' hown
  -- the reference's
  obtain ⟨b, hb⟩ := top_real q k sel qr kr hq hk a h i
  rw [attention_apply q k v sel a i ch h d hhd hd' b hb]
  unfold outTile
  rw [tile_apply _ _ _ _ y hh p d hp hhh hd, hr, hr]
  -- the values and the ones
  obtain ⟨vb, hvb⟩ : ∃ vb : S1x2x144x8192.Idx → EReal, vb = (iblk m c 3 t : S1x2x144x8192.Idx → Elt Ideal .bf16) := ⟨_, rfl⟩
  have ev : ∀ (s : Fin 144) (j : Fin 8192), vb (idx4 0 hh s j) = if hs : s.val < 128 then (v (ix4 a h j ⟨s.val, hs⟩) : EReal) else (1 : EReal) := by
    intro s j
    have e := value_read m c t a h hh ha hh' s j
    rw [V_values, hV] at e
    rw [hvb]
    exact e.trans (valuesV_apply v a h s j)
  have e0 : ∀ j : Fin 8192, vb (idx4 0 hh ⟨d.val, by omega⟩ j) = v (ix4 a h j d) := fun j => (ev _ j).trans (dif_pos d.isLt)
  have e1 : ∀ j : Fin 8192, vb (idx4 0 hh 128 j) = (1 : EReal) := fun j => (ev 128 j).trans (dif_neg (show ¬ (128 : Fin 144).val < 128 by decide))
  rw [← hvb, Finset.sum_congr rfl fun j _ => congrArg (fun z : EReal => z * _) (e0 j), Finset.sum_congr rfl fun j _ => congrArg (fun z : EReal => z * _) (e1 j)]
  refine quotient (fun j : Fin 8192 => if j.val ≤ i.val then raw j else ⊥) (fun j => scores q k sel (ix4 a h i j)) (fun j => v (ix4 a h j d)) r b i
    ((∑ d : Fin 128, qr (ix4 a h i d) * kr (ix4 a h i d)) / (Real.sqrt 128 * Real.log 2)) ?_ ?_
  · show (if _ then _ else _) = _
    rw [if_pos le_rfl, hraw]
    exact if_pos (.inl rfl)
  · intro j
    show (if _ then _ else _) = _ ∧ _ ∨ _
    by_cases hle : j.val ≤ i.val
    · by_cases hv : Vis sel a h i ⟨j.val / 256, by omega⟩
      · right
        refine ⟨(∑ d : Fin 128, qr (ix4 a h i d) * kr (ix4 a h j d)) / (Real.sqrt 128 * Real.log 2), ?_, ?_⟩
        · show (if _ then _ else _) = _
          rw [if_pos hle, hraw]
          exact if_pos hv
        · show (scores q k sel (ix4 a h i j) : EReal) = _
          rw [scores_apply q k sel qr kr hq hk, if_pos ⟨hle, hv⟩]
          refine congrArg (fun z : ℝ => (z : EReal)) ?_
          have hl : Real.log 2 ≠ 0 := (Real.log_pos (by norm_num)).ne'
          have hs : Real.sqrt 128 ≠ 0 := (Real.sqrt_pos.2 (by norm_num)).ne'
          field_simp
      · left
        refine ⟨?_, ?_⟩
        · rw [if_pos hle, hraw]
          exact if_neg hv
        · rw [scores_apply q k sel qr kr hq hk, if_neg fun h0 => hv h0.2]
    · left
      refine ⟨if_neg hle, ?_⟩
      rw [scores_apply q k sel qr kr hq hk, if_neg fun h0 => hle h0.1]

/-- The kernel's result array is the plain attention of its arguments, the queries and keys finite. -/
theorem result_eq (q k v : FVec Ideal S4x8x8192x128 .f32) (sel : IVec S4x8x32x8192 32) (hQ : m ((c : Thread nD τ).loc main_arg0) = q)
    (hK : m ((c : Thread nD τ).loc main_arg1) = k) (hV : m ((c : Thread nD τ).loc main_arg2) = v) (hS : m ((c : Thread nD τ).loc main_arg3) = sel)
    (hq : ∀ x, ∃ r : ℝ, (q x : EReal) = r) (hk : ∀ x, ∃ r : ℝ, (k x : EReal) = r) :
    (dats m 0 c).arrAt 4 cfg0.N = attention q k v sel := by
  choose qr hq using hq
  choose kr hk using hk
  exact result_of m c _ fun t y a i ch ha hi hch => tile_eq m c q k v sel hQ hK hV hS qr kr hq hk t y a i ch ha hi hch

end Cert.KernelIdeal.Moba

namespace Cert.Proof

open Idealize.ShloMosaic Idealize.ShloMosaic.TcCoe Idealize.SL.Sem Cert.Attention

/-- The precondition's side condition. -/
theorem pre_facts : Cert.Pre_finite_scores.Facts := ⟨by decide⟩

/-- A magnitude under plus infinity is a real number's. -/
theorem real_of_abs {x : EReal} (h : Ideal.cmp .olt (max x (-x)) (Ideal.ofBits .f32 0x7F800000#32) = 1#1) : ∃ r : ℝ, x = r := by
  rw [pos_inf] at h
  have h' : max x (-x) < ⊤ := by
    by_contra hn
    rw [show Ideal.cmp .olt (max x (-x)) ⊤ = BitVec.ofBool (decide (max x (-x) < ⊤)) from rfl, decide_eq_false hn] at h
    exact absurd h (by decide)
  induction x using EReal.rec with
  | bot => rw [EReal.neg_bot] at h'; exact absurd h' (by simp)
  | top => exact absurd h' (by simp)
  | coe r => exact ⟨r, rfl⟩

/-- The precondition says that the queries and the keys are real numbers. -/
theorem finite_of_pre (q k v : FVec Ideal Cert.Pre_finite_scores.S4x8x8192x128 .f32) (sel : IVec Cert.Pre_finite_scores.S4x8x32x8192 32)
    (h : @Cert.Pre_finite_scores.fn pre_facts Ideal _ q k v sel = fun _ => 1#1) :
    (∀ x, ∃ r : ℝ, (q x : EReal) = r) ∧ ∀ x, ∃ r : ℝ, (k x : EReal) = r := by
  have h' : ∀ x, Ideal.cmp .olt (max (q x : EReal) (-(q x : EReal))) (Ideal.ofBits .f32 0x7F800000#32) = 1#1
      ∧ Ideal.cmp .olt (max (k x : EReal) (-(k x : EReal))) (Ideal.ofBits .f32 0x7F800000#32) = 1#1 := fun x =>
    (and_one _ _).1 (congrFun h x)
  exact ⟨fun x => real_of_abs (h' x).1, fun x => real_of_abs (h' x).2⟩

/-- The attention kernel and the plain attention end with the same result, the queries and keys finite. -/
theorem attention_value : Cert.algebraic_KernelIdeal_ReferenceIdeal_pre_finite_scores (hKernelIdeal := Cert.KernelIdeal.Gen.facts)
    (hReferenceIdeal := Cert.ReferenceIdeal.Gen.facts) (hPre_finite_scores := pre_facts) := by
  intro m g m' g' hpre harg
  refine ⟨fun c => Cert.ReferenceIdeal.Value.res_out0 m' c, (θ_run _ _ _).mono (fun r h c => ⟨(h c).1.trans ?_, (h c).2⟩) (Cert.KernelIdeal.Moba.run m g), Cert.ReferenceIdeal.Value.run m' g'⟩
  obtain ⟨h0, h1, h2, h3⟩ := harg c
  obtain ⟨hq, hk⟩ := finite_of_pre _ _ _ _ (hpre c)
  refine (Cert.KernelIdeal.Moba.result_eq m c _ _ _ _ rfl rfl rfl rfl hq hk).trans ?_
  refine Eq.trans ?_ (Cert.ReferenceIdeal.Softmax.res_eq m' c).symm
  rw [h0, h1, h2, h3]

end Cert.Proof

end
-- ==== Proof.Gelu.lean ====
/- The two forms of gelu over the extended reals: with a power of two, and with the hyperbolic tangent. -/
module

public import Idealize.ShloMosaic.Lib.Pointwise
public import Idealize.ShloMosaic.Lib.IdealHost

@[expose] public section

noncomputable section

namespace Cert.Gelu

open Idealize.ShloMosaic

/-- The factor of the kernels' exponent: minus twice the square root of two over pi, over the logarithm of two. -/
def k1 : ℝ := -((2 * Real.sqrt (2 * Real.pi⁻¹)) * (Real.log 2)⁻¹)

/-- The factor of the square in the kernels' exponent. -/
def k2 : ℝ := k1 * (8943 / 200000)

/-- The plain form's factor, the square root of two over pi. -/
def c : ℝ := Real.sqrt (2 / (4 * Real.arctan 1))

/-- The plain form's factor of the cube. -/
def d : ℝ := 44715 / 1000000

/-- Gelu as the kernels compute it. -/
def gelu (x : EReal) : EReal := x * Ideal.div 1 (1 + Ideal.exp2 (x * ((k1 : EReal) + (k2 : EReal) * (x * x))))

/-- Gelu as the plain programs write it. -/
def plain (x : EReal) : EReal :=
  x * (((1 / 2 : ℝ) : EReal) * (1 + Ideal.tanh ((c : EReal) * (x + (d : EReal) * (x * x * x)))))

theorem log_pos : (0 : ℝ) < Real.log 2 := Real.log_pos (by norm_num)
theorem c_eq : c = Real.sqrt (2 * Real.pi⁻¹) := by
  unfold c
  rw [Real.arctan_one, div_eq_mul_inv]
  congr 3
  ring
theorem c_pos : 0 < c := by
  rw [c_eq]; exact Real.sqrt_pos.2 (by positivity)
theorem k1_eq : k1 = -(2 * c * (Real.log 2)⁻¹) := by rw [c_eq, k1]
theorem k1_neg : k1 < 0 := by
  have := c_pos; have := log_pos
  rw [k1_eq]; exact neg_neg_of_pos (by positivity)
theorem k2_neg : k2 < 0 := mul_neg_of_neg_of_pos k1_neg (by norm_num)
theorem d_pos : 0 < d := by unfold d; norm_num

/-- One over one and an exponential, by the hyperbolic tangent. -/
theorem half_tanh (z : ℝ) : (1 + Real.exp (-(2 * z)))⁻¹ = 1 / 2 * (1 + Real.tanh z) := by
  have h : Real.exp (-(2 * z)) = Real.exp (-z) / Real.exp z := by
    rw [← Real.exp_sub]; congr 1; ring
  have h1 := Real.exp_pos z
  have h2 := Real.exp_pos (-z)
  rw [Real.tanh_eq_sinh_div_cosh, Real.sinh_eq, Real.cosh_eq, h]
  field_simp
  ring

/-- The two forms on a real number. -/
theorem gelu_coe (x : ℝ) : gelu x = plain x := by
  have hl := log_pos.ne'
  have he : Real.rpow 2 (x * (k1 + k2 * (x * x))) = Real.exp (-(2 * (c * (x + d * (x * x * x))))) := by
    show (2 : ℝ) ^ (x * (k1 + k2 * (x * x))) = _
    rw [Real.rpow_def_of_pos (by norm_num)]
    congr 1
    unfold k2 d
    rw [k1_eq]
    field_simp
    ring
  unfold gelu plain
  rw [← EReal.coe_mul, ← EReal.coe_mul, ← EReal.coe_add, ← EReal.coe_mul, Ideal.exp2_coe, he, ← EReal.coe_one, ← EReal.coe_add,
    Ideal.div_coe (by positivity), ← EReal.coe_mul, ← EReal.coe_mul, ← EReal.coe_mul, ← EReal.coe_mul, ← EReal.coe_add, ← EReal.coe_mul,
    Ideal.tanh_coe, ← EReal.coe_add, ← EReal.coe_mul, ← EReal.coe_mul, ← half_tanh]
  refine congrArg (fun z : ℝ => (z : EReal)) ?_
  ring

/-- The two forms agree on every extended real number. -/
theorem gelu_eq (x : EReal) : gelu x = plain x := by
  induction x with
  | coe x => exact gelu_coe x
  | top =>
    unfold gelu plain
    rw [EReal.top_mul_top, EReal.coe_mul_top_of_neg k2_neg, EReal.add_bot, EReal.top_mul_bot, Ideal.exp2_bot, EReal.top_mul_top,
      EReal.coe_mul_top_of_pos d_pos, EReal.top_add_top, EReal.coe_mul_top_of_pos c_pos, Ideal.tanh_top, add_zero,
      show (1 : EReal) + 1 = ((2 : ℝ) : EReal) by norm_cast, ← EReal.coe_mul, ← EReal.coe_one, Ideal.div_coe one_ne_zero, ← EReal.coe_mul]
    norm_num
  | bot =>
    unfold gelu plain
    rw [EReal.bot_mul_bot, EReal.coe_mul_top_of_neg k2_neg, EReal.add_bot, EReal.bot_mul_bot, Ideal.exp2_top, EReal.top_mul_bot,
      EReal.coe_mul_bot_of_pos d_pos, EReal.add_bot, EReal.coe_mul_bot_of_pos c_pos, Ideal.tanh_bot]
    have h1 : (1 : EReal) + -1 = 0 := by rw [← sub_eq_add_neg, ← EReal.coe_one, ← EReal.coe_sub, sub_self, EReal.coe_zero]
    have h2 : (1 : EReal) + ⊤ = ⊤ := by rw [← EReal.coe_one]; exact EReal.coe_add_top 1
    have h3 : Ideal.div 1 ⊤ = 0 := by unfold Ideal.div; simp
    rw [h1, h2, h3]; simp only [mul_zero]

/-- The pattern of one half. -/
theorem half : Ideal.ofBits .f32 0x3F000000#32 = ((1 / 2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem four : Ideal.ofBits .f32 0x40800000#32 = ((4 : ℝ) : EReal) := by
  simp [Ideal.ofBits, Ideal.ieee, -EReal.coe_mul]; norm_num

theorem num : Ideal.ofBits .f32 0x472EAB00#32 = ((44715 : ℝ) : EReal) := by
  simp [Ideal.ofBits, Ideal.ieee, -EReal.coe_mul]; norm_num

theorem den : Ideal.ofBits .f32 0x49742400#32 = ((1000000 : ℝ) : EReal) := by
  simp [Ideal.ofBits, Ideal.ieee, -EReal.coe_mul]; norm_num

/-- The plain form's factor as its program computes it. -/
theorem c_word : Ideal.sqrt (Ideal.div (Ideal.ofBits .f32 0x40000000#32)
    (Ideal.ofBits .f32 0x40800000#32 * Ideal.atan 1)) = (c : EReal) := by
  have ha : (4 : ℝ) * Real.arctan 1 ≠ 0 := by rw [Real.arctan_one]; positivity
  have hp : ¬ (2 * (1 / (4 * Real.arctan 1)) : ℝ) < 0 := by rw [Real.arctan_one]; exact not_lt.2 (by positivity)
  rw [two, four, ← EReal.coe_one, Ideal.atan_coe, ← EReal.coe_mul, Ideal.div_coe ha, ← EReal.coe_mul, Ideal.sqrt_coe,
    if_neg hp, mul_one_div]
  rfl

/-- The plain form's factor of the cube as its program computes it. -/
theorem d_word : Ideal.div (Ideal.ofBits .f32 0x472EAB00#32) (Ideal.ofBits .f32 0x49742400#32) = (d : EReal) := by
  rw [num, den, Ideal.div_coe (by norm_num), ← EReal.coe_mul, mul_one_div]
  rfl

end Cert.Gelu
-- ==== Proof.Ffn.Kernel.lean ====
/- The feed-forward kernel's arithmetic: each value of its body at an index. -/
module

public import proofs.«01_k».proof.Proof.Gelu
public import proofs.«01_k».proof.Proof.Gen.Kernel2Ideal.Value

@[expose] public section

set_option maxRecDepth 16384

noncomputable section

namespace Cert.Ffn

open Idealize.ShloMosaic

/-- A row over the root of its mean square, times the weights. -/
def norm (x g : Fin 1024 → EReal) (d : Fin 1024) : EReal :=
  x d * Ideal.rsqrt (Ideal.div (∑ k, x k * x k) (Ideal.ofBits .f32 0x44800000#32) + Ideal.ofBits .f32 0x358637BD#32) * g d

/-- A normalised row times a weight array. -/
def proj (x g : Fin 1024 → EReal) (w : Fin 1024 → Fin 2816 → EReal) (f : Fin 2816) : EReal :=
  ∑ d, norm x g d * w d f

/-- A row of the layer: the input's row and the gated row projected down, the gate's argument the convolution of three
rows `u0`, `u1`, `u2`. -/
def row (x g : Fin 1024 → EReal) (u0 u1 u2 : Fin 2816 → EReal) (wg : Fin 1024 → Fin 2816 → EReal) (cw : Fin 3 → Fin 2816 → EReal) (cb : Fin 2816 → EReal)
    (wd : Fin 2816 → Fin 1024 → EReal) (e : Fin 1024) : EReal :=
  x e + ∑ f, Gelu.gelu (cb f + u0 f * cw 0 f + u1 f * cw 1 f + u2 f * cw 2 f) * proj x g wg f * wd f e

/-- The projected row `n` places before row `s`; nothing before the first. -/
def back (x : Fin 8192 → Fin 1024 → EReal) (g : Fin 1024 → EReal) (w : Fin 1024 → Fin 2816 → EReal) (s : Fin 8192) (n : ℕ) (f : Fin 2816) : EReal :=
  if n ≤ s.val then proj (x ⟨s.val - n, by omega⟩) g w f else 0

/-- The layer on one sequence. -/
def layer (x : Fin 8192 → Fin 1024 → EReal) (g : Fin 1024 → EReal) (wu wg : Fin 1024 → Fin 2816 → EReal) (cw : Fin 3 → Fin 2816 → EReal) (cb : Fin 2816 → EReal)
    (wd : Fin 2816 → Fin 1024 → EReal) (s : Fin 8192) (e : Fin 1024) : EReal :=
  row (x s) g (back x g wu s 2) (back x g wu s 1) (back x g wu s 0) wg cw cb wd e

end Cert.Ffn

namespace Cert.Kernel2Ideal.Ffn

open Idealize.ShloMosaic Idealize.ShloMosaic.TcCoe Idealize.SL.Sem Cert.Kernel2Ideal Cert.Kernel2Ideal.Gen Cert.Ffn

theorem named1 : Named.named (F := Ideal) κ "k1" (φ := .f32) 0xC0135761#32 = (Gelu.k1 : EReal) := by
  simp only [Named.named, κ]; rfl

theorem named2 : Named.named (F := Ideal) κ "k2" (φ := .f32) 0xBDD2D3E8#32 = (Gelu.k2 : EReal) := by
  simp only [Named.named, κ]; rfl

/-- The normalised block. -/
theorem norm_apply (x : FVec Ideal S1x512x1024 .f32) (g : FVec Ideal S1x1024 .f32) (p : Fin 512) (d : Fin 1024) :
    k0_pay4 (F := Ideal) x g (ix2 p d) = (norm (fun k => x (ix3 0 p k)) (fun k => g (ix2 0 k)) d : EReal) := by
  pointwise [k0_pay4, k0_pay3]
  rfl

/-- The block's product with the first weight array. -/
theorem up_apply (x : FVec Ideal S1x512x1024 .f32) (g : FVec Ideal S1x1024 .f32) (w : FVec Ideal S1024x2816 .bf16) (p : Fin 512) (f : Fin 2816) :
    k0_pay6 (F := Ideal) x g w (ix2 p f) = (proj (fun k => x (ix3 0 p k)) (fun k => g (ix2 0 k)) (fun d f => w (ix2 d f)) f : EReal) := by
  pointwise [k0_pay6]
  simp only [norm_apply]
  rfl

/-- The block's row of the result. -/
theorem body_apply (x : FVec Ideal S1x512x1024 .f32) (g : FVec Ideal S1x1024 .f32) (cb : FVec Ideal S1x2816 .f32) (u0 u1 u2 : FVec Ideal S512x2816 .f32)
    (w0 w1 w2 : FVec Ideal S1x2816 .f32) (wg : FVec Ideal S1024x2816 .bf16) (wd : FVec Ideal S2816x1024 .bf16) (p : Fin 512) (e : Fin 1024) :
    k0_pay1 (F := Ideal) (k0_pay8 (k0_pay3 x) (k0_pay4 x g) (k0_pay7 cb) u0 w0 u1 w1 u2 w2 wg wd) (ix3 0 p e)
      = ((x (ix3 0 p e) : EReal) + ∑ f, Gelu.gelu ((cb (ix2 0 f) : EReal) + u0 (ix2 p f) * w0 (ix2 0 f) + u1 (ix2 p f) * w1 (ix2 0 f) + u2 (ix2 p f) * w2 (ix2 0 f))
          * proj (fun k => x (ix3 0 p k)) (fun k => g (ix2 0 k)) (fun d f => wg (ix2 d f)) f * wd (ix2 f e) : EReal) := by
  pointwise [k0_pay1, k0_pay8, k0_pay7, k0_pay3]
  simp only [norm_apply]
  rw [named1, named2]
  rfl

end Cert.Kernel2Ideal.Ffn
-- ==== Proof.Ffn.Points.lean ====
/- What a point of the feed-forward kernel leaves in its carried rows and in its result block. -/
module

public import proofs.«01_k».proof.Proof.Ffn.Kernel

@[expose] public section

set_option maxRecDepth 16384

noncomputable section

namespace Cert.Kernel2Ideal.Ffn

open Idealize.ShloMosaic Idealize.ShloMosaic.TcCoe Idealize.SL.Sem Cert.Kernel2Ideal Cert.Kernel2Ideal.Gen Cert.Ffn

variable {F : FTy → Type} [FloatOps F] [Named F]

/-- The carried rows after a point: eight rows of the point before, then the block's own rows. -/
def scr (w : FVec F S512x2816 .f32) (w8 : FVec F S8x2816 .f32) (L : List (View.Piece (Elt F) S520x2816 .f32)) : S520x2816.Idx → Elt F .f32 :=
  View.canon (⟨Rect.unit ![8, 0] S512x2816.size inb_S520x2816_S512x2816_8_0, w⟩ :: ⟨Rect.unit ![0, 0] S8x2816.size inb_S520x2816_S8x2816_0_0, w8⟩ :: L)

/-- The block's own rows. -/
theorem scr_own (w : FVec F S512x2816 .f32) (w8 : FVec F S8x2816 .f32) (L : List (View.Piece (Elt F) S520x2816 .f32)) (r : Fin 520) (p : Fin 512)
    (h : r.val = 8 + p.val) (f : Fin 2816) : scr w w8 L (ix2 r f) = w (ix2 p f) := by
  have e : (ix2 r f : S520x2816.Idx) = (Rect.unit (s := S520x2816) ![8, 0] S512x2816.size inb_S520x2816_S512x2816_8_0).emb (ix2 p f) :=
    funext fun a => Fin.ext (match a with
      | ⟨0, _⟩ => show r.val = 8 + 1 * p.val by omega
      | ⟨1, _⟩ => show f.val = 0 + 1 * f.val by omega)
  rw [e]
  exact View.canon_cons_emb _ _ _ _

/-- The rows kept of the point before. -/
theorem scr_kept (w : FVec F S512x2816 .f32) (w8 : FVec F S8x2816 .f32) (L : List (View.Piece (Elt F) S520x2816 .f32)) (r : Fin 520) (p : Fin 8)
    (h : r.val = p.val) (f : Fin 2816) : scr w w8 L (ix2 r f) = w8 (ix2 p f) := by
  have e : (ix2 r f : S520x2816.Idx) = (Rect.unit (s := S520x2816) ![0, 0] S8x2816.size inb_S520x2816_S8x2816_0_0).emb (ix2 p f) :=
    funext fun a => Fin.ext (match a with
      | ⟨0, _⟩ => show r.val = 0 + 1 * p.val by omega
      | ⟨1, _⟩ => show f.val = 0 + 1 * f.val by omega)
  unfold scr
  rw [View.canon_cons_of_not_mem, e]
  · exact View.canon_cons_emb _ _ _ _
  · intro hm
    have h8 : 8 ≤ r.val := ((Rect.mem_set_unit (s := S520x2816) (inb := inb_S520x2816_S512x2816_8_0)).1 hm (0 : Fin 2)).1
    have := p.isLt
    omega

section Points

variable (c : Dev nD) (i : grid0.Coords)
  (arg2 : Memref sig .tc .vmem S1x512x1024 .f32) (harg2 : arg2.IsWhole) (arg3 : Memref sig .tc .vmem S1x1024 .f32) (harg3 : arg3.IsWhole) (arg4 : Memref sig .tc .vmem S1024x2816 .bf16) (harg4 : arg4.IsWhole)
  (arg5 : Memref sig .tc .vmem S1024x2816 .bf16) (harg5 : arg5.IsWhole) (arg6 : Memref sig .tc .vmem S3x2816 .f32) (harg6 : arg6.IsWhole) (arg7 : Memref sig .tc .vmem S1x2816 .f32) (harg7 : arg7.IsWhole)
  (arg8 : Memref sig .tc .vmem S2816x1024 .bf16) (harg8 : arg8.IsWhole) (arg9 : Memref sig .tc .vmem S1x512x1024 .f32) (harg9 : arg9.IsWhole) (arg10 : Memref sig .tc .vmem S520x2816 .f32) (harg10 : arg10.IsWhole)
variable (x0 : Vec F S1x512x1024 .f32) (x1 : Vec F S1x1024 .f32) (x2 x3 : Vec F S1024x2816 .bf16) (x4 : Vec F S3x2816 .f32) (x5 : Vec F S1x2816 .f32) (x6 : Vec F S2816x1024 .bf16)

/-- A load of a whole block reads the block. -/
theorem read2 {sp : Space} {e : EltTy} {s : Shape} (m : Memref sig .tc sp s e) (h : m.IsWhole) (X : s.Idx → Elt F e) {off : Fin s.rank → Nat}
    (z : off = fun _ => 0) (inb : ∀ a, off a + s.size a ≤ s.size a) :
    m.view.readAt (Elt F) (Rect.unit off s.size inb).toLoadRect (h.unread X) = X := by
  rw [View.readAt_eq_ld, h.read_unread]
  exact View.ld_unit_zero z _ _

theorem z2 : (![0, 0] : Fin 2 → ℕ) = fun _ => 0 := by funext a; fin_cases a <;> rfl

theorem z3 : (![0, 0, 0] : Fin 3 → ℕ) = fun _ => 0 := by funext a; fin_cases a <;> rfl

/-- The result block over the carried rows after the point. -/
def outS (S : S520x2816.Idx → Elt F .f32) : S1x512x1024.Idx → Elt F .f32 :=
  k0_pay1 (k0_pay8 (k0_pay3 x0) (k0_pay4 x0 x1) (k0_pay7 x5)
    (fun j => S ((Rect.unit (s := S520x2816) ![6, 0] S512x2816.size inb_S520x2816_S512x2816_6_0).emb j))
    (fun j => x4 ((Rect.unit (s := S3x2816) ![0, 0] S1x2816.size inb_S3x2816_S1x2816_0_0).emb j))
    (fun j => S ((Rect.unit (s := S520x2816) ![7, 0] S512x2816.size inb_S520x2816_S512x2816_7_0).emb j))
    (fun j => x4 ((Rect.unit (s := S3x2816) ![1, 0] S1x2816.size inb_S3x2816_S1x2816_1_0).emb j))
    (fun j => S ((Rect.unit (s := S520x2816) ![8, 0] S512x2816.size inb_S520x2816_S512x2816_8_0).emb j))
    (fun j => x4 ((Rect.unit (s := S3x2816) ![2, 0] S1x2816.size inb_S3x2816_S1x2816_2_0).emb j))
    x3 x6)

/-- The eight rows kept of what the carried rows held. -/
def kept (S : S520x2816.Idx → Elt F .f32) : S8x2816.Idx → Elt F .f32 :=
  k0_pay5 fun j => S ((Rect.unit (s := S520x2816) ![512, 0] S8x2816.size inb_S520x2816_S8x2816_512_0).emb j)

/-- The carried rows as the first point of a sequence clears them. -/
def zeros : List (View.Piece (Elt F) S520x2816 .f32) :=
  [⟨Rect.unit (s := S520x2816) ![0, 0] S520x2816.size inb_S520x2816_S520x2816_0_0, k0_pay2⟩]

/-- The carried rows after a first point. -/
theorem soutA (hc : cond0_0 i) : sout0_A_0 c i arg2 harg2 arg3 harg3 arg4 harg4 arg5 harg5 arg6 harg6 arg7 harg7 arg8 harg8 arg9 harg9 arg10 harg10 hc x0 x1 x2 x3 x4 x5 x6 = scr (k0_pay6 x0 x1 x2) (kept (View.canon zeros)) zeros := by
  unfold sout0_A_0
  rw [View.read_writes_junk_eq_canon]
  unfold kernelRun0_A
  dsimp only
  unfold kernelRun0_A.sl.HS0_3 kernelRun0_A.sl.v20 kernelRun0_A.sl.HS0_1
  rw [View.readCov_eq_canon', read2 _ _ _ z3, read2 _ _ _ z2, read2 _ _ _ z2]
  rfl

/-- The result block of a first point. -/
theorem outA (hc : cond0_0 i) : out0_A_7 c i arg2 harg2 arg3 harg3 arg4 harg4 arg5 harg5 arg6 harg6 arg7 harg7 arg8 harg8 arg9 harg9 arg10 harg10 hc x0 x1 x2 x3 x4 x5 x6 = outS x0 x1 x3 x4 x5 x6 (scr (k0_pay6 x0 x1 x2) (kept (View.canon zeros)) zeros) := by
  unfold out0_A_7
  rw [View.read_writes_junk_eq_canon]
  unfold kernelRun0_A
  dsimp only
  refine (View.canon_unit_zero z3 _ _).trans ?_
  unfold kernelRun0_A.sl.r_3 kernelRun0_A.sl.v32 kernelRun0_A.sl.v39 kernelRun0_A.sl.v45 kernelRun0_A.sl.r kernelRun0_A.sl.r_1 kernelRun0_A.sl.r_2
  unfold kernelRun0_A.sl.HS0_3 kernelRun0_A.sl.v20 kernelRun0_A.sl.HS0_1
  rw [View.readCov_eq_canon', View.readCov_eq_canon', View.readCov_eq_canon', View.readCov_eq_canon', read2 arg2 harg2 x0 z3, read2 arg3 harg3 x1 z2, read2 arg4 harg4 x2 z2,
    read2 arg5 harg5 x3 z2, read2 arg7 harg7 x5 z2, read2 arg8 harg8 x6 z2, View.readAt_eq_ld, View.readAt_eq_ld, View.readAt_eq_ld, harg6.read_unread]
  rfl

/-- The carried rows after another point. -/
theorem soutB (hc : ¬cond0_0 i) (S : Vec F S520x2816 .f32) : sout0_B_0 c i arg2 harg2 arg3 harg3 arg4 harg4 arg5 harg5 arg6 harg6 arg7 harg7 arg8 harg8 arg9 harg9 arg10 harg10 hc x0 x1 x2 x3 x4 x5 x6 S = scr (k0_pay6 x0 x1 x2) (kept S) [] := by
  unfold sout0_B_0
  rw [View.read_writes_junk_eq_canon]
  unfold kernelRun0_B
  dsimp only
  unfold kernelRun0_B.sl.HS0_2
  rw [read2 _ _ _ z3, read2 _ _ _ z2, read2 _ _ _ z2, View.readAt_eq_ld, Memref.IsWhole.read_unread]
  rfl

/-- The result block of another point. -/
theorem outB (hc : ¬cond0_0 i) (S : Vec F S520x2816 .f32) : out0_B_7 c i arg2 harg2 arg3 harg3 arg4 harg4 arg5 harg5 arg6 harg6 arg7 harg7 arg8 harg8 arg9 harg9 arg10 harg10 hc x0 x1 x2 x3 x4 x5 x6 S = outS x0 x1 x3 x4 x5 x6 (scr (k0_pay6 x0 x1 x2) (kept S) []) := by
  unfold out0_B_7
  rw [View.read_writes_junk_eq_canon]
  unfold kernelRun0_B
  dsimp only
  refine (View.canon_unit_zero z3 _ _).trans ?_
  unfold kernelRun0_B.sl.r_3 kernelRun0_B.sl.v32 kernelRun0_B.sl.v39 kernelRun0_B.sl.v45 kernelRun0_B.sl.r kernelRun0_B.sl.r_1 kernelRun0_B.sl.r_2
  unfold kernelRun0_B.sl.HS0_2
  rw [View.readCov_eq_canon', View.readCov_eq_canon', View.readCov_eq_canon', read2 arg2 harg2 x0 z3, read2 arg3 harg3 x1 z2, read2 arg4 harg4 x2 z2,
    read2 arg5 harg5 x3 z2, read2 arg7 harg7 x5 z2, read2 arg8 harg8 x6 z2, View.readAt_eq_ld, View.readAt_eq_ld, View.readAt_eq_ld, View.readAt_eq_ld, harg6.read_unread, harg10.read_unread]
  rfl

end Points

end Cert.Kernel2Ideal.Ffn
-- ==== Proof.Ffn.Blocks.lean ====
/- The feed-forward kernel's blocks as rows of its arrays. -/
module

public import proofs.«01_k».proof.Proof.Ffn.Points

@[expose] public section

set_option maxRecDepth 16384

noncomputable section

namespace Cert.Kernel2Ideal.Ffn

open Idealize.ShloMosaic Idealize.ShloMosaic.TcCoe Idealize.SL.Sem Cert.Kernel2Ideal Cert.Kernel2Ideal.Gen Cert.Ffn

theorem index0 : ∀ t : Fin cfg0.N, win0_0.index t = ![t.val / 16, t.val % 16, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![t.val / 16, t.val % 16, 0] := (by decide +kernel : ∀ t : Fin grid0.N, _)
theorem flush7 : ∀ t : Fin cfg0.N, (cfg0.win 7).flush t = true := (by decide +kernel : ∀ t : Fin grid0.N, win0_7.flush t = true)

section Reads

variable {F : FTy → Type} [FloatOps F] [Named F] (m : (ℓ : Loc nD τ sig) → Buf (Elt F) ℓ)
variable (c : Dev nD) (t : Fin cfg0.N)

/-- A row of the input. -/
theorem x_read (p : Fin 512) (b : Fin 4) (s : Fin 8192) (hb : b.val = t.val / 16) (hs : s.val = 512 * (t.val % 16) + p.val) (d : Fin 1024) :
    (iblk m c 0 t : S1x512x1024.Idx → Elt F .f32) (ix3 0 p d) = V m c main_arg0 (ix3 b s d) := by
  refine congrArg (V m c main_arg0) (funext fun x => Fin.ext ?_)
  show ((win0_0.rect t).emb (ix3 0 p d) x : Nat) = _
  rw [Pipeline.Window.rect_emb_val win0_0, index0]
  match x with
  | ⟨0, _⟩ => show t.val / 16 * 1 + 0 = b.val; omega
  | ⟨1, _⟩ => show t.val % 16 * 512 + p.val = s.val; omega
  | ⟨2, _⟩ => show 0 * 1024 + d.val = d.val; omega

/-- The norm weights, whole. -/
theorem g_read (a : Fin 1) (b : Fin 1024) : (iblk m c 1 t : S1x1024.Idx → Elt F .f32) (ix2 a b) = V m c main_v1 (ix2 a b) := by
  refine congrArg (V m c main_v1) (funext fun x => Fin.ext ?_)
  show ((win0_1.rect t).emb (ix2 a b) x : Nat) = _
  rw [Pipeline.Window.rect_emb_val win0_1, index1]
  match x with
  | ⟨0, _⟩ => show 0 * 1 + a.val = a.val; omega
  | ⟨1, _⟩ => show 0 * 1024 + b.val = b.val; omega

/-- The up projection, whole. -/
theorem wu_read (a : Fin 1024) (b : Fin 2816) : (iblk m c 2 t : S1024x2816.Idx → Elt F .bf16) (ix2 a b) = V m c main_v3 (ix2 a b) := by
  refine congrArg (V m c main_v3) (funext fun x => Fin.ext ?_)
  show ((win0_2.rect t).emb (ix2 a b) x : Nat) = _
  rw [Pipeline.Window.rect_emb_val win0_2, index2]
  match x with
  | ⟨0, _⟩ => show 0 * 1024 + a.val = a.val; omega
  | ⟨1, _⟩ => show 0 * 2816 + b.val = b.val; omega

/-- The gate projection, whole. -/
theorem wg_read (a : Fin 1024) (b : Fin 2816) : (iblk m c 3 t : S1024x2816.Idx → Elt F .bf16) (ix2 a b) = V m c main_v5 (ix2 a b) := by
  refine congrArg (V m c main_v5) (funext fun x => Fin.ext ?_)
  show ((win0_3.rect t).emb (ix2 a b) x : Nat) = _
  rw [Pipeline.Window.rect_emb_val win0_3, index3]
  match x with
  | ⟨0, _⟩ => show 0 * 1024 + a.val = a.val; omega
  | ⟨1, _⟩ => show 0 * 2816 + b.val = b.val; omega

/-- The convolution's taps, whole. -/
theorem cw_read (a : Fin 3) (b : Fin 2816) : (iblk m c 4 t : S3x2816.Idx → Elt F .f32) (ix2 a b) = V m c main_v6 (ix2 a b) := by
  refine congrArg (V m c main_v6) (funext fun x => Fin.ext ?_)
  show ((win0_4.rect t).emb (ix2 a b) x : Nat) = _
  rw [Pipeline.Window.rect_emb_val win0_4, index4]
  match x with
  | ⟨0, _⟩ => show 0 * 3 + a.val = a.val; omega
  | ⟨1, _⟩ => show 0 * 2816 + b.val = b.val; omega

/-- The convolution's bias, whole. -/
theorem cb_read (a : Fin 1) (b : Fin 2816) : (iblk m c 5 t : S1x2816.Idx → Elt F .f32) (ix2 a b) = V m c main_v8 (ix2 a b) := by
  refine congrArg (V m c main_v8) (funext fun x => Fin.ext ?_)
  show ((win0_5.rect t).emb (ix2 a b) x : Nat) = _
  rw [Pipeline.Window.rect_emb_val win0_5, index5]
  match x with
  | ⟨0, _⟩ => show 0 * 1 + a.val = a.val; omega
  | ⟨1, _⟩ => show 0 * 2816 + b.val = b.val; omega

/-- The down projection, whole. -/
theorem wd_read (a : Fin 2816) (b : Fin 1024) : (iblk m c 6 t : S2816x1024.Idx → Elt F .bf16) (ix2 a b) = V m c main_v10 (ix2 a b) := by
  refine congrArg (V m c main_v10) (funext fun x => Fin.ext ?_)
  show ((win0_6.rect t).emb (ix2 a b) x : Nat) = _
  rw [Pipeline.Window.rect_emb_val win0_6, index6]
  match x with
  | ⟨0, _⟩ => show 0 * 2816 + a.val = a.val; omega
  | ⟨1, _⟩ => show 0 * 1024 + b.val = b.val; omega

end Reads

section Arrays

variable (m : (ℓ : Loc nD τ sig) → Buf (Elt Ideal) ℓ) (c : Dev nD)

/-- The norm weights as the region finds it. -/
theorem V_g (w : S1x1024.Idx → EReal) (h : m ((c.tc : Thread nD τ).loc main_arg1) = w) (b : Fin 1024) :
    (V m c main_v1 : S1x1024.Idx → EReal) (ix2 0 b) = w (ix2 0 b) := by
  have e : (V m c main_v1 : S1x1024.Idx → EReal) = broadcastInDim S1x1024 ![1] bcast_S1024_S1x1024_1 (shapeCast S1024 (w : FVec Ideal S1x1024 .f32) shapeCasts_S1x1024_S1024) := by
    rw [← h]
    show StableHlo.after _ _ _ = _
    after_results_simp <;> rfl
  rw [e]
  pointwise []

/-- The up projection as the region finds it. -/
theorem V_wu (w : S1x1024x2816.Idx → EReal) (h : m ((c.tc : Thread nD τ).loc main_arg2) = w) (a : Fin 1024) (b : Fin 2816) :
    (V m c main_v3 : S1024x2816.Idx → EReal) (ix2 a b) = w (ix3 0 a b) := by
  have e : (V m c main_v3 : S1024x2816.Idx → EReal) = truncf (F := Ideal) .bf16 (shapeCast S1024x2816 (w : FVec Ideal S1x1024x2816 .f32) shapeCasts_S1x1024x2816_S1024x2816) bitsLt_bf16_f32 := by
    rw [← h]
    show StableHlo.after _ _ _ = _
    after_results_simp <;> rfl
  rw [e]
  pointwise []

/-- The gate projection as the region finds it. -/
theorem V_wg (w : S1x1024x2816.Idx → EReal) (h : m ((c.tc : Thread nD τ).loc main_arg3) = w) (a : Fin 1024) (b : Fin 2816) :
    (V m c main_v5 : S1024x2816.Idx → EReal) (ix2 a b) = w (ix3 0 a b) := by
  have e : (V m c main_v5 : S1024x2816.Idx → EReal) = truncf (F := Ideal) .bf16 (shapeCast S1024x2816 (w : FVec Ideal S1x1024x2816 .f32) shapeCasts_S1x1024x2816_S1024x2816) bitsLt_bf16_f32 := by
    rw [← h]
    show StableHlo.after _ _ _ = _
    after_results_simp <;> rfl
  rw [e]
  pointwise []

/-- The convolution's taps as the region finds it. -/
theorem V_cw (w : S1x3x2816.Idx → EReal) (h : m ((c.tc : Thread nD τ).loc main_arg4) = w) (a : Fin 3) (b : Fin 2816) :
    (V m c main_v6 : S3x2816.Idx → EReal) (ix2 a b) = w (ix3 0 a b) := by
  have e : (V m c main_v6 : S3x2816.Idx → EReal) = shapeCast S3x2816 (w : FVec Ideal S1x3x2816 .f32) shapeCasts_S1x3x2816_S3x2816 := by
    rw [← h]
    show StableHlo.after _ _ _ = _
    after_results_simp <;> rfl
  rw [e]
  pointwise []

/-- The convolution's bias as the region finds it. -/
theorem V_cb (w : S1x2816.Idx → EReal) (h : m ((c.tc : Thread nD τ).loc main_arg5) = w) (b : Fin 2816) :
    (V m c main_v8 : S1x2816.Idx → EReal) (ix2 0 b) = w (ix2 0 b) := by
  have e : (V m c main_v8 : S1x2816.Idx → EReal) = broadcastInDim S1x2816 ![1] bcast_S2816_S1x2816_1 (shapeCast S2816 (w : FVec Ideal S1x2816 .f32) shapeCasts_S1x2816_S2816) := by
    rw [← h]
    show StableHlo.after _ _ _ = _
    after_results_simp <;> rfl
  rw [e]
  pointwise []

/-- The down projection as the region finds it. -/
theorem V_wd (w : S1x2816x1024.Idx → EReal) (h : m ((c.tc : Thread nD τ).loc main_arg6) = w) (a : Fin 2816) (b : Fin 1024) :
    (V m c main_v10 : S2816x1024.Idx → EReal) (ix2 a b) = w (ix3 0 a b) := by
  have e : (V m c main_v10 : S2816x1024.Idx → EReal) = truncf (F := Ideal) .bf16 (shapeCast S2816x1024 (w : FVec Ideal S1x2816x1024 .f32) shapeCasts_S1x2816x1024_S2816x1024) bitsLt_bf16_f32 := by
    rw [← h]
    show StableHlo.after _ _ _ = _
    after_results_simp <;> rfl
  rw [e]
  pointwise []

end Arrays

end Cert.Kernel2Ideal.Ffn
-- ==== Proof.Ffn.Result.lean ====
/- The feed-forward kernel's carried rows at every point, and its result array. -/
module

public import proofs.«01_k».proof.Proof.Ffn.Blocks

@[expose] public section

set_option maxRecDepth 16384

noncomputable section

namespace Cert.Kernel2Ideal.Ffn

open Idealize.ShloMosaic Idealize.ShloMosaic.TcCoe Idealize.SL.Sem Cert.Kernel2Ideal Cert.Kernel2Ideal.Gen Cert.Ffn

section State

variable (m : (ℓ : Loc nD τ sig) → Buf (Elt Ideal) ℓ) (c : Dev nD)

/-- The carried rows after a point. -/
def carried (n : ℕ) (h : n < cfg0.N) : S520x2816.Idx → EReal := (outsAt0 m c n h).2

/-- The block's own projected rows are the last of the carried rows. -/
theorem carried_own (t : Fin cfg0.N) (r : Fin 520) (p : Fin 512) (h : r.val = 8 + p.val) (f : Fin 2816) :
    carried m c t.val t.isLt (ix2 r f) = k0_pay6 (F := Ideal) (iblk m c 0 t) (iblk m c 1 t) (iblk m c 2 t) (ix2 p f) := by
  unfold carried
  by_cases h0 : t.val % 16 = 0
  · rw [outsAt0_A m c t h0]
    dsimp only
    rw [soutA]
    exact scr_own _ _ _ r p h f
  · rw [outsAt0_B m c t h0]
    dsimp only
    rw [soutB]
    exact scr_own _ _ _ r p h f

/-- At the first point of a sequence the rows before the block are nothing. -/
theorem carried_first (t : Fin cfg0.N) (h0 : t.val % 16 = 0) (r : Fin 520) (h : r.val < 8) (f : Fin 2816) :
    carried m c t.val t.isLt (ix2 r f) = 0 := by
  unfold carried
  rw [outsAt0_A m c t h0]
  dsimp only
  rw [soutA]
  refine (scr_kept _ _ _ r ⟨r.val, h⟩ rfl f).trans ?_
  unfold kept
  rw [show View.canon (Val := Elt Ideal) (zeros (F := Ideal)) = k0_pay2 (F := Ideal) from View.canon_unit_zero z2 _ _]
  pointwise [k0_pay5, k0_pay2]

/-- At any other point they are the last of the point before. -/
theorem carried_next (t t' : Fin cfg0.N) (h0 : ¬t.val % 16 = 0) (ht : t.val = t'.val + 1) (r r' : Fin 520) (h : r.val < 8) (hr : r'.val = 512 + r.val)
    (f : Fin 2816) : carried m c t.val t.isLt (ix2 r f) = carried m c t'.val t'.isLt (ix2 r' f) := by
  unfold carried
  rw [outsAt0_B m c t h0]
  dsimp only
  rw [soutB]
  refine (scr_kept _ _ _ r ⟨r.val, h⟩ rfl f).trans ?_
  unfold kept
  pointwise [k0_pay5]
  have e : ((Rect.unit (s := S520x2816) ![512, 0] S8x2816.size inb_S520x2816_S8x2816_512_0).emb (ix2 ⟨r.val, h⟩ f) : S520x2816.Idx) = ix2 r' f :=
    funext fun a => Fin.ext (match a with
      | ⟨0, _⟩ => show 512 + 1 * r.val = r'.val by omega
      | ⟨1, _⟩ => show 0 + 1 * f.val = f.val by omega)
  refine (congrArg _ e).trans ?_
  have hn : t.val - 1 = t'.val := by omega
  simp only [hn]

/-- The result block of every point, over the carried rows after it. -/
theorem out_eq (t : Fin cfg0.N) :
    (outsAt0 m c t.val t.isLt).1 = outS (F := Ideal) (iblk m c 0 t) (iblk m c 1 t) (iblk m c 3 t) (iblk m c 4 t) (iblk m c 5 t) (iblk m c 6 t) (carried m c t.val t.isLt) := by
  unfold carried
  by_cases h0 : t.val % 16 = 0
  · rw [outsAt0_A m c t h0]
    dsimp only
    rw [soutA, outA]
  · rw [outsAt0_B m c t h0]
    dsimp only
    rw [soutB, outB]

end State

section Result

variable (m : (ℓ : Loc nD τ sig) → Buf (Elt Ideal) ℓ) (c : Dev nD)
variable (x : S4x8192x1024.Idx → EReal) (g : S1x1024.Idx → EReal) (wu wg : S1x1024x2816.Idx → EReal) (cw : S1x3x2816.Idx → EReal) (cb : S1x2816.Idx → EReal)
  (wd : S1x2816x1024.Idx → EReal)
variable (h0 : m ((c.tc : Thread nD τ).loc main_arg0) = x) (h1 : m ((c.tc : Thread nD τ).loc main_arg1) = g)
  (h2 : m ((c.tc : Thread nD τ).loc main_arg2) = wu) (h3 : m ((c.tc : Thread nD τ).loc main_arg3) = wg)
  (h4 : m ((c.tc : Thread nD τ).loc main_arg4) = cw) (h5 : m ((c.tc : Thread nD τ).loc main_arg5) = cb)
  (h6 : m ((c.tc : Thread nD τ).loc main_arg6) = wd)

include h0 h1 h2 in
/-- A block's own projected row. -/
theorem up_row (t : Fin cfg0.N) (p : Fin 512) (b : Fin 4) (s : Fin 8192) (hb : b.val = t.val / 16) (hs : s.val = 512 * (t.val % 16) + p.val) (f : Fin 2816) :
    k0_pay6 (F := Ideal) (iblk m c 0 t) (iblk m c 1 t) (iblk m c 2 t) (ix2 p f)
      = (proj (fun k => x (ix3 b s k)) (fun k => g (ix2 0 k)) (fun d f => wu (ix3 0 d f)) f : EReal) := by
  refine (up_apply _ _ _ p f).trans ?_
  have e0 : (fun k => (iblk m c 0 t : S1x512x1024.Idx → EReal) (ix3 0 p k)) = fun k => x (ix3 b s k) := funext fun k => by
    rw [← h0, ← V_main_arg0 m c]; exact x_read m c t p b s hb hs k
  have e1 : (fun k => (iblk m c 1 t : S1x1024.Idx → EReal) (ix2 0 k)) = fun k => g (ix2 0 k) := funext fun k => (g_read m c t 0 k).trans (V_g m c g h1 k)
  have e2 : (fun d f => (iblk m c 2 t : S1024x2816.Idx → EReal) (ix2 d f)) = fun d f => wu (ix3 0 d f) := funext fun d => funext fun f =>
    (wu_read m c t d f).trans (V_wu m c wu h2 d f)
  rw [e0, e1, e2]

include h0 h1 h2 in
/-- The carried rows are the projected rows up to the block's last, nothing before the sequence's first. -/
theorem carried_eq (t : Fin cfg0.N) (p : Fin 512) (b : Fin 4) (s : Fin 8192) (hb : b.val = t.val / 16) (hs : s.val = 512 * (t.val % 16) + p.val)
    (n : ℕ) (hn : n ≤ 2) (r : Fin 520) (hr : r.val + n = 8 + p.val) (f : Fin 2816) :
    carried m c t.val t.isLt (ix2 r f) = back (fun s k => x (ix3 b s k)) (fun k => g (ix2 0 k)) (fun d f => wu (ix3 0 d f)) s n f := by
  have hN : t.val < 64 := lt_of_lt_of_eq t.isLt N_0
  have hp := p.isLt
  unfold back
  by_cases h8 : 8 ≤ r.val
  · rw [if_pos (by omega), carried_own m c t r ⟨r.val - 8, by omega⟩ (by show r.val = 8 + (r.val - 8); omega) f]
    exact up_row m c x g wu h0 h1 h2 t _ b ⟨s.val - n, by omega⟩ hb (by show s.val - n = 512 * (t.val % 16) + (r.val - 8); omega) f
  · by_cases ht : t.val % 16 = 0
    · rw [if_neg (by omega), carried_first m c t ht r (by omega) f]
    · have hlt : t.val - 1 < cfg0.N := lt_of_lt_of_eq (by omega : t.val - 1 < 64) N_0.symm
      rw [if_pos (by omega), carried_next m c t ⟨t.val - 1, hlt⟩ ht (by show t.val = t.val - 1 + 1; omega) r ⟨512 + r.val, by omega⟩ (by omega) rfl f,
        carried_own m c ⟨t.val - 1, hlt⟩ ⟨512 + r.val, by omega⟩ ⟨504 + r.val, by omega⟩ (by show 512 + r.val = 8 + (504 + r.val); omega) f]
      exact up_row m c x g wu h0 h1 h2 ⟨t.val - 1, hlt⟩ _ b ⟨s.val - n, by omega⟩ (by show b.val = (t.val - 1) / 16; omega)
        (by show s.val - n = 512 * ((t.val - 1) % 16) + (504 + r.val); omega) f

include h0 h1 h2 h3 h4 h5 h6 in
/-- A row of a point's result block. -/
theorem out_row (t : Fin cfg0.N) (p : Fin 512) (b : Fin 4) (s : Fin 8192) (hb : b.val = t.val / 16) (hs : s.val = 512 * (t.val % 16) + p.val) (e : Fin 1024) :
    (outsAt0 m c t.val t.isLt).1 (ix3 0 p e)
      = (layer (fun s k => x (ix3 b s k)) (fun k => g (ix2 0 k)) (fun d f => wu (ix3 0 d f)) (fun d f => wg (ix3 0 d f)) (fun k f => cw (ix3 0 k f))
          (fun f => cb (ix2 0 f)) (fun f d => wd (ix3 0 f d)) s e : EReal) := by
  rw [out_eq]
  unfold outS
  refine (body_apply _ _ _ _ _ _ _ _ _ _ _ p e).trans ?_
  have e0 : (fun k => (iblk m c 0 t : S1x512x1024.Idx → EReal) (ix3 0 p k)) = fun k => x (ix3 b s k) := funext fun k => by
    rw [← h0, ← V_main_arg0 m c]; exact x_read m c t p b s hb hs k
  have e1 : (fun k => (iblk m c 1 t : S1x1024.Idx → EReal) (ix2 0 k)) = fun k => g (ix2 0 k) := funext fun k => (g_read m c t 0 k).trans (V_g m c g h1 k)
  have e3 : (fun d f => (iblk m c 3 t : S1024x2816.Idx → EReal) (ix2 d f)) = fun d f => wg (ix3 0 d f) := funext fun d => funext fun f =>
    (wg_read m c t d f).trans (V_wg m c wg h3 d f)
  have e5 : ∀ f, (iblk m c 5 t : S1x2816.Idx → EReal) (ix2 0 f) = cb (ix2 0 f) := fun f => (cb_read m c t 0 f).trans (V_cb m c cb h5 f)
  have e6 : ∀ f d, (iblk m c 6 t : S2816x1024.Idx → EReal) (ix2 f d) = wd (ix3 0 f d) := fun f d => (wd_read m c t f d).trans (V_wd m c wd h6 f d)
  have ex : (iblk m c 0 t : S1x512x1024.Idx → EReal) (ix3 0 p e) = x (ix3 b s e) := congrFun e0 e
  have w0 : ∀ f, (iblk m c 4 t : S3x2816.Idx → EReal) ((Rect.unit (s := S3x2816) ![0, 0] S1x2816.size inb_S3x2816_S1x2816_0_0).emb (ix2 0 f)) = cw (ix3 0 0 f) := fun f =>
    (congrArg (iblk m c 4 t : S3x2816.Idx → EReal) (funext fun a => Fin.ext (match a with
      | ⟨0, _⟩ => show 0 + 1 * 0 = 0 by omega
      | ⟨1, _⟩ => show 0 + 1 * f.val = f.val by omega))).trans ((cw_read m c t 0 f).trans (V_cw m c cw h4 0 f))
  have w1 : ∀ f, (iblk m c 4 t : S3x2816.Idx → EReal) ((Rect.unit (s := S3x2816) ![1, 0] S1x2816.size inb_S3x2816_S1x2816_1_0).emb (ix2 0 f)) = cw (ix3 0 1 f) := fun f =>
    (congrArg (iblk m c 4 t : S3x2816.Idx → EReal) (funext fun a => Fin.ext (match a with
      | ⟨0, _⟩ => show 1 + 1 * 0 = 1 by omega
      | ⟨1, _⟩ => show 0 + 1 * f.val = f.val by omega))).trans ((cw_read m c t 1 f).trans (V_cw m c cw h4 1 f))
  have w2 : ∀ f, (iblk m c 4 t : S3x2816.Idx → EReal) ((Rect.unit (s := S3x2816) ![2, 0] S1x2816.size inb_S3x2816_S1x2816_2_0).emb (ix2 0 f)) = cw (ix3 0 2 f) := fun f =>
    (congrArg (iblk m c 4 t : S3x2816.Idx → EReal) (funext fun a => Fin.ext (match a with
      | ⟨0, _⟩ => show 2 + 1 * 0 = 2 by omega
      | ⟨1, _⟩ => show 0 + 1 * f.val = f.val by omega))).trans ((cw_read m c t 2 f).trans (V_cw m c cw h4 2 f))
  have u0 : ∀ f, carried m c t.val t.isLt ((Rect.unit (s := S520x2816) ![6, 0] S512x2816.size inb_S520x2816_S512x2816_6_0).emb (ix2 p f))
      = back (fun s k => x (ix3 b s k)) (fun k => g (ix2 0 k)) (fun d f => wu (ix3 0 d f)) s 2 f := fun f =>
    (congrArg (carried m c t.val t.isLt) (funext fun a => Fin.ext (match a with
      | ⟨0, _⟩ => show 6 + 1 * p.val = 6 + p.val by omega
      | ⟨1, _⟩ => show 0 + 1 * f.val = f.val by omega) : _ = (ix2 (⟨6 + p.val, by omega⟩ : Fin 520) f : S520x2816.Idx))).trans
      (carried_eq m c x g wu h0 h1 h2 t p b s hb hs 2 (by omega) ⟨6 + p.val, by omega⟩ (by show 6 + p.val + 2 = 8 + p.val; omega) f)
  have u1 : ∀ f, carried m c t.val t.isLt ((Rect.unit (s := S520x2816) ![7, 0] S512x2816.size inb_S520x2816_S512x2816_7_0).emb (ix2 p f))
      = back (fun s k => x (ix3 b s k)) (fun k => g (ix2 0 k)) (fun d f => wu (ix3 0 d f)) s 1 f := fun f =>
    (congrArg (carried m c t.val t.isLt) (funext fun a => Fin.ext (match a with
      | ⟨0, _⟩ => show 7 + 1 * p.val = 7 + p.val by omega
      | ⟨1, _⟩ => show 0 + 1 * f.val = f.val by omega) : _ = (ix2 (⟨7 + p.val, by omega⟩ : Fin 520) f : S520x2816.Idx))).trans
      (carried_eq m c x g wu h0 h1 h2 t p b s hb hs 1 (by omega) ⟨7 + p.val, by omega⟩ (by show 7 + p.val + 1 = 8 + p.val; omega) f)
  have u2 : ∀ f, carried m c t.val t.isLt ((Rect.unit (s := S520x2816) ![8, 0] S512x2816.size inb_S520x2816_S512x2816_8_0).emb (ix2 p f))
      = back (fun s k => x (ix3 b s k)) (fun k => g (ix2 0 k)) (fun d f => wu (ix3 0 d f)) s 0 f := fun f =>
    (congrArg (carried m c t.val t.isLt) (funext fun a => Fin.ext (match a with
      | ⟨0, _⟩ => show 8 + 1 * p.val = 8 + p.val by omega
      | ⟨1, _⟩ => show 0 + 1 * f.val = f.val by omega) : _ = (ix2 (⟨8 + p.val, by omega⟩ : Fin 520) f : S520x2816.Idx))).trans
      (carried_eq m c x g wu h0 h1 h2 t p b s hb hs 0 (by omega) ⟨8 + p.val, by omega⟩ (by show 8 + p.val + 0 = 8 + p.val; omega) f)
  unfold layer row
  rw [e0, e1, e3, ex]
  refine congrArg _ (Finset.sum_congr rfl fun f _ => ?_)
  rw [e5, e6, w0, w1, w2, u0, u1, u2]

/-- An index of the result array is in a point's block when each coordinate is in the block's range. -/
theorem mem_part (t : Fin cfg0.N) (i : S4x8192x1024.Idx) :
    i ∈ ((cfg0.win 7).blk t).view.set ↔ ∀ a : Fin 3, win0_7.index t a * S1x512x1024.size a ≤ (i a).val ∧ (i a).val < win0_7.index t a * S1x512x1024.size a + S1x512x1024.size a := by
  show i ∈ ((View.whole main_v11).slice (win0_7.rect t)).set ↔ _
  rw [View.set_slice_whole, Rect.mem_set_unit]
  exact Iff.rfl

include h0 h1 h2 h3 h4 h5 h6 in
/-- The result array is the layer on every sequence. -/
theorem result_eq :
    (dats m 0 c).arrAt 7 cfg0.N = fun i : S4x8192x1024.Idx =>
      layer (fun s k => x (ix3 (i 0) s k)) (fun k => g (ix2 0 k)) (fun d f => wu (ix3 0 d f)) (fun d f => wg (ix3 0 d f)) (fun k f => cw (ix3 0 k f))
        (fun f => cb (ix2 0 f)) (fun f d => wd (ix3 0 f d)) (i 1) (i 2) := by
  refine (dats m 0 c).arrAt_eq_of_cover 7 _ (fun t _ => ?_) (fun i => ?_)
  · rw [Value.flushed7]
    funext y
    have hN : t.val < 64 := lt_of_lt_of_eq t.isLt N_0
    have y0 : (y 0).val < 1 := (y 0).isLt
    have y1 : (y 1).val < 512 := (y 1).isLt
    have y2 : (y 2).val < 1024 := (y 2).isLt
    show (outsAt0 m c t.val t.isLt).1 y = _
    have ey : y = (ix3 0 (y 1) (y 2) : S1x512x1024.Idx) := funext fun a => Fin.ext (match a with
      | ⟨0, _⟩ => show (y 0).val = 0 by omega
      | ⟨1, _⟩ => rfl
      | ⟨2, _⟩ => rfl)
    rw [ey]
    refine (out_row m c x g wu wg cw cb wd h0 h1 h2 h3 h4 h5 h6 t (y 1) ⟨t.val / 16, by omega⟩ ⟨512 * (t.val % 16) + (y 1).val, by omega⟩ rfl rfl (y 2)).trans ?_
    have ei : ((win0_7.rect t).emb (ix3 0 (y 1) (y 2)) : S4x8192x1024.Idx)
        = ix3 (⟨t.val / 16, by omega⟩ : Fin 4) (⟨512 * (t.val % 16) + (y 1).val, by omega⟩ : Fin 8192) (y 2) := funext fun a => Fin.ext (by
      rw [Pipeline.Window.rect_emb_val win0_7, index7]
      match a with
      | ⟨0, _⟩ => show t.val / 16 * 1 + 0 = t.val / 16; omega
      | ⟨1, _⟩ => show t.val % 16 * 512 + (y 1).val = 512 * (t.val % 16) + (y 1).val; omega
      | ⟨2, _⟩ => show 0 * 1024 + (y 2).val = (y 2).val; omega)
    exact (congrArg (fun i : S4x8192x1024.Idx =>
      layer (fun s k => x (ix3 (i 0) s k)) (fun k => g (ix2 0 k)) (fun d f => wu (ix3 0 d f)) (fun d f => wg (ix3 0 d f)) (fun k f => cw (ix3 0 k f))
        (fun f => cb (ix2 0 f)) (fun f d => wd (ix3 0 f d)) (i 1) (i 2)) ei).symm
  · have i0 : (i 0).val < 4 := (i 0).isLt
    have i1 : (i 1).val < 8192 := (i 1).isLt
    have i2 : (i 2).val < 1024 := (i 2).isLt
    have hlt : 16 * (i 0).val + (i 1).val / 512 < cfg0.N := lt_of_lt_of_eq (by omega : _ < 64) N_0.symm
    refine ⟨⟨16 * (i 0).val + (i 1).val / 512, hlt⟩, flush7 _, ?_⟩
    rw [mem_part]
    intro a
    rw [index7]
    match a with
    | ⟨0, _⟩ => show (16 * (i 0).val + (i 1).val / 512) / 16 * 1 ≤ (i 0).val ∧ (i 0).val < (16 * (i 0).val + (i 1).val / 512) / 16 * 1 + 1; omega
    | ⟨1, _⟩ => show (16 * (i 0).val + (i 1).val / 512) % 16 * 512 ≤ (i 1).val ∧ (i 1).val < (16 * (i 0).val + (i 1).val / 512) % 16 * 512 + 512; omega
    | ⟨2, _⟩ => show 0 * 1024 ≤ (i 2).val ∧ (i 2).val < 0 * 1024 + 1024; omega

end Result

end Cert.Kernel2Ideal.Ffn
-- ==== Proof.Ffn.Value.lean ====
/- The feed-forward kernel and the plain feed-forward layer end with the same result. -/
module

public import proofs.«01_k».proof.Defs
public import proofs.«01_k».proof.Proof.Ffn.Result
public import proofs.«01_k».proof.Proof.Gen.Reference2Ideal.Run

@[expose] public section

set_option maxRecDepth 16384

noncomputable section

namespace Cert.Reference2Ideal.Ffn

open Idealize.ShloMosaic Idealize.ShloMosaic.TcCoe Idealize.SL.Sem Cert.Reference2Ideal Cert.Reference2Ideal.Gen Cert.Ffn

variable {F : FTy → Type} [FloatOps F]

/-- The input normalised row by row. -/
def normV (x : FVec F S4x8192x1024 .f32) (g : FVec F S1x1024 .f32) : FVec F S4x8192x1024 .f32 :=
  mulf (mulf x (broadcastInDim S4x8192x1024 ![0, 1, 2] bcast_S4x8192x1_S4x8192x1024_0_1_2
      (Host.rsqrt (addf (Host.divf (broadcastInDim S4x8192x1 ![0, 1] bcast_S4x8192_S4x8192x1_0_1
            (Host.reduceAdd (mulf x x) (constant S_ .f32 0x00000000#32) reducesTo_S4x8192x1024_S4x8192_d2 h_S_))
          (broadcastInDim S4x8192x1 ![] bcast_S_S4x8192x1 (constant S_ .f32 0x44800000#32)))
        (broadcastInDim S4x8192x1 ![] bcast_S_S4x8192x1 (constant S_ .f32 0x358637BD#32))))))
    (broadcastInDim S4x8192x1024 ![0, 1, 2] bcast_S1x1x1024_S4x8192x1024_0_1_2
      (broadcastInDim S1x1x1024 ![2] bcast_S1024_S1x1x1024_2 (shapeCast S1024 g shapeCasts_S1x1024_S1024)))

/-- A projection up. -/
def upV (h : FVec F S4x8192x1024 .f32) (w : FVec F S1x1024x2816 .f32) : FVec F S4x8192x2816 .f32 :=
  Host.dotGeneral dot_S4x8192x1024_S1024x2816_S4x8192x2816_2_0_01_1_n_n none h (shapeCast S1024x2816 w shapeCasts_S1x1024x2816_S1024x2816)

/-- Two rows of nothing before every sequence. -/
def padV (u : FVec F S4x8192x2816 .f32) : FVec F S4x8194x2816 .f32 :=
  pad S4x8194x2816 ![0, 2, 0] ![0, 0, 0] ![0, 0, 0] u (sitofp .f32 (constantI S_ 32 0#32)) pads_S4x8192x2816_S4x8194x2816_000_200_000 h_S_

/-- A row of weights over every position. -/
def overV (w : FVec F S2816 .f32) : FVec F S4x8192x2816 .f32 :=
  broadcastInDim S4x8192x2816 ![0, 1, 2] bcast_S1x1x2816_S4x8192x2816_0_1_2 (broadcastInDim S1x1x2816 ![2] bcast_S2816_S1x1x2816_2 w)

/-- The causal convolution over three positions. -/
def convV (u : FVec F S4x8192x2816 .f32) (cw : FVec F S1x3x2816 .f32) (cb : FVec F S1x2816 .f32) : FVec F S4x8192x2816 .f32 :=
  addf (addf (addf (overV (shapeCast S2816 cb shapeCasts_S1x2816_S2816))
    (mulf (extractStridedSlice S4x8192x2816 ![0, 0, 0] (padV u) slices_S4x8194x2816_S4x8192x2816_0_0_0)
      (overV (shapeCast S2816 (extractStridedSlice S1x2816 ![0, 0] (shapeCast S3x2816 cw shapeCasts_S1x3x2816_S3x2816) slices_S3x2816_S1x2816_0_0) shapeCasts_S1x2816_S2816))))
    (mulf (extractStridedSlice S4x8192x2816 ![0, 1, 0] (padV u) slices_S4x8194x2816_S4x8192x2816_0_1_0)
      (overV (shapeCast S2816 (extractStridedSlice S1x2816 ![1, 0] (shapeCast S3x2816 cw shapeCasts_S1x3x2816_S3x2816) slices_S3x2816_S1x2816_1_0) shapeCasts_S1x2816_S2816))))
    (mulf (extractStridedSlice S4x8192x2816 ![0, 2, 0] (padV u) slices_S4x8194x2816_S4x8192x2816_0_2_0)
      (overV (shapeCast S2816 (extractStridedSlice S1x2816 ![2, 0] (shapeCast S3x2816 cw shapeCasts_S1x3x2816_S3x2816) slices_S3x2816_S1x2816_2_0) shapeCasts_S1x2816_S2816)))

/-- The plain gelu. -/
def geluV (x : FVec F S4x8192x2816 .f32) : FVec F S4x8192x2816 .f32 :=
  mulf x (mulf (broadcastInDim S4x8192x2816 ![] bcast_S_S4x8192x2816 (constant S_ .f32 0x3F000000#32))
    (addf (broadcastInDim S4x8192x2816 ![] bcast_S_S4x8192x2816 (constant S_ .f32 0x3F800000#32))
      (Host.tanh (mulf
        (broadcastInDim S4x8192x2816 ![] bcast_S_S4x8192x2816
          (Host.sqrt (Host.divf (constant S_ .f32 0x40000000#32) (mulf (constant S_ .f32 0x40800000#32) (Host.atan (constant S_ .f32 0x3F800000#32))))))
        (addf x (mulf (broadcastInDim S4x8192x2816 ![] bcast_S_S4x8192x2816 (Host.divf (constant S_ .f32 0x472EAB00#32) (constant S_ .f32 0x49742400#32)))
          (mulf (mulf x x) x)))))))

/-- The plain feed-forward layer. -/
def ffnV (x : FVec F S4x8192x1024 .f32) (g : FVec F S1x1024 .f32) (wu wg : FVec F S1x1024x2816 .f32) (cw : FVec F S1x3x2816 .f32) (cb : FVec F S1x2816 .f32)
    (wd : FVec F S1x2816x1024 .f32) : FVec F S4x8192x1024 .f32 :=
  addf x (Host.dotGeneral dot_S4x8192x2816_S2816x1024_S4x8192x1024_2_0_01_1_n_n none
    (mulf (geluV (convV (upV (normV x g) wu) cw cb)) (upV (normV x g) wg)) (shapeCast S2816x1024 wd shapeCasts_S1x2816x1024_S2816x1024))

theorem normV_apply (x : FVec Ideal S4x8192x1024 .f32) (g : FVec Ideal S1x1024 .f32) (b : Fin 4) (s : Fin 8192) (d : Fin 1024) :
    (normV x g (ix3 b s d) : EReal) = Cert.Ffn.norm (fun k => x (ix3 b s k)) (fun k => g (ix2 0 k)) d := by
  pointwise [normV]
  unfold Cert.Ffn.norm
  simp only [zero_add]

theorem upV_apply (x : FVec Ideal S4x8192x1024 .f32) (g : FVec Ideal S1x1024 .f32) (w : FVec Ideal S1x1024x2816 .f32) (b : Fin 4) (s : Fin 8192) (f : Fin 2816) :
    (upV (normV x g) w (ix3 b s f) : EReal) = proj (fun k => x (ix3 b s k)) (fun k => g (ix2 0 k)) (fun d f => w (ix3 0 d f)) f := by
  pointwise [upV]
  simp only [normV_apply]
  rfl

theorem overV_apply (w : FVec Ideal S2816 .f32) (b : Fin 4) (s : Fin 8192) (f : Fin 2816) : (overV w (ix3 b s f) : EReal) = w (ix1 f) := by
  pointwise [overV]

/-- A padded row: the sequence's own two places later, nothing before. -/
theorem padV_apply (u : FVec Ideal S4x8192x2816 .f32) (b : Fin 4) (r : Fin 8194) (f : Fin 2816) :
    (padV u (ix3 b r f) : EReal) = if h : 2 ≤ r.val then (u (ix3 b ⟨r.val - 2, by omega⟩ f) : EReal) else 0 := by
  unfold padV
  rw [pad_apply]
  by_cases h : 2 ≤ r.val
  · have hin : ∀ a : Fin S4x8192x2816.rank, (![0, 2, 0] : Fin 3 → ℕ) a ≤ ((ix3 b r f : S4x8194x2816.Idx) (a.cast pads_S4x8192x2816_S4x8194x2816_000_200_000.1)).val
        ∧ (((ix3 b r f : S4x8194x2816.Idx) (a.cast pads_S4x8192x2816_S4x8194x2816_000_200_000.1)).val - (![0, 2, 0] : Fin 3 → ℕ) a) % ((![0, 0, 0] : Fin 3 → ℕ) a + 1) = 0
        ∧ (((ix3 b r f : S4x8194x2816.Idx) (a.cast pads_S4x8192x2816_S4x8194x2816_000_200_000.1)).val - (![0, 2, 0] : Fin 3 → ℕ) a) / ((![0, 0, 0] : Fin 3 → ℕ) a + 1)
          < S4x8192x2816.size a := fun a => match a with
      | ⟨0, _⟩ => show 0 ≤ b.val ∧ (b.val - 0) % (0 + 1) = 0 ∧ (b.val - 0) / (0 + 1) < 4 by omega
      | ⟨1, _⟩ => show 2 ≤ r.val ∧ (r.val - 2) % (0 + 1) = 0 ∧ (r.val - 2) / (0 + 1) < 8192 by omega
      | ⟨2, _⟩ => show 0 ≤ f.val ∧ (f.val - 0) % (0 + 1) = 0 ∧ (f.val - 0) / (0 + 1) < 2816 by omega
    rw [dif_pos h, dif_pos hin]
    rw [Shape.Idx.norm_def]
    refine congrArg u (funext fun a => Fin.ext (match a with
      | ⟨0, _⟩ => show (b.val - 0) / (0 + 1) = b.val by omega
      | ⟨1, _⟩ => show (r.val - 2) / (0 + 1) = r.val - 2 by omega
      | ⟨2, _⟩ => show (f.val - 0) / (0 + 1) = f.val by omega))
  · rw [dif_neg h, dif_neg]
    · show (((0#32 : BitVec 32).toInt : ℝ) : EReal) = 0
      simp
    · intro hin
      have h2 : 2 ≤ r.val := (hin (1 : Fin 3)).1
      omega

theorem geluV_apply (x : FVec Ideal S4x8192x2816 .f32) (b : Fin 4) (s : Fin 8192) (f : Fin 2816) : (geluV x (ix3 b s f) : EReal) = Gelu.gelu (x (ix3 b s f)) := by
  rw [Gelu.gelu_eq]
  pointwise [geluV]
  rw [Gelu.half, Gelu.c_word, Gelu.d_word]
  rfl

/-- The convolution at a position: the rows two, one and no places before it, each times its tap. -/
theorem convV_apply (x : FVec Ideal S4x8192x1024 .f32) (g : FVec Ideal S1x1024 .f32) (wu : FVec Ideal S1x1024x2816 .f32) (cw : FVec Ideal S1x3x2816 .f32)
    (cb : FVec Ideal S1x2816 .f32) (b : Fin 4) (s : Fin 8192) (f : Fin 2816) :
    (convV (upV (normV x g) wu) cw cb (ix3 b s f) : EReal)
      = cb (ix2 0 f) + back (fun s k => x (ix3 b s k)) (fun k => g (ix2 0 k)) (fun d f => wu (ix3 0 d f)) s 2 f * cw (ix3 0 0 f)
        + back (fun s k => x (ix3 b s k)) (fun k => g (ix2 0 k)) (fun d f => wu (ix3 0 d f)) s 1 f * cw (ix3 0 1 f)
        + back (fun s k => x (ix3 b s k)) (fun k => g (ix2 0 k)) (fun d f => wu (ix3 0 d f)) s 0 f * cw (ix3 0 2 f) := by
  pointwise [convV]
  simp only [overV_apply, padV_apply]
  pointwise []
  have e2 : (if h : 2 ≤ s.val then (upV (normV x g) wu (ix3 b ⟨s.val - 2, by omega⟩ f) : EReal) else 0)
      = back (fun s k => x (ix3 b s k)) (fun k => g (ix2 0 k)) (fun d f => wu (ix3 0 d f)) s 2 f := by
    unfold back
    by_cases h : 2 ≤ s.val
    · rw [dif_pos h, if_pos h]; exact upV_apply x g wu b _ f
    · rw [dif_neg h, if_neg h]
  have e1 : (if h : 2 ≤ 1 + s.val then (upV (normV x g) wu (ix3 b ⟨1 + s.val - 2, by omega⟩ f) : EReal) else 0)
      = back (fun s k => x (ix3 b s k)) (fun k => g (ix2 0 k)) (fun d f => wu (ix3 0 d f)) s 1 f := by
    unfold back
    by_cases h : 2 ≤ 1 + s.val
    · have e : (⟨1 + s.val - 2, by omega⟩ : Fin 8192) = ⟨s.val - 1, by omega⟩ := Fin.ext (by show 1 + s.val - 2 = s.val - 1; omega)
      rw [dif_pos h, if_pos (by omega), e]; exact upV_apply x g wu b _ f
    · rw [dif_neg h, if_neg (by omega)]
  have e0 : (upV (normV x g) wu (ix3 b s f) : EReal) = back (fun s k => x (ix3 b s k)) (fun k => g (ix2 0 k)) (fun d f => wu (ix3 0 d f)) s 0 f := by
    unfold back
    rw [if_pos (Nat.zero_le _)]; exact upV_apply x g wu b s f
  rw [e2, e1, e0]

/-- The plain layer, sequence by sequence. -/
theorem ffnV_apply (x : FVec Ideal S4x8192x1024 .f32) (g : FVec Ideal S1x1024 .f32) (wu wg : FVec Ideal S1x1024x2816 .f32) (cw : FVec Ideal S1x3x2816 .f32)
    (cb : FVec Ideal S1x2816 .f32) (wd : FVec Ideal S1x2816x1024 .f32) (b : Fin 4) (s : Fin 8192) (e : Fin 1024) :
    (ffnV x g wu wg cw cb wd (ix3 b s e) : EReal)
      = layer (fun s k => x (ix3 b s k)) (fun k => g (ix2 0 k)) (fun d f => wu (ix3 0 d f)) (fun d f => wg (ix3 0 d f)) (fun k f => cw (ix3 0 k f))
          (fun f => cb (ix2 0 f)) (fun f d => wd (ix3 0 f d)) s e := by
  pointwise [ffnV]
  unfold layer row
  refine congrArg _ (Finset.sum_congr rfl fun f _ => ?_)
  rw [geluV_apply, convV_apply, upV_apply]
  try rfl

end Cert.Reference2Ideal.Ffn

namespace Cert.Proof

open Idealize.ShloMosaic Idealize.ShloMosaic.TcCoe Idealize.SL.Sem Cert.Ffn

/-- The feed-forward kernel and the plain layer end with the same result, whatever the arrays hold. -/
theorem ffn_value : Cert.algebraic_Kernel2Ideal_Reference2Ideal (hKernel2Ideal := Cert.Kernel2Ideal.Gen.facts)
    (hReference2Ideal := Cert.Reference2Ideal.Gen.facts) := by
  intro m g m' g' _ harg
  refine ⟨fun c => Cert.Reference2Ideal.Ffn.ffnV (F := Ideal) (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3))
      (m' ((c.tc : Thread Cert.Reference2Ideal.nD Cert.Reference2Ideal.τ).loc Cert.Reference2Ideal.main_arg4))
      (m' ((c.tc : Thread Cert.Reference2Ideal.nD Cert.Reference2Ideal.τ).loc Cert.Reference2Ideal.main_arg5))
      (m' ((c.tc : Thread Cert.Reference2Ideal.nD Cert.Reference2Ideal.τ).loc Cert.Reference2Ideal.main_arg6)),
    (θ_run _ _ _).mono (fun r h c => ⟨(h c).1.trans ?_, (h c).2⟩) (Cert.Kernel2Ideal.Value.run_blocks m g),
    Cert.Reference2Ideal.Value.run m' g'⟩
  obtain ⟨h0, h1, h2, h3, h4, h5, h6⟩ := harg c
  refine (Cert.Kernel2Ideal.Ffn.result_eq m c _ _ _ _ _ _ _ h0.symm h1.symm h2.symm h3.symm h4.symm h5.symm h6.symm).trans (funext fun i => ?_)
  rw [eq_ix3 i]
  exact (Cert.Reference2Ideal.Ffn.ffnV_apply _ _ _ _ _ _ _ (i 0) (i 1) (i 2)).symm

end Cert.Proof

end
-- ==== Proof.Merge.Kernel.lean ====
/- The merge kernel's result: each row of it is the merge of the rows of its operands. -/
module

public import proofs.«01_k».proof.Proof.Gelu
public import proofs.«01_k».proof.Proof.Gen.Kernel3Ideal.Value

@[expose] public section

set_option maxRecDepth 16384

noncomputable section

namespace Cert.Merge

open Idealize.ShloMosaic

/-- A column of the first half. -/
def lo (d : Fin 1024) : Fin 2048 := ⟨d.val, by omega⟩

/-- A column of the second half. -/
def hi (d : Fin 1024) : Fin 2048 := ⟨1024 + d.val, by omega⟩

/-- A row of the merge: the input's row and the two branches' rows, each projected and gated, projected again. -/
def row (ya : Fin 2048 → EReal) (yb : Fin 1024 → EReal) (g : Fin 2048 → EReal) (x : Fin 1024 → EReal) (pa pb wo : Fin 1024 → Fin 1024 → EReal) (e : Fin 1024) : EReal :=
  x e + ∑ d, (Ideal.logistic (g (lo d)) * (∑ c, ya (lo c) * Gelu.gelu (ya (hi c)) * pa c d) + Ideal.logistic (g (hi d)) * ∑ c, yb c * pb c d) * wo d e

end Cert.Merge

namespace Cert.Kernel3Ideal.Merge

open Idealize.ShloMosaic Idealize.ShloMosaic.TcCoe Idealize.SL.Sem Cert.Kernel3Ideal Cert.Kernel3Ideal.Gen Cert.Merge

theorem named1 : Named.named (F := Ideal) κ "k1" (φ := .f32) 0xC0135761#32 = (Gelu.k1 : EReal) := by
  simp only [Named.named, κ]; rfl

theorem named2 : Named.named (F := Ideal) κ "k2" (φ := .f32) 0xBDD2D3E8#32 = (Gelu.k2 : EReal) := by
  simp only [Named.named, κ]; rfl

theorem body_apply (x : FVec Ideal S512x1024 .f32) (y0 y1 yb g0 g1 : FVec Ideal S512x1024 .bf16) (pa pb wo : FVec Ideal S1024x1024 .bf16) (p : Fin 512) (e : Fin 1024) :
    k0_pay1 (F := Ideal) x (k0_pay2 y0 y1 pa yb pb g0 g1) wo (ix2 p e)
      = (x (ix2 p e) : EReal) + ∑ d, (Ideal.logistic (g0 (ix2 p d)) * (∑ c, (y0 (ix2 p c) : EReal) * Gelu.gelu (y1 (ix2 p c)) * pa (ix2 c d))
          + Ideal.logistic (g1 (ix2 p d)) * ∑ c, (yb (ix2 p c) : EReal) * pb (ix2 c d)) * wo (ix2 d e) := by
  pointwise [k0_pay1, k0_pay2]
  rw [named1, named2]
  rfl

end Cert.Kernel3Ideal.Merge
-- ==== Proof.Merge.Blocks.lean ====
/- The merge kernel's blocks as rows of its arrays, and its result array. -/
module

public import proofs.«01_k».proof.Proof.Merge.Kernel

@[expose] public section

set_option maxRecDepth 16384

noncomputable section

namespace Cert.Kernel3Ideal.Merge

open Idealize.ShloMosaic Idealize.ShloMosaic.TcCoe Idealize.SL.Sem Cert.Kernel3Ideal Cert.Kernel3Ideal.Gen Cert.Merge

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![t.val, 0] := (by decide +kernel : ∀ t : Fin grid0.N, _)
theorem flush7 : ∀ t : Fin cfg0.N, (cfg0.win 7).flush t = true := (by decide +kernel : ∀ t : Fin grid0.N, win0_7.flush t = true)

section Reads

variable {F : FTy → Type} [FloatOps F] [Named F] (m : (ℓ : Loc nD τ sig) → Buf (Elt F) ℓ)
variable (c : Dev nD) (t : Fin cfg0.N) (p : Fin 512) (r : Fin 32768) (hr : r.val = 512 * t.val + p.val)

include hr

/-- A row of the recurrent branch's values and gates. -/
theorem ya_read (d : Fin 2048) : (iblk m c 0 t : S512x2048.Idx → Elt F .bf16) (ix2 p d) = V m c main_arg0 (ix2 r d) := by
  refine congrArg (V m c main_arg0) (funext fun x => Fin.ext ?_)
  show ((win0_0.rect t).emb (ix2 p d) x : Nat) = _
  rw [Pipeline.Window.rect_emb_val win0_0, index0]
  match x with
  | ⟨0, _⟩ => show t.val * 512 + p.val = r.val; omega
  | ⟨1, _⟩ => show 0 * 2048 + d.val = d.val; omega

/-- A row of the attention branch. -/
theorem yb_read (d : Fin 1024) : (iblk m c 1 t : S512x1024.Idx → Elt F .bf16) (ix2 p d) = V m c main_arg1 (ix2 r d) := by
  refine congrArg (V m c main_arg1) (funext fun x => Fin.ext ?_)
  show ((win0_1.rect t).emb (ix2 p d) x : Nat) = _
  rw [Pipeline.Window.rect_emb_val win0_1, index1]
  match x with
  | ⟨0, _⟩ => show t.val * 512 + p.val = r.val; omega
  | ⟨1, _⟩ => show 0 * 1024 + d.val = d.val; omega

/-- A row of the two gates. -/
theorem gate_read (d : Fin 2048) : (iblk m c 2 t : S512x2048.Idx → Elt F .bf16) (ix2 p d) = V m c main_arg2 (ix2 r d) := by
  refine congrArg (V m c main_arg2) (funext fun x => Fin.ext ?_)
  show ((win0_2.rect t).emb (ix2 p d) x : Nat) = _
  rw [Pipeline.Window.rect_emb_val win0_2, index2]
  match x with
  | ⟨0, _⟩ => show t.val * 512 + p.val = r.val; omega
  | ⟨1, _⟩ => show 0 * 2048 + d.val = d.val; omega

/-- A row of the layer's input. -/
theorem x_read (d : Fin 1024) : (iblk m c 3 t : S512x1024.Idx → Elt F .f32) (ix2 p d) = V m c main_arg3 (ix2 r d) := by
  refine congrArg (V m c main_arg3) (funext fun x => Fin.ext ?_)
  show ((win0_3.rect t).emb (ix2 p d) x : Nat) = _
  rw [Pipeline.Window.rect_emb_val win0_3, index3]
  match x with
  | ⟨0, _⟩ => show t.val * 512 + p.val = r.val; omega
  | ⟨1, _⟩ => show 0 * 1024 + d.val = d.val; omega

omit hr

/-- The recurrent branch's projection, whole. -/
theorem pa_read (a b : Fin 1024) : (iblk m c 4 t : S1024x1024.Idx → Elt F .bf16) (ix2 a b) = V m c main_v1 (ix2 a b) := by
  refine congrArg (V m c main_v1) (funext fun x => Fin.ext ?_)
  show ((win0_4.rect t).emb (ix2 a b) x : Nat) = _
  rw [Pipeline.Window.rect_emb_val win0_4, index4]
  match x with
  | ⟨0, _⟩ => show 0 * 1024 + a.val = a.val; omega
  | ⟨1, _⟩ => show 0 * 1024 + b.val = b.val; omega

/-- The attention branch's projection, whole. -/
theorem pb_read (a b : Fin 1024) : (iblk m c 5 t : S1024x1024.Idx → Elt F .bf16) (ix2 a b) = V m c main_v3 (ix2 a b) := by
  refine congrArg (V m c main_v3) (funext fun x => Fin.ext ?_)
  show ((win0_5.rect t).emb (ix2 a b) x : Nat) = _
  rw [Pipeline.Window.rect_emb_val win0_5, index5]
  match x with
  | ⟨0, _⟩ => show 0 * 1024 + a.val = a.val; omega
  | ⟨1, _⟩ => show 0 * 1024 + b.val = b.val; omega

/-- The output projection, whole. -/
theorem wo_read (a b : Fin 1024) : (iblk m c 6 t : S1024x1024.Idx → Elt F .bf16) (ix2 a b) = V m c main_v5 (ix2 a b) := by
  refine congrArg (V m c main_v5) (funext fun x => Fin.ext ?_)
  show ((win0_6.rect t).emb (ix2 a b) x : Nat) = _
  rw [Pipeline.Window.rect_emb_val win0_6, index6]
  match x with
  | ⟨0, _⟩ => show 0 * 1024 + a.val = a.val; omega
  | ⟨1, _⟩ => show 0 * 1024 + b.val = b.val; omega

/-- An index of the result array is in a point's block when each coordinate is in the block's range. -/
theorem mem_part (i : S32768x1024.Idx) :
    i ∈ ((cfg0.win 7).blk t).view.set ↔ ∀ x : Fin 2, win0_7.index t x * S512x1024.size x ≤ (i x).val ∧ (i x).val < win0_7.index t x * S512x1024.size x + S512x1024.size x := by
  show i ∈ ((View.whole main_v6).slice (win0_7.rect t)).set ↔ _
  rw [View.set_slice_whole, Rect.mem_set_unit]
  exact Iff.rfl

/-- The result array is any array whose rows are the points' rows. -/
theorem result_of (G : S32768x1024.Idx → Elt F .f32)
    (hG : ∀ (t : Fin cfg0.N) (p : Fin 512) (e : Fin 1024) (r : Fin 32768), r.val = 512 * t.val + p.val →
      out0_7 (iblk m c 0 t) (iblk m c 1 t) (iblk m c 2 t) (iblk m c 3 t) (iblk m c 4 t) (iblk m c 5 t) (iblk m c 6 t) (ix2 p e) = G (ix2 r e)) :
    (dats m 0 c).arrAt 7 cfg0.N = G := by
  refine (dats m 0 c).arrAt_eq_of_cover 7 _ (fun t _ => ?_) (fun i => ?_)
  · rw [Value.flushed7]
    funext y
    have hN : t.val < 64 := lt_of_lt_of_eq t.isLt N_0
    have h0 : (y 0).val < 512 := (y 0).isLt
    have h1 : (y 1).val < 1024 := (y 1).isLt
    show out0_7 (iblk m c 0 t) (iblk m c 1 t) (iblk m c 2 t) (iblk m c 3 t) (iblk m c 4 t) (iblk m c 5 t) (iblk m c 6 t) y = _
    rw [eq_ix2 y]
    refine (hG t (y 0) (y 1) ⟨512 * t.val + (y 0).val, by omega⟩ rfl).trans ?_
    refine congrArg G (funext fun x => Fin.ext ?_)
    show _ = ((win0_7.rect t).emb (ix2 (y 0) (y 1)) x : Nat)
    rw [Pipeline.Window.rect_emb_val win0_7, index7]
    match x with
    | ⟨0, _⟩ => show 512 * t.val + (y 0).val = t.val * 512 + (y 0).val; omega
    | ⟨1, _⟩ => show (y 1).val = 0 * 1024 + (y 1).val; omega
  · have h0 : (i 0).val < 32768 := (i 0).isLt
    have h1 : (i 1).val < 1024 := (i 1).isLt
    have hlt : (i 0).val / 512 < cfg0.N := lt_of_lt_of_eq (by omega : _ < 64) N_0.symm
    refine ⟨⟨(i 0).val / 512, hlt⟩, flush7 _, ?_⟩
    rw [mem_part]
    intro x
    rw [index7]
    match x with
    | ⟨0, _⟩ => show (i 0).val / 512 * 512 ≤ (i 0).val ∧ (i 0).val < (i 0).val / 512 * 512 + 512; omega
    | ⟨1, _⟩ => show 0 * 1024 ≤ (i 1).val ∧ (i 1).val < 0 * 1024 + 1024; omega

end Reads

section Arrays

variable (m : (ℓ : Loc nD τ sig) → Buf (Elt Ideal) ℓ) (c : Dev nD)

/-- The recurrent branch's projection as the region finds it. -/
theorem V_pa (w : S1x1024x1024.Idx → EReal) (h : m ((c.tc : Thread nD τ).loc main_arg4) = w) (a b : Fin 1024) :
    (V m c main_v1 : S1024x1024.Idx → EReal) (ix2 a b) = w (ix3 0 a b) := by
  have e : (V m c main_v1 : S1024x1024.Idx → EReal) = truncf (F := Ideal) .bf16 (shapeCast S1024x1024 (w : FVec Ideal S1x1024x1024 .f32) shapeCasts_S1x1024x1024_S1024x1024) bitsLt_bf16_f32 := by
    rw [← h]
    show StableHlo.after _ _ _ = _
    after_results_simp <;> rfl
  rw [e]
  pointwise []

/-- The attention branch's projection as the region finds it. -/
theorem V_pb (w : S1x1024x1024.Idx → EReal) (h : m ((c.tc : Thread nD τ).loc main_arg5) = w) (a b : Fin 1024) :
    (V m c main_v3 : S1024x1024.Idx → EReal) (ix2 a b) = w (ix3 0 a b) := by
  have e : (V m c main_v3 : S1024x1024.Idx → EReal) = truncf (F := Ideal) .bf16 (shapeCast S1024x1024 (w : FVec Ideal S1x1024x1024 .f32) shapeCasts_S1x1024x1024_S1024x1024) bitsLt_bf16_f32 := by
    rw [← h]
    show StableHlo.after _ _ _ = _
    after_results_simp <;> rfl
  rw [e]
  pointwise []

/-- The output projection as the region finds it. -/
theorem V_wo (w : S1x1024x1024.Idx → EReal) (h : m ((c.tc : Thread nD τ).loc main_arg6) = w) (a b : Fin 1024) :
    (V m c main_v5 : S1024x1024.Idx → EReal) (ix2 a b) = w (ix3 0 a b) := by
  have e : (V m c main_v5 : S1024x1024.Idx → EReal) = truncf (F := Ideal) .bf16 (shapeCast S1024x1024 (w : FVec Ideal S1x1024x1024 .f32) shapeCasts_S1x1024x1024_S1024x1024) bitsLt_bf16_f32 := by
    rw [← h]
    show StableHlo.after _ _ _ = _
    after_results_simp <;> rfl
  rw [e]
  pointwise []

/-- A block's row is the merge of the operands' rows. -/
theorem block_row (x0 x2 : S512x2048.Idx → EReal) (x1 x3 : S512x1024.Idx → EReal) (x4 x5 x6 : S1024x1024.Idx → EReal) (p : Fin 512) (e : Fin 1024) :
    out0_7 (F := Ideal) x0 x1 x2 x3 x4 x5 x6 (ix2 p e)
      = row (fun d => x0 (ix2 p d)) (fun d => x1 (ix2 p d)) (fun d => x2 (ix2 p d)) (fun d => x3 (ix2 p d)) (fun a b => x4 (ix2 a b)) (fun a b => x5 (ix2 a b))
          (fun a b => x6 (ix2 a b)) e := by
  have z : (![0, 0] : Fin 2 → ℕ) = fun _ => 0 := by funext a; fin_cases a <;> rfl
  have hlo : ∀ (x : S512x2048.Idx → EReal) (d : Fin 1024), View.ld (Val := Elt Ideal) (e' := .bf16) x r0_0 (ix2 p d) = x (ix2 p (lo d)) := fun x d =>
    congrArg x (funext fun a => Fin.ext (match a with
      | ⟨0, _⟩ => show 0 + 1 * p.val = p.val by omega
      | ⟨1, _⟩ => show 0 + 1 * d.val = d.val by omega))
  have hhi : ∀ (x : S512x2048.Idx → EReal) (d : Fin 1024), View.ld (Val := Elt Ideal) (e' := .bf16) x r0_1 (ix2 p d) = x (ix2 p (hi d)) := fun x d =>
    congrArg x (funext fun a => Fin.ext (match a with
      | ⟨0, _⟩ => show 0 + 1 * p.val = p.val by omega
      | ⟨1, _⟩ => show 1024 + 1 * d.val = 1024 + d.val by omega))
  unfold out0_7
  rw [View.canon_unit_zero z]
  refine (body_apply _ _ _ _ _ _ _ _ _ p e).trans ?_
  have f1 : View.ld (Val := Elt Ideal) (e' := .bf16) x1 r0_3 = x1 := View.ld_unit_zero z _ _
  have f3 : View.ld (Val := Elt Ideal) (e' := .f32) x3 r0_3 = x3 := View.ld_unit_zero z _ _
  have f4 : View.ld (Val := Elt Ideal) (e' := .bf16) x4 r0_2 = x4 := View.ld_unit_zero z _ _
  have f5 : View.ld (Val := Elt Ideal) (e' := .bf16) x5 r0_2 = x5 := View.ld_unit_zero z _ _
  have f6 : View.ld (Val := Elt Ideal) (e' := .bf16) x6 r0_2 = x6 := View.ld_unit_zero z _ _
  rw [f1, f3, f4, f5, f6]
  unfold row
  simp only [← hlo, ← hhi]

/-- The result array is the merge, row by row. -/
theorem result_eq (ya g : S32768x2048.Idx → EReal) (yb x : S32768x1024.Idx → EReal) (pa pb wo : S1x1024x1024.Idx → EReal)
    (h0 : m ((c.tc : Thread nD τ).loc main_arg0) = ya) (h2 : m ((c.tc : Thread nD τ).loc main_arg2) = g)
    (h1 : m ((c.tc : Thread nD τ).loc main_arg1) = yb) (h3 : m ((c.tc : Thread nD τ).loc main_arg3) = x)
    (h4 : m ((c.tc : Thread nD τ).loc main_arg4) = pa) (h5 : m ((c.tc : Thread nD τ).loc main_arg5) = pb)
    (h6 : m ((c.tc : Thread nD τ).loc main_arg6) = wo) :
    (dats m 0 c).arrAt 7 cfg0.N = fun i : S32768x1024.Idx =>
      row (fun d => ya (ix2 (i 0) d)) (fun d => yb (ix2 (i 0) d)) (fun d => g (ix2 (i 0) d)) (fun d => x (ix2 (i 0) d)) (fun a b => pa (ix3 0 a b))
        (fun a b => pb (ix3 0 a b)) (fun a b => wo (ix3 0 a b)) (i 1) := by
  refine result_of m c _ fun t p e r hr => ?_
  refine (block_row _ _ _ _ _ _ _ p e).trans ?_
  have e0 : (fun d => (iblk m c 0 t : S512x2048.Idx → EReal) (ix2 p d)) = fun d => ya (ix2 r d) := funext fun d => by
    rw [← h0, ← V_main_arg0 m c]; exact ya_read m c t p r hr d
  have e1 : (fun d => (iblk m c 1 t : S512x1024.Idx → EReal) (ix2 p d)) = fun d => yb (ix2 r d) := funext fun d => by
    rw [← h1, ← V_main_arg1 m c]; exact yb_read m c t p r hr d
  have e2 : (fun d => (iblk m c 2 t : S512x2048.Idx → EReal) (ix2 p d)) = fun d => g (ix2 r d) := funext fun d => by
    rw [← h2, ← V_main_arg2 m c]; exact gate_read m c t p r hr d
  have e3 : (fun d => (iblk m c 3 t : S512x1024.Idx → EReal) (ix2 p d)) = fun d => x (ix2 r d) := funext fun d => by
    rw [← h3, ← V_main_arg3 m c]; exact x_read m c t p r hr d
  have e4 : (fun a b => (iblk m c 4 t : S1024x1024.Idx → EReal) (ix2 a b)) = fun a b => pa (ix3 0 a b) := funext fun a => funext fun b =>
    (pa_read m c t a b).trans (V_pa m c pa h4 a b)
  have e5 : (fun a b => (iblk m c 5 t : S1024x1024.Idx → EReal) (ix2 a b)) = fun a b => pb (ix3 0 a b) := funext fun a => funext fun b =>
    (pb_read m c t a b).trans (V_pb m c pb h5 a b)
  have e6 : (fun a b => (iblk m c 6 t : S1024x1024.Idx → EReal) (ix2 a b)) = fun a b => wo (ix3 0 a b) := funext fun a => funext fun b =>
    (wo_read m c t a b).trans (V_wo m c wo h6 a b)
  rw [e0, e1, e2, e3, e4, e5, e6]
  rfl

end Arrays

end Cert.Kernel3Ideal.Merge
-- ==== Proof.Merge.Value.lean ====
/- The merge kernel and the plain merge end with the same result. -/
module

public import proofs.«01_k».proof.Defs
public import proofs.«01_k».proof.Proof.Merge.Blocks
public import proofs.«01_k».proof.Proof.Gen.Reference3Ideal.Run

@[expose] public section

set_option maxRecDepth 16384

noncomputable section

namespace Cert.Reference3Ideal.Merge

open Idealize.ShloMosaic Idealize.ShloMosaic.TcCoe Idealize.SL.Sem Cert.Reference3Ideal Cert.Reference3Ideal.Gen Cert.Merge

variable {F : FTy → Type} [FloatOps F]

/-- The plain gelu. -/
def geluV (x : FVec F S32768x1024 .f32) : FVec F S32768x1024 .f32 :=
  mulf x (mulf (broadcastInDim S32768x1024 ![] bcast_S_S32768x1024 (constant S_ .f32 0x3F000000#32))
    (addf (broadcastInDim S32768x1024 ![] bcast_S_S32768x1024 (constant S_ .f32 0x3F800000#32))
      (Host.tanh (mulf
        (broadcastInDim S32768x1024 ![] bcast_S_S32768x1024
          (Host.sqrt (Host.divf (constant S_ .f32 0x40000000#32) (mulf (constant S_ .f32 0x40800000#32) (Host.atan (constant S_ .f32 0x3F800000#32))))))
        (addf x (mulf (broadcastInDim S32768x1024 ![] bcast_S_S32768x1024 (Host.divf (constant S_ .f32 0x472EAB00#32) (constant S_ .f32 0x49742400#32)))
          (mulf (mulf x x) x)))))))

/-- The two gates. -/
def gateV (g : FVec F S32768x2048 .bf16) : FVec F S32768x2048 .f32 :=
  Host.divf (broadcastInDim S32768x2048 ![] bcast_S_S32768x2048 (constant S_ .f32 0x3F800000#32))
    (addf (broadcastInDim S32768x2048 ![] bcast_S_S32768x2048 (constant S_ .f32 0x3F800000#32)) (Host.exp (Host.negf (extf .f32 g bitsLt_bf16_f32))))

/-- A product with a weight array. -/
def dotV (x : FVec F S32768x1024 .f32) (w : FVec F S1x1024x1024 .f32) : FVec F S32768x1024 .f32 :=
  Host.dotGeneral dot_S32768x1024_S1024x1024_S32768x1024_1_0_0_1_n_n none x (shapeCast S1024x1024 w shapeCasts_S1x1024x1024_S1024x1024)

/-- The recurrent branch times the gelu of its gates. -/
def branchV (ya : FVec F S32768x2048 .bf16) : FVec F S32768x1024 .f32 :=
  mulf (extf .f32 (extractStridedSlice S32768x1024 ![0, 0] ya slices_S32768x2048_S32768x1024_0_0) bitsLt_bf16_f32)
    (geluV (extf .f32 (extractStridedSlice S32768x1024 ![0, 1024] ya slices_S32768x2048_S32768x1024_0_1024) bitsLt_bf16_f32))

/-- The plain merge. -/
def mergeV (ya : FVec F S32768x2048 .bf16) (yb : FVec F S32768x1024 .bf16) (g : FVec F S32768x2048 .bf16) (x : FVec F S32768x1024 .f32)
    (pa pb wo : FVec F S1x1024x1024 .f32) : FVec F S32768x1024 .f32 :=
  addf x (dotV
    (addf (mulf (extractStridedSlice S32768x1024 ![0, 0] (gateV g) slices_S32768x2048_S32768x1024_0_0) (dotV (branchV ya) pa))
      (mulf (extractStridedSlice S32768x1024 ![0, 1024] (gateV g) slices_S32768x2048_S32768x1024_0_1024) (dotV (extf .f32 yb bitsLt_bf16_f32) pb))) wo)

theorem geluV_apply (x : FVec Ideal S32768x1024 .f32) (r : Fin 32768) (e : Fin 1024) : (geluV x (ix2 r e) : EReal) = Gelu.gelu (x (ix2 r e)) := by
  rw [Gelu.gelu_eq]
  pointwise [geluV]
  rw [Gelu.half, Gelu.c_word, Gelu.d_word]
  rfl

theorem gateV_apply (g : FVec Ideal S32768x2048 .bf16) (r : Fin 32768) (e : Fin 2048) : (gateV g (ix2 r e) : EReal) = Ideal.logistic (g (ix2 r e)) := by
  pointwise [gateV]
  rfl

theorem dotV_apply (x : FVec Ideal S32768x1024 .f32) (w : FVec Ideal S1x1024x1024 .f32) (r : Fin 32768) (e : Fin 1024) :
    (dotV x w (ix2 r e) : EReal) = ∑ d, (x (ix2 r d) : EReal) * w (ix3 0 d e) := by
  pointwise [dotV]

theorem branchV_apply (ya : FVec Ideal S32768x2048 .bf16) (r : Fin 32768) (d : Fin 1024) :
    (branchV ya (ix2 r d) : EReal) = (ya (ix2 r (lo d)) : EReal) * Gelu.gelu (ya (ix2 r (hi d))) := by
  pointwise [branchV]
  rw [geluV_apply]
  pointwise []
  rfl

/-- The plain merge, row by row. -/
theorem mergeV_apply (ya g : FVec Ideal S32768x2048 .bf16) (yb : FVec Ideal S32768x1024 .bf16) (x : FVec Ideal S32768x1024 .f32)
    (pa pb wo : FVec Ideal S1x1024x1024 .f32) (r : Fin 32768) (e : Fin 1024) :
    (mergeV ya yb g x pa pb wo (ix2 r e) : EReal)
      = row (fun d => ya (ix2 r d)) (fun d => yb (ix2 r d)) (fun d => g (ix2 r d)) (fun d => x (ix2 r d)) (fun a b => pa (ix3 0 a b))
          (fun a b => pb (ix3 0 a b)) (fun a b => wo (ix3 0 a b)) e := by
  pointwise [mergeV]
  unfold row
  simp only [dotV_apply, branchV_apply]
  pointwise []
  simp only [gateV_apply, dotV_apply, branchV_apply]
  rfl

end Cert.Reference3Ideal.Merge

namespace Cert.Proof

open Idealize.ShloMosaic Idealize.ShloMosaic.TcCoe Idealize.SL.Sem Cert.Merge

/-- The merge kernel and the plain merge end with the same result, whatever the arrays hold. -/
theorem merge_value : Cert.algebraic_Kernel3Ideal_Reference3Ideal (hKernel3Ideal := Cert.Kernel3Ideal.Gen.facts)
    (hReference3Ideal := Cert.Reference3Ideal.Gen.facts) := by
  intro m g m' g' _ harg
  refine ⟨fun c => Cert.Reference3Ideal.Merge.mergeV (F := Ideal) (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2))
      (m' ((c.tc : Thread Cert.Reference3Ideal.nD Cert.Reference3Ideal.τ).loc Cert.Reference3Ideal.main_arg3))
      (m' ((c.tc : Thread Cert.Reference3Ideal.nD Cert.Reference3Ideal.τ).loc Cert.Reference3Ideal.main_arg4))
      (m' ((c.tc : Thread Cert.Reference3Ideal.nD Cert.Reference3Ideal.τ).loc Cert.Reference3Ideal.main_arg5))
      (m' ((c.tc : Thread Cert.Reference3Ideal.nD Cert.Reference3Ideal.τ).loc Cert.Reference3Ideal.main_arg6)),
    (θ_run _ _ _).mono (fun r h c => ⟨(h c).1.trans ?_, (h c).2⟩) (Cert.Kernel3Ideal.Value.run_blocks m g),
    Cert.Reference3Ideal.Value.run m' g'⟩
  obtain ⟨h0, h1, h2, h3, h4, h5, h6⟩ := harg c
  refine (Cert.Kernel3Ideal.Merge.result_eq m c _ _ _ _ _ _ _ h0.symm h2.symm h1.symm h3.symm h4.symm h5.symm h6.symm).trans (funext fun i => ?_)
  rw [eq_ix2 i]
  exact (Cert.Reference3Ideal.Merge.mergeV_apply _ _ _ _ _ _ _ (i 0) (i 1)).symm

end Cert.Proof

end
-- ==== Proof.InProj.Spec.lean ====
/- What the input projections hand to the attention and the merge, row by row. -/
module

public import Idealize.ShloMosaic.Lib.Pointwise
public import Idealize.ShloMosaic.Lib.IdealHost

@[expose] public section

noncomputable section

namespace Cert.InProj

open Idealize.ShloMosaic

/-- A row over the root of its mean square, times the weights. -/
def norm (x g : Fin 1024 → EReal) (d : Fin 1024) : EReal :=
  x d * Ideal.rsqrt (Ideal.div (∑ k, x k * x k) (Ideal.ofBits .f32 0x44800000#32) + Ideal.ofBits .f32 0x358637BD#32) * g d

/-- A normalised row times the projection. -/
def proj (x g : Fin 1024 → EReal) (w : Fin 1024 → Fin 7168 → EReal) (f : Fin 7168) : EReal :=
  ∑ d, norm x g d * w d f

/-- A head's row over the root of its mean square, times the weights. -/
def head (y g : Fin 128 → EReal) (d : Fin 128) : EReal :=
  y d * Ideal.rsqrt (Ideal.div (∑ k, y k * y k) (Ideal.ofBits .f32 0x43000000#32) + Ideal.ofBits .f32 0x358637BD#32) * g d

/-- A column of the gate input of the recurrent branch: the columns of its result from 1024 on are those of the projection. -/
def inputCol (e : Fin 2048) : Fin 7168 := ⟨e.val, by omega⟩

/-- A column of a head of the queries. -/
def queryCol (h : Fin 8) (d : Fin 128) : Fin 7168 := ⟨2048 + (h.val * 128 + d.val), by omega⟩

/-- A column of a head of the keys. -/
def keyCol (h : Fin 8) (d : Fin 128) : Fin 7168 := ⟨3072 + (h.val * 128 + d.val), by omega⟩

/-- A column of a head of the values. -/
def valueCol (h : Fin 8) (d : Fin 128) : Fin 7168 := ⟨4096 + (h.val * 128 + d.val), by omega⟩

/-- A column of the gates. -/
def gateCol (e : Fin 2048) : Fin 7168 := ⟨5120 + e.val, by omega⟩

/-- What the queries are scaled by: one over the root of a head's width and the logarithm of two. -/
def scale : ℝ := (Real.sqrt 128)⁻¹ * (Real.log 2)⁻¹

/-- A head's query, scaled. -/
def query (u : Fin 7168 → EReal) (g : Fin 128 → EReal) (h : Fin 8) (d : Fin 128) : EReal :=
  head (fun e => u (queryCol h e)) g d * (scale : EReal)

/-- A head's key at position `s`, beside the one-hot code of the position's block. -/
def key (u : Fin 7168 → EReal) (g : Fin 128 → EReal) (h : Fin 8) (s : ℕ) (d : Fin 256) : EReal :=
  if hd : d.val < 128 then head (fun e => u (keyCol h e)) g ⟨d.val, hd⟩ else if d.val - 128 = s / 256 then 1 else 0

/-- A head's value over ones. -/
def value (u : Fin 7168 → EReal) (h : Fin 8) (r : Fin 144) : EReal :=
  if hr : r.val < 128 then u (valueCol h ⟨r.val, hr⟩) else 1

end Cert.InProj
-- ==== Proof.InProj.Kernel.lean ====
/- The pieces the input-projection kernel stores, read at an index. -/
module

public import proofs.«01_k».proof.Proof.InProj.Spec
public import proofs.«01_k».proof.Proof.Gen.Kernel4Ideal.Skeleton

@[expose] public section

set_option maxRecDepth 16384

noncomputable section

namespace Cert.Kernel4Ideal.InProj

open Idealize.ShloMosaic Idealize.ShloMosaic.TcCoe Idealize.SL.Sem Cert.Kernel4Ideal Cert.Kernel4Ideal.Gen Cert.InProj

/-- A column of the `i`-th head of a run of four. -/
def col (i : Fin 4) (d : Fin 128) : Fin 512 := ⟨i.val * 128 + d.val, by omega⟩

theorem col_zero (d : Fin 128) (h : d.val < 512) : (⟨d.val, h⟩ : Fin 512) = col 0 d := Fin.ext (show d.val = 0 * 128 + d.val by omega)

/-- The normed block, times the projection. -/
theorem proj_apply (x : Vec Ideal S256x1024 .f32) (g : Vec Ideal S1x1024 .f32) (w : Vec Ideal S1024x7168 .bf16) (p : Fin 256) (f : Fin 7168) :
    k0_pay7 (F := Ideal) (k0_pay5 x g) (k0_pay6 w) (ix2 p f)
      = proj (fun k => x (ix2 p k)) (fun k => g (ix2 0 k)) (fun d f => w (ix2 d f)) f := by
  pointwise [k0_pay7, k0_pay5, k0_pay6]
  rfl

/-- The code of the tile: one at the tile's number. -/
theorem code_apply (v : BitVec 32) (j : ℕ) (hj : j < 32) (hv : v = BitVec.ofNat 32 j) (p : Fin 256) (d : Fin 128) :
    k0_pay11 (F := Ideal) v (ix2 p d) = ((if d.val = j then 1 else 0 : EReal)) := by
  subst hv
  pointwise [k0_pay11]
  have e : (BitVec.ofNat 32 d.val = BitVec.ofNat 32 j) ↔ d.val = j := by
    constructor
    · intro h
      have := congrArg BitVec.toNat h
      simp only [BitVec.toNat_ofNat] at this
      omega
    · intro h
      rw [h]
  by_cases h : d.val = j
  · simp [IntOp.cmpi, Scalar.select, h]
  · have h' : ¬BitVec.ofNat 32 d.val = BitVec.ofNat 32 j := fun q => h (e.1 q)
    have hb : (BitVec.ofNat 32 d.val == BitVec.ofNat 32 j) = false := by simpa using h'
    simp [IntOp.cmpi, Scalar.select, h, hb]

theorem one_apply (r : Fin 16) (p : Fin 256) : k0_pay12 (F := Ideal) (ix2 r p) = (1 : EReal) := by
  pointwise [k0_pay12]

theorem key0_apply (y : Vec Ideal S256x512 .f32) (g : Vec Ideal S1x128 .f32) (a b : Fin 1) (p : Fin 256) (d : Fin 128) :
    k0_pay265 (F := Ideal) y g (ix4 a b p d) = head (fun e => y (ix2 p (col 0 e))) (fun e => g (ix2 0 e)) d := by
  pointwise [k0_pay265, k0_pay264]
  simp only [col_zero]; rfl

theorem key1_apply (y : Vec Ideal S256x512 .f32) (g : Vec Ideal S1x128 .f32) (a b : Fin 1) (p : Fin 256) (d : Fin 128) :
    k0_pay269 (F := Ideal) y g (ix4 a b p d) = head (fun e => y (ix2 p (col 1 e))) (fun e => g (ix2 0 e)) d := by
  pointwise [k0_pay269, k0_pay268]
  rfl

theorem key2_apply (y : Vec Ideal S256x512 .f32) (g : Vec Ideal S1x128 .f32) (a b : Fin 1) (p : Fin 256) (d : Fin 128) :
    k0_pay274 (F := Ideal) (k0_pay272 y) g (ix4 a b p d) = head (fun e => y (ix2 p (col 2 e))) (fun e => g (ix2 0 e)) d := by
  pointwise [k0_pay274, k0_pay273, k0_pay272]
  rfl

theorem key3_apply (y : Vec Ideal S256x512 .f32) (g : Vec Ideal S1x128 .f32) (a b : Fin 1) (p : Fin 256) (d : Fin 128) :
    k0_pay279 (F := Ideal) (k0_pay277 y) g (ix4 a b p d) = head (fun e => y (ix2 p (col 3 e))) (fun e => g (ix2 0 e)) d := by
  pointwise [k0_pay279, k0_pay278, k0_pay277]
  rfl

theorem key4_apply (y : Vec Ideal S256x512 .f32) (g : Vec Ideal S1x128 .f32) (a b : Fin 1) (p : Fin 256) (d : Fin 128) :
    k0_pay342 (F := Ideal) y g (ix4 a b p d) = head (fun e => y (ix2 p (col 0 e))) (fun e => g (ix2 0 e)) d := by
  pointwise [k0_pay342, k0_pay341]
  simp only [col_zero]; rfl

theorem key5_apply (y : Vec Ideal S256x512 .f32) (g : Vec Ideal S1x128 .f32) (a b : Fin 1) (p : Fin 256) (d : Fin 128) :
    k0_pay346 (F := Ideal) y g (ix4 a b p d) = head (fun e => y (ix2 p (col 1 e))) (fun e => g (ix2 0 e)) d := by
  pointwise [k0_pay346, k0_pay345]
  rfl

theorem key6_apply (y : Vec Ideal S256x512 .f32) (g : Vec Ideal S1x128 .f32) (a b : Fin 1) (p : Fin 256) (d : Fin 128) :
    k0_pay352 (F := Ideal) y g (ix4 a b p d) = head (fun e => y (ix2 p (col 2 e))) (fun e => g (ix2 0 e)) d := by
  pointwise [k0_pay352, k0_pay351]
  rfl

theorem key7_apply (y : Vec Ideal S256x512 .f32) (g : Vec Ideal S1x128 .f32) (a b : Fin 1) (p : Fin 256) (d : Fin 128) :
    k0_pay357 (F := Ideal) y g (ix4 a b p d) = head (fun e => y (ix2 p (col 3 e))) (fun e => g (ix2 0 e)) d := by
  pointwise [k0_pay357, k0_pay356]
  rfl

theorem code0_apply (c : FVec Ideal S256x128 .bf16) (a b : Fin 1) (p : Fin 256) (d : Fin 128) :
    k0_pay266 (F := Ideal) c (ix4 a b p d) = c (ix2 p d) := by
  pointwise [k0_pay266]

theorem code1_apply (c : FVec Ideal S256x128 .bf16) (a b : Fin 1) (p : Fin 256) (d : Fin 128) :
    k0_pay270 (F := Ideal) c (ix4 a b p d) = c (ix2 p d) := by
  pointwise [k0_pay270]

theorem code2_apply (c : FVec Ideal S256x128 .bf16) (a b : Fin 1) (p : Fin 256) (d : Fin 128) :
    k0_pay275 (F := Ideal) c (ix4 a b p d) = c (ix2 p d) := by
  pointwise [k0_pay275]

theorem code3_apply (c : FVec Ideal S256x128 .bf16) (a b : Fin 1) (p : Fin 256) (d : Fin 128) :
    k0_pay280 (F := Ideal) c (ix4 a b p d) = c (ix2 p d) := by
  pointwise [k0_pay280]

theorem code4_apply (c : FVec Ideal S256x128 .bf16) (a b : Fin 1) (p : Fin 256) (d : Fin 128) :
    k0_pay343 (F := Ideal) c (ix4 a b p d) = c (ix2 p d) := by
  pointwise [k0_pay343]

theorem code5_apply (c : FVec Ideal S256x128 .bf16) (a b : Fin 1) (p : Fin 256) (d : Fin 128) :
    k0_pay347 (F := Ideal) c (ix4 a b p d) = c (ix2 p d) := by
  pointwise [k0_pay347]

theorem code6_apply (c : FVec Ideal S256x128 .bf16) (a b : Fin 1) (p : Fin 256) (d : Fin 128) :
    k0_pay353 (F := Ideal) c (ix4 a b p d) = c (ix2 p d) := by
  pointwise [k0_pay353]

theorem code7_apply (c : FVec Ideal S256x128 .bf16) (a b : Fin 1) (p : Fin 256) (d : Fin 128) :
    k0_pay358 (F := Ideal) c (ix4 a b p d) = c (ix2 p d) := by
  pointwise [k0_pay358]

theorem value0_apply (y : Vec Ideal S256x512 .f32) (a b : Fin 1) (d : Fin 128) (p : Fin 256) :
    k0_pay417 (F := Ideal) y (ix4 a b d p) = y (ix2 p (col 0 d)) := by
  pointwise [k0_pay417]
  rw [col_zero]

theorem value1_apply (y : Vec Ideal S256x512 .f32) (a b : Fin 1) (d : Fin 128) (p : Fin 256) :
    k0_pay419 (F := Ideal) y (ix4 a b d p) = y (ix2 p (col 1 d)) := by
  pointwise [k0_pay419]
  rfl

theorem value2_apply (y : Vec Ideal S256x512 .f32) (a b : Fin 1) (d : Fin 128) (p : Fin 256) :
    k0_pay421 (F := Ideal) y (ix4 a b d p) = y (ix2 p (col 2 d)) := by
  pointwise [k0_pay421]
  rfl

theorem value3_apply (y : Vec Ideal S256x512 .f32) (a b : Fin 1) (d : Fin 128) (p : Fin 256) :
    k0_pay423 (F := Ideal) y (ix4 a b d p) = y (ix2 p (col 3 d)) := by
  pointwise [k0_pay423]
  rfl

theorem value4_apply (y : Vec Ideal S256x512 .f32) (a b : Fin 1) (d : Fin 128) (p : Fin 256) :
    k0_pay482 (F := Ideal) y (ix4 a b d p) = y (ix2 p (col 0 d)) := by
  pointwise [k0_pay482]
  rw [col_zero]

theorem value5_apply (y : Vec Ideal S256x512 .f32) (a b : Fin 1) (d : Fin 128) (p : Fin 256) :
    k0_pay484 (F := Ideal) y (ix4 a b d p) = y (ix2 p (col 1 d)) := by
  pointwise [k0_pay484]
  rfl

theorem value6_apply (y : Vec Ideal S256x512 .f32) (a b : Fin 1) (d : Fin 128) (p : Fin 256) :
    k0_pay486 (F := Ideal) y (ix4 a b d p) = y (ix2 p (col 2 d)) := by
  pointwise [k0_pay486]
  rfl

theorem value7_apply (y : Vec Ideal S256x512 .f32) (a b : Fin 1) (d : Fin 128) (p : Fin 256) :
    k0_pay488 (F := Ideal) y (ix4 a b d p) = y (ix2 p (col 3 d)) := by
  pointwise [k0_pay488]
  rfl

theorem ones0_apply (c : FVec Ideal S16x256 .bf16) (a b : Fin 1) (r : Fin 16) (p : Fin 256) :
    k0_pay418 (F := Ideal) c (ix4 a b r p) = c (ix2 r p) := by
  pointwise [k0_pay418]

theorem ones1_apply (c : FVec Ideal S16x256 .bf16) (a b : Fin 1) (r : Fin 16) (p : Fin 256) :
    k0_pay420 (F := Ideal) c (ix4 a b r p) = c (ix2 r p) := by
  pointwise [k0_pay420]

theorem ones2_apply (c : FVec Ideal S16x256 .bf16) (a b : Fin 1) (r : Fin 16) (p : Fin 256) :
    k0_pay422 (F := Ideal) c (ix4 a b r p) = c (ix2 r p) := by
  pointwise [k0_pay422]

theorem ones3_apply (c : FVec Ideal S16x256 .bf16) (a b : Fin 1) (r : Fin 16) (p : Fin 256) :
    k0_pay424 (F := Ideal) c (ix4 a b r p) = c (ix2 r p) := by
  pointwise [k0_pay424]

theorem ones4_apply (c : FVec Ideal S16x256 .bf16) (a b : Fin 1) (r : Fin 16) (p : Fin 256) :
    k0_pay483 (F := Ideal) c (ix4 a b r p) = c (ix2 r p) := by
  pointwise [k0_pay483]

theorem ones5_apply (c : FVec Ideal S16x256 .bf16) (a b : Fin 1) (r : Fin 16) (p : Fin 256) :
    k0_pay485 (F := Ideal) c (ix4 a b r p) = c (ix2 r p) := by
  pointwise [k0_pay485]

theorem ones6_apply (c : FVec Ideal S16x256 .bf16) (a b : Fin 1) (r : Fin 16) (p : Fin 256) :
    k0_pay487 (F := Ideal) c (ix4 a b r p) = c (ix2 r p) := by
  pointwise [k0_pay487]

theorem ones7_apply (c : FVec Ideal S16x256 .bf16) (a b : Fin 1) (r : Fin 16) (p : Fin 256) :
    k0_pay489 (F := Ideal) c (ix4 a b r p) = c (ix2 r p) := by
  pointwise [k0_pay489]

end Cert.Kernel4Ideal.InProj
-- ==== Proof.InProj.Pieces.lean ====
/- The result blocks of the input-projection kernel, as the pieces it stores, read at an index. -/
module

public import proofs.«01_k».proof.Proof.InProj.Kernel
public import Idealize.ShloMosaic.Lib.Pipeline.ValueKit.Tiles
public import Idealize.ShloMosaic.Lib.Ring

@[expose] public section

set_option maxRecDepth 16384

noncomputable section

namespace Cert.Kernel4Ideal.InProj

open Idealize.ShloMosaic Idealize.ShloMosaic.TcCoe Idealize.SL.Sem Cert.Kernel4Ideal Cert.Kernel4Ideal.Gen Cert.InProj

section Pieces

variable {F : FTy → Type} [FloatOps F] [Named F]

/-- The projected block. -/
def projected (x : Vec F S256x1024 .f32) (g : Vec F S1x1024 .f32) (w : Vec F S1024x7168 .bf16) : Vec F S256x7168 .f32 :=
  k0_pay7 (k0_pay5 x g) (k0_pay6 w)

/-- A run of 512 columns of the projected block. -/
def run (u : Vec F S256x7168 .f32) (o : ℕ) (h : ∀ a, (![0, o] : Fin 2 → ℕ) a + S256x512.size a ≤ S256x7168.size a) : Vec F S256x512 .f32 :=
  fun j => u ((Rect.unit (s := S256x7168) ![0, o] S256x512.size h).emb j)

/-- The stores into the block of keys, last first. -/
def keyPieces (u : Vec F S256x7168 .f32) (g : Vec F S1x128 .f32) (c : FVec F S256x128 .bf16) : List (View.Piece (Elt F) S1x8x256x256 .bf16) :=
  [⟨Rect.unit ![0, 7, 0, 128] ![1, 1, 256, 128] inb_S1x8x256x256_S1x1x256x128_0_7_0_128, k0_pay358 c⟩,
   ⟨Rect.unit ![0, 7, 0, 0] ![1, 1, 256, 128] inb_S1x8x256x256_S1x1x256x128_0_7_0_0, k0_pay357 (run u 3584 inb_S256x7168_S256x512_0_3584) g⟩,
   ⟨Rect.unit ![0, 6, 0, 128] ![1, 1, 256, 128] inb_S1x8x256x256_S1x1x256x128_0_6_0_128, k0_pay353 c⟩,
   ⟨Rect.unit ![0, 6, 0, 0] ![1, 1, 256, 128] inb_S1x8x256x256_S1x1x256x128_0_6_0_0, k0_pay352 (run u 3584 inb_S256x7168_S256x512_0_3584) g⟩,
   ⟨Rect.unit ![0, 5, 0, 128] ![1, 1, 256, 128] inb_S1x8x256x256_S1x1x256x128_0_5_0_128, k0_pay347 c⟩,
   ⟨Rect.unit ![0, 5, 0, 0] ![1, 1, 256, 128] inb_S1x8x256x256_S1x1x256x128_0_5_0_0, k0_pay346 (run u 3584 inb_S256x7168_S256x512_0_3584) g⟩,
   ⟨Rect.unit ![0, 4, 0, 128] ![1, 1, 256, 128] inb_S1x8x256x256_S1x1x256x128_0_4_0_128, k0_pay343 c⟩,
   ⟨Rect.unit ![0, 4, 0, 0] ![1, 1, 256, 128] inb_S1x8x256x256_S1x1x256x128_0_4_0_0, k0_pay342 (run u 3584 inb_S256x7168_S256x512_0_3584) g⟩,
   ⟨Rect.unit ![0, 3, 0, 128] ![1, 1, 256, 128] inb_S1x8x256x256_S1x1x256x128_0_3_0_128, k0_pay280 c⟩,
   ⟨Rect.unit ![0, 3, 0, 0] ![1, 1, 256, 128] inb_S1x8x256x256_S1x1x256x128_0_3_0_0, k0_pay279 (k0_pay277 (run u 3072 inb_S256x7168_S256x512_0_3072)) g⟩,
   ⟨Rect.unit ![0, 2, 0, 128] ![1, 1, 256, 128] inb_S1x8x256x256_S1x1x256x128_0_2_0_128, k0_pay275 c⟩,
   ⟨Rect.unit ![0, 2, 0, 0] ![1, 1, 256, 128] inb_S1x8x256x256_S1x1x256x128_0_2_0_0, k0_pay274 (k0_pay272 (run u 3072 inb_S256x7168_S256x512_0_3072)) g⟩,
   ⟨Rect.unit ![0, 1, 0, 128] ![1, 1, 256, 128] inb_S1x8x256x256_S1x1x256x128_0_1_0_128, k0_pay270 c⟩,
   ⟨Rect.unit ![0, 1, 0, 0] ![1, 1, 256, 128] inb_S1x8x256x256_S1x1x256x128_0_1_0_0, k0_pay269 (run u 3072 inb_S256x7168_S256x512_0_3072) g⟩,
   ⟨Rect.unit ![0, 0, 0, 128] ![1, 1, 256, 128] inb_S1x8x256x256_S1x1x256x128_0_0_0_128, k0_pay266 c⟩,
   ⟨Rect.unit ![0, 0, 0, 0] ![1, 1, 256, 128] inb_S1x8x256x256_S1x1x256x128_0_0_0_0, k0_pay265 (run u 3072 inb_S256x7168_S256x512_0_3072) g⟩]

/-- The stores into the block of values, last first. -/
def valuePieces (u : Vec F S256x7168 .f32) (o : FVec F S16x256 .bf16) : List (View.Piece (Elt F) S1x8x144x256 .bf16) :=
  [⟨Rect.unit ![0, 7, 128, 0] ![1, 1, 16, 256] inb_S1x8x144x256_S1x1x16x256_0_7_128_0, k0_pay489 o⟩,
   ⟨Rect.unit ![0, 7, 0, 0] ![1, 1, 128, 256] inb_S1x8x144x256_S1x1x128x256_0_7_0_0, k0_pay488 (run u 4608 inb_S256x7168_S256x512_0_4608)⟩,
   ⟨Rect.unit ![0, 6, 128, 0] ![1, 1, 16, 256] inb_S1x8x144x256_S1x1x16x256_0_6_128_0, k0_pay487 o⟩,
   ⟨Rect.unit ![0, 6, 0, 0] ![1, 1, 128, 256] inb_S1x8x144x256_S1x1x128x256_0_6_0_0, k0_pay486 (run u 4608 inb_S256x7168_S256x512_0_4608)⟩,
   ⟨Rect.unit ![0, 5, 128, 0] ![1, 1, 16, 256] inb_S1x8x144x256_S1x1x16x256_0_5_128_0, k0_pay485 o⟩,
   ⟨Rect.unit ![0, 5, 0, 0] ![1, 1, 128, 256] inb_S1x8x144x256_S1x1x128x256_0_5_0_0, k0_pay484 (run u 4608 inb_S256x7168_S256x512_0_4608)⟩,
   ⟨Rect.unit ![0, 4, 128, 0] ![1, 1, 16, 256] inb_S1x8x144x256_S1x1x16x256_0_4_128_0, k0_pay483 o⟩,
   ⟨Rect.unit ![0, 4, 0, 0] ![1, 1, 128, 256] inb_S1x8x144x256_S1x1x128x256_0_4_0_0, k0_pay482 (run u 4608 inb_S256x7168_S256x512_0_4608)⟩,
   ⟨Rect.unit ![0, 3, 128, 0] ![1, 1, 16, 256] inb_S1x8x144x256_S1x1x16x256_0_3_128_0, k0_pay424 o⟩,
   ⟨Rect.unit ![0, 3, 0, 0] ![1, 1, 128, 256] inb_S1x8x144x256_S1x1x128x256_0_3_0_0, k0_pay423 (run u 4096 inb_S256x7168_S256x512_0_4096)⟩,
   ⟨Rect.unit ![0, 2, 128, 0] ![1, 1, 16, 256] inb_S1x8x144x256_S1x1x16x256_0_2_128_0, k0_pay422 o⟩,
   ⟨Rect.unit ![0, 2, 0, 0] ![1, 1, 128, 256] inb_S1x8x144x256_S1x1x128x256_0_2_0_0, k0_pay421 (run u 4096 inb_S256x7168_S256x512_0_4096)⟩,
   ⟨Rect.unit ![0, 1, 128, 0] ![1, 1, 16, 256] inb_S1x8x144x256_S1x1x16x256_0_1_128_0, k0_pay420 o⟩,
   ⟨Rect.unit ![0, 1, 0, 0] ![1, 1, 128, 256] inb_S1x8x144x256_S1x1x128x256_0_1_0_0, k0_pay419 (run u 4096 inb_S256x7168_S256x512_0_4096)⟩,
   ⟨Rect.unit ![0, 0, 128, 0] ![1, 1, 16, 256] inb_S1x8x144x256_S1x1x16x256_0_0_128_0, k0_pay418 o⟩,
   ⟨Rect.unit ![0, 0, 0, 0] ![1, 1, 128, 256] inb_S1x8x144x256_S1x1x128x256_0_0_0_0, k0_pay417 (run u 4096 inb_S256x7168_S256x512_0_4096)⟩]

/-- The stores into the block of gates, last first. -/
def gatePieces (u : Vec F S256x7168 .f32) : List (View.Piece (Elt F) S256x2048 .bf16) :=
  [⟨Rect.unit ![0, 1536] ![256, 512] inb_S256x2048_S256x512_0_1536, k0_pay1 (run u 6656 inb_S256x7168_S256x512_0_6656)⟩,
   ⟨Rect.unit ![0, 1024] ![256, 512] inb_S256x2048_S256x512_0_1024, k0_pay610 (run u 6144 inb_S256x7168_S256x512_0_6144)⟩,
   ⟨Rect.unit ![0, 512] ![256, 512] inb_S256x2048_S256x512_0_512, k0_pay609 (run u 5632 inb_S256x7168_S256x512_0_5632)⟩,
   ⟨Rect.unit ![0, 0] ![256, 512] inb_S256x2048_S256x512_0_0, k0_pay551 (run u 5120 inb_S256x7168_S256x512_0_5120)⟩]

theorem run_apply (u : Vec F S256x7168 .f32) (o : ℕ) (h : ∀ a, (![0, o] : Fin 2 → ℕ) a + S256x512.size a ≤ S256x7168.size a) (p : Fin 256) (e : Fin 512)
    (f : Fin 7168) (hf : f.val = o + e.val) : run u o h (ix2 p e) = u (ix2 p f) :=
  congrArg u (funext fun a => Fin.ext (match a with
    | ⟨0, _⟩ => show 0 + 1 * p.val = p.val by omega
    | ⟨1, _⟩ => show o + 1 * e.val = f.val by omega))

end Pieces

/-- What the block of keys holds at an index. -/
def keyAt (u : Vec Ideal S256x7168 .f32) (g : Vec Ideal S1x128 .f32) (c : FVec Ideal S256x128 .bf16) (h : Fin 8) (p : Fin 256) (d : Fin 256) : EReal :=
  if hd : d.val < 128 then head (fun e => u (ix2 p (keyCol h e))) (fun e => g (ix2 0 e)) ⟨d.val, hd⟩ else c (ix2 p ⟨d.val - 128, by omega⟩)

/-- A store of a head's keys. -/
theorem key_tile (u : Vec Ideal S256x7168 .f32) (g : Vec Ideal S1x128 .f32) (c : FVec Ideal S256x128 .bf16) (k : Fin 8) (a : Fin 1) (h : Fin 8) (p : Fin 256) (d : Fin 256)
    (w : FVec Ideal S1x1x256x128 .bf16)
    (hw : ∀ (a b : Fin 1) (p : Fin 256) (d : Fin 128), w (ix4 a b p d) = head (fun e => u (ix2 p (keyCol k e))) (fun e => g (ix2 0 e)) d) :
    View.TileAt (S := S1x8x256x256) (Val := Elt Ideal) (e := .bf16) (ix4 a h p d) ![0, k.val, 0, 0] ![1, 1, 256, 128] w (keyAt u g c h p d) := by
  intro x hx
  obtain ⟨x0, x1, x2, x3, rfl⟩ : ∃ (x0 x1 : Fin 1) (x2 : Fin 256) (x3 : Fin 128), x = ix4 x0 x1 x2 x3 := ⟨x 0, x 1, x 2, x 3, eq_ix4 x⟩
  have h1 : h.val = k.val + x1.val := hx (1 : Fin 4)
  have h2 : p.val = 0 + x2.val := hx (2 : Fin 4)
  have h3 : d.val = 0 + x3.val := hx (3 : Fin 4)
  obtain rfl : h = k := Fin.ext (by omega)
  obtain rfl : p = x2 := Fin.ext (by omega)
  refine (hw _ _ _ _).trans ?_
  unfold keyAt
  rw [dif_pos (show d.val < 128 by omega)]
  congr 1
  exact Fin.ext (by show x3.val = d.val; omega)

/-- A store of the code beside a head's keys. -/
theorem code_tile (u : Vec Ideal S256x7168 .f32) (g : Vec Ideal S1x128 .f32) (c : FVec Ideal S256x128 .bf16) (k : ℕ) (a : Fin 1) (h : Fin 8) (p : Fin 256) (d : Fin 256)
    (w : FVec Ideal S1x1x256x128 .bf16) (hw : ∀ (a b : Fin 1) (p : Fin 256) (d : Fin 128), w (ix4 a b p d) = c (ix2 p d)) :
    View.TileAt (S := S1x8x256x256) (Val := Elt Ideal) (e := .bf16) (ix4 a h p d) ![0, k, 0, 128] ![1, 1, 256, 128] w (keyAt u g c h p d) := by
  intro x hx
  obtain ⟨x0, x1, x2, x3, rfl⟩ : ∃ (x0 x1 : Fin 1) (x2 : Fin 256) (x3 : Fin 128), x = ix4 x0 x1 x2 x3 := ⟨x 0, x 1, x 2, x 3, eq_ix4 x⟩
  have h2 : p.val = 0 + x2.val := hx (2 : Fin 4)
  have h3 : d.val = 128 + x3.val := hx (3 : Fin 4)
  obtain rfl : p = x2 := Fin.ext (by omega)
  refine (hw _ _ _ _).trans ?_
  unfold keyAt
  rw [dif_neg (show ¬d.val < 128 by omega)]
  congr 2
  exact Fin.ext (by show x3.val = d.val - 128; omega)

theorem key0 (u : Vec Ideal S256x7168 .f32) (g : Vec Ideal S1x128 .f32) (a b : Fin 1) (p : Fin 256) (d : Fin 128) :
    k0_pay265 (F := Ideal) (run u 3072 inb_S256x7168_S256x512_0_3072) g (ix4 a b p d) = head (fun e => u (ix2 p (keyCol 0 e))) (fun e => g (ix2 0 e)) d := by
  rw [key0_apply]
  congr 1
  funext e
  exact run_apply u 3072 _ p _ _ (show 3072 + (0 * 128 + e.val) = 3072 + (0 * 128 + e.val) by omega)

theorem key1 (u : Vec Ideal S256x7168 .f32) (g : Vec Ideal S1x128 .f32) (a b : Fin 1) (p : Fin 256) (d : Fin 128) :
    k0_pay269 (F := Ideal) (run u 3072 inb_S256x7168_S256x512_0_3072) g (ix4 a b p d) = head (fun e => u (ix2 p (keyCol 1 e))) (fun e => g (ix2 0 e)) d := by
  rw [key1_apply]
  congr 1
  funext e
  exact run_apply u 3072 _ p _ _ (show 3072 + (1 * 128 + e.val) = 3072 + (1 * 128 + e.val) by omega)

theorem key2 (u : Vec Ideal S256x7168 .f32) (g : Vec Ideal S1x128 .f32) (a b : Fin 1) (p : Fin 256) (d : Fin 128) :
    k0_pay274 (F := Ideal) (k0_pay272 (F := Ideal) (run u 3072 inb_S256x7168_S256x512_0_3072)) g (ix4 a b p d) = head (fun e => u (ix2 p (keyCol 2 e))) (fun e => g (ix2 0 e)) d := by
  rw [key2_apply]
  congr 1
  funext e
  exact run_apply u 3072 _ p _ _ (show 3072 + (2 * 128 + e.val) = 3072 + (2 * 128 + e.val) by omega)

theorem key3 (u : Vec Ideal S256x7168 .f32) (g : Vec Ideal S1x128 .f32) (a b : Fin 1) (p : Fin 256) (d : Fin 128) :
    k0_pay279 (F := Ideal) (k0_pay277 (F := Ideal) (run u 3072 inb_S256x7168_S256x512_0_3072)) g (ix4 a b p d) = head (fun e => u (ix2 p (keyCol 3 e))) (fun e => g (ix2 0 e)) d := by
  rw [key3_apply]
  congr 1
  funext e
  exact run_apply u 3072 _ p _ _ (show 3072 + (3 * 128 + e.val) = 3072 + (3 * 128 + e.val) by omega)

theorem key4 (u : Vec Ideal S256x7168 .f32) (g : Vec Ideal S1x128 .f32) (a b : Fin 1) (p : Fin 256) (d : Fin 128) :
    k0_pay342 (F := Ideal) (run u 3584 inb_S256x7168_S256x512_0_3584) g (ix4 a b p d) = head (fun e => u (ix2 p (keyCol 4 e))) (fun e => g (ix2 0 e)) d := by
  rw [key4_apply]
  congr 1
  funext e
  exact run_apply u 3584 _ p _ _ (show 3072 + (4 * 128 + e.val) = 3584 + (0 * 128 + e.val) by omega)

theorem key5 (u : Vec Ideal S256x7168 .f32) (g : Vec Ideal S1x128 .f32) (a b : Fin 1) (p : Fin 256) (d : Fin 128) :
    k0_pay346 (F := Ideal) (run u 3584 inb_S256x7168_S256x512_0_3584) g (ix4 a b p d) = head (fun e => u (ix2 p (keyCol 5 e))) (fun e => g (ix2 0 e)) d := by
  rw [key5_apply]
  congr 1
  funext e
  exact run_apply u 3584 _ p _ _ (show 3072 + (5 * 128 + e.val) = 3584 + (1 * 128 + e.val) by omega)

theorem key6 (u : Vec Ideal S256x7168 .f32) (g : Vec Ideal S1x128 .f32) (a b : Fin 1) (p : Fin 256) (d : Fin 128) :
    k0_pay352 (F := Ideal) (run u 3584 inb_S256x7168_S256x512_0_3584) g (ix4 a b p d) = head (fun e => u (ix2 p (keyCol 6 e))) (fun e => g (ix2 0 e)) d := by
  rw [key6_apply]
  congr 1
  funext e
  exact run_apply u 3584 _ p _ _ (show 3072 + (6 * 128 + e.val) = 3584 + (2 * 128 + e.val) by omega)

theorem key7 (u : Vec Ideal S256x7168 .f32) (g : Vec Ideal S1x128 .f32) (a b : Fin 1) (p : Fin 256) (d : Fin 128) :
    k0_pay357 (F := Ideal) (run u 3584 inb_S256x7168_S256x512_0_3584) g (ix4 a b p d) = head (fun e => u (ix2 p (keyCol 7 e))) (fun e => g (ix2 0 e)) d := by
  rw [key7_apply]
  congr 1
  funext e
  exact run_apply u 3584 _ p _ _ (show 3072 + (7 * 128 + e.val) = 3584 + (3 * 128 + e.val) by omega)

/-- The block of keys after its stores. -/
theorem keyPieces_apply (u : Vec Ideal S256x7168 .f32) (g : Vec Ideal S1x128 .f32) (c : FVec Ideal S256x128 .bf16) (a : Fin 1) (h : Fin 8) (p : Fin 256) (d : Fin 256) :
    View.canon (keyPieces u g c) (ix4 a h p d) = keyAt u g c h p d := by
  refine View.canon_eq_of_allAt _ _ _ (View.cover_of_tiledL (s := S1x8x256x256) (keyPieces u g c) S1x1x256x128.size (by sl_kernel_rfl) _) ?_
  unfold keyPieces
  refine View.allAt_cons_unit _ _ _ _ _ (code_tile u g c 7 a h p d _ (code7_apply c)) ?_
  refine View.allAt_cons_unit _ _ _ _ _ (key_tile u g c 7 a h p d _ (key7 u g)) ?_
  refine View.allAt_cons_unit _ _ _ _ _ (code_tile u g c 6 a h p d _ (code6_apply c)) ?_
  refine View.allAt_cons_unit _ _ _ _ _ (key_tile u g c 6 a h p d _ (key6 u g)) ?_
  refine View.allAt_cons_unit _ _ _ _ _ (code_tile u g c 5 a h p d _ (code5_apply c)) ?_
  refine View.allAt_cons_unit _ _ _ _ _ (key_tile u g c 5 a h p d _ (key5 u g)) ?_
  refine View.allAt_cons_unit _ _ _ _ _ (code_tile u g c 4 a h p d _ (code4_apply c)) ?_
  refine View.allAt_cons_unit _ _ _ _ _ (key_tile u g c 4 a h p d _ (key4 u g)) ?_
  refine View.allAt_cons_unit _ _ _ _ _ (code_tile u g c 3 a h p d _ (code3_apply c)) ?_
  refine View.allAt_cons_unit _ _ _ _ _ (key_tile u g c 3 a h p d _ (key3 u g)) ?_
  refine View.allAt_cons_unit _ _ _ _ _ (code_tile u g c 2 a h p d _ (code2_apply c)) ?_
  refine View.allAt_cons_unit _ _ _ _ _ (key_tile u g c 2 a h p d _ (key2 u g)) ?_
  refine View.allAt_cons_unit _ _ _ _ _ (code_tile u g c 1 a h p d _ (code1_apply c)) ?_
  refine View.allAt_cons_unit _ _ _ _ _ (key_tile u g c 1 a h p d _ (key1 u g)) ?_
  refine View.allAt_cons_unit _ _ _ _ _ (code_tile u g c 0 a h p d _ (code0_apply c)) ?_
  refine View.allAt_cons_unit _ _ _ _ _ (key_tile u g c 0 a h p d _ (key0 u g)) ?_
  exact View.allAt_nil _ _

/-- What the block of values holds at an index. -/
def valueAt (u : Vec Ideal S256x7168 .f32) (h : Fin 8) (r : Fin 144) (p : Fin 256) : EReal :=
  if hr : r.val < 128 then u (ix2 p (valueCol h ⟨r.val, hr⟩)) else 1

/-- A store of a head's values. -/
theorem value_tile (u : Vec Ideal S256x7168 .f32) (k : Fin 8) (a : Fin 1) (h : Fin 8) (r : Fin 144) (p : Fin 256)
    (w : FVec Ideal S1x1x128x256 .bf16) (hw : ∀ (a b : Fin 1) (d : Fin 128) (p : Fin 256), w (ix4 a b d p) = u (ix2 p (valueCol k d))) :
    View.TileAt (S := S1x8x144x256) (Val := Elt Ideal) (e := .bf16) (ix4 a h r p) ![0, k.val, 0, 0] ![1, 1, 128, 256] w (valueAt u h r p) := by
  intro x hx
  obtain ⟨x0, x1, x2, x3, rfl⟩ : ∃ (x0 x1 : Fin 1) (x2 : Fin 128) (x3 : Fin 256), x = ix4 x0 x1 x2 x3 := ⟨x 0, x 1, x 2, x 3, eq_ix4 x⟩
  have h1 : h.val = k.val + x1.val := hx (1 : Fin 4)
  have h2 : r.val = 0 + x2.val := hx (2 : Fin 4)
  have h3 : p.val = 0 + x3.val := hx (3 : Fin 4)
  obtain rfl : h = k := Fin.ext (by omega)
  obtain rfl : p = x3 := Fin.ext (by omega)
  refine (hw _ _ _ _).trans ?_
  unfold valueAt
  rw [dif_pos (show r.val < 128 by omega)]
  congr 3
  exact Fin.ext (by show x2.val = r.val; omega)

/-- A store of the ones under a head's values. -/
theorem ones_tile (u : Vec Ideal S256x7168 .f32) (k : ℕ) (a : Fin 1) (h : Fin 8) (r : Fin 144) (p : Fin 256)
    (w : FVec Ideal S1x1x16x256 .bf16) (hw : ∀ (a b : Fin 1) (r : Fin 16) (p : Fin 256), w (ix4 a b r p) = (1 : EReal)) :
    View.TileAt (S := S1x8x144x256) (Val := Elt Ideal) (e := .bf16) (ix4 a h r p) ![0, k, 128, 0] ![1, 1, 16, 256] w (valueAt u h r p) := by
  intro x hx
  obtain ⟨x0, x1, x2, x3, rfl⟩ : ∃ (x0 x1 : Fin 1) (x2 : Fin 16) (x3 : Fin 256), x = ix4 x0 x1 x2 x3 := ⟨x 0, x 1, x 2, x 3, eq_ix4 x⟩
  have h2 : r.val = 128 + x2.val := hx (2 : Fin 4)
  refine (hw _ _ _ _).trans ?_
  unfold valueAt
  rw [dif_neg (show ¬r.val < 128 by omega)]

theorem value0 (u : Vec Ideal S256x7168 .f32) (a b : Fin 1) (d : Fin 128) (p : Fin 256) :
    k0_pay417 (F := Ideal) (run u 4096 inb_S256x7168_S256x512_0_4096) (ix4 a b d p) = u (ix2 p (valueCol 0 d)) := by
  rw [value0_apply]
  exact run_apply u 4096 _ p _ _ (show 4096 + (0 * 128 + d.val) = 4096 + (0 * 128 + d.val) by omega)

theorem value1 (u : Vec Ideal S256x7168 .f32) (a b : Fin 1) (d : Fin 128) (p : Fin 256) :
    k0_pay419 (F := Ideal) (run u 4096 inb_S256x7168_S256x512_0_4096) (ix4 a b d p) = u (ix2 p (valueCol 1 d)) := by
  rw [value1_apply]
  exact run_apply u 4096 _ p _ _ (show 4096 + (1 * 128 + d.val) = 4096 + (1 * 128 + d.val) by omega)

theorem value2 (u : Vec Ideal S256x7168 .f32) (a b : Fin 1) (d : Fin 128) (p : Fin 256) :
    k0_pay421 (F := Ideal) (run u 4096 inb_S256x7168_S256x512_0_4096) (ix4 a b d p) = u (ix2 p (valueCol 2 d)) := by
  rw [value2_apply]
  exact run_apply u 4096 _ p _ _ (show 4096 + (2 * 128 + d.val) = 4096 + (2 * 128 + d.val) by omega)

theorem value3 (u : Vec Ideal S256x7168 .f32) (a b : Fin 1) (d : Fin 128) (p : Fin 256) :
    k0_pay423 (F := Ideal) (run u 4096 inb_S256x7168_S256x512_0_4096) (ix4 a b d p) = u (ix2 p (valueCol 3 d)) := by
  rw [value3_apply]
  exact run_apply u 4096 _ p _ _ (show 4096 + (3 * 128 + d.val) = 4096 + (3 * 128 + d.val) by omega)

theorem value4 (u : Vec Ideal S256x7168 .f32) (a b : Fin 1) (d : Fin 128) (p : Fin 256) :
    k0_pay482 (F := Ideal) (run u 4608 inb_S256x7168_S256x512_0_4608) (ix4 a b d p) = u (ix2 p (valueCol 4 d)) := by
  rw [value4_apply]
  exact run_apply u 4608 _ p _ _ (show 4096 + (4 * 128 + d.val) = 4608 + (0 * 128 + d.val) by omega)

theorem value5 (u : Vec Ideal S256x7168 .f32) (a b : Fin 1) (d : Fin 128) (p : Fin 256) :
    k0_pay484 (F := Ideal) (run u 4608 inb_S256x7168_S256x512_0_4608) (ix4 a b d p) = u (ix2 p (valueCol 5 d)) := by
  rw [value5_apply]
  exact run_apply u 4608 _ p _ _ (show 4096 + (5 * 128 + d.val) = 4608 + (1 * 128 + d.val) by omega)

theorem value6 (u : Vec Ideal S256x7168 .f32) (a b : Fin 1) (d : Fin 128) (p : Fin 256) :
    k0_pay486 (F := Ideal) (run u 4608 inb_S256x7168_S256x512_0_4608) (ix4 a b d p) = u (ix2 p (valueCol 6 d)) := by
  rw [value6_apply]
  exact run_apply u 4608 _ p _ _ (show 4096 + (6 * 128 + d.val) = 4608 + (2 * 128 + d.val) by omega)

theorem value7 (u : Vec Ideal S256x7168 .f32) (a b : Fin 1) (d : Fin 128) (p : Fin 256) :
    k0_pay488 (F := Ideal) (run u 4608 inb_S256x7168_S256x512_0_4608) (ix4 a b d p) = u (ix2 p (valueCol 7 d)) := by
  rw [value7_apply]
  exact run_apply u 4608 _ p _ _ (show 4096 + (7 * 128 + d.val) = 4608 + (3 * 128 + d.val) by omega)

/-- The block of values after its stores. -/
theorem valuePieces_apply (u : Vec Ideal S256x7168 .f32) (a : Fin 1) (h : Fin 8) (r : Fin 144) (p : Fin 256) :
    View.canon (valuePieces (F := Ideal) u k0_pay12) (ix4 a h r p) = valueAt u h r p := by
  refine View.canon_eq_of_allAt _ _ _ (View.cover_of_tiledBy (s := S1x8x144x256) (valuePieces u k0_pay12) ![1, 1, 16, 256] (by sl_kernel_rfl) _) ?_
  unfold valuePieces
  refine View.allAt_cons_unit _ _ _ _ _ (ones_tile u 7 a h r p _ fun a b r p => (ones7_apply _ a b r p).trans (one_apply r p)) ?_
  refine View.allAt_cons_unit _ _ _ _ _ (value_tile u 7 a h r p _ (value7 u)) ?_
  refine View.allAt_cons_unit _ _ _ _ _ (ones_tile u 6 a h r p _ fun a b r p => (ones6_apply _ a b r p).trans (one_apply r p)) ?_
  refine View.allAt_cons_unit _ _ _ _ _ (value_tile u 6 a h r p _ (value6 u)) ?_
  refine View.allAt_cons_unit _ _ _ _ _ (ones_tile u 5 a h r p _ fun a b r p => (ones5_apply _ a b r p).trans (one_apply r p)) ?_
  refine View.allAt_cons_unit _ _ _ _ _ (value_tile u 5 a h r p _ (value5 u)) ?_
  refine View.allAt_cons_unit _ _ _ _ _ (ones_tile u 4 a h r p _ fun a b r p => (ones4_apply _ a b r p).trans (one_apply r p)) ?_
  refine View.allAt_cons_unit _ _ _ _ _ (value_tile u 4 a h r p _ (value4 u)) ?_
  refine View.allAt_cons_unit _ _ _ _ _ (ones_tile u 3 a h r p _ fun a b r p => (ones3_apply _ a b r p).trans (one_apply r p)) ?_
  refine View.allAt_cons_unit _ _ _ _ _ (value_tile u 3 a h r p _ (value3 u)) ?_
  refine View.allAt_cons_unit _ _ _ _ _ (ones_tile u 2 a h r p _ fun a b r p => (ones2_apply _ a b r p).trans (one_apply r p)) ?_
  refine View.allAt_cons_unit _ _ _ _ _ (value_tile u 2 a h r p _ (value2 u)) ?_
  refine View.allAt_cons_unit _ _ _ _ _ (ones_tile u 1 a h r p _ fun a b r p => (ones1_apply _ a b r p).trans (one_apply r p)) ?_
  refine View.allAt_cons_unit _ _ _ _ _ (value_tile u 1 a h r p _ (value1 u)) ?_
  refine View.allAt_cons_unit _ _ _ _ _ (ones_tile u 0 a h r p _ fun a b r p => (ones0_apply _ a b r p).trans (one_apply r p)) ?_
  refine View.allAt_cons_unit _ _ _ _ _ (value_tile u 0 a h r p _ (value0 u)) ?_
  exact View.allAt_nil _ _

/-- A store of a run of gates. -/
theorem gate_tile (u : Vec Ideal S256x7168 .f32) (o : ℕ) (p : Fin 256) (e : Fin 2048) (w : FVec Ideal S256x512 .bf16)
    (hw : ∀ (p : Fin 256) (e : Fin 512) (f : Fin 7168), f.val = 5120 + o + e.val → w (ix2 p e) = u (ix2 p f)) :
    View.TileAt (S := S256x2048) (Val := Elt Ideal) (e := .bf16) (ix2 p e) ![0, o] ![256, 512] w (u (ix2 p (gateCol e))) := by
  intro x hx
  obtain ⟨x0, x1, rfl⟩ : ∃ (x0 : Fin 256) (x1 : Fin 512), x = ix2 x0 x1 := ⟨x 0, x 1, eq_ix2 x⟩
  have h0 : p.val = 0 + x0.val := hx (0 : Fin 2)
  have h1 : e.val = o + x1.val := hx (1 : Fin 2)
  obtain rfl : p = x0 := Fin.ext (by omega)
  exact hw _ _ _ (by show 5120 + e.val = _; omega)

/-- The block of gates after its stores. -/
theorem gatePieces_apply (u : Vec Ideal S256x7168 .f32) (p : Fin 256) (e : Fin 2048) :
    View.canon (gatePieces u) (ix2 p e) = u (ix2 p (gateCol e)) := by
  refine View.canon_eq_of_allAt _ _ _ (View.cover_of_tiledL (s := S256x2048) (gatePieces u) S256x512.size (by sl_kernel_rfl) _) ?_
  unfold gatePieces
  refine View.allAt_cons_unit _ _ _ _ _ (gate_tile u 1536 p e _ fun p e f hf => run_apply u 6656 _ p e f hf) ?_
  refine View.allAt_cons_unit _ _ _ _ _ (gate_tile u 1024 p e _ fun p e f hf => run_apply u 6144 _ p e f hf) ?_
  refine View.allAt_cons_unit _ _ _ _ _ (gate_tile u 512 p e _ fun p e f hf => run_apply u 5632 _ p e f hf) ?_
  refine View.allAt_cons_unit _ _ _ _ _ (gate_tile u 0 p e _ fun p e f hf => run_apply u 5120 _ p e f hf) ?_
  exact View.allAt_nil _ _

end Cert.Kernel4Ideal.InProj
-- ==== Proof.InProj.Points.lean ====
/- What a point of the input-projection kernel leaves in its blocks of keys, values and gates. -/
module

public import proofs.«01_k».proof.Proof.InProj.Pieces
public import proofs.«01_k».proof.Proof.Gen.Kernel4Ideal.Frame

@[expose] public section

set_option maxRecDepth 16384

noncomputable section

namespace Cert.Kernel4Ideal.InProj

open Idealize.ShloMosaic Idealize.ShloMosaic.TcCoe Idealize.SL.Sem Cert.Kernel4Ideal Cert.Kernel4Ideal.Gen Cert.InProj

variable {F : FTy → Type} [FloatOps F] [Named F]

/-- A load of a whole block reads the block. -/
theorem read2 {sp : Space} {e : EltTy} {s : Shape} (m : Memref sig .tc sp s e) (h : m.IsWhole) (X : s.Idx → Elt F e) {off : Fin s.rank → Nat}
    (z : off = fun _ => 0) (inb : ∀ a, off a + s.size a ≤ s.size a) :
    m.view.readAt (Elt F) (Rect.unit off s.size inb).toLoadRect (h.unread X) = X := by
  rw [View.readAt_eq_ld, h.read_unread]
  exact View.ld_unit_zero z _ _

theorem z2 : (![0, 0] : Fin 2 → ℕ) = fun _ => 0 := by funext a; fin_cases a <;> rfl

/-- A load of a run of the projected block. -/
theorem run_read (m : Memref sig .tc .vmem S256x7168 .f32) (u : Vec F S256x7168 .f32) (o : ℕ) (h : ∀ a, (![0, o] : Fin 2 → ℕ) a + S256x512.size a ≤ S256x7168.size a) :
    m.view.readCov (Val := Elt F) [⟨Rect.unit ![0, 0] S256x7168.size inb_S256x7168_S256x7168_0_0, u⟩] (Rect.unit (s := S256x7168) ![0, o] S256x512.size h).toLoadRect = run u o h := by
  rw [View.readCov_eq_canon']
  exact funext fun j => congrFun (View.canon_unit_zero z2 _ u) _

/-- The number of a point's tile in its sequence, as the body computes it. -/
def tile (i : grid0.Coords) : BitVec 32 := kernelRun0_A.sl.v9 i

/-- It is the point's number modulo the 32 tiles of a sequence. -/
theorem tile_eq : ∀ t : Fin cfg0.N, tile (grid0.coords t) = BitVec.ofNat 32 (t.val % 32) := (by decide +kernel : ∀ t : Fin grid0.N, _)

section Points

variable (c : Dev nD) (i : grid0.Coords)
  (arg1 : Memref sig .tc .vmem S256x1024 .f32) (harg1 : arg1.IsWhole)
  (arg2 : Memref sig .tc .vmem S1x1024 .f32) (harg2 : arg2.IsWhole)
  (arg3 : Memref sig .tc .vmem S1024x7168 .bf16) (harg3 : arg3.IsWhole)
  (arg4 : Memref sig .tc .vmem S1x128 .f32) (harg4 : arg4.IsWhole)
  (arg5 : Memref sig .tc .vmem S1x128 .f32) (harg5 : arg5.IsWhole)
  (arg6 : Memref sig .tc .vmem S4x1024 .f32) (harg6 : arg6.IsWhole)
  (arg7 : Memref sig .tc .vmem S1x1024 .f32) (harg7 : arg7.IsWhole)
  (arg8 : Memref sig .tc .vmem S8x128x256 .bf16) (harg8 : arg8.IsWhole)
  (arg9 : Memref sig .tc .vmem S8x1x256 .f32) (harg9 : arg9.IsWhole)
  (arg10 : Memref sig .tc .vmem S1x1024 .f32) (harg10 : arg10.IsWhole)
  (arg11 : Memref sig .tc .vmem S256x2048 .bf16) (harg11 : arg11.IsWhole)
  (arg12 : Memref sig .tc .vmem S1x8x256x256 .bf16) (harg12 : arg12.IsWhole)
  (arg13 : Memref sig .tc .vmem S1x8x256x256 .bf16) (harg13 : arg13.IsWhole)
  (arg14 : Memref sig .tc .vmem S1x8x144x256 .bf16) (harg14 : arg14.IsWhole)
  (arg15 : Memref sig .tc .vmem S256x2048 .bf16) (harg15 : arg15.IsWhole)
  (arg16 : Memref sig .tc .vmem S32x1024 .f32) (harg16 : arg16.IsWhole)
  (arg17 : Memref sig .tc .vmem S264x1024 .f32) (harg17 : arg17.IsWhole)
  (arg18 : Memref sig .tc .vmem S8x1024 .f32) (harg18 : arg18.IsWhole)
  (arg19 : Memref sig .tc .vmem S256x1024 .bf16) (harg19 : arg19.IsWhole)
  (arg20 : Memref sig .tc .vmem S256x7168 .f32) (harg20 : arg20.IsWhole)
variable (x0 : Vec F S256x1024 .f32) (x1 : Vec F S1x1024 .f32) (x2 : Vec F S1024x7168 .bf16) (x3 : Vec F S1x128 .f32) (x4 : Vec F S1x128 .f32) (x5 : Vec F S4x1024 .f32) (x6 : Vec F S1x1024 .f32) (x7 : Vec F S8x128x256 .bf16) (x8 : Vec F S8x1x256 .f32) (x9 : Vec F S1x1024 .f32)

/-- The projected block of a first point, as it is stored. -/
theorem piecesA : kernelRun0_A.sl.HS4_1 c arg1 harg1 arg2 harg2 arg3 harg3 arg19 x0 x1 x2
    = [⟨Rect.unit ![0, 0] S256x7168.size inb_S256x7168_S256x7168_0_0, projected x0 x1 x2⟩] := by
  have e : kernelRun0_A.sl.v33 c arg1 harg1 arg2 harg2 arg19 x0 x1 = k0_pay5 x0 x1 := by
    unfold kernelRun0_A.sl.v33 kernelRun0_A.sl.HS3_1
    rw [View.readCov_eq_canon', View.canon_unit_zero z2]
    refine (View.ld_unit_zero (Val := Elt F) (e := .bf16) z2 inb_S256x1024_S256x1024_0_0 (kernelRun0_A.sl.v32 c arg1 harg1 arg2 harg2 x0 x1)).trans ?_
    exact congrArg₂ (k0_pay5 (F := F)) (read2 arg1 harg1 x0 z2 inb_S256x1024_S256x1024_0_0) (read2 arg2 harg2 x1 z2 inb_S1x1024_S1x1024_0_0)
  refine Eq.trans (b := [⟨Rect.unit ![0, 0] S256x7168.size inb_S256x7168_S256x7168_0_0, k0_pay7 (kernelRun0_A.sl.v33 c arg1 harg1 arg2 harg2 arg19 x0 x1)
    (k0_pay6 (arg3.view.readAt (Elt F) (Rect.unit ![0, 0] S1024x7168.size inb_S1024x7168_S1024x7168_0_0).toLoadRect (harg3.unread x2)))⟩]) rfl ?_
  rw [e, read2 arg3 harg3 x2 z2]
  rfl

/-- A load of a run of the projected block of a first point. -/
theorem loadA (o : ℕ) (h : ∀ a, (![0, o] : Fin 2 → ℕ) a + S256x512.size a ≤ S256x7168.size a) :
    run (projected x0 x1 x2) o h
      = arg20.view.readCov (Val := Elt F) (kernelRun0_A.sl.HS4_1 c arg1 harg1 arg2 harg2 arg3 harg3 arg19 x0 x1 x2) (Rect.unit (s := S256x7168) ![0, o] S256x512.size h).toLoadRect := by
  rw [piecesA c arg1 harg1 arg2 harg2 arg3 harg3 arg19 x0 x1 x2, run_read]

/-- The block of keys of a first point. -/
theorem keyA (hc : cond0_0 i) : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x0 x1 x2 x3 x4 x5 x6 x7 x8 x9
    = View.canon (keyPieces (projected x0 x1 x2) x4 (k0_pay11 (tile i))) := by
  unfold out0_A_12
  rw [View.read_writes_junk_eq_canon]
  unfold kernelRun0_A
  dsimp only
  refine Eq.trans (b := View.canon (keyPieces (projected x0 x1 x2) (arg5.view.readAt (Elt F) (Rect.unit ![0, 0] S1x128.size inb_S1x128_S1x128_0_0).toLoadRect (harg5.unread x4)) (k0_pay11 (tile i)))) ?_
    (by rw [read2 arg5 harg5 x4 z2])
  unfold keyPieces
  simp only [loadA c arg1 harg1 arg2 harg2 arg3 harg3 arg19 arg20 x0 x1 x2]
  rfl

/-- The block of values of a first point. -/
theorem valueA (hc : cond0_0 i) : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x0 x1 x2 x3 x4 x5 x6 x7 x8 x9
    = View.canon (valuePieces (projected x0 x1 x2) k0_pay12) := by
  unfold out0_A_13
  rw [View.read_writes_junk_eq_canon]
  unfold kernelRun0_A
  dsimp only
  unfold valuePieces
  simp only [loadA c arg1 harg1 arg2 harg2 arg3 harg3 arg19 arg20 x0 x1 x2]
  rfl

/-- The block of gates of a first point. -/
theorem gateA (hc : cond0_0 i) : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x0 x1 x2 x3 x4 x5 x6 x7 x8 x9
    = View.canon (gatePieces (projected x0 x1 x2)) := by
  unfold out0_A_14
  rw [View.read_writes_junk_eq_canon]
  unfold kernelRun0_A
  dsimp only
  unfold gatePieces
  simp only [loadA c arg1 harg1 arg2 harg2 arg3 harg3 arg19 arg20 x0 x1 x2]
  rfl

/-- The projected block of another point, as it is stored. -/
theorem piecesB : kernelRun0_B.sl.HS4_1 c arg1 harg1 arg2 harg2 arg3 harg3 arg19 x0 x1 x2
    = [⟨Rect.unit ![0, 0] S256x7168.size inb_S256x7168_S256x7168_0_0, projected x0 x1 x2⟩] := by
  have e : kernelRun0_B.sl.v33 c arg1 harg1 arg2 harg2 arg19 x0 x1 = k0_pay5 x0 x1 := by
    unfold kernelRun0_B.sl.v33 kernelRun0_B.sl.HS3_1
    rw [View.readCov_eq_canon', View.canon_unit_zero z2]
    refine (View.ld_unit_zero (Val := Elt F) (e := .bf16) z2 inb_S256x1024_S256x1024_0_0 (kernelRun0_B.sl.v32 c arg1 harg1 arg2 harg2 x0 x1)).trans ?_
    exact congrArg₂ (k0_pay5 (F := F)) (read2 arg1 harg1 x0 z2 inb_S256x1024_S256x1024_0_0) (read2 arg2 harg2 x1 z2 inb_S1x1024_S1x1024_0_0)
  refine Eq.trans (b := [⟨Rect.unit ![0, 0] S256x7168.size inb_S256x7168_S256x7168_0_0, k0_pay7 (kernelRun0_B.sl.v33 c arg1 harg1 arg2 harg2 arg19 x0 x1)
    (k0_pay6 (arg3.view.readAt (Elt F) (Rect.unit ![0, 0] S1024x7168.size inb_S1024x7168_S1024x7168_0_0).toLoadRect (harg3.unread x2)))⟩]) rfl ?_
  rw [e, read2 arg3 harg3 x2 z2]
  rfl

/-- A load of a run of the projected block of another point. -/
theorem loadB (o : ℕ) (h : ∀ a, (![0, o] : Fin 2 → ℕ) a + S256x512.size a ≤ S256x7168.size a) :
    run (projected x0 x1 x2) o h
      = arg20.view.readCov (Val := Elt F) (kernelRun0_B.sl.HS4_1 c arg1 harg1 arg2 harg2 arg3 harg3 arg19 x0 x1 x2) (Rect.unit (s := S256x7168) ![0, o] S256x512.size h).toLoadRect := by
  rw [piecesB c arg1 harg1 arg2 harg2 arg3 harg3 arg19 x0 x1 x2, run_read]

/-- The block of keys of another point. -/
theorem keyB (hc : ¬cond0_0 i) (xs0 : Vec F S32x1024 .f32) (xs1 : Vec F S264x1024 .f32) (xs2 : Vec F S8x1024 .f32) : out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x0 x1 x2 x3 x4 x5 x6 x7 x8 x9 xs0 xs1 xs2
    = View.canon (keyPieces (projected x0 x1 x2) x4 (k0_pay11 (tile i))) := by
  unfold out0_B_12
  rw [View.read_writes_junk_eq_canon]
  unfold kernelRun0_B
  dsimp only
  refine Eq.trans (b := View.canon (keyPieces (projected x0 x1 x2) (arg5.view.readAt (Elt F) (Rect.unit ![0, 0] S1x128.size inb_S1x128_S1x128_0_0).toLoadRect (harg5.unread x4)) (k0_pay11 (tile i)))) ?_
    (by rw [read2 arg5 harg5 x4 z2])
  unfold keyPieces
  simp only [loadB c arg1 harg1 arg2 harg2 arg3 harg3 arg19 arg20 x0 x1 x2]
  rfl

/-- The block of values of another point. -/
theorem valueB (hc : ¬cond0_0 i) (xs0 : Vec F S32x1024 .f32) (xs1 : Vec F S264x1024 .f32) (xs2 : Vec F S8x1024 .f32) : out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x0 x1 x2 x3 x4 x5 x6 x7 x8 x9 xs0 xs1 xs2
    = View.canon (valuePieces (projected x0 x1 x2) k0_pay12) := by
  unfold out0_B_13
  rw [View.read_writes_junk_eq_canon]
  unfold kernelRun0_B
  dsimp only
  unfold valuePieces
  simp only [loadB c arg1 harg1 arg2 harg2 arg3 harg3 arg19 arg20 x0 x1 x2]
  rfl

/-- The block of gates of another point. -/
theorem gateB (hc : ¬cond0_0 i) (xs0 : Vec F S32x1024 .f32) (xs1 : Vec F S264x1024 .f32) (xs2 : Vec F S8x1024 .f32) : out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x0 x1 x2 x3 x4 x5 x6 x7 x8 x9 xs0 xs1 xs2
    = View.canon (gatePieces (projected x0 x1 x2)) := by
  unfold out0_B_14
  rw [View.read_writes_junk_eq_canon]
  unfold kernelRun0_B
  dsimp only
  unfold gatePieces
  simp only [loadB c arg1 harg1 arg2 harg2 arg3 harg3 arg19 arg20 x0 x1 x2]
  rfl

end Points

end Cert.Kernel4Ideal.InProj
-- ==== Proof.InProj.Blocks.lean ====
/- The input-projection kernel's blocks as rows of its arrays, and its arrays of keys, values and gates. -/
module

public import proofs.«01_k».proof.Proof.InProj.Points
public import proofs.«01_k».proof.Proof.Gen.Kernel4Ideal.Value

@[expose] public section

set_option maxRecDepth 16384

noncomputable section

namespace Cert.Kernel4Ideal.InProj

open Idealize.ShloMosaic Idealize.ShloMosaic.TcCoe Idealize.SL.Sem Cert.Kernel4Ideal Cert.Kernel4Ideal.Gen Cert.InProj

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index4 : ∀ t : Fin cfg0.N, win0_4.index t = ![0, 0] := (by decide +kernel : ∀ t : Fin grid0.N, _)
theorem index12 : ∀ t : Fin cfg0.N, win0_12.index t = ![t.val / 32, 0, t.val % 32, 0] := (by decide +kernel : ∀ t : Fin grid0.N, _)
theorem index13 : ∀ t : Fin cfg0.N, win0_13.index t = ![t.val / 32, 0, 0, t.val % 32] := (by decide +kernel : ∀ t : Fin grid0.N, _)
theorem index14 : ∀ t : Fin cfg0.N, win0_14.index t = ![t.val, 0] := (by decide +kernel : ∀ t : Fin grid0.N, _)

section Reads

variable {F : FTy → Type} [FloatOps F] [Named F] (m : (ℓ : Loc nD τ sig) → Buf (Elt F) ℓ) (c : Dev nD) (t : Fin cfg0.N)

/-- A row of the input. -/
theorem x_read (p : Fin 256) (r : Fin 32768) (hr : r.val = 256 * t.val + p.val) (d : Fin 1024) :
    (iblk m c 0 t : S256x1024.Idx → Elt F .f32) (ix2 p d) = V m c main_v8 (ix2 r d) := by
  refine congrArg (V m c main_v8) (funext fun x => Fin.ext ?_)
  show ((win0_0.rect t).emb (ix2 p d) x : Nat) = _
  rw [Pipeline.Window.rect_emb_val win0_0, index0]
  match x with
  | ⟨0, _⟩ => show t.val * 256 + p.val = r.val; omega
  | ⟨1, _⟩ => show 0 * 1024 + d.val = d.val; omega

/-- The weights of the input's norm. -/
theorem g_read (a : Fin 1) (d : Fin 1024) : (iblk m c 1 t : S1x1024.Idx → Elt F .f32) (ix2 a d) = V m c main_v10 (ix2 a d) := by
  refine congrArg (V m c main_v10) (funext fun x => Fin.ext ?_)
  show ((win0_1.rect t).emb (ix2 a d) x : Nat) = _
  rw [Pipeline.Window.rect_emb_val win0_1, index1]
  match x with
  | ⟨0, _⟩ => show 0 * 1 + a.val = a.val; omega
  | ⟨1, _⟩ => show 0 * 1024 + d.val = d.val; omega

/-- The projection, whole. -/
theorem w_read (d : Fin 1024) (f : Fin 7168) : (iblk m c 2 t : S1024x7168.Idx → Elt F .bf16) (ix2 d f) = V m c main_v12 (ix2 d f) := by
  refine congrArg (V m c main_v12) (funext fun x => Fin.ext ?_)
  show ((win0_2.rect t).emb (ix2 d f) x : Nat) = _
  rw [Pipeline.Window.rect_emb_val win0_2, index2]
  match x with
  | ⟨0, _⟩ => show 0 * 1024 + d.val = d.val; omega
  | ⟨1, _⟩ => show 0 * 7168 + f.val = f.val; omega

/-- The weights of the keys' norm. -/
theorem kg_read (a : Fin 1) (d : Fin 128) : (iblk m c 4 t : S1x128.Idx → Elt F .f32) (ix2 a d) = V m c main_v16 (ix2 a d) := by
  refine congrArg (V m c main_v16) (funext fun x => Fin.ext ?_)
  show ((win0_4.rect t).emb (ix2 a d) x : Nat) = _
  rw [Pipeline.Window.rect_emb_val win0_4, index4]
  match x with
  | ⟨0, _⟩ => show 0 * 1 + a.val = a.val; omega
  | ⟨1, _⟩ => show 0 * 128 + d.val = d.val; omega

/-- What a point writes to the array of keys. -/
theorem key_flushed (y : S1x8x256x256.Idx) : (dats m 0 c).flushed 12 t y
    = View.canon (keyPieces (projected (iblk m c 0 t) (iblk m c 1 t) (iblk m c 2 t)) (iblk m c 4 t) (k0_pay11 (tile (grid0.coords t)))) y := by
  by_cases h0 : t.val % 32 = 0
  · rw [Value.flushed12_A m c t h0]
    exact congrFun (keyA ..) y
  · rw [Value.flushed12_B m c t h0]
    exact congrFun (keyB ..) y

/-- What a point writes to the array of values. -/
theorem value_flushed (y : S1x8x144x256.Idx) : (dats m 0 c).flushed 13 t y
    = View.canon (valuePieces (projected (iblk m c 0 t) (iblk m c 1 t) (iblk m c 2 t)) k0_pay12) y := by
  by_cases h0 : t.val % 32 = 0
  · rw [Value.flushed13_A m c t h0]
    exact congrFun (valueA ..) y
  · rw [Value.flushed13_B m c t h0]
    exact congrFun (valueB ..) y

/-- What a point writes to the array of gates. -/
theorem gate_flushed (y : S256x2048.Idx) : (dats m 0 c).flushed 14 t y
    = View.canon (gatePieces (projected (iblk m c 0 t) (iblk m c 1 t) (iblk m c 2 t))) y := by
  by_cases h0 : t.val % 32 = 0
  · rw [Value.flushed14_A m c t h0]
    exact congrFun (gateA ..) y
  · rw [Value.flushed14_B m c t h0]
    exact congrFun (gateB ..) y

/-- An index of the array of keys is in a point's block when each coordinate is in the block's range. -/
theorem mem_key (i : S4x8x8192x256.Idx) :
    i ∈ ((cfg0.win 12).blk t).view.set ↔ ∀ x : Fin 4, win0_12.index t x * S1x8x256x256.size x ≤ (i x).val ∧ (i x).val < win0_12.index t x * S1x8x256x256.size x + S1x8x256x256.size x := by
  show i ∈ ((View.whole main_v22_2).slice (win0_12.rect t)).set ↔ _
  rw [View.set_slice_whole, Rect.mem_set_unit]
  exact Iff.rfl

/-- The same of the array of values. -/
theorem mem_value (i : S4x8x144x8192.Idx) :
    i ∈ ((cfg0.win 13).blk t).view.set ↔ ∀ x : Fin 4, win0_13.index t x * S1x8x144x256.size x ≤ (i x).val ∧ (i x).val < win0_13.index t x * S1x8x144x256.size x + S1x8x144x256.size x := by
  show i ∈ ((View.whole main_v22_3).slice (win0_13.rect t)).set ↔ _
  rw [View.set_slice_whole, Rect.mem_set_unit]
  exact Iff.rfl

/-- The same of the array of gates. -/
theorem mem_gate (i : S32768x2048.Idx) :
    i ∈ ((cfg0.win 14).blk t).view.set ↔ ∀ x : Fin 2, win0_14.index t x * S256x2048.size x ≤ (i x).val ∧ (i x).val < win0_14.index t x * S256x2048.size x + S256x2048.size x := by
  show i ∈ ((View.whole main_v22_4).slice (win0_14.rect t)).set ↔ _
  rw [View.set_slice_whole, Rect.mem_set_unit]
  exact Iff.rfl

end Reads

section Arrays

variable (m : (ℓ : Loc nD τ sig) → Buf (Elt Ideal) ℓ) (c : Dev nD)
  (x : S4x8192x1024.Idx → EReal) (g : S1x1024.Idx → EReal) (w : S1x1024x7168.Idx → EReal) (kg : S1x128.Idx → EReal)
  (h0 : m ((c.tc : Thread nD τ).loc main_arg0) = x) (h1 : m ((c.tc : Thread nD τ).loc main_arg1) = g)
  (h2 : m ((c.tc : Thread nD τ).loc main_arg2) = w) (h11 : m ((c.tc : Thread nD τ).loc main_arg11) = kg)

include h0 in
/-- The input as the region finds it: its rows, sequence after sequence. -/
theorem V_x (r : Fin 32768) (a : Fin 4) (s : Fin 8192) (hr : r.val = 8192 * a.val + s.val) (d : Fin 1024) :
    (V m c main_v8 : S32768x1024.Idx → EReal) (ix2 r d) = x (ix3 a s d) := by
  have e : (V m c main_v8 : S32768x1024.Idx → EReal) = shapeCast S32768x1024 (x : FVec Ideal S4x8192x1024 .f32) shapeCasts_S4x8192x1024_S32768x1024 := by
    rw [← h0]
    show StableHlo.after _ _ _ = _
    after_results_simp <;> rfl
  rw [e]
  pointwise []
  refine congrArg x (congrArg₂ (fun a s => ix3 a s d) (Fin.ext ?_) (Fin.ext ?_))
  · show r.val / 8192 = a.val
    omega
  · show r.val % 8192 = s.val
    omega

include h1 in
/-- The weights of the input's norm as the region finds them. -/
theorem V_g (a : Fin 1) (d : Fin 1024) : (V m c main_v10 : S1x1024.Idx → EReal) (ix2 a d) = g (ix2 0 d) := by
  have e : (V m c main_v10 : S1x1024.Idx → EReal) = broadcastInDim S1x1024 ![1] bcast_S1024_S1x1024_1 (shapeCast S1024 (g : FVec Ideal S1x1024 .f32) shapeCasts_S1x1024_S1024) := by
    rw [← h1]
    show StableHlo.after _ _ _ = _
    after_results_simp <;> rfl
  rw [e]
  pointwise []

include h2 in
/-- The projection as the region finds it. -/
theorem V_w (d : Fin 1024) (f : Fin 7168) : (V m c main_v12 : S1024x7168.Idx → EReal) (ix2 d f) = w (ix3 0 d f) := by
  have e : (V m c main_v12 : S1024x7168.Idx → EReal)
      = truncf (F := Ideal) .bf16 (shapeCast S1024x7168 (w : FVec Ideal S1x1024x7168 .f32) shapeCasts_S1x1024x7168_S1024x7168) bitsLt_bf16_f32 := by
    rw [← h2]
    show StableHlo.after _ _ _ = _
    after_results_simp <;> rfl
  rw [e]
  pointwise []

include h11 in
/-- The weights of the keys' norm as the region finds them. -/
theorem V_kg (a : Fin 1) (d : Fin 128) : (V m c main_v16 : S1x128.Idx → EReal) (ix2 a d) = kg (ix2 0 d) := by
  have e : (V m c main_v16 : S1x128.Idx → EReal) = broadcastInDim S1x128 ![1] bcast_S128_S1x128_1 (shapeCast S128 (kg : FVec Ideal S1x128 .f32) shapeCasts_S1x128_S128) := by
    rw [← h11]
    show StableHlo.after _ _ _ = _
    after_results_simp <;> rfl
  rw [e]
  pointwise []

/-- A position's projection. -/
def row (a : Fin 4) (s : Fin 8192) : Fin 7168 → EReal :=
  proj (fun k => x (ix3 a s k)) (fun k => g (ix2 0 k)) (fun d f => w (ix3 0 d f))

include h0 h1 h2 in
/-- A point's projected block holds the projections of its positions. -/
theorem projected_read (t : Fin cfg0.N) (p : Fin 256) (a : Fin 4) (s : Fin 8192) (ha : a.val = t.val / 32) (hs : s.val = 256 * (t.val % 32) + p.val) (f : Fin 7168) :
    projected (F := Ideal) (iblk m c 0 t) (iblk m c 1 t) (iblk m c 2 t) (ix2 p f) = row x g w a s f := by
  have hN : t.val < 128 := lt_of_lt_of_eq t.isLt N_0
  refine (proj_apply _ _ _ p f).trans ?_
  have e0 : (fun k => (iblk m c 0 t : S256x1024.Idx → EReal) (ix2 p k)) = fun k => x (ix3 a s k) := funext fun k =>
    (x_read m c t p ⟨256 * t.val + p.val, by omega⟩ rfl k).trans (V_x m c x h0 _ a s (by show 256 * t.val + p.val = _; omega) k)
  have e1 : (fun k => (iblk m c 1 t : S1x1024.Idx → EReal) (ix2 0 k)) = fun k => g (ix2 0 k) := funext fun k =>
    (g_read m c t 0 k).trans (V_g m c g h1 0 k)
  have e2 : (fun d f => (iblk m c 2 t : S1024x7168.Idx → EReal) (ix2 d f)) = fun d f => w (ix3 0 d f) := funext fun d => funext fun f =>
    (w_read m c t d f).trans (V_w m c w h2 d f)
  rw [e0, e1, e2]
  rfl

include h0 h1 h2 h11 in
/-- The array of keys holds every position's keys. -/
theorem key_eq : (dats m 0 c).arrAt 12 cfg0.N = fun i : S4x8x8192x256.Idx => key (row x g w (i 0) (i 2)) (fun k => kg (ix2 0 k)) (i 1) (i 2).val (i 3) := by
  refine (dats m 0 c).arrAt_eq_of_cover 12 _ (fun t _ => ?_) (fun i => ?_)
  · funext y
    have hN : t.val < 128 := lt_of_lt_of_eq t.isLt N_0
    have y0 : (y 0).val < 1 := (y 0).isLt
    have y2 : (y 2).val < 256 := (y 2).isLt
    refine (key_flushed m c t y).trans ?_
    have ei : ((win0_12.rect t).emb y : S4x8x8192x256.Idx)
        = ix4 (⟨t.val / 32, by omega⟩ : Fin 4) (y 1) (⟨256 * (t.val % 32) + (y 2).val, by omega⟩ : Fin 8192) (y 3) := funext fun a => Fin.ext (by
      rw [Pipeline.Window.rect_emb_val win0_12, index12]
      match a with
      | ⟨0, _⟩ => show t.val / 32 * 1 + (y 0).val = t.val / 32; omega
      | ⟨1, _⟩ => show 0 * 8 + (y 1).val = (y 1).val; omega
      | ⟨2, _⟩ => show t.val % 32 * 256 + (y 2).val = 256 * (t.val % 32) + (y 2).val; omega
      | ⟨3, _⟩ => show 0 * 256 + (y 3).val = (y 3).val; omega)
    refine Eq.trans ?_ (congrArg (fun i : S4x8x8192x256.Idx => key (row x g w (i 0) (i 2)) (fun k => kg (ix2 0 k)) (i 1) (i 2).val (i 3)) ei).symm
    refine (congrArg (View.canon _) (eq_ix4 y)).trans ?_
    refine (keyPieces_apply _ _ _ (y 0) (y 1) (y 2) (y 3)).trans ?_
    show keyAt _ _ _ (y 1) (y 2) (y 3)
      = key (row x g w ⟨t.val / 32, by omega⟩ ⟨256 * (t.val % 32) + (y 2).val, by omega⟩) (fun k => kg (ix2 0 k)) (y 1) (256 * (t.val % 32) + (y 2).val) (y 3)
    unfold keyAt key
    have e1 : (fun e => projected (F := Ideal) (iblk m c 0 t) (iblk m c 1 t) (iblk m c 2 t) (ix2 (y 2) (keyCol (y 1) e)))
        = fun e => row x g w ⟨t.val / 32, by omega⟩ ⟨256 * (t.val % 32) + (y 2).val, by omega⟩ (keyCol (y 1) e) := funext fun e =>
      projected_read m c x g w h0 h1 h2 t (y 2) _ _ rfl rfl _
    have e2 : (fun e => (iblk m c 4 t : S1x128.Idx → EReal) (ix2 0 e)) = fun k => kg (ix2 0 k) := funext fun k =>
      (kg_read m c t 0 k).trans (V_kg m c kg h11 0 k)
    have ej : (256 * (t.val % 32) + (y 2).val) / 256 = t.val % 32 := by omega
    rw [e1, e2, ej]
    refine dite_congr rfl (fun _ => rfl) fun _ => ?_
    exact code_apply _ _ (Nat.mod_lt _ (by norm_num)) (tile_eq t) _ _
  · have i0 : (i 0).val < 4 := (i 0).isLt
    have i1 : (i 1).val < 8 := (i 1).isLt
    have i2 : (i 2).val < 8192 := (i 2).isLt
    have i3 : (i 3).val < 256 := (i 3).isLt
    have hlt : 32 * (i 0).val + (i 2).val / 256 < cfg0.N := lt_of_lt_of_eq (by omega : _ < 128) N_0.symm
    refine ⟨⟨32 * (i 0).val + (i 2).val / 256, hlt⟩, flush0_12 _, ?_⟩
    rw [mem_key]
    intro a
    rw [index12]
    match a with
    | ⟨0, _⟩ => show (32 * (i 0).val + (i 2).val / 256) / 32 * 1 ≤ (i 0).val ∧ (i 0).val < (32 * (i 0).val + (i 2).val / 256) / 32 * 1 + 1; omega
    | ⟨1, _⟩ => show 0 * 8 ≤ (i 1).val ∧ (i 1).val < 0 * 8 + 8; omega
    | ⟨2, _⟩ => show (32 * (i 0).val + (i 2).val / 256) % 32 * 256 ≤ (i 2).val ∧ (i 2).val < (32 * (i 0).val + (i 2).val / 256) % 32 * 256 + 256; omega
    | ⟨3, _⟩ => show 0 * 256 ≤ (i 3).val ∧ (i 3).val < 0 * 256 + 256; omega

include h0 h1 h2 in
/-- The array of values holds every position's values. -/
theorem value_eq : (dats m 0 c).arrAt 13 cfg0.N = fun i : S4x8x144x8192.Idx => value (row x g w (i 0) (i 3)) (i 1) (i 2) := by
  refine (dats m 0 c).arrAt_eq_of_cover 13 _ (fun t _ => ?_) (fun i => ?_)
  · funext y
    have hN : t.val < 128 := lt_of_lt_of_eq t.isLt N_0
    have y0 : (y 0).val < 1 := (y 0).isLt
    have y3 : (y 3).val < 256 := (y 3).isLt
    refine (value_flushed m c t y).trans ?_
    have ei : ((win0_13.rect t).emb y : S4x8x144x8192.Idx)
        = ix4 (⟨t.val / 32, by omega⟩ : Fin 4) (y 1) (y 2) (⟨256 * (t.val % 32) + (y 3).val, by omega⟩ : Fin 8192) := funext fun a => Fin.ext (by
      rw [Pipeline.Window.rect_emb_val win0_13, index13]
      match a with
      | ⟨0, _⟩ => show t.val / 32 * 1 + (y 0).val = t.val / 32; omega
      | ⟨1, _⟩ => show 0 * 8 + (y 1).val = (y 1).val; omega
      | ⟨2, _⟩ => show 0 * 144 + (y 2).val = (y 2).val; omega
      | ⟨3, _⟩ => show t.val % 32 * 256 + (y 3).val = 256 * (t.val % 32) + (y 3).val; omega)
    refine Eq.trans ?_ (congrArg (fun i : S4x8x144x8192.Idx => value (row x g w (i 0) (i 3)) (i 1) (i 2)) ei).symm
    refine (congrArg (View.canon _) (eq_ix4 y)).trans ?_
    refine (valuePieces_apply _ (y 0) (y 1) (y 2) (y 3)).trans ?_
    show valueAt _ (y 1) (y 2) (y 3) = value (row x g w ⟨t.val / 32, by omega⟩ ⟨256 * (t.val % 32) + (y 3).val, by omega⟩) (y 1) (y 2)
    unfold valueAt value
    exact dite_congr rfl (fun _ => projected_read m c x g w h0 h1 h2 t (y 3) _ _ rfl rfl _) fun _ => rfl
  · have i0 : (i 0).val < 4 := (i 0).isLt
    have i1 : (i 1).val < 8 := (i 1).isLt
    have i2 : (i 2).val < 144 := (i 2).isLt
    have i3 : (i 3).val < 8192 := (i 3).isLt
    have hlt : 32 * (i 0).val + (i 3).val / 256 < cfg0.N := lt_of_lt_of_eq (by omega : _ < 128) N_0.symm
    refine ⟨⟨32 * (i 0).val + (i 3).val / 256, hlt⟩, flush0_13 _, ?_⟩
    rw [mem_value]
    intro a
    rw [index13]
    match a with
    | ⟨0, _⟩ => show (32 * (i 0).val + (i 3).val / 256) / 32 * 1 ≤ (i 0).val ∧ (i 0).val < (32 * (i 0).val + (i 3).val / 256) / 32 * 1 + 1; omega
    | ⟨1, _⟩ => show 0 * 8 ≤ (i 1).val ∧ (i 1).val < 0 * 8 + 8; omega
    | ⟨2, _⟩ => show 0 * 144 ≤ (i 2).val ∧ (i 2).val < 0 * 144 + 144; omega
    | ⟨3, _⟩ => show (32 * (i 0).val + (i 3).val / 256) % 32 * 256 ≤ (i 3).val ∧ (i 3).val < (32 * (i 0).val + (i 3).val / 256) % 32 * 256 + 256; omega

include h0 h1 h2 in
/-- The array of gates holds every position's gates. -/
theorem gate_eq (G : S32768x2048.Idx → EReal)
    (hG : ∀ (r : Fin 32768) (e : Fin 2048) (a : Fin 4) (s : Fin 8192), r.val = 8192 * a.val + s.val → G (ix2 r e) = row x g w a s (gateCol e)) :
    (dats m 0 c).arrAt 14 cfg0.N = G := by
  refine (dats m 0 c).arrAt_eq_of_cover 14 _ (fun t _ => ?_) (fun i => ?_)
  · funext y
    have hN : t.val < 128 := lt_of_lt_of_eq t.isLt N_0
    have y0 : (y 0).val < 256 := (y 0).isLt
    refine (gate_flushed m c t y).trans ?_
    have ei : ((win0_14.rect t).emb y : S32768x2048.Idx) = ix2 (⟨256 * t.val + (y 0).val, by omega⟩ : Fin 32768) (y 1) := funext fun a => Fin.ext (by
      rw [Pipeline.Window.rect_emb_val win0_14, index14]
      match a with
      | ⟨0, _⟩ => show t.val * 256 + (y 0).val = 256 * t.val + (y 0).val; omega
      | ⟨1, _⟩ => show 0 * 2048 + (y 1).val = (y 1).val; omega)
    refine Eq.trans ?_ (congrArg G ei).symm
    refine (congrArg (View.canon _) (eq_ix2 y)).trans ?_
    refine (gatePieces_apply _ (y 0) (y 1)).trans ?_
    refine Eq.trans ?_ (hG _ _ ⟨t.val / 32, by omega⟩ ⟨256 * (t.val % 32) + (y 0).val, by omega⟩ (by show 256 * t.val + (y 0).val = 8192 * (t.val / 32) + (256 * (t.val % 32) + (y 0).val); omega)).symm
    exact projected_read m c x g w h0 h1 h2 t (y 0) _ _ rfl rfl _
  · have i0 : (i 0).val < 32768 := (i 0).isLt
    have i1 : (i 1).val < 2048 := (i 1).isLt
    have hlt : (i 0).val / 256 < cfg0.N := lt_of_lt_of_eq (by omega : _ < 128) N_0.symm
    refine ⟨⟨(i 0).val / 256, hlt⟩, flush0_14 _, ?_⟩
    rw [mem_gate]
    intro a
    rw [index14]
    match a with
    | ⟨0, _⟩ => show (i 0).val / 256 * 256 ≤ (i 0).val ∧ (i 0).val < (i 0).val / 256 * 256 + 256; omega
    | ⟨1, _⟩ => show 0 * 2048 ≤ (i 1).val ∧ (i 1).val < 0 * 2048 + 2048; omega

end Arrays

end Cert.Kernel4Ideal.InProj
-- ==== Proof.InProj.Queries.lean ====
/- The queries and the gate input of the recurrent branch, as the input-projection kernel stores them, read at an index. -/
module

public import proofs.«01_k».proof.Proof.InProj.Pieces

@[expose] public section

set_option maxRecDepth 16384

noncomputable section

namespace Cert.Kernel4Ideal.InProj

open Idealize.ShloMosaic Idealize.ShloMosaic.TcCoe Idealize.SL.Sem Cert.Kernel4Ideal Cert.Kernel4Ideal.Gen Cert.InProj

/-- The named scale is the real number its word rounds. -/
theorem named_scale : Named.named (F := Ideal) κ "scale" (φ := .f32) 0x3E0293EE#32 = (scale : EReal) := by
  simp only [Named.named, κ]; rfl

theorem query0_apply (y : Vec Ideal S256x512 .f32) (g : Vec Ideal S1x128 .f32) (a b : Fin 1) (d : Fin 128) (p : Fin 256) :
    k0_pay74 (F := Ideal) y g (ix4 a b d p) = head (fun e => y (ix2 p (col 0 e))) (fun e => g (ix2 0 e)) d * (scale : EReal) := by
  pointwise [k0_pay74, k0_pay73]
  simp only [col_zero, named_scale]; rfl

theorem query1_apply (y : Vec Ideal S256x512 .f32) (g : Vec Ideal S1x128 .f32) (a b : Fin 1) (d : Fin 128) (p : Fin 256) :
    k0_pay81 (F := Ideal) (k0_pay80 (F := Ideal) y g) (ix4 a b d p) = head (fun e => y (ix2 p (col 1 e))) (fun e => g (ix2 0 e)) d * (scale : EReal) := by
  pointwise [k0_pay81, k0_pay80, k0_pay79]
  simp only [named_scale]; rfl

theorem query2_apply (y : Vec Ideal S256x512 .f32) (g : Vec Ideal S1x128 .f32) (a b : Fin 1) (d : Fin 128) (p : Fin 256) :
    k0_pay89 (F := Ideal) (k0_pay85 (F := Ideal) y) (k0_pay86 (F := Ideal) g) (k0_pay87 (F := Ideal) y) (ix4 a b d p) = head (fun e => y (ix2 p (col 2 e))) (fun e => g (ix2 0 e)) d * (scale : EReal) := by
  pointwise [k0_pay89, k0_pay88, k0_pay87, k0_pay86, k0_pay85]
  simp only [named_scale]; rfl

theorem query3_apply (y : Vec Ideal S256x512 .f32) (g : Vec Ideal S1x128 .f32) (a b : Fin 1) (d : Fin 128) (p : Fin 256) :
    k0_pay96 (F := Ideal) y g (ix4 a b d p) = head (fun e => y (ix2 p (col 3 e))) (fun e => g (ix2 0 e)) d * (scale : EReal) := by
  pointwise [k0_pay96, k0_pay95]
  simp only [named_scale]; rfl

theorem query4_apply (y : Vec Ideal S256x512 .f32) (g : Vec Ideal S1x128 .f32) (a b : Fin 1) (d : Fin 128) (p : Fin 256) :
    k0_pay170 (F := Ideal) y g (ix4 a b d p) = head (fun e => y (ix2 p (col 0 e))) (fun e => g (ix2 0 e)) d * (scale : EReal) := by
  pointwise [k0_pay170, k0_pay169]
  simp only [col_zero, named_scale]; rfl

theorem query5_apply (y : Vec Ideal S256x512 .f32) (g : Vec Ideal S1x128 .f32) (a b : Fin 1) (d : Fin 128) (p : Fin 256) :
    k0_pay178 (F := Ideal) y g (ix4 a b d p) = head (fun e => y (ix2 p (col 1 e))) (fun e => g (ix2 0 e)) d * (scale : EReal) := by
  pointwise [k0_pay178, k0_pay177]
  simp only [named_scale]; rfl

theorem query6_apply (y : Vec Ideal S256x512 .f32) (g : Vec Ideal S1x128 .f32) (a b : Fin 1) (d : Fin 128) (p : Fin 256) :
    k0_pay187 (F := Ideal) (k0_pay182 (F := Ideal) y) (k0_pay183 (F := Ideal) g) (k0_pay184 (F := Ideal) y) (k0_pay185 (F := Ideal)) (ix4 a b d p) = head (fun e => y (ix2 p (col 2 e))) (fun e => g (ix2 0 e)) d * (scale : EReal) := by
  pointwise [k0_pay187, k0_pay186, k0_pay185, k0_pay184, k0_pay183, k0_pay182]
  simp only [named_scale]; rfl

theorem query7_apply (y : Vec Ideal S256x512 .f32) (g : Vec Ideal S1x128 .f32) (a b : Fin 1) (d : Fin 128) (p : Fin 256) :
    k0_pay193 (F := Ideal) y g (ix4 a b d p) = head (fun e => y (ix2 p (col 3 e))) (fun e => g (ix2 0 e)) d * (scale : EReal) := by
  pointwise [k0_pay193, k0_pay192]
  simp only [named_scale]; rfl

section Pieces

variable {F : FTy → Type} [FloatOps F] [Named F]

/-- A run of 128 columns of the projected block. -/
def short (u : Vec F S256x7168 .f32) (o : ℕ) (h : ∀ a, (![0, o] : Fin 2 → ℕ) a + S256x128.size a ≤ S256x7168.size a) : Vec F S256x128 .f32 :=
  fun j => u ((Rect.unit (s := S256x7168) ![0, o] S256x128.size h).emb j)

theorem short_apply (u : Vec F S256x7168 .f32) (o : ℕ) (h : ∀ a, (![0, o] : Fin 2 → ℕ) a + S256x128.size a ≤ S256x7168.size a) (p : Fin 256) (e : Fin 128)
    (f : Fin 7168) (hf : f.val = o + e.val) : short u o h (ix2 p e) = u (ix2 p f) :=
  congrArg u (funext fun a => Fin.ext (match a with
    | ⟨0, _⟩ => show 0 + 1 * p.val = p.val by omega
    | ⟨1, _⟩ => show o + 1 * e.val = f.val by omega))

/-- The stores into the block of queries, last first; what lies under the queries is whatever it is. -/
def queryPieces (u : Vec F S256x7168 .f32) (g : Vec F S1x128 .f32) (w0 w1 w2 w3 w4 w5 w6 w7 : FVec F S1x1x128x256 .bf16) : List (View.Piece (Elt F) S1x8x256x256 .bf16) :=
  [⟨Rect.unit ![0, 7, 128, 0] ![1, 1, 128, 256] inb_S1x8x256x256_S1x1x128x256_0_7_128_0, w7⟩,
   ⟨Rect.unit ![0, 7, 0, 0] ![1, 1, 128, 256] inb_S1x8x256x256_S1x1x128x256_0_7_0_0, k0_pay193 (run u 2560 inb_S256x7168_S256x512_0_2560) g⟩,
   ⟨Rect.unit ![0, 6, 128, 0] ![1, 1, 128, 256] inb_S1x8x256x256_S1x1x128x256_0_6_128_0, w6⟩,
   ⟨Rect.unit ![0, 6, 0, 0] ![1, 1, 128, 256] inb_S1x8x256x256_S1x1x128x256_0_6_0_0, k0_pay187 (k0_pay182 (run u 2560 inb_S256x7168_S256x512_0_2560)) (k0_pay183 g) (k0_pay184 (run u 2560 inb_S256x7168_S256x512_0_2560)) k0_pay185⟩,
   ⟨Rect.unit ![0, 5, 128, 0] ![1, 1, 128, 256] inb_S1x8x256x256_S1x1x128x256_0_5_128_0, w5⟩,
   ⟨Rect.unit ![0, 5, 0, 0] ![1, 1, 128, 256] inb_S1x8x256x256_S1x1x128x256_0_5_0_0, k0_pay178 (run u 2560 inb_S256x7168_S256x512_0_2560) g⟩,
   ⟨Rect.unit ![0, 4, 128, 0] ![1, 1, 128, 256] inb_S1x8x256x256_S1x1x128x256_0_4_128_0, w4⟩,
   ⟨Rect.unit ![0, 4, 0, 0] ![1, 1, 128, 256] inb_S1x8x256x256_S1x1x128x256_0_4_0_0, k0_pay170 (run u 2560 inb_S256x7168_S256x512_0_2560) g⟩,
   ⟨Rect.unit ![0, 3, 128, 0] ![1, 1, 128, 256] inb_S1x8x256x256_S1x1x128x256_0_3_128_0, w3⟩,
   ⟨Rect.unit ![0, 3, 0, 0] ![1, 1, 128, 256] inb_S1x8x256x256_S1x1x128x256_0_3_0_0, k0_pay96 (run u 2048 inb_S256x7168_S256x512_0_2048) g⟩,
   ⟨Rect.unit ![0, 2, 128, 0] ![1, 1, 128, 256] inb_S1x8x256x256_S1x1x128x256_0_2_128_0, w2⟩,
   ⟨Rect.unit ![0, 2, 0, 0] ![1, 1, 128, 256] inb_S1x8x256x256_S1x1x128x256_0_2_0_0, k0_pay89 (k0_pay85 (run u 2048 inb_S256x7168_S256x512_0_2048)) (k0_pay86 g) (k0_pay87 (run u 2048 inb_S256x7168_S256x512_0_2048))⟩,
   ⟨Rect.unit ![0, 1, 128, 0] ![1, 1, 128, 256] inb_S1x8x256x256_S1x1x128x256_0_1_128_0, w1⟩,
   ⟨Rect.unit ![0, 1, 0, 0] ![1, 1, 128, 256] inb_S1x8x256x256_S1x1x128x256_0_1_0_0, k0_pay81 (k0_pay80 (run u 2048 inb_S256x7168_S256x512_0_2048) g)⟩,
   ⟨Rect.unit ![0, 0, 128, 0] ![1, 1, 128, 256] inb_S1x8x256x256_S1x1x128x256_0_0_128_0, w0⟩,
   ⟨Rect.unit ![0, 0, 0, 0] ![1, 1, 128, 256] inb_S1x8x256x256_S1x1x128x256_0_0_0_0, k0_pay74 (run u 2048 inb_S256x7168_S256x512_0_2048) g⟩]

/-- The stores into the block of the recurrent branch, last first; what lies beside the gate input is whatever it is. -/
def inputPieces (u : Vec F S256x7168 .f32) (w0 w1 w2 w3 w4 w5 w6 w7 : FVec F S256x128 .bf16) : List (View.Piece (Elt F) S256x2048 .bf16) :=
  [⟨Rect.unit ![0, 1920] ![256, 128] inb_S256x2048_S256x128_0_1920, k0_pay608 (short u 1920 inb_S256x7168_S256x128_0_1920)⟩,
   ⟨Rect.unit ![0, 896] ![256, 128] inb_S256x2048_S256x128_0_896, w7⟩,
   ⟨Rect.unit ![0, 1792] ![256, 128] inb_S256x2048_S256x128_0_1792, k0_pay550 (short u 1792 inb_S256x7168_S256x128_0_1792)⟩,
   ⟨Rect.unit ![0, 768] ![256, 128] inb_S256x2048_S256x128_0_768, w6⟩,
   ⟨Rect.unit ![0, 1664] ![256, 128] inb_S256x2048_S256x128_0_1664, k0_pay481 (short u 1664 inb_S256x7168_S256x128_0_1664)⟩,
   ⟨Rect.unit ![0, 640] ![256, 128] inb_S256x2048_S256x128_0_640, w5⟩,
   ⟨Rect.unit ![0, 1536] ![256, 128] inb_S256x2048_S256x128_0_1536, k0_pay416 (short u 1536 inb_S256x7168_S256x128_0_1536)⟩,
   ⟨Rect.unit ![0, 512] ![256, 128] inb_S256x2048_S256x128_0_512, w4⟩,
   ⟨Rect.unit ![0, 1408] ![256, 128] inb_S256x2048_S256x128_0_1408, k0_pay340 (short u 1408 inb_S256x7168_S256x128_0_1408)⟩,
   ⟨Rect.unit ![0, 384] ![256, 128] inb_S256x2048_S256x128_0_384, w3⟩,
   ⟨Rect.unit ![0, 1280] ![256, 128] inb_S256x2048_S256x128_0_1280, k0_pay263 (short u 1280 inb_S256x7168_S256x128_0_1280)⟩,
   ⟨Rect.unit ![0, 256] ![256, 128] inb_S256x2048_S256x128_0_256, w2⟩,
   ⟨Rect.unit ![0, 1152] ![256, 128] inb_S256x2048_S256x128_0_1152, k0_pay168 (short u 1152 inb_S256x7168_S256x128_0_1152)⟩,
   ⟨Rect.unit ![0, 128] ![256, 128] inb_S256x2048_S256x128_0_128, w1⟩,
   ⟨Rect.unit ![0, 1024] ![256, 128] inb_S256x2048_S256x128_0_1024, k0_pay72 (short u 1024 inb_S256x7168_S256x128_0_1024)⟩,
   ⟨Rect.unit ![0, 0] ![256, 128] inb_S256x2048_S256x128_0_0, w0⟩]

end Pieces

/-- A store of a head's queries. -/
theorem query_tile (u : Vec Ideal S256x7168 .f32) (g : Vec Ideal S1x128 .f32) (k : Fin 8) (a : Fin 1) (h : Fin 8) (r : Fin 256) (hr : r.val < 128) (p : Fin 256)
    (w : FVec Ideal S1x1x128x256 .bf16)
    (hw : ∀ (a b : Fin 1) (d : Fin 128) (p : Fin 256), w (ix4 a b d p) = query (fun f => u (ix2 p f)) (fun e => g (ix2 0 e)) k d) :
    View.TileAt (S := S1x8x256x256) (Val := Elt Ideal) (e := .bf16) (ix4 a h r p) ![0, k.val, 0, 0] ![1, 1, 128, 256] w
      (query (fun f => u (ix2 p f)) (fun e => g (ix2 0 e)) h ⟨r.val, hr⟩) := by
  intro x hx
  obtain ⟨x0, x1, x2, x3, rfl⟩ : ∃ (x0 x1 : Fin 1) (x2 : Fin 128) (x3 : Fin 256), x = ix4 x0 x1 x2 x3 := ⟨x 0, x 1, x 2, x 3, eq_ix4 x⟩
  have h1 : h.val = k.val + x1.val := hx (1 : Fin 4)
  have h2 : r.val = 0 + x2.val := hx (2 : Fin 4)
  have h3 : p.val = 0 + x3.val := hx (3 : Fin 4)
  obtain rfl : h = k := Fin.ext (by omega)
  obtain rfl : p = x3 := Fin.ext (by omega)
  refine (hw _ _ _ _).trans ?_
  congr 1
  exact Fin.ext (by show x2.val = r.val; omega)

/-- A store under a head's queries is nowhere above. -/
theorem under_tile (v : EReal) (k : ℕ) (a : Fin 1) (h : Fin 8) (r : Fin 256) (hr : r.val < 128) (p : Fin 256) (w : FVec Ideal S1x1x128x256 .bf16) :
    View.TileAt (S := S1x8x256x256) (Val := Elt Ideal) (e := .bf16) (ix4 a h r p) ![0, k, 128, 0] ![1, 1, 128, 256] w v := by
  intro x hx
  have h2 : r.val = 128 + (x (2 : Fin 4)).val := hx (2 : Fin 4)
  omega

theorem query0 (u : Vec Ideal S256x7168 .f32) (g : Vec Ideal S1x128 .f32) (a b : Fin 1) (d : Fin 128) (p : Fin 256) :
    k0_pay74 (F := Ideal) (run u 2048 inb_S256x7168_S256x512_0_2048) g (ix4 a b d p) = query (fun f => u (ix2 p f)) (fun e => g (ix2 0 e)) 0 d := by
  rw [query0_apply]
  refine congrArg (fun y => head y _ d * (scale : EReal)) (funext fun e => ?_)
  exact run_apply u 2048 _ p _ _ (show 2048 + (0 * 128 + e.val) = 2048 + (0 * 128 + e.val) by omega)

theorem query1 (u : Vec Ideal S256x7168 .f32) (g : Vec Ideal S1x128 .f32) (a b : Fin 1) (d : Fin 128) (p : Fin 256) :
    k0_pay81 (F := Ideal) (k0_pay80 (F := Ideal) (run u 2048 inb_S256x7168_S256x512_0_2048) g) (ix4 a b d p) = query (fun f => u (ix2 p f)) (fun e => g (ix2 0 e)) 1 d := by
  rw [query1_apply]
  refine congrArg (fun y => head y _ d * (scale : EReal)) (funext fun e => ?_)
  exact run_apply u 2048 _ p _ _ (show 2048 + (1 * 128 + e.val) = 2048 + (1 * 128 + e.val) by omega)

theorem query2 (u : Vec Ideal S256x7168 .f32) (g : Vec Ideal S1x128 .f32) (a b : Fin 1) (d : Fin 128) (p : Fin 256) :
    k0_pay89 (F := Ideal) (k0_pay85 (F := Ideal) (run u 2048 inb_S256x7168_S256x512_0_2048)) (k0_pay86 (F := Ideal) g) (k0_pay87 (F := Ideal) (run u 2048 inb_S256x7168_S256x512_0_2048)) (ix4 a b d p) = query (fun f => u (ix2 p f)) (fun e => g (ix2 0 e)) 2 d := by
  rw [query2_apply]
  refine congrArg (fun y => head y _ d * (scale : EReal)) (funext fun e => ?_)
  exact run_apply u 2048 _ p _ _ (show 2048 + (2 * 128 + e.val) = 2048 + (2 * 128 + e.val) by omega)

theorem query3 (u : Vec Ideal S256x7168 .f32) (g : Vec Ideal S1x128 .f32) (a b : Fin 1) (d : Fin 128) (p : Fin 256) :
    k0_pay96 (F := Ideal) (run u 2048 inb_S256x7168_S256x512_0_2048) g (ix4 a b d p) = query (fun f => u (ix2 p f)) (fun e => g (ix2 0 e)) 3 d := by
  rw [query3_apply]
  refine congrArg (fun y => head y _ d * (scale : EReal)) (funext fun e => ?_)
  exact run_apply u 2048 _ p _ _ (show 2048 + (3 * 128 + e.val) = 2048 + (3 * 128 + e.val) by omega)

theorem query4 (u : Vec Ideal S256x7168 .f32) (g : Vec Ideal S1x128 .f32) (a b : Fin 1) (d : Fin 128) (p : Fin 256) :
    k0_pay170 (F := Ideal) (run u 2560 inb_S256x7168_S256x512_0_2560) g (ix4 a b d p) = query (fun f => u (ix2 p f)) (fun e => g (ix2 0 e)) 4 d := by
  rw [query4_apply]
  refine congrArg (fun y => head y _ d * (scale : EReal)) (funext fun e => ?_)
  exact run_apply u 2560 _ p _ _ (show 2048 + (4 * 128 + e.val) = 2560 + (0 * 128 + e.val) by omega)

theorem query5 (u : Vec Ideal S256x7168 .f32) (g : Vec Ideal S1x128 .f32) (a b : Fin 1) (d : Fin 128) (p : Fin 256) :
    k0_pay178 (F := Ideal) (run u 2560 inb_S256x7168_S256x512_0_2560) g (ix4 a b d p) = query (fun f => u (ix2 p f)) (fun e => g (ix2 0 e)) 5 d := by
  rw [query5_apply]
  refine congrArg (fun y => head y _ d * (scale : EReal)) (funext fun e => ?_)
  exact run_apply u 2560 _ p _ _ (show 2048 + (5 * 128 + e.val) = 2560 + (1 * 128 + e.val) by omega)

theorem query6 (u : Vec Ideal S256x7168 .f32) (g : Vec Ideal S1x128 .f32) (a b : Fin 1) (d : Fin 128) (p : Fin 256) :
    k0_pay187 (F := Ideal) (k0_pay182 (F := Ideal) (run u 2560 inb_S256x7168_S256x512_0_2560)) (k0_pay183 (F := Ideal) g) (k0_pay184 (F := Ideal) (run u 2560 inb_S256x7168_S256x512_0_2560)) (k0_pay185 (F := Ideal)) (ix4 a b d p) = query (fun f => u (ix2 p f)) (fun e => g (ix2 0 e)) 6 d := by
  rw [query6_apply]
  refine congrArg (fun y => head y _ d * (scale : EReal)) (funext fun e => ?_)
  exact run_apply u 2560 _ p _ _ (show 2048 + (6 * 128 + e.val) = 2560 + (2 * 128 + e.val) by omega)

theorem query7 (u : Vec Ideal S256x7168 .f32) (g : Vec Ideal S1x128 .f32) (a b : Fin 1) (d : Fin 128) (p : Fin 256) :
    k0_pay193 (F := Ideal) (run u 2560 inb_S256x7168_S256x512_0_2560) g (ix4 a b d p) = query (fun f => u (ix2 p f)) (fun e => g (ix2 0 e)) 7 d := by
  rw [query7_apply]
  refine congrArg (fun y => head y _ d * (scale : EReal)) (funext fun e => ?_)
  exact run_apply u 2560 _ p _ _ (show 2048 + (7 * 128 + e.val) = 2560 + (3 * 128 + e.val) by omega)

/-- The block of queries after its stores. -/
theorem queryPieces_apply (u : Vec Ideal S256x7168 .f32) (g : Vec Ideal S1x128 .f32) (w0 w1 w2 w3 w4 w5 w6 w7 : FVec Ideal S1x1x128x256 .bf16)
    (a : Fin 1) (h : Fin 8) (r : Fin 256) (hr : r.val < 128) (p : Fin 256) :
    View.canon (queryPieces u g w0 w1 w2 w3 w4 w5 w6 w7) (ix4 a h r p) = query (fun f => u (ix2 p f)) (fun e => g (ix2 0 e)) h ⟨r.val, hr⟩ := by
  refine View.canon_eq_of_allAt _ _ _ (View.cover_of_tiledL (s := S1x8x256x256) (queryPieces u g w0 w1 w2 w3 w4 w5 w6 w7) S1x1x128x256.size (by sl_kernel_rfl) _) ?_
  unfold queryPieces
  refine View.allAt_cons_unit _ _ _ _ _ (under_tile _ 7 a h r hr p _) ?_
  refine View.allAt_cons_unit _ _ _ _ _ (query_tile u g 7 a h r hr p _ (query7 u g)) ?_
  refine View.allAt_cons_unit _ _ _ _ _ (under_tile _ 6 a h r hr p _) ?_
  refine View.allAt_cons_unit _ _ _ _ _ (query_tile u g 6 a h r hr p _ (query6 u g)) ?_
  refine View.allAt_cons_unit _ _ _ _ _ (under_tile _ 5 a h r hr p _) ?_
  refine View.allAt_cons_unit _ _ _ _ _ (query_tile u g 5 a h r hr p _ (query5 u g)) ?_
  refine View.allAt_cons_unit _ _ _ _ _ (under_tile _ 4 a h r hr p _) ?_
  refine View.allAt_cons_unit _ _ _ _ _ (query_tile u g 4 a h r hr p _ (query4 u g)) ?_
  refine View.allAt_cons_unit _ _ _ _ _ (under_tile _ 3 a h r hr p _) ?_
  refine View.allAt_cons_unit _ _ _ _ _ (query_tile u g 3 a h r hr p _ (query3 u g)) ?_
  refine View.allAt_cons_unit _ _ _ _ _ (under_tile _ 2 a h r hr p _) ?_
  refine View.allAt_cons_unit _ _ _ _ _ (query_tile u g 2 a h r hr p _ (query2 u g)) ?_
  refine View.allAt_cons_unit _ _ _ _ _ (under_tile _ 1 a h r hr p _) ?_
  refine View.allAt_cons_unit _ _ _ _ _ (query_tile u g 1 a h r hr p _ (query1 u g)) ?_
  refine View.allAt_cons_unit _ _ _ _ _ (under_tile _ 0 a h r hr p _) ?_
  refine View.allAt_cons_unit _ _ _ _ _ (query_tile u g 0 a h r hr p _ (query0 u g)) ?_
  exact View.allAt_nil _ _

/-- A store of a run of the gate input. -/
theorem input_tile (u : Vec Ideal S256x7168 .f32) (o : ℕ) (p : Fin 256) (e : Fin 2048) (w : FVec Ideal S256x128 .bf16)
    (hw : ∀ (p : Fin 256) (e : Fin 128) (f : Fin 7168), f.val = o + e.val → w (ix2 p e) = u (ix2 p f)) :
    View.TileAt (S := S256x2048) (Val := Elt Ideal) (e := .bf16) (ix2 p e) ![0, o] ![256, 128] w (u (ix2 p (inputCol e))) := by
  intro x hx
  obtain ⟨x0, x1, rfl⟩ : ∃ (x0 : Fin 256) (x1 : Fin 128), x = ix2 x0 x1 := ⟨x 0, x 1, eq_ix2 x⟩
  have h0 : p.val = 0 + x0.val := hx (0 : Fin 2)
  have h1 : e.val = o + x1.val := hx (1 : Fin 2)
  obtain rfl : p = x0 := Fin.ext (by omega)
  exact hw _ _ _ h1

/-- A store beside the gate input is nowhere in it. -/
theorem beside_tile (v : EReal) (o : ℕ) (ho : o + 128 ≤ 1024) (p : Fin 256) (e : Fin 2048) (he : 1024 ≤ e.val) (w : FVec Ideal S256x128 .bf16) :
    View.TileAt (S := S256x2048) (Val := Elt Ideal) (e := .bf16) (ix2 p e) ![0, o] ![256, 128] w v := by
  intro x hx
  have h1 : e.val = o + (x (1 : Fin 2)).val := hx (1 : Fin 2)
  have h2 : (x (1 : Fin 2)).val < 128 := (x (1 : Fin 2)).isLt
  omega

/-- The block of the recurrent branch after its stores, at the gate input. -/
theorem inputPieces_apply (u : Vec Ideal S256x7168 .f32) (w0 w1 w2 w3 w4 w5 w6 w7 : FVec Ideal S256x128 .bf16) (p : Fin 256) (e : Fin 2048) (he : 1024 ≤ e.val) :
    View.canon (inputPieces u w0 w1 w2 w3 w4 w5 w6 w7) (ix2 p e) = u (ix2 p (inputCol e)) := by
  refine View.canon_eq_of_allAt _ _ _ (View.cover_of_tiledL (s := S256x2048) (inputPieces u w0 w1 w2 w3 w4 w5 w6 w7) S256x128.size (by sl_kernel_rfl) _) ?_
  unfold inputPieces
  refine View.allAt_cons_unit _ _ _ _ _ (input_tile u 1920 p e _ fun p e f hf => short_apply u 1920 _ p e f hf) ?_
  refine View.allAt_cons_unit _ _ _ _ _ (beside_tile _ 896 (by norm_num) p e he _) ?_
  refine View.allAt_cons_unit _ _ _ _ _ (input_tile u 1792 p e _ fun p e f hf => short_apply u 1792 _ p e f hf) ?_
  refine View.allAt_cons_unit _ _ _ _ _ (beside_tile _ 768 (by norm_num) p e he _) ?_
  refine View.allAt_cons_unit _ _ _ _ _ (input_tile u 1664 p e _ fun p e f hf => short_apply u 1664 _ p e f hf) ?_
  refine View.allAt_cons_unit _ _ _ _ _ (beside_tile _ 640 (by norm_num) p e he _) ?_
  refine View.allAt_cons_unit _ _ _ _ _ (input_tile u 1536 p e _ fun p e f hf => short_apply u 1536 _ p e f hf) ?_
  refine View.allAt_cons_unit _ _ _ _ _ (beside_tile _ 512 (by norm_num) p e he _) ?_
  refine View.allAt_cons_unit _ _ _ _ _ (input_tile u 1408 p e _ fun p e f hf => short_apply u 1408 _ p e f hf) ?_
  refine View.allAt_cons_unit _ _ _ _ _ (beside_tile _ 384 (by norm_num) p e he _) ?_
  refine View.allAt_cons_unit _ _ _ _ _ (input_tile u 1280 p e _ fun p e f hf => short_apply u 1280 _ p e f hf) ?_
  refine View.allAt_cons_unit _ _ _ _ _ (beside_tile _ 256 (by norm_num) p e he _) ?_
  refine View.allAt_cons_unit _ _ _ _ _ (input_tile u 1152 p e _ fun p e f hf => short_apply u 1152 _ p e f hf) ?_
  refine View.allAt_cons_unit _ _ _ _ _ (beside_tile _ 128 (by norm_num) p e he _) ?_
  refine View.allAt_cons_unit _ _ _ _ _ (input_tile u 1024 p e _ fun p e f hf => short_apply u 1024 _ p e f hf) ?_
  refine View.allAt_cons_unit _ _ _ _ _ (beside_tile _ 0 (by norm_num) p e he _) ?_
  exact View.allAt_nil _ _

end Cert.Kernel4Ideal.InProj

end
-- ==== Proof.InProj.QueryPoints.lean ====
/- What a point of the input-projection kernel leaves in its blocks of queries and of the recurrent branch. -/
module

public import proofs.«01_k».proof.Proof.InProj.Points
public import proofs.«01_k».proof.Proof.InProj.Queries

@[expose] public section

set_option maxRecDepth 16384

noncomputable section

namespace Cert.Kernel4Ideal.InProj

open Idealize.ShloMosaic Idealize.ShloMosaic.TcCoe Idealize.SL.Sem Cert.Kernel4Ideal Cert.Kernel4Ideal.Gen Cert.InProj

variable {F : FTy → Type} [FloatOps F] [Named F]

/-- A load of a short run of the projected block. -/
theorem short_read (m : Memref sig .tc .vmem S256x7168 .f32) (u : Vec F S256x7168 .f32) (o : ℕ) (h : ∀ a, (![0, o] : Fin 2 → ℕ) a + S256x128.size a ≤ S256x7168.size a) :
    m.view.readCov (Val := Elt F) [⟨Rect.unit ![0, 0] S256x7168.size inb_S256x7168_S256x7168_0_0, u⟩] (Rect.unit (s := S256x7168) ![0, o] S256x128.size h).toLoadRect = short u o h := by
  rw [View.readCov_eq_canon']
  exact funext fun j => congrFun (View.canon_unit_zero z2 _ u) _

section Points

variable (c : Dev nD) (i : grid0.Coords)
  (arg1 : Memref sig .tc .vmem S256x1024 .f32) (harg1 : arg1.IsWhole)
  (arg2 : Memref sig .tc .vmem S1x1024 .f32) (harg2 : arg2.IsWhole)
  (arg3 : Memref sig .tc .vmem S1024x7168 .bf16) (harg3 : arg3.IsWhole)
  (arg4 : Memref sig .tc .vmem S1x128 .f32) (harg4 : arg4.IsWhole)
  (arg5 : Memref sig .tc .vmem S1x128 .f32) (harg5 : arg5.IsWhole)
  (arg6 : Memref sig .tc .vmem S4x1024 .f32) (harg6 : arg6.IsWhole)
  (arg7 : Memref sig .tc .vmem S1x1024 .f32) (harg7 : arg7.IsWhole)
  (arg8 : Memref sig .tc .vmem S8x128x256 .bf16) (harg8 : arg8.IsWhole)
  (arg9 : Memref sig .tc .vmem S8x1x256 .f32) (harg9 : arg9.IsWhole)
  (arg10 : Memref sig .tc .vmem S1x1024 .f32) (harg10 : arg10.IsWhole)
  (arg11 : Memref sig .tc .vmem S256x2048 .bf16) (harg11 : arg11.IsWhole)
  (arg12 : Memref sig .tc .vmem S1x8x256x256 .bf16) (harg12 : arg12.IsWhole)
  (arg13 : Memref sig .tc .vmem S1x8x256x256 .bf16) (harg13 : arg13.IsWhole)
  (arg14 : Memref sig .tc .vmem S1x8x144x256 .bf16) (harg14 : arg14.IsWhole)
  (arg15 : Memref sig .tc .vmem S256x2048 .bf16) (harg15 : arg15.IsWhole)
  (arg16 : Memref sig .tc .vmem S32x1024 .f32) (harg16 : arg16.IsWhole)
  (arg17 : Memref sig .tc .vmem S264x1024 .f32) (harg17 : arg17.IsWhole)
  (arg18 : Memref sig .tc .vmem S8x1024 .f32) (harg18 : arg18.IsWhole)
  (arg19 : Memref sig .tc .vmem S256x1024 .bf16) (harg19 : arg19.IsWhole)
  (arg20 : Memref sig .tc .vmem S256x7168 .f32) (harg20 : arg20.IsWhole)
variable (x0 : Vec F S256x1024 .f32) (x1 : Vec F S1x1024 .f32) (x2 : Vec F S1024x7168 .bf16) (x3 : Vec F S1x128 .f32) (x4 : Vec F S1x128 .f32) (x5 : Vec F S4x1024 .f32) (x6 : Vec F S1x1024 .f32) (x7 : Vec F S8x128x256 .bf16) (x8 : Vec F S8x1x256 .f32) (x9 : Vec F S1x1024 .f32)

/-- A load of a short run of the projected block of a first point. -/
theorem shortA (o : ℕ) (h : ∀ a, (![0, o] : Fin 2 → ℕ) a + S256x128.size a ≤ S256x7168.size a) :
    short (projected x0 x1 x2) o h
      = arg20.view.readCov (Val := Elt F) (kernelRun0_A.sl.HS4_1 c arg1 harg1 arg2 harg2 arg3 harg3 arg19 x0 x1 x2) (Rect.unit (s := S256x7168) ![0, o] S256x128.size h).toLoadRect := by
  rw [piecesA c arg1 harg1 arg2 harg2 arg3 harg3 arg19 x0 x1 x2, short_read]

/-- The block of queries of a first point. -/
theorem queryA (hc : cond0_0 i) : ∃ w0 w1 w2 w3 w4 w5 w6 w7 : FVec F S1x1x128x256 .bf16, out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x0 x1 x2 x3 x4 x5 x6 x7 x8 x9
    = View.canon (queryPieces (projected x0 x1 x2) x3 w0 w1 w2 w3 w4 w5 w6 w7) := by
  unfold out0_A_11
  rw [View.read_writes_junk_eq_canon]
  unfold kernelRun0_A
  dsimp only
  suffices e : ∃ w0 w1 w2 w3 w4 w5 w6 w7 : FVec F S1x1x128x256 .bf16, _ = View.canon (queryPieces (projected x0 x1 x2)
      (arg4.view.readAt (Elt F) (Rect.unit ![0, 0] S1x128.size inb_S1x128_S1x128_0_0).toLoadRect (harg4.unread x3)) w0 w1 w2 w3 w4 w5 w6 w7) by
    rw [read2 arg4 harg4 x3 z2] at e
    exact e
  unfold queryPieces
  simp only [loadA c arg1 harg1 arg2 harg2 arg3 harg3 arg19 arg20 x0 x1 x2]
  exact ⟨_, _, _, _, _, _, _, _, rfl⟩

/-- The block of the recurrent branch of a first point. -/
theorem inputA (hc : cond0_0 i) : ∃ w0 w1 w2 w3 w4 w5 w6 w7 : FVec F S256x128 .bf16, out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x0 x1 x2 x3 x4 x5 x6 x7 x8 x9
    = View.canon (inputPieces (projected x0 x1 x2) w0 w1 w2 w3 w4 w5 w6 w7) := by
  unfold out0_A_10
  rw [View.read_writes_junk_eq_canon]
  unfold kernelRun0_A
  dsimp only
  unfold inputPieces
  simp only [shortA c arg1 harg1 arg2 harg2 arg3 harg3 arg19 arg20 x0 x1 x2]
  exact ⟨_, _, _, _, _, _, _, _, rfl⟩

/-- A load of a short run of the projected block of another point. -/
theorem shortB (o : ℕ) (h : ∀ a, (![0, o] : Fin 2 → ℕ) a + S256x128.size a ≤ S256x7168.size a) :
    short (projected x0 x1 x2) o h
      = arg20.view.readCov (Val := Elt F) (kernelRun0_B.sl.HS4_1 c arg1 harg1 arg2 harg2 arg3 harg3 arg19 x0 x1 x2) (Rect.unit (s := S256x7168) ![0, o] S256x128.size h).toLoadRect := by
  rw [piecesB c arg1 harg1 arg2 harg2 arg3 harg3 arg19 x0 x1 x2, short_read]

/-- The block of queries of another point. -/
theorem queryB (hc : ¬cond0_0 i) (xs0 : Vec F S32x1024 .f32) (xs1 : Vec F S264x1024 .f32) (xs2 : Vec F S8x1024 .f32) : ∃ w0 w1 w2 w3 w4 w5 w6 w7 : FVec F S1x1x128x256 .bf16, out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x0 x1 x2 x3 x4 x5 x6 x7 x8 x9 xs0 xs1 xs2
    = View.canon (queryPieces (projected x0 x1 x2) x3 w0 w1 w2 w3 w4 w5 w6 w7) := by
  unfold out0_B_11
  rw [View.read_writes_junk_eq_canon]
  unfold kernelRun0_B
  dsimp only
  suffices e : ∃ w0 w1 w2 w3 w4 w5 w6 w7 : FVec F S1x1x128x256 .bf16, _ = View.canon (queryPieces (projected x0 x1 x2)
      (arg4.view.readAt (Elt F) (Rect.unit ![0, 0] S1x128.size inb_S1x128_S1x128_0_0).toLoadRect (harg4.unread x3)) w0 w1 w2 w3 w4 w5 w6 w7) by
    rw [read2 arg4 harg4 x3 z2] at e
    exact e
  unfold queryPieces
  simp only [loadB c arg1 harg1 arg2 harg2 arg3 harg3 arg19 arg20 x0 x1 x2]
  exact ⟨_, _, _, _, _, _, _, _, rfl⟩

/-- The block of the recurrent branch of another point. -/
theorem inputB (hc : ¬cond0_0 i) (xs0 : Vec F S32x1024 .f32) (xs1 : Vec F S264x1024 .f32) (xs2 : Vec F S8x1024 .f32) : ∃ w0 w1 w2 w3 w4 w5 w6 w7 : FVec F S256x128 .bf16, out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x0 x1 x2 x3 x4 x5 x6 x7 x8 x9 xs0 xs1 xs2
    = View.canon (inputPieces (projected x0 x1 x2) w0 w1 w2 w3 w4 w5 w6 w7) := by
  unfold out0_B_10
  rw [View.read_writes_junk_eq_canon]
  unfold kernelRun0_B
  dsimp only
  unfold inputPieces
  simp only [shortB c arg1 harg1 arg2 harg2 arg3 harg3 arg19 arg20 x0 x1 x2]
  exact ⟨_, _, _, _, _, _, _, _, rfl⟩

end Points

end Cert.Kernel4Ideal.InProj

end
-- ==== Proof.InProj.QueryBlocks.lean ====
/- The input-projection kernel's array of queries and its array of the recurrent branch, at the queries and the gate input. -/
module

public import proofs.«01_k».proof.Proof.InProj.Blocks
public import proofs.«01_k».proof.Proof.InProj.QueryPoints

@[expose] public section

set_option maxRecDepth 16384

noncomputable section

namespace Cert.Kernel4Ideal.InProj

open Idealize.ShloMosaic Idealize.ShloMosaic.TcCoe Idealize.SL.Sem Cert.Kernel4Ideal Cert.Kernel4Ideal.Gen Cert.InProj

theorem index3 : ∀ t : Fin cfg0.N, win0_3.index t = ![0, 0] := (by decide +kernel : ∀ t : Fin grid0.N, _)
theorem index10 : ∀ t : Fin cfg0.N, win0_10.index t = ![t.val, 0] := (by decide +kernel : ∀ t : Fin grid0.N, _)
theorem index11 : ∀ t : Fin cfg0.N, win0_11.index t = ![t.val / 32, 0, 0, t.val % 32] := (by decide +kernel : ∀ t : Fin grid0.N, _)

section Reads

variable {F : FTy → Type} [FloatOps F] [Named F] (m : (ℓ : Loc nD τ sig) → Buf (Elt F) ℓ) (c : Dev nD) (t : Fin cfg0.N)

/-- The weights of the queries' norm. -/
theorem qg_read (a : Fin 1) (d : Fin 128) : (iblk m c 3 t : S1x128.Idx → Elt F .f32) (ix2 a d) = V m c main_v14 (ix2 a d) := by
  refine congrArg (V m c main_v14) (funext fun x => Fin.ext ?_)
  show ((win0_3.rect t).emb (ix2 a d) x : Nat) = _
  rw [Pipeline.Window.rect_emb_val win0_3, index3]
  match x with
  | ⟨0, _⟩ => show 0 * 1 + a.val = a.val; omega
  | ⟨1, _⟩ => show 0 * 128 + d.val = d.val; omega

/-- What a point writes to the array of queries. -/
theorem query_flushed : ∃ w0 w1 w2 w3 w4 w5 w6 w7 : FVec F S1x1x128x256 .bf16, (dats m 0 c).flushed 11 t
    = View.canon (queryPieces (projected (iblk m c 0 t) (iblk m c 1 t) (iblk m c 2 t)) (iblk m c 3 t) w0 w1 w2 w3 w4 w5 w6 w7) := by
  by_cases h0 : t.val % 32 = 0
  · rw [Value.flushed11_A m c t h0]
    exact queryA ..
  · rw [Value.flushed11_B m c t h0]
    exact queryB ..

/-- What a point writes to the array of the recurrent branch. -/
theorem input_flushed : ∃ w0 w1 w2 w3 w4 w5 w6 w7 : FVec F S256x128 .bf16, (dats m 0 c).flushed 10 t
    = View.canon (inputPieces (projected (iblk m c 0 t) (iblk m c 1 t) (iblk m c 2 t)) w0 w1 w2 w3 w4 w5 w6 w7) := by
  by_cases h0 : t.val % 32 = 0
  · rw [Value.flushed10_A m c t h0]
    exact inputA ..
  · rw [Value.flushed10_B m c t h0]
    exact inputB ..

end Reads

section Arrays

variable (m : (ℓ : Loc nD τ sig) → Buf (Elt Ideal) ℓ) (c : Dev nD)
  (x : S4x8192x1024.Idx → EReal) (g : S1x1024.Idx → EReal) (w : S1x1024x7168.Idx → EReal) (qg : S1x128.Idx → EReal)
  (h0 : m ((c.tc : Thread nD τ).loc main_arg0) = x) (h1 : m ((c.tc : Thread nD τ).loc main_arg1) = g)
  (h2 : m ((c.tc : Thread nD τ).loc main_arg2) = w) (h10 : m ((c.tc : Thread nD τ).loc main_arg10) = qg)

include h10 in
/-- The weights of the queries' norm as the region finds them. -/
theorem V_qg (a : Fin 1) (d : Fin 128) : (V m c main_v14 : S1x128.Idx → EReal) (ix2 a d) = qg (ix2 0 d) := by
  have e : (V m c main_v14 : S1x128.Idx → EReal) = broadcastInDim S1x128 ![1] bcast_S128_S1x128_1 (shapeCast S128 (qg : FVec Ideal S1x128 .f32) shapeCasts_S1x128_S128) := by
    rw [← h10]
    show StableHlo.after _ _ _ = _
    after_results_simp <;> rfl
  rw [e]
  pointwise []

include h0 h1 h2 h10 in
/-- The array of queries holds every position's queries in the first 128 rows of each head. -/
theorem query_eq (a : Fin 4) (h : Fin 8) (r : Fin 256) (s : Fin 8192) (hr : r.val < 128) :
    ((dats m 0 c).arrAt 11 cfg0.N : S4x8x256x8192.Idx → EReal) (ix4 a h r s) = query (row x g w a s) (fun k => qg (ix2 0 k)) h ⟨r.val, hr⟩ := by
  have hlt : 32 * a.val + s.val / 256 < cfg0.N := lt_of_lt_of_eq (by omega : _ < 128) N_0.symm
  let t : Fin cfg0.N := ⟨32 * a.val + s.val / 256, hlt⟩
  let p : Fin 256 := ⟨s.val % 256, Nat.mod_lt _ (by norm_num)⟩
  have ei : ((win0_11.rect t).emb (ix4 (0 : Fin 1) h r p) : S4x8x256x8192.Idx) = ix4 a h r s := funext fun b => Fin.ext (by
    rw [Pipeline.Window.rect_emb_val win0_11, index11]
    match b with
    | ⟨0, _⟩ => show (32 * a.val + s.val / 256) / 32 * 1 + 0 = a.val; omega
    | ⟨1, _⟩ => show 0 * 8 + h.val = h.val; omega
    | ⟨2, _⟩ => show 0 * 256 + r.val = r.val; omega
    | ⟨3, _⟩ => show (32 * a.val + s.val / 256) % 32 * 256 + s.val % 256 = s.val; omega)
  refine (congrArg ((dats m 0 c).arrAt 11 cfg0.N : S4x8x256x8192.Idx → EReal) ei).symm.trans ?_
  refine (congrFun (Value.blocks11 m c t (flush0_11 t)) (ix4 (0 : Fin 1) h r p)).trans ?_
  obtain ⟨w0, w1, w2, w3, w4, w5, w6, w7, e⟩ := query_flushed m c t
  refine (congrFun e (ix4 (0 : Fin 1) h r p)).trans ?_
  refine (queryPieces_apply _ _ w0 w1 w2 w3 w4 w5 w6 w7 0 h r hr p).trans ?_
  have e1 : (fun f => projected (F := Ideal) (iblk m c 0 t) (iblk m c 1 t) (iblk m c 2 t) (ix2 p f)) = row x g w a s := funext fun f =>
    projected_read m c x g w h0 h1 h2 t p a s (by show a.val = (32 * a.val + s.val / 256) / 32; omega)
      (by show s.val = 256 * ((32 * a.val + s.val / 256) % 32) + s.val % 256; omega) f
  have e2 : (fun e => (iblk m c 3 t : S1x128.Idx → EReal) (ix2 0 e)) = fun k => qg (ix2 0 k) := funext fun k =>
    (qg_read m c t 0 k).trans (V_qg m c qg h10 0 k)
  rw [e1, e2]

include h0 h1 h2 in
/-- The array of the recurrent branch holds every position's gate input in the columns from 1024 on. -/
theorem input_eq (r : Fin 32768) (e : Fin 2048) (he : 1024 ≤ e.val) (a : Fin 4) (s : Fin 8192) (hr : r.val = 8192 * a.val + s.val) :
    ((dats m 0 c).arrAt 10 cfg0.N : S32768x2048.Idx → EReal) (ix2 r e) = row x g w a s (inputCol e) := by
  have hlt : r.val / 256 < cfg0.N := lt_of_lt_of_eq (by omega : _ < 128) N_0.symm
  let t : Fin cfg0.N := ⟨r.val / 256, hlt⟩
  let p : Fin 256 := ⟨r.val % 256, Nat.mod_lt _ (by norm_num)⟩
  have ei : ((win0_10.rect t).emb (ix2 p e) : S32768x2048.Idx) = ix2 r e := funext fun b => Fin.ext (by
    rw [Pipeline.Window.rect_emb_val win0_10, index10]
    match b with
    | ⟨0, _⟩ => show r.val / 256 * 256 + r.val % 256 = r.val; omega
    | ⟨1, _⟩ => show 0 * 2048 + e.val = e.val; omega)
  refine (congrArg ((dats m 0 c).arrAt 10 cfg0.N : S32768x2048.Idx → EReal) ei).symm.trans ?_
  refine (congrFun (Value.blocks10 m c t (flush0_10 t)) (ix2 p e)).trans ?_
  obtain ⟨w0, w1, w2, w3, w4, w5, w6, w7, q⟩ := input_flushed m c t
  refine (congrFun q (ix2 p e)).trans ?_
  refine (inputPieces_apply _ w0 w1 w2 w3 w4 w5 w6 w7 p e he).trans ?_
  exact projected_read m c x g w h0 h1 h2 t p a s (by show a.val = r.val / 256 / 32; omega)
    (by show s.val = 256 * (r.val / 256 % 32) + r.val % 256; omega) _

end Arrays

end Cert.Kernel4Ideal.InProj

end
-- ==== Proof.InProj.Reference.lean ====
/- The plain projections: their results, row by row. -/
module

public import proofs.«01_k».proof.Proof.InProj.Spec
public import proofs.«01_k».proof.Proof.Attention.Words
public import proofs.«01_k».proof.Proof.Gen.Reference4Ideal.Run

@[expose] public section

set_option maxRecDepth 16384

noncomputable section

namespace Cert.Reference4Ideal.InProj

open Idealize.ShloMosaic Idealize.ShloMosaic.TcCoe Idealize.SL.Sem Cert.Reference4Ideal Cert.Reference4Ideal.Gen Cert.InProj

variable {F : FTy → Type} [FloatOps F]

/-- The input normalised row by row. -/
def normV (x : FVec F S4x8192x1024 .f32) (g : FVec F S1x1024 .f32) : FVec F S4x8192x1024 .f32 :=
  mulf (mulf x (broadcastInDim S4x8192x1024 ![0, 1, 2] bcast_S4x8192x1_S4x8192x1024_0_1_2
      (Host.rsqrt (addf (Host.divf (broadcastInDim S4x8192x1 ![0, 1] bcast_S4x8192_S4x8192x1_0_1
            (Host.reduceAdd (mulf x x) (constant S_ .f32 0x00000000#32) reducesTo_S4x8192x1024_S4x8192_d2 h_S_))
          (broadcastInDim S4x8192x1 ![] bcast_S_S4x8192x1 (constant S_ .f32 0x44800000#32)))
        (broadcastInDim S4x8192x1 ![] bcast_S_S4x8192x1 (constant S_ .f32 0x358637BD#32))))))
    (broadcastInDim S4x8192x1024 ![0, 1, 2] bcast_S1x1x1024_S4x8192x1024_0_1_2
      (broadcastInDim S1x1x1024 ![2] bcast_S1024_S1x1x1024_2 (shapeCast S1024 g shapeCasts_S1x1024_S1024)))

/-- The projection of the normalised input. -/
def projV (x : FVec F S4x8192x1024 .f32) (g : FVec F S1x1024 .f32) (w : FVec F S1x1024x7168 .f32) : FVec F S4x8192x7168 .f32 :=
  Host.dotGeneral dot_S4x8192x1024_S1024x7168_S4x8192x7168_2_0_01_1_n_n none (normV x g) (shapeCast S1024x7168 w shapeCasts_S1x1024x7168_S1024x7168)

/-- The heads of the keys before their norm. -/
def rawV (u : FVec F S4x8192x7168 .f32) : FVec F S4x8192x8x128 .f32 :=
  shapeCast S4x8192x8x128 (extractStridedSlice S4x8192x1024 ![0, 0, 3072] u slices_S4x8192x7168_S4x8192x1024_0_0_3072) shapeCasts_S4x8192x1024_S4x8192x8x128

/-- The heads normalised row by row. -/
def headV (y : FVec F S4x8192x8x128 .f32) (g : FVec F S1x128 .f32) : FVec F S4x8192x8x128 .f32 :=
  mulf (mulf y (broadcastInDim S4x8192x8x128 ![0, 1, 2, 3] bcast_S4x8192x8x1_S4x8192x8x128_0_1_2_3
      (Host.rsqrt (addf (Host.divf (broadcastInDim S4x8192x8x1 ![0, 1, 2] bcast_S4x8192x8_S4x8192x8x1_0_1_2
            (Host.reduceAdd (mulf y y) (constant S_ .f32 0x00000000#32) reducesTo_S4x8192x8x128_S4x8192x8_d3 h_S_))
          (broadcastInDim S4x8192x8x1 ![] bcast_S_S4x8192x8x1 (constant S_ .f32 0x43000000#32)))
        (broadcastInDim S4x8192x8x1 ![] bcast_S_S4x8192x8x1 (constant S_ .f32 0x358637BD#32))))))
    (broadcastInDim S4x8192x8x128 ![0, 1, 2, 3] bcast_S1x1x1x128_S4x8192x8x128_0_1_2_3
      (broadcastInDim S1x1x1x128 ![3] bcast_S128_S1x1x1x128_3 (shapeCast S128 g shapeCasts_S1x128_S128)))

/-- The code of every position's block. -/
def codeV : FVec F S8192x128 .f32 :=
  sitofp .f32 (extui 32 (cmpi .eq
    (broadcastInDim S8192x128 ![0, 1] bcast_S8192x1_S8192x128_0_1 (broadcastInDim S8192x1 ![0] bcast_S8192_S8192x1_0
      (shapeCast S8192 (broadcastInDim S32x256 ![0] bcast_S32_S32x256_0 (iotaInDim S32 32 0)) shapeCasts_S32x256_S8192)))
    (broadcastInDim S8192x128 ![0, 1] bcast_S1x128_S8192x128_0_1 (broadcastInDim S1x128 ![1] bcast_S128_S1x128_1 (iotaInDim S128 32 0)))) natLt_1_32)

/-- The gate input of the recurrent branch beside zeros. -/
def inputV (u : FVec F S4x8192x7168 .f32) : FVec F S32768x2048 .bf16 :=
  truncf .bf16 (shapeCast S32768x2048 (concatenate S4x8192x2048 2
    [⟨S4x8192x1024, broadcastInDim S4x8192x1024 ![] bcast_S_S4x8192x1024 (constant S_ .f32 0x00000000#32)⟩,
      ⟨S4x8192x1024, extractStridedSlice S4x8192x1024 ![0, 0, 1024] u slices_S4x8192x7168_S4x8192x1024_0_0_1024⟩]
    concatenates_S4x8192x1024_S4x8192x1024_S4x8192x2048_d2) shapeCasts_S4x8192x2048_S32768x2048) bitsLt_bf16_f32

/-- The heads of the queries before their norm. -/
def rawQueryV (u : FVec F S4x8192x7168 .f32) : FVec F S4x8192x8x128 .f32 :=
  shapeCast S4x8192x8x128 (extractStridedSlice S4x8192x1024 ![0, 0, 2048] u slices_S4x8192x7168_S4x8192x1024_0_0_2048) shapeCasts_S4x8192x1024_S4x8192x8x128

/-- The queries over zeros. -/
def queryV (u : FVec F S4x8192x7168 .f32) (g : FVec F S1x128 .f32) : FVec F S4x8x256x8192 .bf16 :=
  truncf .bf16 (concatenate S4x8x256x8192 2
    [⟨S4x8x128x8192, transpose S4x8x128x8192 [0, 2, 3, 1]
        (Host.divf (headV (rawQueryV u) g) (broadcastInDim S4x8192x8x128 ![] bcast_S_S4x8192x8x128
          (mulf (Host.sqrt (constant S_ .f32 0x43000000#32)) (Host.log (constant S_ .f32 0x40000000#32)))))
        transposes_S4x8192x8x128_S4x8x128x8192_0_2_3_1⟩,
      ⟨S4x8x128x8192, broadcastInDim S4x8x128x8192 ![] bcast_S_S4x8x128x8192 (constant S_ .f32 0x00000000#32)⟩]
    concatenates_S4x8x128x8192_S4x8x128x8192_S4x8x256x8192_d2) bitsLt_bf16_f32

/-- The keys beside the codes. -/
def keyV (u : FVec F S4x8192x7168 .f32) (g : FVec F S1x128 .f32) : FVec F S4x8x8192x256 .bf16 :=
  truncf .bf16 (concatenate S4x8x8192x256 3
    [⟨S4x8x8192x128, transpose S4x8x8192x128 [0, 2, 1, 3] (headV (rawV u) g) transposes_S4x8192x8x128_S4x8x8192x128_0_2_1_3⟩,
      ⟨S4x8x8192x128, broadcastInDim S4x8x8192x128 ![2, 3] bcast_S8192x128_S4x8x8192x128_2_3 codeV⟩]
    concatenates_S4x8x8192x128_S4x8x8192x128_S4x8x8192x256_d3) bitsLt_bf16_f32

/-- The values over ones. -/
def valueV (u : FVec F S4x8192x7168 .f32) : FVec F S4x8x144x8192 .bf16 :=
  truncf .bf16 (concatenate S4x8x144x8192 2
    [⟨S4x8x128x8192, transpose S4x8x128x8192 [0, 2, 3, 1]
        (shapeCast S4x8192x8x128 (extractStridedSlice S4x8192x1024 ![0, 0, 4096] u slices_S4x8192x7168_S4x8192x1024_0_0_4096) shapeCasts_S4x8192x1024_S4x8192x8x128)
        transposes_S4x8192x8x128_S4x8x128x8192_0_2_3_1⟩,
      ⟨S4x8x16x8192, broadcastInDim S4x8x16x8192 ![] bcast_S_S4x8x16x8192 (constant S_ .f32 0x3F800000#32)⟩]
    concatenates_S4x8x128x8192_S4x8x16x8192_S4x8x144x8192_d2) bitsLt_bf16_f32

/-- The gates. -/
def gateV (u : FVec F S4x8192x7168 .f32) : FVec F S32768x2048 .bf16 :=
  truncf .bf16 (shapeCast S32768x2048 (extractStridedSlice S4x8192x2048 ![0, 0, 5120] u slices_S4x8192x7168_S4x8192x2048_0_0_5120) shapeCasts_S4x8192x2048_S32768x2048) bitsLt_bf16_f32

theorem normV_apply (x : FVec Ideal S4x8192x1024 .f32) (g : FVec Ideal S1x1024 .f32) (a : Fin 4) (s : Fin 8192) (d : Fin 1024) :
    (normV x g (ix3 a s d) : EReal) = norm (fun k => x (ix3 a s k)) (fun k => g (ix2 0 k)) d := by
  pointwise [normV]
  rfl

theorem projV_apply (x : FVec Ideal S4x8192x1024 .f32) (g : FVec Ideal S1x1024 .f32) (w : FVec Ideal S1x1024x7168 .f32) (a : Fin 4) (s : Fin 8192) (f : Fin 7168) :
    (projV x g w (ix3 a s f) : EReal) = proj (fun k => x (ix3 a s k)) (fun k => g (ix2 0 k)) (fun d f => w (ix3 0 d f)) f := by
  pointwise [projV]
  simp only [normV_apply]
  rfl

theorem rawV_apply (u : FVec Ideal S4x8192x7168 .f32) (a : Fin 4) (s : Fin 8192) (h : Fin 8) (d : Fin 128) :
    (rawV u (ix4 a s h d) : EReal) = u (ix3 a s (keyCol h d)) := by
  pointwise [rawV]
  rfl

theorem headV_apply (y : FVec Ideal S4x8192x8x128 .f32) (g : FVec Ideal S1x128 .f32) (a : Fin 4) (s : Fin 8192) (h : Fin 8) (d : Fin 128) :
    (headV y g (ix4 a s h d) : EReal) = head (fun k => y (ix4 a s h k)) (fun k => g (ix2 0 k)) d := by
  pointwise [headV]
  rfl

theorem codeV_apply (s : Fin 8192) (b : Fin 128) : (codeV (F := Ideal) (ix2 s b) : EReal) = if b.val = s.val / 256 then 1 else 0 := by
  have hb := b.isLt
  have hs := s.isLt
  pointwise [codeV]
  simp only [Attention.bit_float, Attention.eq_one (show s.val / 256 < 8192 by omega) (show b.val < 8192 by omega), eq_comm]

/-- The plain keys. -/
theorem keyV_apply (u : FVec Ideal S4x8192x7168 .f32) (g : FVec Ideal S1x128 .f32) (a : Fin 4) (h : Fin 8) (s : Fin 8192) (d : Fin 256) :
    (keyV u g (ix4 a h s d) : EReal) = key (fun f => u (ix3 a s f)) (fun k => g (ix2 0 k)) h s.val d := by
  pointwise [keyV]
  simp only [headV_apply, rawV_apply, codeV_apply]
  rfl

theorem rawQueryV_apply (u : FVec Ideal S4x8192x7168 .f32) (a : Fin 4) (s : Fin 8192) (h : Fin 8) (d : Fin 128) :
    (rawQueryV u (ix4 a s h d) : EReal) = u (ix3 a s (queryCol h d)) := by
  pointwise [rawQueryV]
  rfl

theorem scale_eq : 1 / (Real.sqrt 128 * Real.log 2) = scale := by
  rw [one_div, mul_inv]
  rfl

/-- The plain queries, above the zeros. -/
theorem queryV_apply (u : FVec Ideal S4x8192x7168 .f32) (g : FVec Ideal S1x128 .f32) (a : Fin 4) (h : Fin 8) (r : Fin 256) (s : Fin 8192) (hr : r.val < 128) :
    (queryV u g (ix4 a h r s) : EReal) = query (fun f => u (ix3 a s f)) (fun k => g (ix2 0 k)) h ⟨r.val, hr⟩ := by
  pointwise [queryV]
  rw [dif_pos hr]
  simp only [headV_apply, rawQueryV_apply]
  rw [Attention.scale, Ideal.div_coe (ne_of_gt Attention.scale_pos), scale_eq]
  rfl

/-- The plain gate input, beside the zeros. -/
theorem inputV_apply (u : FVec Ideal S4x8192x7168 .f32) (r : Fin 32768) (e : Fin 2048) (a : Fin 4) (s : Fin 8192) (hr : r.val = 8192 * a.val + s.val)
    (he : 1024 ≤ e.val) : (inputV u (ix2 r e) : EReal) = u (ix3 a s (inputCol e)) := by
  pointwise [inputV]
  rw [dif_neg (not_lt.mpr he)]
  refine congrArg u (funext fun x => Fin.ext ?_)
  match x with
  | ⟨0, _⟩ => show r.val / 8192 = a.val; omega
  | ⟨1, _⟩ => show r.val % 8192 = s.val; omega
  | ⟨2, _⟩ => show 1024 + (e.val - 1024) = e.val; omega

/-- The plain values. -/
theorem valueV_apply (u : FVec Ideal S4x8192x7168 .f32) (a : Fin 4) (h : Fin 8) (r : Fin 144) (s : Fin 8192) :
    (valueV u (ix4 a h r s) : EReal) = value (fun f => u (ix3 a s f)) h r := by
  pointwise [valueV]
  rfl

/-- The plain gates. -/
theorem gateV_apply (u : FVec Ideal S4x8192x7168 .f32) (r : Fin 32768) (e : Fin 2048) (a : Fin 4) (s : Fin 8192) (hr : r.val = 8192 * a.val + s.val) :
    (gateV u (ix2 r e) : EReal) = u (ix3 a s (gateCol e)) := by
  pointwise [gateV]
  refine congrArg u (congrArg₂ (fun a s => ix3 a s (gateCol e)) (Fin.ext ?_) (Fin.ext ?_))
  · show r.val / 8192 = a.val
    omega
  · show r.val % 8192 = s.val
    omega

end Cert.Reference4Ideal.InProj

end
-- ==== Proof.InProj.Value.lean ====
/- The input-projection kernel and the plain projections end with the same keys, values and gates, queries and gate
   input of the recurrent branch. -/
module

public import proofs.«01_k».proof.Defs
public import proofs.«01_k».proof.Proof.InProj.QueryBlocks
public import proofs.«01_k».proof.Proof.InProj.Reference

@[expose] public section

set_option maxRecDepth 16384

noncomputable section

namespace Cert.Reference4Ideal.InProj

open Idealize.ShloMosaic Idealize.ShloMosaic.TcCoe Idealize.SL.Sem

variable (m : (ℓ : Loc nD τ sig) → Buf (Elt Ideal) ℓ) (c : Dev nD)

/-- The plain projection of the arrays a program starts with. -/
def startV : FVec Ideal S4x8192x7168 .f32 :=
  projV (F := Ideal) (m ((c.tc : Thread nD τ).loc main_arg0)) (m ((c.tc : Thread nD τ).loc main_arg1)) (m ((c.tc : Thread nD τ).loc main_arg2))

end Cert.Reference4Ideal.InProj

namespace Cert.Proof

/-- The side conditions of the mask. -/
theorem mask_facts : Cert.On_projected.Facts := ⟨by decide, by decide, by decide, by decide⟩

end Cert.Proof

namespace Cert.On_projected

open Idealize.ShloMosaic

variable [Facts] (a0 : FVec Ideal S4x8192x1024 .f32) (a1 : FVec Ideal S1x1024 .f32) (a2 : FVec Ideal S1x1024x7168 .f32) (a3 : FVec Ideal S1x4x1024 .f32)
  (a4 : FVec Ideal S1x1024 .f32) (a5 : FVec Ideal S1x8x128x128 .f32) (a6 : FVec Ideal S1x8x128 .f32) (a7 : FVec Ideal S1x8x128x128 .f32)
  (a8 : FVec Ideal S1x8x128 .f32) (a9 : FVec Ideal S1x1024 .f32) (a10 a11 : FVec Ideal S1x128 .f32)

/-- In the result of the recurrent branch the mask selects the columns from 1024 on. -/
theorem input_apply (r : Fin 32768) (e : Fin 2048) (h : (fn a0 a1 a2 a3 a4 a5 a6 a7 a8 a9 a10 a11).1 (ix2 r e) = 1#1) : 1024 ≤ e.val := by
  have key : ∀ e : Fin 2048, IntOp.cmpi .sge (BitVec.ofNat 32 e.val) 1024#32 = 1#1 → 1024 ≤ e.val := by decide +kernel
  exact key e h

/-- In the result of the queries it selects the first 128 rows of a head. -/
theorem query_apply (a : Fin 4) (k : Fin 8) (r : Fin 256) (s : Fin 8192) (h : (fn a0 a1 a2 a3 a4 a5 a6 a7 a8 a9 a10 a11).2.1 (ix4 a k r s) = 1#1) : r.val < 128 := by
  have key : ∀ r : Fin 256, IntOp.cmpi .slt (BitVec.ofNat 32 r.val) 128#32 = 1#1 → r.val < 128 := by decide +kernel
  exact key r h

end Cert.On_projected

namespace Cert.Proof

open Idealize.ShloMosaic Idealize.ShloMosaic.TcCoe Idealize.SL.Sem Cert.InProj

/-- The input-projection kernel and the plain projections end with the same keys, values and gates, and where the
    mask is set with the same queries and gate input of the recurrent branch, whatever the arrays hold. -/
theorem inproj_value : Cert.algebraic_Kernel4Ideal_Reference4Ideal_on_projected (hKernel4Ideal := Cert.Kernel4Ideal.Gen.facts)
    (hReference4Ideal := Cert.Reference4Ideal.Gen.facts) (hOn_projected := mask_facts) := by
  haveI := mask_facts
  intro m g m' g' _ harg
  refine ⟨fun c => Cert.Reference4Ideal.InProj.inputV (F := Ideal) (Cert.Reference4Ideal.InProj.startV m' c),
    fun c => Cert.Reference4Ideal.InProj.queryV (F := Ideal) (Cert.Reference4Ideal.InProj.startV m' c)
      (m' ((c.tc : Thread Cert.Reference4Ideal.nD Cert.Reference4Ideal.τ).loc Cert.Reference4Ideal.main_arg10)),
    fun c => Cert.Reference4Ideal.InProj.keyV (F := Ideal) (Cert.Reference4Ideal.InProj.startV m' c)
      (m' ((c.tc : Thread Cert.Reference4Ideal.nD Cert.Reference4Ideal.τ).loc Cert.Reference4Ideal.main_arg11)),
    fun c => Cert.Reference4Ideal.InProj.valueV (F := Ideal) (Cert.Reference4Ideal.InProj.startV m' c),
    fun c => Cert.Reference4Ideal.InProj.gateV (F := Ideal) (Cert.Reference4Ideal.InProj.startV m' c),
    (θ_run _ _ _).mono (fun r h c => ⟨fun i hi => (congrFun (h c).1 i).trans ?_, fun i hi => (congrFun (h c).2.1 i).trans ?_,
        fun i _ => congrFun ((h c).2.2.1.trans ?_) i, fun i _ => congrFun ((h c).2.2.2.1.trans ?_) i, fun i _ => congrFun ((h c).2.2.2.2.1.trans ?_) i,
        (h c).2.2.2.2.2⟩)
      (Cert.Kernel4Ideal.Value.run_blocks m g),
    (θ_run _ _ _).mono (fun r h c => ⟨fun i _ => congrFun (h c).1 i, fun i _ => congrFun (h c).2.1 i, fun i _ => congrFun (h c).2.2.1 i,
        fun i _ => congrFun (h c).2.2.2.1 i, fun i _ => congrFun (h c).2.2.2.2.1 i, (h c).2.2.2.2.2⟩)
      (Cert.Reference4Ideal.Value.run m' g')⟩
  · obtain ⟨h0, h1, h2, -⟩ := harg c
    have e : i = ix2 (i 0) (i 1) := eq_ix2 i
    have i0 : (i 0).val < 32768 := (i 0).isLt
    have he : 1024 ≤ (i 1).val := Cert.On_projected.input_apply _ _ _ _ _ _ _ _ _ _ _ _ (i 0) (i 1) (e ▸ hi)
    have hr : (i 0).val = 8192 * ((i 0).val / 8192) + (i 0).val % 8192 := by omega
    refine (congrArg _ e).trans ?_
    refine (Cert.Kernel4Ideal.InProj.input_eq m c _ _ _ h0.symm h1.symm h2.symm (i 0) (i 1) he ⟨(i 0).val / 8192, by omega⟩ ⟨(i 0).val % 8192, by omega⟩ hr).trans ?_
    refine Eq.trans ?_ (congrArg (Cert.Reference4Ideal.InProj.inputV (F := Ideal) (Cert.Reference4Ideal.InProj.startV m' c)) e).symm
    refine Eq.trans ?_ (Cert.Reference4Ideal.InProj.inputV_apply _ (i 0) (i 1) ⟨(i 0).val / 8192, by omega⟩ ⟨(i 0).val % 8192, by omega⟩ hr he).symm
    exact (Cert.Reference4Ideal.InProj.projV_apply _ _ _ _ _ _).symm
  · obtain ⟨h0, h1, h2, -, -, -, -, -, -, -, h10, -⟩ := harg c
    have e : i = ix4 (i 0) (i 1) (i 2) (i 3) := eq_ix4 i
    have hr : (i 2).val < 128 := Cert.On_projected.query_apply _ _ _ _ _ _ _ _ _ _ _ _ (i 0) (i 1) (i 2) (i 3) (e ▸ hi)
    refine (congrArg _ e).trans ?_
    refine (Cert.Kernel4Ideal.InProj.query_eq m c _ _ _ _ h0.symm h1.symm h2.symm h10.symm (i 0) (i 1) (i 2) (i 3) hr).trans ?_
    refine Eq.trans ?_ (congrArg (Cert.Reference4Ideal.InProj.queryV (F := Ideal) (Cert.Reference4Ideal.InProj.startV m' c) _) e).symm
    refine Eq.trans ?_ (Cert.Reference4Ideal.InProj.queryV_apply _ _ (i 0) (i 1) (i 2) (i 3) hr).symm
    refine congrArg (fun u => query u _ _ _) (funext fun f => ?_)
    exact (Cert.Reference4Ideal.InProj.projV_apply _ _ _ (i 0) (i 3) f).symm
  · obtain ⟨h0, h1, h2, -, -, -, -, -, -, -, -, h11⟩ := harg c
    refine (Cert.Kernel4Ideal.InProj.key_eq m c _ _ _ _ h0.symm h1.symm h2.symm h11.symm).trans (funext fun i => ?_)
    refine Eq.trans ?_ (congrArg (Cert.Reference4Ideal.InProj.keyV (F := Ideal) (Cert.Reference4Ideal.InProj.startV m' c) _) (eq_ix4 i)).symm
    refine Eq.trans ?_ (Cert.Reference4Ideal.InProj.keyV_apply _ _ (i 0) (i 1) (i 2) (i 3)).symm
    refine congrArg (fun u => key u _ _ _ _) (funext fun f => ?_)
    exact (Cert.Reference4Ideal.InProj.projV_apply _ _ _ (i 0) (i 2) f).symm
  · obtain ⟨h0, h1, h2, -⟩ := harg c
    refine (Cert.Kernel4Ideal.InProj.value_eq m c _ _ _ h0.symm h1.symm h2.symm).trans (funext fun i => ?_)
    refine Eq.trans ?_ (congrArg (Cert.Reference4Ideal.InProj.valueV (F := Ideal) (Cert.Reference4Ideal.InProj.startV m' c)) (eq_ix4 i)).symm
    refine Eq.trans ?_ (Cert.Reference4Ideal.InProj.valueV_apply _ (i 0) (i 1) (i 2) (i 3)).symm
    refine congrArg (fun u => value u _ _) (funext fun f => ?_)
    exact (Cert.Reference4Ideal.InProj.projV_apply _ _ _ (i 0) (i 3) f).symm
  · obtain ⟨h0, h1, h2, -⟩ := harg c
    refine Cert.Kernel4Ideal.InProj.gate_eq m c _ _ _ h0.symm h1.symm h2.symm _ fun r e a s hr => ?_
    exact (Cert.Reference4Ideal.InProj.gateV_apply _ r e a s hr).trans (Cert.Reference4Ideal.InProj.projV_apply _ _ _ a s _)

end Cert.Proof

end
-- ==== Proof.lean ====
module

public import proofs.«01_k».proof.Defs
public import proofs.«01_k».proof.Proof.Frames
public import proofs.«01_k».proof.Proof.Attention.Value
public import proofs.«01_k».proof.Proof.Ffn.Value
public import proofs.«01_k».proof.Proof.Merge.Value
public import proofs.«01_k».proof.Proof.InProj.Value

public section

namespace Cert.Proof

/-- Every claim of this certificate. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts,
    Cert.Kernel3Ideal.Gen.facts, Cert.Reference3Ideal.Gen.facts, Cert.Kernel4.Gen.facts,
    Cert.Kernel4Ideal.Gen.facts, Cert.Reference4Ideal.Gen.facts, pre_facts, mask_facts,
    frame_attention, frame_attention_ideal, fun m ρ _ => frame_attention_ideal m ρ trivial,
    frame_attention_reference, fun m ρ _ => frame_attention_reference m ρ trivial, frame_ffn, frame_ffn_ideal,
    frame_ffn_reference, frame_merge, frame_merge_ideal, frame_merge_reference, frame_inproj, frame_inproj_ideal,
    frame_inproj_reference, preserves_attention, attention_value, preserves_ffn, ffn_value, preserves_merge, merge_value,
    preserves_inproj, inproj_value⟩

end Cert.Proof

end
